-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v22)) (v6 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v22) = v5 c
          ∧ r.2.mem ((c.tc : Thread Cert.KernelIdeal.nD Cert.KernelIdeal.τ).loc Cert.KernelIdeal.main_v24) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_v47) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S16384x64 : Shape := ⟨2, ![16384, 64]⟩
abbrev S8192x64 : Shape := ⟨2, ![8192, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S16384x64 .f32) (main_arg1 : FVec F S8192x64 .f32) : IVec S_ 1 × IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  (main_v3, main_v7)
-- ==== KernelIdeal.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S256x1 : Shape := ⟨2, ![256, 1]⟩
abbrev S256x64 : Shape := ⟨2, ![256, 64]⟩
abbrev S256x8192 : Shape := ⟨2, ![256, 8192]⟩
abbrev S256x4096 : Shape := ⟨2, ![256, 4096]⟩
abbrev S256 : Shape := ⟨1, ![256]⟩
abbrev S128x128 : Shape := ⟨2, ![128, 128]⟩
abbrev S8192x128 : Shape := ⟨2, ![8192, 128]⟩
abbrev S16384x128 : Shape := ⟨2, ![16384, 128]⟩
abbrev S32x8192 : Shape := ⟨2, ![32, 8192]⟩
abbrev S4x128 : Shape := ⟨2, ![4, 128]⟩
abbrev S512x128 : Shape := ⟨2, ![512, 128]⟩
abbrev S1x128 : Shape := ⟨2, ![1, 128]⟩
abbrev S128 : Shape := ⟨1, ![128]⟩
abbrev S16 : Shape := ⟨1, ![16]⟩
abbrev S1x16 : Shape := ⟨2, ![1, 16]⟩
abbrev S1x8 : Shape := ⟨2, ![1, 8]⟩
abbrev S1x16384x64 : Shape := ⟨3, ![1, 16384, 64]⟩
abbrev S1 : Shape := ⟨1, ![1]⟩
abbrev S1x1x1 : Shape := ⟨3, ![1, 1, 1]⟩
abbrev S1x1 : Shape := ⟨2, ![1, 1]⟩

abbrev nBuf : Table → Nat
  | .hbm => 34
  | .local .tc .vmem => 12
  | .local .tc .smem => 1
  | .local .scVector .vmem => 3
  | _ => 0

abbrev bufTy : (tb : Table) → Fin (nBuf tb) → BufTy
  | .hbm, ⟨0, _⟩ => ⟨S16384x64, .f32⟩
  | .hbm, ⟨1, _⟩ => ⟨S8192x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S16384x64, .f32⟩
  | .hbm, ⟨11, _⟩ => ⟨S16384x64, .f32⟩
  | .hbm, ⟨12, _⟩ => ⟨S1x8192, .f32⟩
  | .hbm, ⟨13, _⟩ => ⟨S16384x1, .i32⟩
  | .hbm, ⟨14, _⟩ => ⟨S16384, .i32⟩
  | .hbm, ⟨15, _⟩ => ⟨S128x128, .i32⟩
  | .hbm, ⟨16, _⟩ => ⟨S_, .i32⟩
  | .hbm, ⟨17, _⟩ => ⟨S_, .f32⟩
  | .hbm, ⟨18, _⟩ => ⟨S8192x128, .f32⟩
  | .hbm, ⟨19, _⟩ => ⟨S16384x128, .f32⟩
  | .hbm, ⟨20, _⟩ => ⟨S32x8192, .i32⟩
  | .hbm, ⟨21, _⟩ => ⟨S16384x64, .f32⟩
  | .hbm, ⟨22, _⟩ => ⟨S16384x64, .f32⟩
  | .hbm, ⟨23, _⟩ => ⟨S1x8, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S_, .f32⟩
  | .local .tc .vmem, ⟨0, _⟩ => ⟨S256x1, .f32⟩
  | .local .tc .vmem, ⟨1, _⟩ => ⟨S256x1, .f32⟩
  | .local .tc .vmem, ⟨2, _⟩ => ⟨S1x8192, .f32⟩
  | .local .tc .vmem, ⟨3, _⟩ => ⟨S256x64, .f32⟩
  | .local .tc .vmem, ⟨4, _⟩ => ⟨S256x64, .f32⟩
  | .local .tc .vmem, ⟨5, _⟩ => ⟨S8192x64, .f32⟩
  | .local .tc .vmem, ⟨6, _⟩ => ⟨S256x1, .i32⟩
  | .local .tc .vmem, ⟨7, _⟩ => ⟨S256x1, .i32⟩
  | .local .tc .vmem, ⟨8, _⟩ => ⟨S16384x64, .f32⟩
  | .local .tc .vmem, ⟨9, _⟩ => ⟨S16384x64, .f32⟩
  | .local .tc .vmem, ⟨10, _⟩ => ⟨S32x8192, .i32⟩
  | .local .tc .vmem, ⟨11, _⟩ => ⟨S16384x64, .f32⟩
  | .local .tc .smem, ⟨0, _⟩ => ⟨S1x8, .f32⟩
  | .local .scVector .vmem, ⟨0, _⟩ => ⟨S4x128, .i32⟩
  | .local .scVector .vmem, ⟨1, _⟩ => ⟨S512x128, .f32⟩
  | .local .scVector .vmem, ⟨2, _⟩ => ⟨S8192, .i32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v10_scv : Ref sig .scVector := ⟨.hbm, 15, rfl⟩
abbrev main_v11_scv : Ref sig .scVector := ⟨.hbm, 18, rfl⟩
abbrev main_v12_0_scv : Ref sig .scVector := ⟨.hbm, 19, rfl⟩
abbrev main_v12_1_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_609_r0 : BitVec 32 := 0#32
  ![v2.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v35 : BitVec 32 := Scalar.muli v1 c512_i32
  let c0_i32_609_r1 : BitVec 32 := 0#32
  ![v35.toNat, 0]

def k1_chk1 (v552 : IVec S16 32) : Prop :=
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a) ∧
  (∀ a x, ((![v552] : Fin 1 → IVec S16 32) a x).toNat < S8192.size a)
theorem k1_idx1_inb : ∀ (v552 : IVec S16 32) (k1_hw1 : k1_chk1 v552), ∀ a x, ((![v552] : Fin 1 → IVec S16 32) a x).toNat < S8192.size a := fun v552 k1_hw1 => k1_hw1.1
theorem k1_idx2_inb : ∀ (v552 : IVec S16 32) (k1_hw1 : k1_chk1 v552), ∀ a x, ((![v552] : Fin 1 → IVec S16 32) a x).toNat < S8192.size a := fun v552 k1_hw1 => k1_hw1.2.1
theorem k1_idx3_inb : ∀ (v552 : IVec S16 32) (k1_hw1 : k1_chk1 v552), ∀ a x, ((![v552] : Fin 1 → IVec S16 32) a x).toNat < S8192.size a := fun v552 k1_hw1 => k1_hw1.2.2.1
theorem k1_idx4_inb : ∀ (v552 : IVec S16 32) (k1_hw1 : k1_chk1 v552), ∀ a x, ((![v552] : Fin 1 → IVec S16 32) a x).toNat < S8192.size a := fun v552 k1_hw1 => k1_hw1.2.2.2.1
theorem k1_idx5_inb : ∀ (v552 : IVec S16 32) (k1_hw1 : k1_chk1 v552), ∀ a x, ((![v552] : Fin 1 → IVec S16 32) a x).toNat < S8192.size a := fun v552 k1_hw1 => k1_hw1.2.2.2.2.1
theorem k1_idx6_inb : ∀ (v552 : IVec S16 32) (k1_hw1 : k1_chk1 v552), ∀ a x, ((![v552] : Fin 1 → IVec S16 32) a x).toNat < S8192.size a := fun v552 k1_hw1 => k1_hw1.2.2.2.2.2.1
theorem k1_idx7_inb : ∀ (v552 : IVec S16 32) (k1_hw1 : k1_chk1 v552), ∀ a x, ((![v552] : Fin 1 → IVec S16 32) a x).toNat < S8192.size a := fun v552 k1_hw1 => k1_hw1.2.2.2.2.2.2.1
theorem k1_idx8_inb : ∀ (v552 : IVec S16 32) (k1_hw1 : k1_chk1 v552), ∀ a x, ((![v552] : Fin 1 → IVec S16 32) a x).toNat < S8192.size a := fun v552 k1_hw1 => k1_hw1.2.2.2.2.2.2.2.1
theorem k1_idx9_inb : ∀ (v552 : IVec S16 32) (k1_hw1 : k1_chk1 v552), ∀ a x, ((![v552] : Fin 1 → IVec S16 32) a x).toNat < S8192.size a := fun v552 k1_hw1 => k1_hw1.2.2.2.2.2.2.2.2.1
theorem k1_idx10_inb : ∀ (v552 : IVec S16 32) (k1_hw1 : k1_chk1 v552), ∀ a x, ((![v552] : Fin 1 → IVec S16 32) a x).toNat < S8192.size a := fun v552 k1_hw1 => k1_hw1.2.2.2.2.2.2.2.2.2.1
theorem k1_idx11_inb : ∀ (v552 : IVec S16 32) (k1_hw1 : k1_chk1 v552), ∀ a x, ((![v552] : Fin 1 → IVec S16 32) a x).toNat < S8192.size a := fun v552 k1_hw1 => k1_hw1.2.2.2.2.2.2.2.2.2.2.1
theorem k1_idx12_inb : ∀ (v552 : IVec S16 32) (k1_hw1 : k1_chk1 v552), ∀ a x, ((![v552] : Fin 1 → IVec S16 32) a x).toNat < S8192.size a := fun v552 k1_hw1 => k1_hw1.2.2.2.2.2.2.2.2.2.2.2.1
theorem k1_idx13_inb : ∀ (v552 : IVec S16 32) (k1_hw1 : k1_chk1 v552), ∀ a x, ((![v552] : Fin 1 → IVec S16 32) a x).toNat < S8192.size a := fun v552 k1_hw1 => k1_hw1.2.2.2.2.2.2.2.2.2.2.2.2.1
theorem k1_idx14_inb : ∀ (v552 : IVec S16 32) (k1_hw1 : k1_chk1 v552), ∀ a x, ((![v552] : Fin 1 → IVec S16 32) a x).toNat < S8192.size a := fun v552 k1_hw1 => k1_hw1.2.2.2.2.2.2.2.2.2.2.2.2.2.1
theorem k1_idx15_inb : ∀ (v552 : IVec S16 32) (k1_hw1 : k1_chk1 v552), ∀ a x, ((![v552] : Fin 1 → IVec S16 32) a x).toNat < S8192.size a := fun v552 k1_hw1 => k1_hw1.2.2.2.2.2.2.2.2.2.2.2.2.2.2.1
theorem k1_idx16_inb : ∀ (v552 : IVec S16 32) (k1_hw1 : k1_chk1 v552), ∀ a x, ((![v552] : Fin 1 → IVec S16 32) a x).toNat < S8192.size a := fun v552 k1_hw1 => k1_hw1.2.2.2.2.2.2.2.2.2.2.2.2.2.2.2

def k1_chk2 (v586 : IVec S16 32) : Prop :=
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a) ∧
  (∀ a x, ((![v586] : Fin 1 → IVec S16 32) a x).toNat < S8192.size a)
theorem k1_idx17_inb : ∀ (v586 : IVec S16 32) (k1_hw2 : k1_chk2 v586), ∀ a x, ((![v586] : Fin 1 → IVec S16 32) a x).toNat < S8192.size a := fun v586 k1_hw2 => k1_hw2.1
theorem k1_idx18_inb : ∀ (v586 : IVec S16 32) (k1_hw2 : k1_chk2 v586), ∀ a x, ((![v586] : Fin 1 → IVec S16 32) a x).toNat < S8192.size a := fun v586 k1_hw2 => k1_hw2.2.1
theorem k1_idx19_inb : ∀ (v586 : IVec S16 32) (k1_hw2 : k1_chk2 v586), ∀ a x, ((![v586] : Fin 1 → IVec S16 32) a x).toNat < S8192.size a := fun v586 k1_hw2 => k1_hw2.2.2.1
theorem k1_idx20_inb : ∀ (v586 : IVec S16 32) (k1_hw2 : k1_chk2 v586), ∀ a x, ((![v586] : Fin 1 → IVec S16 32) a x).toNat < S8192.size a := fun v586 k1_hw2 => k1_hw2.2.2.2.1
theorem k1_idx21_inb : ∀ (v586 : IVec S16 32) (k1_hw2 : k1_chk2 v586), ∀ a x, ((![v586] : Fin 1 → IVec S16 32) a x).toNat < S8192.size a := fun v586 k1_hw2 => k1_hw2.2.2.2.2.1
theorem k1_idx22_inb : ∀ (v586 : IVec S16 32) (k1_hw2 : k1_chk2 v586), ∀ a x, ((![v586] : Fin 1 → IVec S16 32) a x).toNat < S8192.size a := fun v586 k1_hw2 => k1_hw2.2.2.2.2.2.1
theorem k1_idx23_inb : ∀ (v586 : IVec S16 32) (k1_hw2 : k1_chk2 v586), ∀ a x, ((![v586] : Fin 1 → IVec S16 32) a x).toNat < S8192.size a := fun v586 k1_hw2 => k1_hw2.2.2.2.2.2.2.1
theorem k1_idx24_inb : ∀ (v586 : IVec S16 32) (k1_hw2 : k1_chk2 v586), ∀ a x, ((![v586] : Fin 1 → IVec S16 32) a x).toNat < S8192.size a := fun v586 k1_hw2 => k1_hw2.2.2.2.2.2.2.2.1
theorem k1_idx25_inb : ∀ (v586 : IVec S16 32) (k1_hw2 : k1_chk2 v586), ∀ a x, ((![v586] : Fin 1 → IVec S16 32) a x).toNat < S8192.size a := fun v586 k1_hw2 => k1_hw2.2.2.2.2.2.2.2.2.1
theorem k1_idx26_inb : ∀ (v586 : IVec S16 32) (k1_hw2 : k1_chk2 v586), ∀ a x, ((![v586] : Fin 1 → IVec S16 32) a x).toNat < S8192.size a := fun v586 k1_hw2 => k1_hw2.2.2.2.2.2.2.2.2.2.1
theorem k1_idx27_inb : ∀ (v586 : IVec S16 32) (k1_hw2 : k1_chk2 v586), ∀ a x, ((![v586] : Fin 1 → IVec S16 32) a x).toNat < S8192.size a := fun v586 k1_hw2 => k1_hw2.2.2.2.2.2.2.2.2.2.2.1
theorem k1_idx28_inb : ∀ (v586 : IVec S16 32) (k1_hw2 : k1_chk2 v586), ∀ a x, ((![v586] : Fin 1 → IVec S16 32) a x).toNat < S8192.size a := fun v586 k1_hw2 => k1_hw2.2.2.2.2.2.2.2.2.2.2.2.1
theorem k1_idx29_inb : ∀ (v586 : IVec S16 32) (k1_hw2 : k1_chk2 v586), ∀ a x, ((![v586] : Fin 1 → IVec S16 32) a x).toNat < S8192.size a := fun v586 k1_hw2 => k1_hw2.2.2.2.2.2.2.2.2.2.2.2.2.1
theorem k1_idx30_inb : ∀ (v586 : IVec S16 32) (k1_hw2 : k1_chk2 v586), ∀ a x, ((![v586] : Fin 1 → IVec S16 32) a x).toNat < S8192.size a := fun v586 k1_hw2 => k1_hw2.2.2.2.2.2.2.2.2.2.2.2.2.2.1
theorem k1_idx31_inb : ∀ (v586 : IVec S16 32) (k1_hw2 : k1_chk2 v586), ∀ a x, ((![v586] : Fin 1 → IVec S16 32) a x).toNat < S8192.size a := fun v586 k1_hw2 => k1_hw2.2.2.2.2.2.2.2.2.2.2.2.2.2.2.1
theorem k1_idx32_inb : ∀ (v586 : IVec S16 32) (k1_hw2 : k1_chk2 v586), ∀ a x, ((![v586] : Fin 1 → IVec S16 32) a x).toNat < S8192.size a := fun v586 k1_hw2 => k1_hw2.2.2.2.2.2.2.2.2.2.2.2.2.2.2.2

def k1_chk3 (v620 : IVec S16 32) : Prop :=
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a) ∧
  (∀ a x, ((![v620] : Fin 1 → IVec S16 32) a x).toNat < S8192.size a)
theorem k1_idx33_inb : ∀ (v620 : IVec S16 32) (k1_hw3 : k1_chk3 v620), ∀ a x, ((![v620] : Fin 1 → IVec S16 32) a x).toNat < S8192.size a := fun v620 k1_hw3 => k1_hw3.1
theorem k1_idx34_inb : ∀ (v620 : IVec S16 32) (k1_hw3 : k1_chk3 v620), ∀ a x, ((![v620] : Fin 1 → IVec S16 32) a x).toNat < S8192.size a := fun v620 k1_hw3 => k1_hw3.2.1
theorem k1_idx35_inb : ∀ (v620 : IVec S16 32) (k1_hw3 : k1_chk3 v620), ∀ a x, ((![v620] : Fin 1 → IVec S16 32) a x).toNat < S8192.size a := fun v620 k1_hw3 => k1_hw3.2.2.1
theorem k1_idx36_inb : ∀ (v620 : IVec S16 32) (k1_hw3 : k1_chk3 v620), ∀ a x, ((![v620] : Fin 1 → IVec S16 32) a x).toNat < S8192.size a := fun v620 k1_hw3 => k1_hw3.2.2.2.1
theorem k1_idx37_inb : ∀ (v620 : IVec S16 32) (k1_hw3 : k1_chk3 v620), ∀ a x, ((![v620] : Fin 1 → IVec S16 32) a x).toNat < S8192.size a := fun v620 k1_hw3 => k1_hw3.2.2.2.2.1
theorem k1_idx38_inb : ∀ (v620 : IVec S16 32) (k1_hw3 : k1_chk3 v620), ∀ a x, ((![v620] : Fin 1 → IVec S16 32) a x).toNat < S8192.size a := fun v620 k1_hw3 => k1_hw3.2.2.2.2.2.1
theorem k1_idx39_inb : ∀ (v620 : IVec S16 32) (k1_hw3 : k1_chk3 v620), ∀ a x, ((![v620] : Fin 1 → IVec S16 32) a x).toNat < S8192.size a := fun v620 k1_hw3 => k1_hw3.2.2.2.2.2.2.1
theorem k1_idx40_inb : ∀ (v620 : IVec S16 32) (k1_hw3 : k1_chk3 v620), ∀ a x, ((![v620] : Fin 1 → IVec S16 32) a x).toNat < S8192.size a := fun v620 k1_hw3 => k1_hw3.2.2.2.2.2.2.2.1
theorem k1_idx41_inb : ∀ (v620 : IVec S16 32) (k1_hw3 : k1_chk3 v620), ∀ a x, ((![v620] : Fin 1 → IVec S16 32) a x).toNat < S8192.size a := fun v620 k1_hw3 => k1_hw3.2.2.2.2.2.2.2.2.1
theorem k1_idx42_inb : ∀ (v620 : IVec S16 32) (k1_hw3 : k1_chk3 v620), ∀ a x, ((![v620] : Fin 1 → IVec S16 32) a x).toNat < S8192.size a := fun v620 k1_hw3 => k1_hw3.2.2.2.2.2.2.2.2.2.1
theorem k1_idx43_inb : ∀ (v620 : IVec S16 32) (k1_hw3 : k1_chk3 v620), ∀ a x, ((![v620] : Fin 1 → IVec S16 32) a x).toNat < S8192.size a := fun v620 k1_hw3 => k1_hw3.2.2.2.2.2.2.2.2.2.2.1
theorem k1_idx44_inb : ∀ (v620 : IVec S16 32) (k1_hw3 : k1_chk3 v620), ∀ a x, ((![v620] : Fin 1 → IVec S16 32) a x).toNat < S8192.size a := fun v620 k1_hw3 => k1_hw3.2.2.2.2.2.2.2.2.2.2.2.1
theorem k1_idx45_inb : ∀ (v620 : IVec S16 32) (k1_hw3 : k1_chk3 v620), ∀ a x, ((![v620] : Fin 1 → IVec S16 32) a x).toNat < S8192.size a := fun v620 k1_hw3 => k1_hw3.2.2.2.2.2.2.2.2.2.2.2.2.1
theorem k1_idx46_inb : ∀ (v620 : IVec S16 32) (k1_hw3 : k1_chk3 v620), ∀ a x, ((![v620] : Fin 1 → IVec S16 32) a x).toNat < S8192.size a := fun v620 k1_hw3 => k1_hw3.2.2.2.2.2.2.2.2.2.2.2.2.2.1
theorem k1_idx47_inb : ∀ (v620 : IVec S16 32) (k1_hw3 : k1_chk3 v620), ∀ a x, ((![v620] : Fin 1 → IVec S16 32) a x).toNat < S8192.size a := fun v620 k1_hw3 => k1_hw3.2.2.2.2.2.2.2.2.2.2.2.2.2.2.1
theorem k1_idx48_inb : ∀ (v620 : IVec S16 32) (k1_hw3 : k1_chk3 v620), ∀ a x, ((![v620] : Fin 1 → IVec S16 32) a x).toNat < S8192.size a := fun v620 k1_hw3 => k1_hw3.2.2.2.2.2.2.2.2.2.2.2.2.2.2.2

def k1_chk4 (v654 : IVec S16 32) : Prop :=
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a) ∧
  (∀ a x, ((![v654] : Fin 1 → IVec S16 32) a x).toNat < S8192.size a)
theorem k1_idx49_inb : ∀ (v654 : IVec S16 32) (k1_hw4 : k1_chk4 v654), ∀ a x, ((![v654] : Fin 1 → IVec S16 32) a x).toNat < S8192.size a := fun v654 k1_hw4 => k1_hw4.1
theorem k1_idx50_inb : ∀ (v654 : IVec S16 32) (k1_hw4 : k1_chk4 v654), ∀ a x, ((![v654] : Fin 1 → IVec S16 32) a x).toNat < S8192.size a := fun v654 k1_hw4 => k1_hw4.2.1
theorem k1_idx51_inb : ∀ (v654 : IVec S16 32) (k1_hw4 : k1_chk4 v654), ∀ a x, ((![v654] : Fin 1 → IVec S16 32) a x).toNat < S8192.size a := fun v654 k1_hw4 => k1_hw4.2.2.1
theorem k1_idx52_inb : ∀ (v654 : IVec S16 32) (k1_hw4 : k1_chk4 v654), ∀ a x, ((![v654] : Fin 1 → IVec S16 32) a x).toNat < S8192.size a := fun v654 k1_hw4 => k1_hw4.2.2.2.1
theorem k1_idx53_inb : ∀ (v654 : IVec S16 32) (k1_hw4 : k1_chk4 v654), ∀ a x, ((![v654] : Fin 1 → IVec S16 32) a x).toNat < S8192.size a := fun v654 k1_hw4 => k1_hw4.2.2.2.2.1
theorem k1_idx54_inb : ∀ (v654 : IVec S16 32) (k1_hw4 : k1_chk4 v654), ∀ a x, ((![v654] : Fin 1 → IVec S16 32) a x).toNat < S8192.size a := fun v654 k1_hw4 => k1_hw4.2.2.2.2.2.1
theorem k1_idx55_inb : ∀ (v654 : IVec S16 32) (k1_hw4 : k1_chk4 v654), ∀ a x, ((![v654] : Fin 1 → IVec S16 32) a x).toNat < S8192.size a := fun v654 k1_hw4 => k1_hw4.2.2.2.2.2.2.1
theorem k1_idx56_inb : ∀ (v654 : IVec S16 32) (k1_hw4 : k1_chk4 v654), ∀ a x, ((![v654] : Fin 1 → IVec S16 32) a x).toNat < S8192.size a := fun v654 k1_hw4 => k1_hw4.2.2.2.2.2.2.2.1
theorem k1_idx57_inb : ∀ (v654 : IVec S16 32) (k1_hw4 : k1_chk4 v654), ∀ a x, ((![v654] : Fin 1 → IVec S16 32) a x).toNat < S8192.size a := fun v654 k1_hw4 => k1_hw4.2.2.2.2.2.2.2.2.1
theorem k1_idx58_inb : ∀ (v654 : IVec S16 32) (k1_hw4 : k1_chk4 v654), ∀ a x, ((![v654] : Fin 1 → IVec S16 32) a x).toNat < S8192.size a := fun v654 k1_hw4 => k1_hw4.2.2.2.2.2.2.2.2.2.1
theorem k1_idx59_inb : ∀ (v654 : IVec S16 32) (k1_hw4 : k1_chk4 v654), ∀ a x, ((![v654] : Fin 1 → IVec S16 32) a x).toNat < S8192.size a := fun v654 k1_hw4 => k1_hw4.2.2.2.2.2.2.2.2.2.2.1
theorem k1_idx60_inb : ∀ (v654 : IVec S16 32) (k1_hw4 : k1_chk4 v654), ∀ a x, ((![v654] : Fin 1 → IVec S16 32) a x).toNat < S8192.size a := fun v654 k1_hw4 => k1_hw4.2.2.2.2.2.2.2.2.2.2.2.1
theorem k1_idx61_inb : ∀ (v654 : IVec S16 32) (k1_hw4 : k1_chk4 v654), ∀ a x, ((![v654] : Fin 1 → IVec S16 32) a x).toNat < S8192.size a := fun v654 k1_hw4 => k1_hw4.2.2.2.2.2.2.2.2.2.2.2.2.1
theorem k1_idx62_inb : ∀ (v654 : IVec S16 32) (k1_hw4 : k1_chk4 v654), ∀ a x, ((![v654] : Fin 1 → IVec S16 32) a x).toNat < S8192.size a := fun v654 k1_hw4 => k1_hw4.2.2.2.2.2.2.2.2.2.2.2.2.2.1
theorem k1_idx63_inb : ∀ (v654 : IVec S16 32) (k1_hw4 : k1_chk4 v654), ∀ a x, ((![v654] : Fin 1 → IVec S16 32) a x).toNat < S8192.size a := fun v654 k1_hw4 => k1_hw4.2.2.2.2.2.2.2.2.2.2.2.2.2.2.1
theorem k1_idx64_inb : ∀ (v654 : IVec S16 32) (k1_hw4 : k1_chk4 v654), ∀ a x, ((![v654] : Fin 1 → IVec S16 32) a x).toNat < S8192.size a := fun v654 k1_hw4 => k1_hw4.2.2.2.2.2.2.2.2.2.2.2.2.2.2.2

def k1_chk5 (v688 : IVec S16 32) : Prop :=
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a) ∧
  (∀ a x, ((![v688] : Fin 1 → IVec S16 32) a x).toNat < S8192.size a)
theorem k1_idx65_inb : ∀ (v688 : IVec S16 32) (k1_hw5 : k1_chk5 v688), ∀ a x, ((![v688] : Fin 1 → IVec S16 32) a x).toNat < S8192.size a := fun v688 k1_hw5 => k1_hw5.1
theorem k1_idx66_inb : ∀ (v688 : IVec S16 32) (k1_hw5 : k1_chk5 v688), ∀ a x, ((![v688] : Fin 1 → IVec S16 32) a x).toNat < S8192.size a := fun v688 k1_hw5 => k1_hw5.2.1
theorem k1_idx67_inb : ∀ (v688 : IVec S16 32) (k1_hw5 : k1_chk5 v688), ∀ a x, ((![v688] : Fin 1 → IVec S16 32) a x).toNat < S8192.size a := fun v688 k1_hw5 => k1_hw5.2.2.1
theorem k1_idx68_inb : ∀ (v688 : IVec S16 32) (k1_hw5 : k1_chk5 v688), ∀ a x, ((![v688] : Fin 1 → IVec S16 32) a x).toNat < S8192.size a := fun v688 k1_hw5 => k1_hw5.2.2.2.1
theorem k1_idx69_inb : ∀ (v688 : IVec S16 32) (k1_hw5 : k1_chk5 v688), ∀ a x, ((![v688] : Fin 1 → IVec S16 32) a x).toNat < S8192.size a := fun v688 k1_hw5 => k1_hw5.2.2.2.2.1
theorem k1_idx70_inb : ∀ (v688 : IVec S16 32) (k1_hw5 : k1_chk5 v688), ∀ a x, ((![v688] : Fin 1 → IVec S16 32) a x).toNat < S8192.size a := fun v688 k1_hw5 => k1_hw5.2.2.2.2.2.1
theorem k1_idx71_inb : ∀ (v688 : IVec S16 32) (k1_hw5 : k1_chk5 v688), ∀ a x, ((![v688] : Fin 1 → IVec S16 32) a x).toNat < S8192.size a := fun v688 k1_hw5 => k1_hw5.2.2.2.2.2.2.1
theorem k1_idx72_inb : ∀ (v688 : IVec S16 32) (k1_hw5 : k1_chk5 v688), ∀ a x, ((![v688] : Fin 1 → IVec S16 32) a x).toNat < S8192.size a := fun v688 k1_hw5 => k1_hw5.2.2.2.2.2.2.2.1
theorem k1_idx73_inb : ∀ (v688 : IVec S16 32) (k1_hw5 : k1_chk5 v688), ∀ a x, ((![v688] : Fin 1 → IVec S16 32) a x).toNat < S8192.size a := fun v688 k1_hw5 => k1_hw5.2.2.2.2.2.2.2.2.1
theorem k1_idx74_inb : ∀ (v688 : IVec S16 32) (k1_hw5 : k1_chk5 v688), ∀ a x, ((![v688] : Fin 1 → IVec S16 32) a x).toNat < S8192.size a := fun v688 k1_hw5 => k1_hw5.2.2.2.2.2.2.2.2.2.1
theorem k1_idx75_inb : ∀ (v688 : IVec S16 32) (k1_hw5 : k1_chk5 v688), ∀ a x, ((![v688] : Fin 1 → IVec S16 32) a x).toNat < S8192.size a := fun v688 k1_hw5 => k1_hw5.2.2.2.2.2.2.2.2.2.2.1
theorem k1_idx76_inb : ∀ (v688 : IVec S16 32) (k1_hw5 : k1_chk5 v688), ∀ a x, ((![v688] : Fin 1 → IVec S16 32) a x).toNat < S8192.size a := fun v688 k1_hw5 => k1_hw5.2.2.2.2.2.2.2.2.2.2.2.1
theorem k1_idx77_inb : ∀ (v688 : IVec S16 32) (k1_hw5 : k1_chk5 v688), ∀ a x, ((![v688] : Fin 1 → IVec S16 32) a x).toNat < S8192.size a := fun v688 k1_hw5 => k1_hw5.2.2.2.2.2.2.2.2.2.2.2.2.1
theorem k1_idx78_inb : ∀ (v688 : IVec S16 32) (k1_hw5 : k1_chk5 v688), ∀ a x, ((![v688] : Fin 1 → IVec S16 32) a x).toNat < S8192.size a := fun v688 k1_hw5 => k1_hw5.2.2.2.2.2.2.2.2.2.2.2.2.2.1
theorem k1_idx79_inb : ∀ (v688 : IVec S16 32) (k1_hw5 : k1_chk5 v688), ∀ a x, ((![v688] : Fin 1 → IVec S16 32) a x).toNat < S8192.size a := fun v688 k1_hw5 => k1_hw5.2.2.2.2.2.2.2.2.2.2.2.2.2.2.1
theorem k1_idx80_inb : ∀ (v688 : IVec S16 32) (k1_hw5 : k1_chk5 v688), ∀ a x, ((![v688] : Fin 1 → IVec S16 32) a x).toNat < S8192.size a := fun v688 k1_hw5 => k1_hw5.2.2.2.2.2.2.2.2.2.2.2.2.2.2.2

def k1_chk6 (v722 : IVec S16 32) : Prop :=
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a) ∧
  (∀ a x, ((![v722] : Fin 1 → IVec S16 32) a x).toNat < S8192.size a)
theorem k1_idx81_inb : ∀ (v722 : IVec S16 32) (k1_hw6 : k1_chk6 v722), ∀ a x, ((![v722] : Fin 1 → IVec S16 32) a x).toNat < S8192.size a := fun v722 k1_hw6 => k1_hw6.1
theorem k1_idx82_inb : ∀ (v722 : IVec S16 32) (k1_hw6 : k1_chk6 v722), ∀ a x, ((![v722] : Fin 1 → IVec S16 32) a x).toNat < S8192.size a := fun v722 k1_hw6 => k1_hw6.2.1
theorem k1_idx83_inb : ∀ (v722 : IVec S16 32) (k1_hw6 : k1_chk6 v722), ∀ a x, ((![v722] : Fin 1 → IVec S16 32) a x).toNat < S8192.size a := fun v722 k1_hw6 => k1_hw6.2.2.1
theorem k1_idx84_inb : ∀ (v722 : IVec S16 32) (k1_hw6 : k1_chk6 v722), ∀ a x, ((![v722] : Fin 1 → IVec S16 32) a x).toNat < S8192.size a := fun v722 k1_hw6 => k1_hw6.2.2.2.1
theorem k1_idx85_inb : ∀ (v722 : IVec S16 32) (k1_hw6 : k1_chk6 v722), ∀ a x, ((![v722] : Fin 1 → IVec S16 32) a x).toNat < S8192.size a := fun v722 k1_hw6 => k1_hw6.2.2.2.2.1
theorem k1_idx86_inb : ∀ (v722 : IVec S16 32) (k1_hw6 : k1_chk6 v722), ∀ a x, ((![v722] : Fin 1 → IVec S16 32) a x).toNat < S8192.size a := fun v722 k1_hw6 => k1_hw6.2.2.2.2.2.1
theorem k1_idx87_inb : ∀ (v722 : IVec S16 32) (k1_hw6 : k1_chk6 v722), ∀ a x, ((![v722] : Fin 1 → IVec S16 32) a x).toNat < S8192.size a := fun v722 k1_hw6 => k1_hw6.2.2.2.2.2.2.1
theorem k1_idx88_inb : ∀ (v722 : IVec S16 32) (k1_hw6 : k1_chk6 v722), ∀ a x, ((![v722] : Fin 1 → IVec S16 32) a x).toNat < S8192.size a := fun v722 k1_hw6 => k1_hw6.2.2.2.2.2.2.2.1
theorem k1_idx89_inb : ∀ (v722 : IVec S16 32) (k1_hw6 : k1_chk6 v722), ∀ a x, ((![v722] : Fin 1 → IVec S16 32) a x).toNat < S8192.size a := fun v722 k1_hw6 => k1_hw6.2.2.2.2.2.2.2.2.1
theorem k1_idx90_inb : ∀ (v722 : IVec S16 32) (k1_hw6 : k1_chk6 v722), ∀ a x, ((![v722] : Fin 1 → IVec S16 32) a x).toNat < S8192.size a := fun v722 k1_hw6 => k1_hw6.2.2.2.2.2.2.2.2.2.1
theorem k1_idx91_inb : ∀ (v722 : IVec S16 32) (k1_hw6 : k1_chk6 v722), ∀ a x, ((![v722] : Fin 1 → IVec S16 32) a x).toNat < S8192.size a := fun v722 k1_hw6 => k1_hw6.2.2.2.2.2.2.2.2.2.2.1
theorem k1_idx92_inb : ∀ (v722 : IVec S16 32) (k1_hw6 : k1_chk6 v722), ∀ a x, ((![v722] : Fin 1 → IVec S16 32) a x).toNat < S8192.size a := fun v722 k1_hw6 => k1_hw6.2.2.2.2.2.2.2.2.2.2.2.1
theorem k1_idx93_inb : ∀ (v722 : IVec S16 32) (k1_hw6 : k1_chk6 v722), ∀ a x, ((![v722] : Fin 1 → IVec S16 32) a x).toNat < S8192.size a := fun v722 k1_hw6 => k1_hw6.2.2.2.2.2.2.2.2.2.2.2.2.1
theorem k1_idx94_inb : ∀ (v722 : IVec S16 32) (k1_hw6 : k1_chk6 v722), ∀ a x, ((![v722] : Fin 1 → IVec S16 32) a x).toNat < S8192.size a := fun v722 k1_hw6 => k1_hw6.2.2.2.2.2.2.2.2.2.2.2.2.2.1
theorem k1_idx95_inb : ∀ (v722 : IVec S16 32) (k1_hw6 : k1_chk6 v722), ∀ a x, ((![v722] : Fin 1 → IVec S16 32) a x).toNat < S8192.size a := fun v722 k1_hw6 => k1_hw6.2.2.2.2.2.2.2.2.2.2.2.2.2.2.1
theorem k1_idx96_inb : ∀ (v722 : IVec S16 32) (k1_hw6 : k1_chk6 v722), ∀ a x, ((![v722] : Fin 1 → IVec S16 32) a x).toNat < S8192.size a := fun v722 k1_hw6 => k1_hw6.2.2.2.2.2.2.2.2.2.2.2.2.2.2.2

def k1_chk7 (v756 : IVec S16 32) : Prop :=
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a) ∧
  (∀ a x, ((![v756] : Fin 1 → IVec S16 32) a x).toNat < S8192.size a)
theorem k1_idx97_inb : ∀ (v756 : IVec S16 32) (k1_hw7 : k1_chk7 v756), ∀ a x, ((![v756] : Fin 1 → IVec S16 32) a x).toNat < S8192.size a := fun v756 k1_hw7 => k1_hw7.1
theorem k1_idx98_inb : ∀ (v756 : IVec S16 32) (k1_hw7 : k1_chk7 v756), ∀ a x, ((![v756] : Fin 1 → IVec S16 32) a x).toNat < S8192.size a := fun v756 k1_hw7 => k1_hw7.2.1
theorem k1_idx99_inb : ∀ (v756 : IVec S16 32) (k1_hw7 : k1_chk7 v756), ∀ a x, ((![v756] : Fin 1 → IVec S16 32) a x).toNat < S8192.size a := fun v756 k1_hw7 => k1_hw7.2.2.1
theorem k1_idx100_inb : ∀ (v756 : IVec S16 32) (k1_hw7 : k1_chk7 v756), ∀ a x, ((![v756] : Fin 1 → IVec S16 32) a x).toNat < S8192.size a := fun v756 k1_hw7 => k1_hw7.2.2.2.1
theorem k1_idx101_inb : ∀ (v756 : IVec S16 32) (k1_hw7 : k1_chk7 v756), ∀ a x, ((![v756] : Fin 1 → IVec S16 32) a x).toNat < S8192.size a := fun v756 k1_hw7 => k1_hw7.2.2.2.2.1
theorem k1_idx102_inb : ∀ (v756 : IVec S16 32) (k1_hw7 : k1_chk7 v756), ∀ a x, ((![v756] : Fin 1 → IVec S16 32) a x).toNat < S8192.size a := fun v756 k1_hw7 => k1_hw7.2.2.2.2.2.1
theorem k1_idx103_inb : ∀ (v756 : IVec S16 32) (k1_hw7 : k1_chk7 v756), ∀ a x, ((![v756] : Fin 1 → IVec S16 32) a x).toNat < S8192.size a := fun v756 k1_hw7 => k1_hw7.2.2.2.2.2.2.1
theorem k1_idx104_inb : ∀ (v756 : IVec S16 32) (k1_hw7 : k1_chk7 v756), ∀ a x, ((![v756] : Fin 1 → IVec S16 32) a x).toNat < S8192.size a := fun v756 k1_hw7 => k1_hw7.2.2.2.2.2.2.2.1
theorem k1_idx105_inb : ∀ (v756 : IVec S16 32) (k1_hw7 : k1_chk7 v756), ∀ a x, ((![v756] : Fin 1 → IVec S16 32) a x).toNat < S8192.size a := fun v756 k1_hw7 => k1_hw7.2.2.2.2.2.2.2.2.1
theorem k1_idx106_inb : ∀ (v756 : IVec S16 32) (k1_hw7 : k1_chk7 v756), ∀ a x, ((![v756] : Fin 1 → IVec S16 32) a x).toNat < S8192.size a := fun v756 k1_hw7 => k1_hw7.2.2.2.2.2.2.2.2.2.1
theorem k1_idx107_inb : ∀ (v756 : IVec S16 32) (k1_hw7 : k1_chk7 v756), ∀ a x, ((![v756] : Fin 1 → IVec S16 32) a x).toNat < S8192.size a := fun v756 k1_hw7 => k1_hw7.2.2.2.2.2.2.2.2.2.2.1
theorem k1_idx108_inb : ∀ (v756 : IVec S16 32) (k1_hw7 : k1_chk7 v756), ∀ a x, ((![v756] : Fin 1 → IVec S16 32) a x).toNat < S8192.size a := fun v756 k1_hw7 => k1_hw7.2.2.2.2.2.2.2.2.2.2.2.1
theorem k1_idx109_inb : ∀ (v756 : IVec S16 32) (k1_hw7 : k1_chk7 v756), ∀ a x, ((![v756] : Fin 1 → IVec S16 32) a x).toNat < S8192.size a := fun v756 k1_hw7 => k1_hw7.2.2.2.2.2.2.2.2.2.2.2.2.1
theorem k1_idx110_inb : ∀ (v756 : IVec S16 32) (k1_hw7 : k1_chk7 v756), ∀ a x, ((![v756] : Fin 1 → IVec S16 32) a x).toNat < S8192.size a := fun v756 k1_hw7 => k1_hw7.2.2.2.2.2.2.2.2.2.2.2.2.2.1
theorem k1_idx111_inb : ∀ (v756 : IVec S16 32) (k1_hw7 : k1_chk7 v756), ∀ a x, ((![v756] : Fin 1 → IVec S16 32) a x).toNat < S8192.size a := fun v756 k1_hw7 => k1_hw7.2.2.2.2.2.2.2.2.2.2.2.2.2.2.1
theorem k1_idx112_inb : ∀ (v756 : IVec S16 32) (k1_hw7 : k1_chk7 v756), ∀ a x, ((![v756] : Fin 1 → IVec S16 32) a x).toNat < S8192.size a := fun v756 k1_hw7 => k1_hw7.2.2.2.2.2.2.2.2.2.2.2.2.2.2.2

def k1_chk8 (v790 : IVec S16 32) : Prop :=
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a) ∧
  (∀ a x, ((![v790] : Fin 1 → IVec S16 32) a x).toNat < S8192.size a)
theorem k1_idx113_inb : ∀ (v790 : IVec S16 32) (k1_hw8 : k1_chk8 v790), ∀ a x, ((![v790] : Fin 1 → IVec S16 32) a x).toNat < S8192.size a := fun v790 k1_hw8 => k1_hw8.1
theorem k1_idx114_inb : ∀ (v790 : IVec S16 32) (k1_hw8 : k1_chk8 v790), ∀ a x, ((![v790] : Fin 1 → IVec S16 32) a x).toNat < S8192.size a := fun v790 k1_hw8 => k1_hw8.2.1
theorem k1_idx115_inb : ∀ (v790 : IVec S16 32) (k1_hw8 : k1_chk8 v790), ∀ a x, ((![v790] : Fin 1 → IVec S16 32) a x).toNat < S8192.size a := fun v790 k1_hw8 => k1_hw8.2.2.1
theorem k1_idx116_inb : ∀ (v790 : IVec S16 32) (k1_hw8 : k1_chk8 v790), ∀ a x, ((![v790] : Fin 1 → IVec S16 32) a x).toNat < S8192.size a := fun v790 k1_hw8 => k1_hw8.2.2.2.1
theorem k1_idx117_inb : ∀ (v790 : IVec S16 32) (k1_hw8 : k1_chk8 v790), ∀ a x, ((![v790] : Fin 1 → IVec S16 32) a x).toNat < S8192.size a := fun v790 k1_hw8 => k1_hw8.2.2.2.2.1
theorem k1_idx118_inb : ∀ (v790 : IVec S16 32) (k1_hw8 : k1_chk8 v790), ∀ a x, ((![v790] : Fin 1 → IVec S16 32) a x).toNat < S8192.size a := fun v790 k1_hw8 => k1_hw8.2.2.2.2.2.1
theorem k1_idx119_inb : ∀ (v790 : IVec S16 32) (k1_hw8 : k1_chk8 v790), ∀ a x, ((![v790] : Fin 1 → IVec S16 32) a x).toNat < S8192.size a := fun v790 k1_hw8 => k1_hw8.2.2.2.2.2.2.1
theorem k1_idx120_inb : ∀ (v790 : IVec S16 32) (k1_hw8 : k1_chk8 v790), ∀ a x, ((![v790] : Fin 1 → IVec S16 32) a x).toNat < S8192.size a := fun v790 k1_hw8 => k1_hw8.2.2.2.2.2.2.2.1
theorem k1_idx121_inb : ∀ (v790 : IVec S16 32) (k1_hw8 : k1_chk8 v790), ∀ a x, ((![v790] : Fin 1 → IVec S16 32) a x).toNat < S8192.size a := fun v790 k1_hw8 => k1_hw8.2.2.2.2.2.2.2.2.1
theorem k1_idx122_inb : ∀ (v790 : IVec S16 32) (k1_hw8 : k1_chk8 v790), ∀ a x, ((![v790] : Fin 1 → IVec S16 32) a x).toNat < S8192.size a := fun v790 k1_hw8 => k1_hw8.2.2.2.2.2.2.2.2.2.1
theorem k1_idx123_inb : ∀ (v790 : IVec S16 32) (k1_hw8 : k1_chk8 v790), ∀ a x, ((![v790] : Fin 1 → IVec S16 32) a x).toNat < S8192.size a := fun v790 k1_hw8 => k1_hw8.2.2.2.2.2.2.2.2.2.2.1
theorem k1_idx124_inb : ∀ (v790 : IVec S16 32) (k1_hw8 : k1_chk8 v790), ∀ a x, ((![v790] : Fin 1 → IVec S16 32) a x).toNat < S8192.size a := fun v790 k1_hw8 => k1_hw8.2.2.2.2.2.2.2.2.2.2.2.1
theorem k1_idx125_inb : ∀ (v790 : IVec S16 32) (k1_hw8 : k1_chk8 v790), ∀ a x, ((![v790] : Fin 1 → IVec S16 32) a x).toNat < S8192.size a := fun v790 k1_hw8 => k1_hw8.2.2.2.2.2.2.2.2.2.2.2.2.1
theorem k1_idx126_inb : ∀ (v790 : IVec S16 32) (k1_hw8 : k1_chk8 v790), ∀ a x, ((![v790] : Fin 1 → IVec S16 32) a x).toNat < S8192.size a := fun v790 k1_hw8 => k1_hw8.2.2.2.2.2.2.2.2.2.2.2.2.2.1
theorem k1_idx127_inb : ∀ (v790 : IVec S16 32) (k1_hw8 : k1_chk8 v790), ∀ a x, ((![v790] : Fin 1 → IVec S16 32) a x).toNat < S8192.size a := fun v790 k1_hw8 => k1_hw8.2.2.2.2.2.2.2.2.2.2.2.2.2.2.1
theorem k1_idx128_inb : ∀ (v790 : IVec S16 32) (k1_hw8 : k1_chk8 v790), ∀ a x, ((![v790] : Fin 1 → IVec S16 32) a x).toNat < S8192.size a := fun v790 k1_hw8 => k1_hw8.2.2.2.2.2.2.2.2.2.2.2.2.2.2.2

def k1_chk9 (v824 : IVec S16 32) : Prop :=
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a) ∧
  (∀ a x, ((![v824] : Fin 1 → IVec S16 32) a x).toNat < S8192.size a)
theorem k1_idx129_inb : ∀ (v824 : IVec S16 32) (k1_hw9 : k1_chk9 v824), ∀ a x, ((![v824] : Fin 1 → IVec S16 32) a x).toNat < S8192.size a := fun v824 k1_hw9 => k1_hw9.1
theorem k1_idx130_inb : ∀ (v824 : IVec S16 32) (k1_hw9 : k1_chk9 v824), ∀ a x, ((![v824] : Fin 1 → IVec S16 32) a x).toNat < S8192.size a := fun v824 k1_hw9 => k1_hw9.2.1
theorem k1_idx131_inb : ∀ (v824 : IVec S16 32) (k1_hw9 : k1_chk9 v824), ∀ a x, ((![v824] : Fin 1 → IVec S16 32) a x).toNat < S8192.size a := fun v824 k1_hw9 => k1_hw9.2.2.1
theorem k1_idx132_inb : ∀ (v824 : IVec S16 32) (k1_hw9 : k1_chk9 v824), ∀ a x, ((![v824] : Fin 1 → IVec S16 32) a x).toNat < S8192.size a := fun v824 k1_hw9 => k1_hw9.2.2.2.1
theorem k1_idx133_inb : ∀ (v824 : IVec S16 32) (k1_hw9 : k1_chk9 v824), ∀ a x, ((![v824] : Fin 1 → IVec S16 32) a x).toNat < S8192.size a := fun v824 k1_hw9 => k1_hw9.2.2.2.2.1
theorem k1_idx134_inb : ∀ (v824 : IVec S16 32) (k1_hw9 : k1_chk9 v824), ∀ a x, ((![v824] : Fin 1 → IVec S16 32) a x).toNat < S8192.size a := fun v824 k1_hw9 => k1_hw9.2.2.2.2.2.1
theorem k1_idx135_inb : ∀ (v824 : IVec S16 32) (k1_hw9 : k1_chk9 v824), ∀ a x, ((![v824] : Fin 1 → IVec S16 32) a x).toNat < S8192.size a := fun v824 k1_hw9 => k1_hw9.2.2.2.2.2.2.1
theorem k1_idx136_inb : ∀ (v824 : IVec S16 32) (k1_hw9 : k1_chk9 v824), ∀ a x, ((![v824] : Fin 1 → IVec S16 32) a x).toNat < S8192.size a := fun v824 k1_hw9 => k1_hw9.2.2.2.2.2.2.2.1
theorem k1_idx137_inb : ∀ (v824 : IVec S16 32) (k1_hw9 : k1_chk9 v824), ∀ a x, ((![v824] : Fin 1 → IVec S16 32) a x).toNat < S8192.size a := fun v824 k1_hw9 => k1_hw9.2.2.2.2.2.2.2.2.1
theorem k1_idx138_inb : ∀ (v824 : IVec S16 32) (k1_hw9 : k1_chk9 v824), ∀ a x, ((![v824] : Fin 1 → IVec S16 32) a x).toNat < S8192.size a := fun v824 k1_hw9 => k1_hw9.2.2.2.2.2.2.2.2.2.1
theorem k1_idx139_inb : ∀ (v824 : IVec S16 32) (k1_hw9 : k1_chk9 v824), ∀ a x, ((![v824] : Fin 1 → IVec S16 32) a x).toNat < S8192.size a := fun v824 k1_hw9 => k1_hw9.2.2.2.2.2.2.2.2.2.2.1
theorem k1_idx140_inb : ∀ (v824 : IVec S16 32) (k1_hw9 : k1_chk9 v824), ∀ a x, ((![v824] : Fin 1 → IVec S16 32) a x).toNat < S8192.size a := fun v824 k1_hw9 => k1_hw9.2.2.2.2.2.2.2.2.2.2.2.1
theorem k1_idx141_inb : ∀ (v824 : IVec S16 32) (k1_hw9 : k1_chk9 v824), ∀ a x, ((![v824] : Fin 1 → IVec S16 32) a x).toNat < S8192.size a := fun v824 k1_hw9 => k1_hw9.2.2.2.2.2.2.2.2.2.2.2.2.1
theorem k1_idx142_inb : ∀ (v824 : IVec S16 32) (k1_hw9 : k1_chk9 v824), ∀ a x, ((![v824] : Fin 1 → IVec S16 32) a x).toNat < S8192.size a := fun v824 k1_hw9 => k1_hw9.2.2.2.2.2.2.2.2.2.2.2.2.2.1
theorem k1_idx143_inb : ∀ (v824 : IVec S16 32) (k1_hw9 : k1_chk9 v824), ∀ a x, ((![v824] : Fin 1 → IVec S16 32) a x).toNat < S8192.size a := fun v824 k1_hw9 => k1_hw9.2.2.2.2.2.2.2.2.2.2.2.2.2.2.1
theorem k1_idx144_inb : ∀ (v824 : IVec S16 32) (k1_hw9 : k1_chk9 v824), ∀ a x, ((![v824] : Fin 1 → IVec S16 32) a x).toNat < S8192.size a := fun v824 k1_hw9 => k1_hw9.2.2.2.2.2.2.2.2.2.2.2.2.2.2.2

def k1_chk10 (v858 : IVec S16 32) : Prop :=
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a) ∧
  (∀ a x, ((![v858] : Fin 1 → IVec S16 32) a x).toNat < S8192.size a)
theorem k1_idx145_inb : ∀ (v858 : IVec S16 32) (k1_hw10 : k1_chk10 v858), ∀ a x, ((![v858] : Fin 1 → IVec S16 32) a x).toNat < S8192.size a := fun v858 k1_hw10 => k1_hw10.1
theorem k1_idx146_inb : ∀ (v858 : IVec S16 32) (k1_hw10 : k1_chk10 v858), ∀ a x, ((![v858] : Fin 1 → IVec S16 32) a x).toNat < S8192.size a := fun v858 k1_hw10 => k1_hw10.2.1
theorem k1_idx147_inb : ∀ (v858 : IVec S16 32) (k1_hw10 : k1_chk10 v858), ∀ a x, ((![v858] : Fin 1 → IVec S16 32) a x).toNat < S8192.size a := fun v858 k1_hw10 => k1_hw10.2.2.1
theorem k1_idx148_inb : ∀ (v858 : IVec S16 32) (k1_hw10 : k1_chk10 v858), ∀ a x, ((![v858] : Fin 1 → IVec S16 32) a x).toNat < S8192.size a := fun v858 k1_hw10 => k1_hw10.2.2.2.1
theorem k1_idx149_inb : ∀ (v858 : IVec S16 32) (k1_hw10 : k1_chk10 v858), ∀ a x, ((![v858] : Fin 1 → IVec S16 32) a x).toNat < S8192.size a := fun v858 k1_hw10 => k1_hw10.2.2.2.2.1
theorem k1_idx150_inb : ∀ (v858 : IVec S16 32) (k1_hw10 : k1_chk10 v858), ∀ a x, ((![v858] : Fin 1 → IVec S16 32) a x).toNat < S8192.size a := fun v858 k1_hw10 => k1_hw10.2.2.2.2.2.1
theorem k1_idx151_inb : ∀ (v858 : IVec S16 32) (k1_hw10 : k1_chk10 v858), ∀ a x, ((![v858] : Fin 1 → IVec S16 32) a x).toNat < S8192.size a := fun v858 k1_hw10 => k1_hw10.2.2.2.2.2.2.1
theorem k1_idx152_inb : ∀ (v858 : IVec S16 32) (k1_hw10 : k1_chk10 v858), ∀ a x, ((![v858] : Fin 1 → IVec S16 32) a x).toNat < S8192.size a := fun v858 k1_hw10 => k1_hw10.2.2.2.2.2.2.2.1
theorem k1_idx153_inb : ∀ (v858 : IVec S16 32) (k1_hw10 : k1_chk10 v858), ∀ a x, ((![v858] : Fin 1 → IVec S16 32) a x).toNat < S8192.size a := fun v858 k1_hw10 => k1_hw10.2.2.2.2.2.2.2.2.1
theorem k1_idx154_inb : ∀ (v858 : IVec S16 32) (k1_hw10 : k1_chk10 v858), ∀ a x, ((![v858] : Fin 1 → IVec S16 32) a x).toNat < S8192.size a := fun v858 k1_hw10 => k1_hw10.2.2.2.2.2.2.2.2.2.1
theorem k1_idx155_inb : ∀ (v858 : IVec S16 32) (k1_hw10 : k1_chk10 v858), ∀ a x, ((![v858] : Fin 1 → IVec S16 32) a x).toNat < S8192.size a := fun v858 k1_hw10 => k1_hw10.2.2.2.2.2.2.2.2.2.2.1
theorem k1_idx156_inb : ∀ (v858 : IVec S16 32) (k1_hw10 : k1_chk10 v858), ∀ a x, ((![v858] : Fin 1 → IVec S16 32) a x).toNat < S8192.size a := fun v858 k1_hw10 => k1_hw10.2.2.2.2.2.2.2.2.2.2.2.1
theorem k1_idx157_inb : ∀ (v858 : IVec S16 32) (k1_hw10 : k1_chk10 v858), ∀ a x, ((![v858] : Fin 1 → IVec S16 32) a x).toNat < S8192.size a := fun v858 k1_hw10 => k1_hw10.2.2.2.2.2.2.2.2.2.2.2.2.1
theorem k1_idx158_inb : ∀ (v858 : IVec S16 32) (k1_hw10 : k1_chk10 v858), ∀ a x, ((![v858] : Fin 1 → IVec S16 32) a x).toNat < S8192.size a := fun v858 k1_hw10 => k1_hw10.2.2.2.2.2.2.2.2.2.2.2.2.2.1
theorem k1_idx159_inb : ∀ (v858 : IVec S16 32) (k1_hw10 : k1_chk10 v858), ∀ a x, ((![v858] : Fin 1 → IVec S16 32) a x).toNat < S8192.size a := fun v858 k1_hw10 => k1_hw10.2.2.2.2.2.2.2.2.2.2.2.2.2.2.1
theorem k1_idx160_inb : ∀ (v858 : IVec S16 32) (k1_hw10 : k1_chk10 v858), ∀ a x, ((![v858] : Fin 1 → IVec S16 32) a x).toNat < S8192.size a := fun v858 k1_hw10 => k1_hw10.2.2.2.2.2.2.2.2.2.2.2.2.2.2.2

def k1_chk11 (v892 : IVec S16 32) : Prop :=
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a) ∧
  (∀ a x, ((![v892] : Fin 1 → IVec S16 32) a x).toNat < S8192.size a)
theorem k1_idx161_inb : ∀ (v892 : IVec S16 32) (k1_hw11 : k1_chk11 v892), ∀ a x, ((![v892] : Fin 1 → IVec S16 32) a x).toNat < S8192.size a := fun v892 k1_hw11 => k1_hw11.1
theorem k1_idx162_inb : ∀ (v892 : IVec S16 32) (k1_hw11 : k1_chk11 v892), ∀ a x, ((![v892] : Fin 1 → IVec S16 32) a x).toNat < S8192.size a := fun v892 k1_hw11 => k1_hw11.2.1
theorem k1_idx163_inb : ∀ (v892 : IVec S16 32) (k1_hw11 : k1_chk11 v892), ∀ a x, ((![v892] : Fin 1 → IVec S16 32) a x).toNat < S8192.size a := fun v892 k1_hw11 => k1_hw11.2.2.1
theorem k1_idx164_inb : ∀ (v892 : IVec S16 32) (k1_hw11 : k1_chk11 v892), ∀ a x, ((![v892] : Fin 1 → IVec S16 32) a x).toNat < S8192.size a := fun v892 k1_hw11 => k1_hw11.2.2.2.1
theorem k1_idx165_inb : ∀ (v892 : IVec S16 32) (k1_hw11 : k1_chk11 v892), ∀ a x, ((![v892] : Fin 1 → IVec S16 32) a x).toNat < S8192.size a := fun v892 k1_hw11 => k1_hw11.2.2.2.2.1
theorem k1_idx166_inb : ∀ (v892 : IVec S16 32) (k1_hw11 : k1_chk11 v892), ∀ a x, ((![v892] : Fin 1 → IVec S16 32) a x).toNat < S8192.size a := fun v892 k1_hw11 => k1_hw11.2.2.2.2.2.1
theorem k1_idx167_inb : ∀ (v892 : IVec S16 32) (k1_hw11 : k1_chk11 v892), ∀ a x, ((![v892] : Fin 1 → IVec S16 32) a x).toNat < S8192.size a := fun v892 k1_hw11 => k1_hw11.2.2.2.2.2.2.1
theorem k1_idx168_inb : ∀ (v892 : IVec S16 32) (k1_hw11 : k1_chk11 v892), ∀ a x, ((![v892] : Fin 1 → IVec S16 32) a x).toNat < S8192.size a := fun v892 k1_hw11 => k1_hw11.2.2.2.2.2.2.2.1
theorem k1_idx169_inb : ∀ (v892 : IVec S16 32) (k1_hw11 : k1_chk11 v892), ∀ a x, ((![v892] : Fin 1 → IVec S16 32) a x).toNat < S8192.size a := fun v892 k1_hw11 => k1_hw11.2.2.2.2.2.2.2.2.1
theorem k1_idx170_inb : ∀ (v892 : IVec S16 32) (k1_hw11 : k1_chk11 v892), ∀ a x, ((![v892] : Fin 1 → IVec S16 32) a x).toNat < S8192.size a := fun v892 k1_hw11 => k1_hw11.2.2.2.2.2.2.2.2.2.1
theorem k1_idx171_inb : ∀ (v892 : IVec S16 32) (k1_hw11 : k1_chk11 v892), ∀ a x, ((![v892] : Fin 1 → IVec S16 32) a x).toNat < S8192.size a := fun v892 k1_hw11 => k1_hw11.2.2.2.2.2.2.2.2.2.2.1
theorem k1_idx172_inb : ∀ (v892 : IVec S16 32) (k1_hw11 : k1_chk11 v892), ∀ a x, ((![v892] : Fin 1 → IVec S16 32) a x).toNat < S8192.size a := fun v892 k1_hw11 => k1_hw11.2.2.2.2.2.2.2.2.2.2.2.1
theorem k1_idx173_inb : ∀ (v892 : IVec S16 32) (k1_hw11 : k1_chk11 v892), ∀ a x, ((![v892] : Fin 1 → IVec S16 32) a x).toNat < S8192.size a := fun v892 k1_hw11 => k1_hw11.2.2.2.2.2.2.2.2.2.2.2.2.1
theorem k1_idx174_inb : ∀ (v892 : IVec S16 32) (k1_hw11 : k1_chk11 v892), ∀ a x, ((![v892] : Fin 1 → IVec S16 32) a x).toNat < S8192.size a := fun v892 k1_hw11 => k1_hw11.2.2.2.2.2.2.2.2.2.2.2.2.2.1
theorem k1_idx175_inb : ∀ (v892 : IVec S16 32) (k1_hw11 : k1_chk11 v892), ∀ a x, ((![v892] : Fin 1 → IVec S16 32) a x).toNat < S8192.size a := fun v892 k1_hw11 => k1_hw11.2.2.2.2.2.2.2.2.2.2.2.2.2.2.1
theorem k1_idx176_inb : ∀ (v892 : IVec S16 32) (k1_hw11 : k1_chk11 v892), ∀ a x, ((![v892] : Fin 1 → IVec S16 32) a x).toNat < S8192.size a := fun v892 k1_hw11 => k1_hw11.2.2.2.2.2.2.2.2.2.2.2.2.2.2.2

def k1_chk12 (v926 : IVec S16 32) : Prop :=
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a) ∧
  (∀ a x, ((![v926] : Fin 1 → IVec S16 32) a x).toNat < S8192.size a)
theorem k1_idx177_inb : ∀ (v926 : IVec S16 32) (k1_hw12 : k1_chk12 v926), ∀ a x, ((![v926] : Fin 1 → IVec S16 32) a x).toNat < S8192.size a := fun v926 k1_hw12 => k1_hw12.1
theorem k1_idx178_inb : ∀ (v926 : IVec S16 32) (k1_hw12 : k1_chk12 v926), ∀ a x, ((![v926] : Fin 1 → IVec S16 32) a x).toNat < S8192.size a := fun v926 k1_hw12 => k1_hw12.2.1
theorem k1_idx179_inb : ∀ (v926 : IVec S16 32) (k1_hw12 : k1_chk12 v926), ∀ a x, ((![v926] : Fin 1 → IVec S16 32) a x).toNat < S8192.size a := fun v926 k1_hw12 => k1_hw12.2.2.1
theorem k1_idx180_inb : ∀ (v926 : IVec S16 32) (k1_hw12 : k1_chk12 v926), ∀ a x, ((![v926] : Fin 1 → IVec S16 32) a x).toNat < S8192.size a := fun v926 k1_hw12 => k1_hw12.2.2.2.1
theorem k1_idx181_inb : ∀ (v926 : IVec S16 32) (k1_hw12 : k1_chk12 v926), ∀ a x, ((![v926] : Fin 1 → IVec S16 32) a x).toNat < S8192.size a := fun v926 k1_hw12 => k1_hw12.2.2.2.2.1
theorem k1_idx182_inb : ∀ (v926 : IVec S16 32) (k1_hw12 : k1_chk12 v926), ∀ a x, ((![v926] : Fin 1 → IVec S16 32) a x).toNat < S8192.size a := fun v926 k1_hw12 => k1_hw12.2.2.2.2.2.1
theorem k1_idx183_inb : ∀ (v926 : IVec S16 32) (k1_hw12 : k1_chk12 v926), ∀ a x, ((![v926] : Fin 1 → IVec S16 32) a x).toNat < S8192.size a := fun v926 k1_hw12 => k1_hw12.2.2.2.2.2.2.1
theorem k1_idx184_inb : ∀ (v926 : IVec S16 32) (k1_hw12 : k1_chk12 v926), ∀ a x, ((![v926] : Fin 1 → IVec S16 32) a x).toNat < S8192.size a := fun v926 k1_hw12 => k1_hw12.2.2.2.2.2.2.2.1
theorem k1_idx185_inb : ∀ (v926 : IVec S16 32) (k1_hw12 : k1_chk12 v926), ∀ a x, ((![v926] : Fin 1 → IVec S16 32) a x).toNat < S8192.size a := fun v926 k1_hw12 => k1_hw12.2.2.2.2.2.2.2.2.1
theorem k1_idx186_inb : ∀ (v926 : IVec S16 32) (k1_hw12 : k1_chk12 v926), ∀ a x, ((![v926] : Fin 1 → IVec S16 32) a x).toNat < S8192.size a := fun v926 k1_hw12 => k1_hw12.2.2.2.2.2.2.2.2.2.1
theorem k1_idx187_inb : ∀ (v926 : IVec S16 32) (k1_hw12 : k1_chk12 v926), ∀ a x, ((![v926] : Fin 1 → IVec S16 32) a x).toNat < S8192.size a := fun v926 k1_hw12 => k1_hw12.2.2.2.2.2.2.2.2.2.2.1
theorem k1_idx188_inb : ∀ (v926 : IVec S16 32) (k1_hw12 : k1_chk12 v926), ∀ a x, ((![v926] : Fin 1 → IVec S16 32) a x).toNat < S8192.size a := fun v926 k1_hw12 => k1_hw12.2.2.2.2.2.2.2.2.2.2.2.1
theorem k1_idx189_inb : ∀ (v926 : IVec S16 32) (k1_hw12 : k1_chk12 v926), ∀ a x, ((![v926] : Fin 1 → IVec S16 32) a x).toNat < S8192.size a := fun v926 k1_hw12 => k1_hw12.2.2.2.2.2.2.2.2.2.2.2.2.1
theorem k1_idx190_inb : ∀ (v926 : IVec S16 32) (k1_hw12 : k1_chk12 v926), ∀ a x, ((![v926] : Fin 1 → IVec S16 32) a x).toNat < S8192.size a := fun v926 k1_hw12 => k1_hw12.2.2.2.2.2.2.2.2.2.2.2.2.2.1
theorem k1_idx191_inb : ∀ (v926 : IVec S16 32) (k1_hw12 : k1_chk12 v926), ∀ a x, ((![v926] : Fin 1 → IVec S16 32) a x).toNat < S8192.size a := fun v926 k1_hw12 => k1_hw12.2.2.2.2.2.2.2.2.2.2.2.2.2.2.1
theorem k1_idx192_inb : ∀ (v926 : IVec S16 32) (k1_hw12 : k1_chk12 v926), ∀ a x, ((![v926] : Fin 1 → IVec S16 32) a x).toNat < S8192.size a := fun v926 k1_hw12 => k1_hw12.2.2.2.2.2.2.2.2.2.2.2.2.2.2.2

def k1_chk13 (v960 : IVec S16 32) : Prop :=
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a) ∧
  (∀ a x, ((![v960] : Fin 1 → IVec S16 32) a x).toNat < S8192.size a)
theorem k1_idx193_inb : ∀ (v960 : IVec S16 32) (k1_hw13 : k1_chk13 v960), ∀ a x, ((![v960] : Fin 1 → IVec S16 32) a x).toNat < S8192.size a := fun v960 k1_hw13 => k1_hw13.1
theorem k1_idx194_inb : ∀ (v960 : IVec S16 32) (k1_hw13 : k1_chk13 v960), ∀ a x, ((![v960] : Fin 1 → IVec S16 32) a x).toNat < S8192.size a := fun v960 k1_hw13 => k1_hw13.2.1
theorem k1_idx195_inb : ∀ (v960 : IVec S16 32) (k1_hw13 : k1_chk13 v960), ∀ a x, ((![v960] : Fin 1 → IVec S16 32) a x).toNat < S8192.size a := fun v960 k1_hw13 => k1_hw13.2.2.1
theorem k1_idx196_inb : ∀ (v960 : IVec S16 32) (k1_hw13 : k1_chk13 v960), ∀ a x, ((![v960] : Fin 1 → IVec S16 32) a x).toNat < S8192.size a := fun v960 k1_hw13 => k1_hw13.2.2.2.1
theorem k1_idx197_inb : ∀ (v960 : IVec S16 32) (k1_hw13 : k1_chk13 v960), ∀ a x, ((![v960] : Fin 1 → IVec S16 32) a x).toNat < S8192.size a := fun v960 k1_hw13 => k1_hw13.2.2.2.2.1
theorem k1_idx198_inb : ∀ (v960 : IVec S16 32) (k1_hw13 : k1_chk13 v960), ∀ a x, ((![v960] : Fin 1 → IVec S16 32) a x).toNat < S8192.size a := fun v960 k1_hw13 => k1_hw13.2.2.2.2.2.1
theorem k1_idx199_inb : ∀ (v960 : IVec S16 32) (k1_hw13 : k1_chk13 v960), ∀ a x, ((![v960] : Fin 1 → IVec S16 32) a x).toNat < S8192.size a := fun v960 k1_hw13 => k1_hw13.2.2.2.2.2.2.1
theorem k1_idx200_inb : ∀ (v960 : IVec S16 32) (k1_hw13 : k1_chk13 v960), ∀ a x, ((![v960] : Fin 1 → IVec S16 32) a x).toNat < S8192.size a := fun v960 k1_hw13 => k1_hw13.2.2.2.2.2.2.2.1
theorem k1_idx201_inb : ∀ (v960 : IVec S16 32) (k1_hw13 : k1_chk13 v960), ∀ a x, ((![v960] : Fin 1 → IVec S16 32) a x).toNat < S8192.size a := fun v960 k1_hw13 => k1_hw13.2.2.2.2.2.2.2.2.1
theorem k1_idx202_inb : ∀ (v960 : IVec S16 32) (k1_hw13 : k1_chk13 v960), ∀ a x, ((![v960] : Fin 1 → IVec S16 32) a x).toNat < S8192.size a := fun v960 k1_hw13 => k1_hw13.2.2.2.2.2.2.2.2.2.1
theorem k1_idx203_inb : ∀ (v960 : IVec S16 32) (k1_hw13 : k1_chk13 v960), ∀ a x, ((![v960] : Fin 1 → IVec S16 32) a x).toNat < S8192.size a := fun v960 k1_hw13 => k1_hw13.2.2.2.2.2.2.2.2.2.2.1
theorem k1_idx204_inb : ∀ (v960 : IVec S16 32) (k1_hw13 : k1_chk13 v960), ∀ a x, ((![v960] : Fin 1 → IVec S16 32) a x).toNat < S8192.size a := fun v960 k1_hw13 => k1_hw13.2.2.2.2.2.2.2.2.2.2.2.1
theorem k1_idx205_inb : ∀ (v960 : IVec S16 32) (k1_hw13 : k1_chk13 v960), ∀ a x, ((![v960] : Fin 1 → IVec S16 32) a x).toNat < S8192.size a := fun v960 k1_hw13 => k1_hw13.2.2.2.2.2.2.2.2.2.2.2.2.1
theorem k1_idx206_inb : ∀ (v960 : IVec S16 32) (k1_hw13 : k1_chk13 v960), ∀ a x, ((![v960] : Fin 1 → IVec S16 32) a x).toNat < S8192.size a := fun v960 k1_hw13 => k1_hw13.2.2.2.2.2.2.2.2.2.2.2.2.2.1
theorem k1_idx207_inb : ∀ (v960 : IVec S16 32) (k1_hw13 : k1_chk13 v960), ∀ a x, ((![v960] : Fin 1 → IVec S16 32) a x).toNat < S8192.size a := fun v960 k1_hw13 => k1_hw13.2.2.2.2.2.2.2.2.2.2.2.2.2.2.1
theorem k1_idx208_inb : ∀ (v960 : IVec S16 32) (k1_hw13 : k1_chk13 v960), ∀ a x, ((![v960] : Fin 1 → IVec S16 32) a x).toNat < S8192.size a := fun v960 k1_hw13 => k1_hw13.2.2.2.2.2.2.2.2.2.2.2.2.2.2.2

def k1_chk14 (v994 : IVec S16 32) : Prop :=
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a) ∧
  (∀ a x, ((![v994] : Fin 1 → IVec S16 32) a x).toNat < S8192.size a)
theorem k1_idx209_inb : ∀ (v994 : IVec S16 32) (k1_hw14 : k1_chk14 v994), ∀ a x, ((![v994] : Fin 1 → IVec S16 32) a x).toNat < S8192.size a := fun v994 k1_hw14 => k1_hw14.1
theorem k1_idx210_inb : ∀ (v994 : IVec S16 32) (k1_hw14 : k1_chk14 v994), ∀ a x, ((![v994] : Fin 1 → IVec S16 32) a x).toNat < S8192.size a := fun v994 k1_hw14 => k1_hw14.2.1
theorem k1_idx211_inb : ∀ (v994 : IVec S16 32) (k1_hw14 : k1_chk14 v994), ∀ a x, ((![v994] : Fin 1 → IVec S16 32) a x).toNat < S8192.size a := fun v994 k1_hw14 => k1_hw14.2.2.1
theorem k1_idx212_inb : ∀ (v994 : IVec S16 32) (k1_hw14 : k1_chk14 v994), ∀ a x, ((![v994] : Fin 1 → IVec S16 32) a x).toNat < S8192.size a := fun v994 k1_hw14 => k1_hw14.2.2.2.1
theorem k1_idx213_inb : ∀ (v994 : IVec S16 32) (k1_hw14 : k1_chk14 v994), ∀ a x, ((![v994] : Fin 1 → IVec S16 32) a x).toNat < S8192.size a := fun v994 k1_hw14 => k1_hw14.2.2.2.2.1
theorem k1_idx214_inb : ∀ (v994 : IVec S16 32) (k1_hw14 : k1_chk14 v994), ∀ a x, ((![v994] : Fin 1 → IVec S16 32) a x).toNat < S8192.size a := fun v994 k1_hw14 => k1_hw14.2.2.2.2.2.1
theorem k1_idx215_inb : ∀ (v994 : IVec S16 32) (k1_hw14 : k1_chk14 v994), ∀ a x, ((![v994] : Fin 1 → IVec S16 32) a x).toNat < S8192.size a := fun v994 k1_hw14 => k1_hw14.2.2.2.2.2.2.1
theorem k1_idx216_inb : ∀ (v994 : IVec S16 32) (k1_hw14 : k1_chk14 v994), ∀ a x, ((![v994] : Fin 1 → IVec S16 32) a x).toNat < S8192.size a := fun v994 k1_hw14 => k1_hw14.2.2.2.2.2.2.2.1
theorem k1_idx217_inb : ∀ (v994 : IVec S16 32) (k1_hw14 : k1_chk14 v994), ∀ a x, ((![v994] : Fin 1 → IVec S16 32) a x).toNat < S8192.size a := fun v994 k1_hw14 => k1_hw14.2.2.2.2.2.2.2.2.1
theorem k1_idx218_inb : ∀ (v994 : IVec S16 32) (k1_hw14 : k1_chk14 v994), ∀ a x, ((![v994] : Fin 1 → IVec S16 32) a x).toNat < S8192.size a := fun v994 k1_hw14 => k1_hw14.2.2.2.2.2.2.2.2.2.1
theorem k1_idx219_inb : ∀ (v994 : IVec S16 32) (k1_hw14 : k1_chk14 v994), ∀ a x, ((![v994] : Fin 1 → IVec S16 32) a x).toNat < S8192.size a := fun v994 k1_hw14 => k1_hw14.2.2.2.2.2.2.2.2.2.2.1
theorem k1_idx220_inb : ∀ (v994 : IVec S16 32) (k1_hw14 : k1_chk14 v994), ∀ a x, ((![v994] : Fin 1 → IVec S16 32) a x).toNat < S8192.size a := fun v994 k1_hw14 => k1_hw14.2.2.2.2.2.2.2.2.2.2.2.1
theorem k1_idx221_inb : ∀ (v994 : IVec S16 32) (k1_hw14 : k1_chk14 v994), ∀ a x, ((![v994] : Fin 1 → IVec S16 32) a x).toNat < S8192.size a := fun v994 k1_hw14 => k1_hw14.2.2.2.2.2.2.2.2.2.2.2.2.1
theorem k1_idx222_inb : ∀ (v994 : IVec S16 32) (k1_hw14 : k1_chk14 v994), ∀ a x, ((![v994] : Fin 1 → IVec S16 32) a x).toNat < S8192.size a := fun v994 k1_hw14 => k1_hw14.2.2.2.2.2.2.2.2.2.2.2.2.2.1
theorem k1_idx223_inb : ∀ (v994 : IVec S16 32) (k1_hw14 : k1_chk14 v994), ∀ a x, ((![v994] : Fin 1 → IVec S16 32) a x).toNat < S8192.size a := fun v994 k1_hw14 => k1_hw14.2.2.2.2.2.2.2.2.2.2.2.2.2.2.1
theorem k1_idx224_inb : ∀ (v994 : IVec S16 32) (k1_hw14 : k1_chk14 v994), ∀ a x, ((![v994] : Fin 1 → IVec S16 32) a x).toNat < S8192.size a := fun v994 k1_hw14 => k1_hw14.2.2.2.2.2.2.2.2.2.2.2.2.2.2.2

def k1_chk15 (v1028 : IVec S16 32) : Prop :=
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a) ∧
  (∀ a x, ((![v1028] : Fin 1 → IVec S16 32) a x).toNat < S8192.size a)
theorem k1_idx225_inb : ∀ (v1028 : IVec S16 32) (k1_hw15 : k1_chk15 v1028), ∀ a x, ((![v1028] : Fin 1 → IVec S16 32) a x).toNat < S8192.size a := fun v1028 k1_hw15 => k1_hw15.1
theorem k1_idx226_inb : ∀ (v1028 : IVec S16 32) (k1_hw15 : k1_chk15 v1028), ∀ a x, ((![v1028] : Fin 1 → IVec S16 32) a x).toNat < S8192.size a := fun v1028 k1_hw15 => k1_hw15.2.1
theorem k1_idx227_inb : ∀ (v1028 : IVec S16 32) (k1_hw15 : k1_chk15 v1028), ∀ a x, ((![v1028] : Fin 1 → IVec S16 32) a x).toNat < S8192.size a := fun v1028 k1_hw15 => k1_hw15.2.2.1
theorem k1_idx228_inb : ∀ (v1028 : IVec S16 32) (k1_hw15 : k1_chk15 v1028), ∀ a x, ((![v1028] : Fin 1 → IVec S16 32) a x).toNat < S8192.size a := fun v1028 k1_hw15 => k1_hw15.2.2.2.1
theorem k1_idx229_inb : ∀ (v1028 : IVec S16 32) (k1_hw15 : k1_chk15 v1028), ∀ a x, ((![v1028] : Fin 1 → IVec S16 32) a x).toNat < S8192.size a := fun v1028 k1_hw15 => k1_hw15.2.2.2.2.1
theorem k1_idx230_inb : ∀ (v1028 : IVec S16 32) (k1_hw15 : k1_chk15 v1028), ∀ a x, ((![v1028] : Fin 1 → IVec S16 32) a x).toNat < S8192.size a := fun v1028 k1_hw15 => k1_hw15.2.2.2.2.2.1
theorem k1_idx231_inb : ∀ (v1028 : IVec S16 32) (k1_hw15 : k1_chk15 v1028), ∀ a x, ((![v1028] : Fin 1 → IVec S16 32) a x).toNat < S8192.size a := fun v1028 k1_hw15 => k1_hw15.2.2.2.2.2.2.1
theorem k1_idx232_inb : ∀ (v1028 : IVec S16 32) (k1_hw15 : k1_chk15 v1028), ∀ a x, ((![v1028] : Fin 1 → IVec S16 32) a x).toNat < S8192.size a := fun v1028 k1_hw15 => k1_hw15.2.2.2.2.2.2.2.1
theorem k1_idx233_inb : ∀ (v1028 : IVec S16 32) (k1_hw15 : k1_chk15 v1028), ∀ a x, ((![v1028] : Fin 1 → IVec S16 32) a x).toNat < S8192.size a := fun v1028 k1_hw15 => k1_hw15.2.2.2.2.2.2.2.2.1
theorem k1_idx234_inb : ∀ (v1028 : IVec S16 32) (k1_hw15 : k1_chk15 v1028), ∀ a x, ((![v1028] : Fin 1 → IVec S16 32) a x).toNat < S8192.size a := fun v1028 k1_hw15 => k1_hw15.2.2.2.2.2.2.2.2.2.1
theorem k1_idx235_inb : ∀ (v1028 : IVec S16 32) (k1_hw15 : k1_chk15 v1028), ∀ a x, ((![v1028] : Fin 1 → IVec S16 32) a x).toNat < S8192.size a := fun v1028 k1_hw15 => k1_hw15.2.2.2.2.2.2.2.2.2.2.1
theorem k1_idx236_inb : ∀ (v1028 : IVec S16 32) (k1_hw15 : k1_chk15 v1028), ∀ a x, ((![v1028] : Fin 1 → IVec S16 32) a x).toNat < S8192.size a := fun v1028 k1_hw15 => k1_hw15.2.2.2.2.2.2.2.2.2.2.2.1
theorem k1_idx237_inb : ∀ (v1028 : IVec S16 32) (k1_hw15 : k1_chk15 v1028), ∀ a x, ((![v1028] : Fin 1 → IVec S16 32) a x).toNat < S8192.size a := fun v1028 k1_hw15 => k1_hw15.2.2.2.2.2.2.2.2.2.2.2.2.1
theorem k1_idx238_inb : ∀ (v1028 : IVec S16 32) (k1_hw15 : k1_chk15 v1028), ∀ a x, ((![v1028] : Fin 1 → IVec S16 32) a x).toNat < S8192.size a := fun v1028 k1_hw15 => k1_hw15.2.2.2.2.2.2.2.2.2.2.2.2.2.1
theorem k1_idx239_inb : ∀ (v1028 : IVec S16 32) (k1_hw15 : k1_chk15 v1028), ∀ a x, ((![v1028] : Fin 1 → IVec S16 32) a x).toNat < S8192.size a := fun v1028 k1_hw15 => k1_hw15.2.2.2.2.2.2.2.2.2.2.2.2.2.2.1
theorem k1_idx240_inb : ∀ (v1028 : IVec S16 32) (k1_hw15 : k1_chk15 v1028), ∀ a x, ((![v1028] : Fin 1 → IVec S16 32) a x).toNat < S8192.size a := fun v1028 k1_hw15 => k1_hw15.2.2.2.2.2.2.2.2.2.2.2.2.2.2.2

def k1_chk16 (v1062 : IVec S16 32) : Prop :=
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a) ∧
  (∀ a x, ((![v1062] : Fin 1 → IVec S16 32) a x).toNat < S8192.size a)
theorem k1_idx241_inb : ∀ (v1062 : IVec S16 32) (k1_hw16 : k1_chk16 v1062), ∀ a x, ((![v1062] : Fin 1 → IVec S16 32) a x).toNat < S8192.size a := fun v1062 k1_hw16 => k1_hw16.1
theorem k1_idx242_inb : ∀ (v1062 : IVec S16 32) (k1_hw16 : k1_chk16 v1062), ∀ a x, ((![v1062] : Fin 1 → IVec S16 32) a x).toNat < S8192.size a := fun v1062 k1_hw16 => k1_hw16.2.1
theorem k1_idx243_inb : ∀ (v1062 : IVec S16 32) (k1_hw16 : k1_chk16 v1062), ∀ a x, ((![v1062] : Fin 1 → IVec S16 32) a x).toNat < S8192.size a := fun v1062 k1_hw16 => k1_hw16.2.2.1
theorem k1_idx244_inb : ∀ (v1062 : IVec S16 32) (k1_hw16 : k1_chk16 v1062), ∀ a x, ((![v1062] : Fin 1 → IVec S16 32) a x).toNat < S8192.size a := fun v1062 k1_hw16 => k1_hw16.2.2.2.1
theorem k1_idx245_inb : ∀ (v1062 : IVec S16 32) (k1_hw16 : k1_chk16 v1062), ∀ a x, ((![v1062] : Fin 1 → IVec S16 32) a x).toNat < S8192.size a := fun v1062 k1_hw16 => k1_hw16.2.2.2.2.1
theorem k1_idx246_inb : ∀ (v1062 : IVec S16 32) (k1_hw16 : k1_chk16 v1062), ∀ a x, ((![v1062] : Fin 1 → IVec S16 32) a x).toNat < S8192.size a := fun v1062 k1_hw16 => k1_hw16.2.2.2.2.2.1
theorem k1_idx247_inb : ∀ (v1062 : IVec S16 32) (k1_hw16 : k1_chk16 v1062), ∀ a x, ((![v1062] : Fin 1 → IVec S16 32) a x).toNat < S8192.size a := fun v1062 k1_hw16 => k1_hw16.2.2.2.2.2.2.1
theorem k1_idx248_inb : ∀ (v1062 : IVec S16 32) (k1_hw16 : k1_chk16 v1062), ∀ a x, ((![v1062] : Fin 1 → IVec S16 32) a x).toNat < S8192.size a := fun v1062 k1_hw16 => k1_hw16.2.2.2.2.2.2.2.1
theorem k1_idx249_inb : ∀ (v1062 : IVec S16 32) (k1_hw16 : k1_chk16 v1062), ∀ a x, ((![v1062] : Fin 1 → IVec S16 32) a x).toNat < S8192.size a := fun v1062 k1_hw16 => k1_hw16.2.2.2.2.2.2.2.2.1
theorem k1_idx250_inb : ∀ (v1062 : IVec S16 32) (k1_hw16 : k1_chk16 v1062), ∀ a x, ((![v1062] : Fin 1 → IVec S16 32) a x).toNat < S8192.size a := fun v1062 k1_hw16 => k1_hw16.2.2.2.2.2.2.2.2.2.1
theorem k1_idx251_inb : ∀ (v1062 : IVec S16 32) (k1_hw16 : k1_chk16 v1062), ∀ a x, ((![v1062] : Fin 1 → IVec S16 32) a x).toNat < S8192.size a := fun v1062 k1_hw16 => k1_hw16.2.2.2.2.2.2.2.2.2.2.1
theorem k1_idx252_inb : ∀ (v1062 : IVec S16 32) (k1_hw16 : k1_chk16 v1062), ∀ a x, ((![v1062] : Fin 1 → IVec S16 32) a x).toNat < S8192.size a := fun v1062 k1_hw16 => k1_hw16.2.2.2.2.2.2.2.2.2.2.2.1
theorem k1_idx253_inb : ∀ (v1062 : IVec S16 32) (k1_hw16 : k1_chk16 v1062), ∀ a x, ((![v1062] : Fin 1 → IVec S16 32) a x).toNat < S8192.size a := fun v1062 k1_hw16 => k1_hw16.2.2.2.2.2.2.2.2.2.2.2.2.1
theorem k1_idx254_inb : ∀ (v1062 : IVec S16 32) (k1_hw16 : k1_chk16 v1062), ∀ a x, ((![v1062] : Fin 1 → IVec S16 32) a x).toNat < S8192.size a := fun v1062 k1_hw16 => k1_hw16.2.2.2.2.2.2.2.2.2.2.2.2.2.1
theorem k1_idx255_inb : ∀ (v1062 : IVec S16 32) (k1_hw16 : k1_chk16 v1062), ∀ a x, ((![v1062] : Fin 1 → IVec S16 32) a x).toNat < S8192.size a := fun v1062 k1_hw16 => k1_hw16.2.2.2.2.2.2.2.2.2.2.2.2.2.2.1
theorem k1_idx256_inb : ∀ (v1062 : IVec S16 32) (k1_hw16 : k1_chk16 v1062), ∀ a x, ((![v1062] : Fin 1 → IVec S16 32) a x).toNat < S8192.size a := fun v1062 k1_hw16 => k1_hw16.2.2.2.2.2.2.2.2.2.2.2.2.2.2.2

def k1_chk17 (v1096 : IVec S16 32) : Prop :=
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a) ∧
  (∀ a x, ((![v1096] : Fin 1 → IVec S16 32) a x).toNat < S8192.size a)
theorem k1_idx257_inb : ∀ (v1096 : IVec S16 32) (k1_hw17 : k1_chk17 v1096), ∀ a x, ((![v1096] : Fin 1 → IVec S16 32) a x).toNat < S8192.size a := fun v1096 k1_hw17 => k1_hw17.1
theorem k1_idx258_inb : ∀ (v1096 : IVec S16 32) (k1_hw17 : k1_chk17 v1096), ∀ a x, ((![v1096] : Fin 1 → IVec S16 32) a x).toNat < S8192.size a := fun v1096 k1_hw17 => k1_hw17.2.1
theorem k1_idx259_inb : ∀ (v1096 : IVec S16 32) (k1_hw17 : k1_chk17 v1096), ∀ a x, ((![v1096] : Fin 1 → IVec S16 32) a x).toNat < S8192.size a := fun v1096 k1_hw17 => k1_hw17.2.2.1
theorem k1_idx260_inb : ∀ (v1096 : IVec S16 32) (k1_hw17 : k1_chk17 v1096), ∀ a x, ((![v1096] : Fin 1 → IVec S16 32) a x).toNat < S8192.size a := fun v1096 k1_hw17 => k1_hw17.2.2.2.1
theorem k1_idx261_inb : ∀ (v1096 : IVec S16 32) (k1_hw17 : k1_chk17 v1096), ∀ a x, ((![v1096] : Fin 1 → IVec S16 32) a x).toNat < S8192.size a := fun v1096 k1_hw17 => k1_hw17.2.2.2.2.1
theorem k1_idx262_inb : ∀ (v1096 : IVec S16 32) (k1_hw17 : k1_chk17 v1096), ∀ a x, ((![v1096] : Fin 1 → IVec S16 32) a x).toNat < S8192.size a := fun v1096 k1_hw17 => k1_hw17.2.2.2.2.2.1
theorem k1_idx263_inb : ∀ (v1096 : IVec S16 32) (k1_hw17 : k1_chk17 v1096), ∀ a x, ((![v1096] : Fin 1 → IVec S16 32) a x).toNat < S8192.size a := fun v1096 k1_hw17 => k1_hw17.2.2.2.2.2.2.1
theorem k1_idx264_inb : ∀ (v1096 : IVec S16 32) (k1_hw17 : k1_chk17 v1096), ∀ a x, ((![v1096] : Fin 1 → IVec S16 32) a x).toNat < S8192.size a := fun v1096 k1_hw17 => k1_hw17.2.2.2.2.2.2.2.1
theorem k1_idx265_inb : ∀ (v1096 : IVec S16 32) (k1_hw17 : k1_chk17 v1096), ∀ a x, ((![v1096] : Fin 1 → IVec S16 32) a x).toNat < S8192.size a := fun v1096 k1_hw17 => k1_hw17.2.2.2.2.2.2.2.2.1
theorem k1_idx266_inb : ∀ (v1096 : IVec S16 32) (k1_hw17 : k1_chk17 v1096), ∀ a x, ((![v1096] : Fin 1 → IVec S16 32) a x).toNat < S8192.size a := fun v1096 k1_hw17 => k1_hw17.2.2.2.2.2.2.2.2.2.1
theorem k1_idx267_inb : ∀ (v1096 : IVec S16 32) (k1_hw17 : k1_chk17 v1096), ∀ a x, ((![v1096] : Fin 1 → IVec S16 32) a x).toNat < S8192.size a := fun v1096 k1_hw17 => k1_hw17.2.2.2.2.2.2.2.2.2.2.1
theorem k1_idx268_inb : ∀ (v1096 : IVec S16 32) (k1_hw17 : k1_chk17 v1096), ∀ a x, ((![v1096] : Fin 1 → IVec S16 32) a x).toNat < S8192.size a := fun v1096 k1_hw17 => k1_hw17.2.2.2.2.2.2.2.2.2.2.2.1
theorem k1_idx269_inb : ∀ (v1096 : IVec S16 32) (k1_hw17 : k1_chk17 v1096), ∀ a x, ((![v1096] : Fin 1 → IVec S16 32) a x).toNat < S8192.size a := fun v1096 k1_hw17 => k1_hw17.2.2.2.2.2.2.2.2.2.2.2.2.1
theorem k1_idx270_inb : ∀ (v1096 : IVec S16 32) (k1_hw17 : k1_chk17 v1096), ∀ a x, ((![v1096] : Fin 1 → IVec S16 32) a x).toNat < S8192.size a := fun v1096 k1_hw17 => k1_hw17.2.2.2.2.2.2.2.2.2.2.2.2.2.1
theorem k1_idx271_inb : ∀ (v1096 : IVec S16 32) (k1_hw17 : k1_chk17 v1096), ∀ a x, ((![v1096] : Fin 1 → IVec S16 32) a x).toNat < S8192.size a := fun v1096 k1_hw17 => k1_hw17.2.2.2.2.2.2.2.2.2.2.2.2.2.2.1
theorem k1_idx272_inb : ∀ (v1096 : IVec S16 32) (k1_hw17 : k1_chk17 v1096), ∀ a x, ((![v1096] : Fin 1 → IVec S16 32) a x).toNat < S8192.size a := fun v1096 k1_hw17 => k1_hw17.2.2.2.2.2.2.2.2.2.2.2.2.2.2.2

def k1_chk18 (v1130 : IVec S16 32) : Prop :=
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a) ∧
  (∀ a x, ((![v1130] : Fin 1 → IVec S16 32) a x).toNat < S8192.size a)
theorem k1_idx273_inb : ∀ (v1130 : IVec S16 32) (k1_hw18 : k1_chk18 v1130), ∀ a x, ((![v1130] : Fin 1 → IVec S16 32) a x).toNat < S8192.size a := fun v1130 k1_hw18 => k1_hw18.1
theorem k1_idx274_inb : ∀ (v1130 : IVec S16 32) (k1_hw18 : k1_chk18 v1130), ∀ a x, ((![v1130] : Fin 1 → IVec S16 32) a x).toNat < S8192.size a := fun v1130 k1_hw18 => k1_hw18.2.1
theorem k1_idx275_inb : ∀ (v1130 : IVec S16 32) (k1_hw18 : k1_chk18 v1130), ∀ a x, ((![v1130] : Fin 1 → IVec S16 32) a x).toNat < S8192.size a := fun v1130 k1_hw18 => k1_hw18.2.2.1
theorem k1_idx276_inb : ∀ (v1130 : IVec S16 32) (k1_hw18 : k1_chk18 v1130), ∀ a x, ((![v1130] : Fin 1 → IVec S16 32) a x).toNat < S8192.size a := fun v1130 k1_hw18 => k1_hw18.2.2.2.1
theorem k1_idx277_inb : ∀ (v1130 : IVec S16 32) (k1_hw18 : k1_chk18 v1130), ∀ a x, ((![v1130] : Fin 1 → IVec S16 32) a x).toNat < S8192.size a := fun v1130 k1_hw18 => k1_hw18.2.2.2.2.1
theorem k1_idx278_inb : ∀ (v1130 : IVec S16 32) (k1_hw18 : k1_chk18 v1130), ∀ a x, ((![v1130] : Fin 1 → IVec S16 32) a x).toNat < S8192.size a := fun v1130 k1_hw18 => k1_hw18.2.2.2.2.2.1
theorem k1_idx279_inb : ∀ (v1130 : IVec S16 32) (k1_hw18 : k1_chk18 v1130), ∀ a x, ((![v1130] : Fin 1 → IVec S16 32) a x).toNat < S8192.size a := fun v1130 k1_hw18 => k1_hw18.2.2.2.2.2.2.1
theorem k1_idx280_inb : ∀ (v1130 : IVec S16 32) (k1_hw18 : k1_chk18 v1130), ∀ a x, ((![v1130] : Fin 1 → IVec S16 32) a x).toNat < S8192.size a := fun v1130 k1_hw18 => k1_hw18.2.2.2.2.2.2.2.1
theorem k1_idx281_inb : ∀ (v1130 : IVec S16 32) (k1_hw18 : k1_chk18 v1130), ∀ a x, ((![v1130] : Fin 1 → IVec S16 32) a x).toNat < S8192.size a := fun v1130 k1_hw18 => k1_hw18.2.2.2.2.2.2.2.2.1
theorem k1_idx282_inb : ∀ (v1130 : IVec S16 32) (k1_hw18 : k1_chk18 v1130), ∀ a x, ((![v1130] : Fin 1 → IVec S16 32) a x).toNat < S8192.size a := fun v1130 k1_hw18 => k1_hw18.2.2.2.2.2.2.2.2.2.1
theorem k1_idx283_inb : ∀ (v1130 : IVec S16 32) (k1_hw18 : k1_chk18 v1130), ∀ a x, ((![v1130] : Fin 1 → IVec S16 32) a x).toNat < S8192.size a := fun v1130 k1_hw18 => k1_hw18.2.2.2.2.2.2.2.2.2.2.1
theorem k1_idx284_inb : ∀ (v1130 : IVec S16 32) (k1_hw18 : k1_chk18 v1130), ∀ a x, ((![v1130] : Fin 1 → IVec S16 32) a x).toNat < S8192.size a := fun v1130 k1_hw18 => k1_hw18.2.2.2.2.2.2.2.2.2.2.2.1
theorem k1_idx285_inb : ∀ (v1130 : IVec S16 32) (k1_hw18 : k1_chk18 v1130), ∀ a x, ((![v1130] : Fin 1 → IVec S16 32) a x).toNat < S8192.size a := fun v1130 k1_hw18 => k1_hw18.2.2.2.2.2.2.2.2.2.2.2.2.1
theorem k1_idx286_inb : ∀ (v1130 : IVec S16 32) (k1_hw18 : k1_chk18 v1130), ∀ a x, ((![v1130] : Fin 1 → IVec S16 32) a x).toNat < S8192.size a := fun v1130 k1_hw18 => k1_hw18.2.2.2.2.2.2.2.2.2.2.2.2.2.1
theorem k1_idx287_inb : ∀ (v1130 : IVec S16 32) (k1_hw18 : k1_chk18 v1130), ∀ a x, ((![v1130] : Fin 1 → IVec S16 32) a x).toNat < S8192.size a := fun v1130 k1_hw18 => k1_hw18.2.2.2.2.2.2.2.2.2.2.2.2.2.2.1
theorem k1_idx288_inb : ∀ (v1130 : IVec S16 32) (k1_hw18 : k1_chk18 v1130), ∀ a x, ((![v1130] : Fin 1 → IVec S16 32) a x).toNat < S8192.size a := fun v1130 k1_hw18 => k1_hw18.2.2.2.2.2.2.2.2.2.2.2.2.2.2.2

def k1_chk19 (v1164 : IVec S16 32) : Prop :=
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a) ∧
  (∀ a x, ((![v1164] : Fin 1 → IVec S16 32) a x).toNat < S8192.size a)
theorem k1_idx289_inb : ∀ (v1164 : IVec S16 32) (k1_hw19 : k1_chk19 v1164), ∀ a x, ((![v1164] : Fin 1 → IVec S16 32) a x).toNat < S8192.size a := fun v1164 k1_hw19 => k1_hw19.1
theorem k1_idx290_inb : ∀ (v1164 : IVec S16 32) (k1_hw19 : k1_chk19 v1164), ∀ a x, ((![v1164] : Fin 1 → IVec S16 32) a x).toNat < S8192.size a := fun v1164 k1_hw19 => k1_hw19.2.1
theorem k1_idx291_inb : ∀ (v1164 : IVec S16 32) (k1_hw19 : k1_chk19 v1164), ∀ a x, ((![v1164] : Fin 1 → IVec S16 32) a x).toNat < S8192.size a := fun v1164 k1_hw19 => k1_hw19.2.2.1
theorem k1_idx292_inb : ∀ (v1164 : IVec S16 32) (k1_hw19 : k1_chk19 v1164), ∀ a x, ((![v1164] : Fin 1 → IVec S16 32) a x).toNat < S8192.size a := fun v1164 k1_hw19 => k1_hw19.2.2.2.1
theorem k1_idx293_inb : ∀ (v1164 : IVec S16 32) (k1_hw19 : k1_chk19 v1164), ∀ a x, ((![v1164] : Fin 1 → IVec S16 32) a x).toNat < S8192.size a := fun v1164 k1_hw19 => k1_hw19.2.2.2.2.1
theorem k1_idx294_inb : ∀ (v1164 : IVec S16 32) (k1_hw19 : k1_chk19 v1164), ∀ a x, ((![v1164] : Fin 1 → IVec S16 32) a x).toNat < S8192.size a := fun v1164 k1_hw19 => k1_hw19.2.2.2.2.2.1
theorem k1_idx295_inb : ∀ (v1164 : IVec S16 32) (k1_hw19 : k1_chk19 v1164), ∀ a x, ((![v1164] : Fin 1 → IVec S16 32) a x).toNat < S8192.size a := fun v1164 k1_hw19 => k1_hw19.2.2.2.2.2.2.1
theorem k1_idx296_inb : ∀ (v1164 : IVec S16 32) (k1_hw19 : k1_chk19 v1164), ∀ a x, ((![v1164] : Fin 1 → IVec S16 32) a x).toNat < S8192.size a := fun v1164 k1_hw19 => k1_hw19.2.2.2.2.2.2.2.1
theorem k1_idx297_inb : ∀ (v1164 : IVec S16 32) (k1_hw19 : k1_chk19 v1164), ∀ a x, ((![v1164] : Fin 1 → IVec S16 32) a x).toNat < S8192.size a := fun v1164 k1_hw19 => k1_hw19.2.2.2.2.2.2.2.2.1
theorem k1_idx298_inb : ∀ (v1164 : IVec S16 32) (k1_hw19 : k1_chk19 v1164), ∀ a x, ((![v1164] : Fin 1 → IVec S16 32) a x).toNat < S8192.size a := fun v1164 k1_hw19 => k1_hw19.2.2.2.2.2.2.2.2.2.1
theorem k1_idx299_inb : ∀ (v1164 : IVec S16 32) (k1_hw19 : k1_chk19 v1164), ∀ a x, ((![v1164] : Fin 1 → IVec S16 32) a x).toNat < S8192.size a := fun v1164 k1_hw19 => k1_hw19.2.2.2.2.2.2.2.2.2.2.1
theorem k1_idx300_inb : ∀ (v1164 : IVec S16 32) (k1_hw19 : k1_chk19 v1164), ∀ a x, ((![v1164] : Fin 1 → IVec S16 32) a x).toNat < S8192.size a := fun v1164 k1_hw19 => k1_hw19.2.2.2.2.2.2.2.2.2.2.2.1
theorem k1_idx301_inb : ∀ (v1164 : IVec S16 32) (k1_hw19 : k1_chk19 v1164), ∀ a x, ((![v1164] : Fin 1 → IVec S16 32) a x).toNat < S8192.size a := fun v1164 k1_hw19 => k1_hw19.2.2.2.2.2.2.2.2.2.2.2.2.1
theorem k1_idx302_inb : ∀ (v1164 : IVec S16 32) (k1_hw19 : k1_chk19 v1164), ∀ a x, ((![v1164] : Fin 1 → IVec S16 32) a x).toNat < S8192.size a := fun v1164 k1_hw19 => k1_hw19.2.2.2.2.2.2.2.2.2.2.2.2.2.1
theorem k1_idx303_inb : ∀ (v1164 : IVec S16 32) (k1_hw19 : k1_chk19 v1164), ∀ a x, ((![v1164] : Fin 1 → IVec S16 32) a x).toNat < S8192.size a := fun v1164 k1_hw19 => k1_hw19.2.2.2.2.2.2.2.2.2.2.2.2.2.2.1
theorem k1_idx304_inb : ∀ (v1164 : IVec S16 32) (k1_hw19 : k1_chk19 v1164), ∀ a x, ((![v1164] : Fin 1 → IVec S16 32) a x).toNat < S8192.size a := fun v1164 k1_hw19 => k1_hw19.2.2.2.2.2.2.2.2.2.2.2.2.2.2.2

def k1_chk20 (v1198 : IVec S16 32) : Prop :=
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a) ∧
  (∀ a x, ((![v1198] : Fin 1 → IVec S16 32) a x).toNat < S8192.size a)
theorem k1_idx305_inb : ∀ (v1198 : IVec S16 32) (k1_hw20 : k1_chk20 v1198), ∀ a x, ((![v1198] : Fin 1 → IVec S16 32) a x).toNat < S8192.size a := fun v1198 k1_hw20 => k1_hw20.1
theorem k1_idx306_inb : ∀ (v1198 : IVec S16 32) (k1_hw20 : k1_chk20 v1198), ∀ a x, ((![v1198] : Fin 1 → IVec S16 32) a x).toNat < S8192.size a := fun v1198 k1_hw20 => k1_hw20.2.1
theorem k1_idx307_inb : ∀ (v1198 : IVec S16 32) (k1_hw20 : k1_chk20 v1198), ∀ a x, ((![v1198] : Fin 1 → IVec S16 32) a x).toNat < S8192.size a := fun v1198 k1_hw20 => k1_hw20.2.2.1
theorem k1_idx308_inb : ∀ (v1198 : IVec S16 32) (k1_hw20 : k1_chk20 v1198), ∀ a x, ((![v1198] : Fin 1 → IVec S16 32) a x).toNat < S8192.size a := fun v1198 k1_hw20 => k1_hw20.2.2.2.1
theorem k1_idx309_inb : ∀ (v1198 : IVec S16 32) (k1_hw20 : k1_chk20 v1198), ∀ a x, ((![v1198] : Fin 1 → IVec S16 32) a x).toNat < S8192.size a := fun v1198 k1_hw20 => k1_hw20.2.2.2.2.1
theorem k1_idx310_inb : ∀ (v1198 : IVec S16 32) (k1_hw20 : k1_chk20 v1198), ∀ a x, ((![v1198] : Fin 1 → IVec S16 32) a x).toNat < S8192.size a := fun v1198 k1_hw20 => k1_hw20.2.2.2.2.2.1
theorem k1_idx311_inb : ∀ (v1198 : IVec S16 32) (k1_hw20 : k1_chk20 v1198), ∀ a x, ((![v1198] : Fin 1 → IVec S16 32) a x).toNat < S8192.size a := fun v1198 k1_hw20 => k1_hw20.2.2.2.2.2.2.1
theorem k1_idx312_inb : ∀ (v1198 : IVec S16 32) (k1_hw20 : k1_chk20 v1198), ∀ a x, ((![v1198] : Fin 1 → IVec S16 32) a x).toNat < S8192.size a := fun v1198 k1_hw20 => k1_hw20.2.2.2.2.2.2.2.1
theorem k1_idx313_inb : ∀ (v1198 : IVec S16 32) (k1_hw20 : k1_chk20 v1198), ∀ a x, ((![v1198] : Fin 1 → IVec S16 32) a x).toNat < S8192.size a := fun v1198 k1_hw20 => k1_hw20.2.2.2.2.2.2.2.2.1
theorem k1_idx314_inb : ∀ (v1198 : IVec S16 32) (k1_hw20 : k1_chk20 v1198), ∀ a x, ((![v1198] : Fin 1 → IVec S16 32) a x).toNat < S8192.size a := fun v1198 k1_hw20 => k1_hw20.2.2.2.2.2.2.2.2.2.1
theorem k1_idx315_inb : ∀ (v1198 : IVec S16 32) (k1_hw20 : k1_chk20 v1198), ∀ a x, ((![v1198] : Fin 1 → IVec S16 32) a x).toNat < S8192.size a := fun v1198 k1_hw20 => k1_hw20.2.2.2.2.2.2.2.2.2.2.1
theorem k1_idx316_inb : ∀ (v1198 : IVec S16 32) (k1_hw20 : k1_chk20 v1198), ∀ a x, ((![v1198] : Fin 1 → IVec S16 32) a x).toNat < S8192.size a := fun v1198 k1_hw20 => k1_hw20.2.2.2.2.2.2.2.2.2.2.2.1
theorem k1_idx317_inb : ∀ (v1198 : IVec S16 32) (k1_hw20 : k1_chk20 v1198), ∀ a x, ((![v1198] : Fin 1 → IVec S16 32) a x).toNat < S8192.size a := fun v1198 k1_hw20 => k1_hw20.2.2.2.2.2.2.2.2.2.2.2.2.1
theorem k1_idx318_inb : ∀ (v1198 : IVec S16 32) (k1_hw20 : k1_chk20 v1198), ∀ a x, ((![v1198] : Fin 1 → IVec S16 32) a x).toNat < S8192.size a := fun v1198 k1_hw20 => k1_hw20.2.2.2.2.2.2.2.2.2.2.2.2.2.1
theorem k1_idx319_inb : ∀ (v1198 : IVec S16 32) (k1_hw20 : k1_chk20 v1198), ∀ a x, ((![v1198] : Fin 1 → IVec S16 32) a x).toNat < S8192.size a := fun v1198 k1_hw20 => k1_hw20.2.2.2.2.2.2.2.2.2.2.2.2.2.2.1
theorem k1_idx320_inb : ∀ (v1198 : IVec S16 32) (k1_hw20 : k1_chk20 v1198), ∀ a x, ((![v1198] : Fin 1 → IVec S16 32) a x).toNat < S8192.size a := fun v1198 k1_hw20 => k1_hw20.2.2.2.2.2.2.2.2.2.2.2.2.2.2.2

def k1_chk21 (v1232 : IVec S16 32) : Prop :=
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a) ∧
  (∀ a x, ((![v1232] : Fin 1 → IVec S16 32) a x).toNat < S8192.size a)
theorem k1_idx321_inb : ∀ (v1232 : IVec S16 32) (k1_hw21 : k1_chk21 v1232), ∀ a x, ((![v1232] : Fin 1 → IVec S16 32) a x).toNat < S8192.size a := fun v1232 k1_hw21 => k1_hw21.1
theorem k1_idx322_inb : ∀ (v1232 : IVec S16 32) (k1_hw21 : k1_chk21 v1232), ∀ a x, ((![v1232] : Fin 1 → IVec S16 32) a x).toNat < S8192.size a := fun v1232 k1_hw21 => k1_hw21.2.1
theorem k1_idx323_inb : ∀ (v1232 : IVec S16 32) (k1_hw21 : k1_chk21 v1232), ∀ a x, ((![v1232] : Fin 1 → IVec S16 32) a x).toNat < S8192.size a := fun v1232 k1_hw21 => k1_hw21.2.2.1
theorem k1_idx324_inb : ∀ (v1232 : IVec S16 32) (k1_hw21 : k1_chk21 v1232), ∀ a x, ((![v1232] : Fin 1 → IVec S16 32) a x).toNat < S8192.size a := fun v1232 k1_hw21 => k1_hw21.2.2.2.1
theorem k1_idx325_inb : ∀ (v1232 : IVec S16 32) (k1_hw21 : k1_chk21 v1232), ∀ a x, ((![v1232] : Fin 1 → IVec S16 32) a x).toNat < S8192.size a := fun v1232 k1_hw21 => k1_hw21.2.2.2.2.1
theorem k1_idx326_inb : ∀ (v1232 : IVec S16 32) (k1_hw21 : k1_chk21 v1232), ∀ a x, ((![v1232] : Fin 1 → IVec S16 32) a x).toNat < S8192.size a := fun v1232 k1_hw21 => k1_hw21.2.2.2.2.2.1
theorem k1_idx327_inb : ∀ (v1232 : IVec S16 32) (k1_hw21 : k1_chk21 v1232), ∀ a x, ((![v1232] : Fin 1 → IVec S16 32) a x).toNat < S8192.size a := fun v1232 k1_hw21 => k1_hw21.2.2.2.2.2.2.1
theorem k1_idx328_inb : ∀ (v1232 : IVec S16 32) (k1_hw21 : k1_chk21 v1232), ∀ a x, ((![v1232] : Fin 1 → IVec S16 32) a x).toNat < S8192.size a := fun v1232 k1_hw21 => k1_hw21.2.2.2.2.2.2.2.1
theorem k1_idx329_inb : ∀ (v1232 : IVec S16 32) (k1_hw21 : k1_chk21 v1232), ∀ a x, ((![v1232] : Fin 1 → IVec S16 32) a x).toNat < S8192.size a := fun v1232 k1_hw21 => k1_hw21.2.2.2.2.2.2.2.2.1
theorem k1_idx330_inb : ∀ (v1232 : IVec S16 32) (k1_hw21 : k1_chk21 v1232), ∀ a x, ((![v1232] : Fin 1 → IVec S16 32) a x).toNat < S8192.size a := fun v1232 k1_hw21 => k1_hw21.2.2.2.2.2.2.2.2.2.1
theorem k1_idx331_inb : ∀ (v1232 : IVec S16 32) (k1_hw21 : k1_chk21 v1232), ∀ a x, ((![v1232] : Fin 1 → IVec S16 32) a x).toNat < S8192.size a := fun v1232 k1_hw21 => k1_hw21.2.2.2.2.2.2.2.2.2.2.1
theorem k1_idx332_inb : ∀ (v1232 : IVec S16 32) (k1_hw21 : k1_chk21 v1232), ∀ a x, ((![v1232] : Fin 1 → IVec S16 32) a x).toNat < S8192.size a := fun v1232 k1_hw21 => k1_hw21.2.2.2.2.2.2.2.2.2.2.2.1
theorem k1_idx333_inb : ∀ (v1232 : IVec S16 32) (k1_hw21 : k1_chk21 v1232), ∀ a x, ((![v1232] : Fin 1 → IVec S16 32) a x).toNat < S8192.size a := fun v1232 k1_hw21 => k1_hw21.2.2.2.2.2.2.2.2.2.2.2.2.1
theorem k1_idx334_inb : ∀ (v1232 : IVec S16 32) (k1_hw21 : k1_chk21 v1232), ∀ a x, ((![v1232] : Fin 1 → IVec S16 32) a x).toNat < S8192.size a := fun v1232 k1_hw21 => k1_hw21.2.2.2.2.2.2.2.2.2.2.2.2.2.1
theorem k1_idx335_inb : ∀ (v1232 : IVec S16 32) (k1_hw21 : k1_chk21 v1232), ∀ a x, ((![v1232] : Fin 1 → IVec S16 32) a x).toNat < S8192.size a := fun v1232 k1_hw21 => k1_hw21.2.2.2.2.2.2.2.2.2.2.2.2.2.2.1
theorem k1_idx336_inb : ∀ (v1232 : IVec S16 32) (k1_hw21 : k1_chk21 v1232), ∀ a x, ((![v1232] : Fin 1 → IVec S16 32) a x).toNat < S8192.size a := fun v1232 k1_hw21 => k1_hw21.2.2.2.2.2.2.2.2.2.2.2.2.2.2.2

def k1_chk22 (v1266 : IVec S16 32) : Prop :=
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a) ∧
  (∀ a x, ((![v1266] : Fin 1 → IVec S16 32) a x).toNat < S8192.size a)
theorem k1_idx337_inb : ∀ (v1266 : IVec S16 32) (k1_hw22 : k1_chk22 v1266), ∀ a x, ((![v1266] : Fin 1 → IVec S16 32) a x).toNat < S8192.size a := fun v1266 k1_hw22 => k1_hw22.1
theorem k1_idx338_inb : ∀ (v1266 : IVec S16 32) (k1_hw22 : k1_chk22 v1266), ∀ a x, ((![v1266] : Fin 1 → IVec S16 32) a x).toNat < S8192.size a := fun v1266 k1_hw22 => k1_hw22.2.1
theorem k1_idx339_inb : ∀ (v1266 : IVec S16 32) (k1_hw22 : k1_chk22 v1266), ∀ a x, ((![v1266] : Fin 1 → IVec S16 32) a x).toNat < S8192.size a := fun v1266 k1_hw22 => k1_hw22.2.2.1
theorem k1_idx340_inb : ∀ (v1266 : IVec S16 32) (k1_hw22 : k1_chk22 v1266), ∀ a x, ((![v1266] : Fin 1 → IVec S16 32) a x).toNat < S8192.size a := fun v1266 k1_hw22 => k1_hw22.2.2.2.1
theorem k1_idx341_inb : ∀ (v1266 : IVec S16 32) (k1_hw22 : k1_chk22 v1266), ∀ a x, ((![v1266] : Fin 1 → IVec S16 32) a x).toNat < S8192.size a := fun v1266 k1_hw22 => k1_hw22.2.2.2.2.1
theorem k1_idx342_inb : ∀ (v1266 : IVec S16 32) (k1_hw22 : k1_chk22 v1266), ∀ a x, ((![v1266] : Fin 1 → IVec S16 32) a x).toNat < S8192.size a := fun v1266 k1_hw22 => k1_hw22.2.2.2.2.2.1
theorem k1_idx343_inb : ∀ (v1266 : IVec S16 32) (k1_hw22 : k1_chk22 v1266), ∀ a x, ((![v1266] : Fin 1 → IVec S16 32) a x).toNat < S8192.size a := fun v1266 k1_hw22 => k1_hw22.2.2.2.2.2.2.1
theorem k1_idx344_inb : ∀ (v1266 : IVec S16 32) (k1_hw22 : k1_chk22 v1266), ∀ a x, ((![v1266] : Fin 1 → IVec S16 32) a x).toNat < S8192.size a := fun v1266 k1_hw22 => k1_hw22.2.2.2.2.2.2.2.1
theorem k1_idx345_inb : ∀ (v1266 : IVec S16 32) (k1_hw22 : k1_chk22 v1266), ∀ a x, ((![v1266] : Fin 1 → IVec S16 32) a x).toNat < S8192.size a := fun v1266 k1_hw22 => k1_hw22.2.2.2.2.2.2.2.2.1
theorem k1_idx346_inb : ∀ (v1266 : IVec S16 32) (k1_hw22 : k1_chk22 v1266), ∀ a x, ((![v1266] : Fin 1 → IVec S16 32) a x).toNat < S8192.size a := fun v1266 k1_hw22 => k1_hw22.2.2.2.2.2.2.2.2.2.1
theorem k1_idx347_inb : ∀ (v1266 : IVec S16 32) (k1_hw22 : k1_chk22 v1266), ∀ a x, ((![v1266] : Fin 1 → IVec S16 32) a x).toNat < S8192.size a := fun v1266 k1_hw22 => k1_hw22.2.2.2.2.2.2.2.2.2.2.1
theorem k1_idx348_inb : ∀ (v1266 : IVec S16 32) (k1_hw22 : k1_chk22 v1266), ∀ a x, ((![v1266] : Fin 1 → IVec S16 32) a x).toNat < S8192.size a := fun v1266 k1_hw22 => k1_hw22.2.2.2.2.2.2.2.2.2.2.2.1
theorem k1_idx349_inb : ∀ (v1266 : IVec S16 32) (k1_hw22 : k1_chk22 v1266), ∀ a x, ((![v1266] : Fin 1 → IVec S16 32) a x).toNat < S8192.size a := fun v1266 k1_hw22 => k1_hw22.2.2.2.2.2.2.2.2.2.2.2.2.1
theorem k1_idx350_inb : ∀ (v1266 : IVec S16 32) (k1_hw22 : k1_chk22 v1266), ∀ a x, ((![v1266] : Fin 1 → IVec S16 32) a x).toNat < S8192.size a := fun v1266 k1_hw22 => k1_hw22.2.2.2.2.2.2.2.2.2.2.2.2.2.1
theorem k1_idx351_inb : ∀ (v1266 : IVec S16 32) (k1_hw22 : k1_chk22 v1266), ∀ a x, ((![v1266] : Fin 1 → IVec S16 32) a x).toNat < S8192.size a := fun v1266 k1_hw22 => k1_hw22.2.2.2.2.2.2.2.2.2.2.2.2.2.2.1
theorem k1_idx352_inb : ∀ (v1266 : IVec S16 32) (k1_hw22 : k1_chk22 v1266), ∀ a x, ((![v1266] : Fin 1 → IVec S16 32) a x).toNat < S8192.size a := fun v1266 k1_hw22 => k1_hw22.2.2.2.2.2.2.2.2.2.2.2.2.2.2.2

def k1_chk23 (v1300 : IVec S16 32) : Prop :=
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a) ∧
  (∀ a x, ((![v1300] : Fin 1 → IVec S16 32) a x).toNat < S8192.size a)
theorem k1_idx353_inb : ∀ (v1300 : IVec S16 32) (k1_hw23 : k1_chk23 v1300), ∀ a x, ((![v1300] : Fin 1 → IVec S16 32) a x).toNat < S8192.size a := fun v1300 k1_hw23 => k1_hw23.1
theorem k1_idx354_inb : ∀ (v1300 : IVec S16 32) (k1_hw23 : k1_chk23 v1300), ∀ a x, ((![v1300] : Fin 1 → IVec S16 32) a x).toNat < S8192.size a := fun v1300 k1_hw23 => k1_hw23.2.1
theorem k1_idx355_inb : ∀ (v1300 : IVec S16 32) (k1_hw23 : k1_chk23 v1300), ∀ a x, ((![v1300] : Fin 1 → IVec S16 32) a x).toNat < S8192.size a := fun v1300 k1_hw23 => k1_hw23.2.2.1
theorem k1_idx356_inb : ∀ (v1300 : IVec S16 32) (k1_hw23 : k1_chk23 v1300), ∀ a x, ((![v1300] : Fin 1 → IVec S16 32) a x).toNat < S8192.size a := fun v1300 k1_hw23 => k1_hw23.2.2.2.1
theorem k1_idx357_inb : ∀ (v1300 : IVec S16 32) (k1_hw23 : k1_chk23 v1300), ∀ a x, ((![v1300] : Fin 1 → IVec S16 32) a x).toNat < S8192.size a := fun v1300 k1_hw23 => k1_hw23.2.2.2.2.1
theorem k1_idx358_inb : ∀ (v1300 : IVec S16 32) (k1_hw23 : k1_chk23 v1300), ∀ a x, ((![v1300] : Fin 1 → IVec S16 32) a x).toNat < S8192.size a := fun v1300 k1_hw23 => k1_hw23.2.2.2.2.2.1
theorem k1_idx359_inb : ∀ (v1300 : IVec S16 32) (k1_hw23 : k1_chk23 v1300), ∀ a x, ((![v1300] : Fin 1 → IVec S16 32) a x).toNat < S8192.size a := fun v1300 k1_hw23 => k1_hw23.2.2.2.2.2.2.1
theorem k1_idx360_inb : ∀ (v1300 : IVec S16 32) (k1_hw23 : k1_chk23 v1300), ∀ a x, ((![v1300] : Fin 1 → IVec S16 32) a x).toNat < S8192.size a := fun v1300 k1_hw23 => k1_hw23.2.2.2.2.2.2.2.1
theorem k1_idx361_inb : ∀ (v1300 : IVec S16 32) (k1_hw23 : k1_chk23 v1300), ∀ a x, ((![v1300] : Fin 1 → IVec S16 32) a x).toNat < S8192.size a := fun v1300 k1_hw23 => k1_hw23.2.2.2.2.2.2.2.2.1
theorem k1_idx362_inb : ∀ (v1300 : IVec S16 32) (k1_hw23 : k1_chk23 v1300), ∀ a x, ((![v1300] : Fin 1 → IVec S16 32) a x).toNat < S8192.size a := fun v1300 k1_hw23 => k1_hw23.2.2.2.2.2.2.2.2.2.1
theorem k1_idx363_inb : ∀ (v1300 : IVec S16 32) (k1_hw23 : k1_chk23 v1300), ∀ a x, ((![v1300] : Fin 1 → IVec S16 32) a x).toNat < S8192.size a := fun v1300 k1_hw23 => k1_hw23.2.2.2.2.2.2.2.2.2.2.1
theorem k1_idx364_inb : ∀ (v1300 : IVec S16 32) (k1_hw23 : k1_chk23 v1300), ∀ a x, ((![v1300] : Fin 1 → IVec S16 32) a x).toNat < S8192.size a := fun v1300 k1_hw23 => k1_hw23.2.2.2.2.2.2.2.2.2.2.2.1
theorem k1_idx365_inb : ∀ (v1300 : IVec S16 32) (k1_hw23 : k1_chk23 v1300), ∀ a x, ((![v1300] : Fin 1 → IVec S16 32) a x).toNat < S8192.size a := fun v1300 k1_hw23 => k1_hw23.2.2.2.2.2.2.2.2.2.2.2.2.1
theorem k1_idx366_inb : ∀ (v1300 : IVec S16 32) (k1_hw23 : k1_chk23 v1300), ∀ a x, ((![v1300] : Fin 1 → IVec S16 32) a x).toNat < S8192.size a := fun v1300 k1_hw23 => k1_hw23.2.2.2.2.2.2.2.2.2.2.2.2.2.1
theorem k1_idx367_inb : ∀ (v1300 : IVec S16 32) (k1_hw23 : k1_chk23 v1300), ∀ a x, ((![v1300] : Fin 1 → IVec S16 32) a x).toNat < S8192.size a := fun v1300 k1_hw23 => k1_hw23.2.2.2.2.2.2.2.2.2.2.2.2.2.2.1
theorem k1_idx368_inb : ∀ (v1300 : IVec S16 32) (k1_hw23 : k1_chk23 v1300), ∀ a x, ((![v1300] : Fin 1 → IVec S16 32) a x).toNat < S8192.size a := fun v1300 k1_hw23 => k1_hw23.2.2.2.2.2.2.2.2.2.2.2.2.2.2.2

def k1_chk24 (v1334 : IVec S16 32) : Prop :=
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a) ∧
  (∀ a x, ((![v1334] : Fin 1 → IVec S16 32) a x).toNat < S8192.size a)
theorem k1_idx369_inb : ∀ (v1334 : IVec S16 32) (k1_hw24 : k1_chk24 v1334), ∀ a x, ((![v1334] : Fin 1 → IVec S16 32) a x).toNat < S8192.size a := fun v1334 k1_hw24 => k1_hw24.1
theorem k1_idx370_inb : ∀ (v1334 : IVec S16 32) (k1_hw24 : k1_chk24 v1334), ∀ a x, ((![v1334] : Fin 1 → IVec S16 32) a x).toNat < S8192.size a := fun v1334 k1_hw24 => k1_hw24.2.1
theorem k1_idx371_inb : ∀ (v1334 : IVec S16 32) (k1_hw24 : k1_chk24 v1334), ∀ a x, ((![v1334] : Fin 1 → IVec S16 32) a x).toNat < S8192.size a := fun v1334 k1_hw24 => k1_hw24.2.2.1
theorem k1_idx372_inb : ∀ (v1334 : IVec S16 32) (k1_hw24 : k1_chk24 v1334), ∀ a x, ((![v1334] : Fin 1 → IVec S16 32) a x).toNat < S8192.size a := fun v1334 k1_hw24 => k1_hw24.2.2.2.1
theorem k1_idx373_inb : ∀ (v1334 : IVec S16 32) (k1_hw24 : k1_chk24 v1334), ∀ a x, ((![v1334] : Fin 1 → IVec S16 32) a x).toNat < S8192.size a := fun v1334 k1_hw24 => k1_hw24.2.2.2.2.1
theorem k1_idx374_inb : ∀ (v1334 : IVec S16 32) (k1_hw24 : k1_chk24 v1334), ∀ a x, ((![v1334] : Fin 1 → IVec S16 32) a x).toNat < S8192.size a := fun v1334 k1_hw24 => k1_hw24.2.2.2.2.2.1
theorem k1_idx375_inb : ∀ (v1334 : IVec S16 32) (k1_hw24 : k1_chk24 v1334), ∀ a x, ((![v1334] : Fin 1 → IVec S16 32) a x).toNat < S8192.size a := fun v1334 k1_hw24 => k1_hw24.2.2.2.2.2.2.1
theorem k1_idx376_inb : ∀ (v1334 : IVec S16 32) (k1_hw24 : k1_chk24 v1334), ∀ a x, ((![v1334] : Fin 1 → IVec S16 32) a x).toNat < S8192.size a := fun v1334 k1_hw24 => k1_hw24.2.2.2.2.2.2.2.1
theorem k1_idx377_inb : ∀ (v1334 : IVec S16 32) (k1_hw24 : k1_chk24 v1334), ∀ a x, ((![v1334] : Fin 1 → IVec S16 32) a x).toNat < S8192.size a := fun v1334 k1_hw24 => k1_hw24.2.2.2.2.2.2.2.2.1
theorem k1_idx378_inb : ∀ (v1334 : IVec S16 32) (k1_hw24 : k1_chk24 v1334), ∀ a x, ((![v1334] : Fin 1 → IVec S16 32) a x).toNat < S8192.size a := fun v1334 k1_hw24 => k1_hw24.2.2.2.2.2.2.2.2.2.1
theorem k1_idx379_inb : ∀ (v1334 : IVec S16 32) (k1_hw24 : k1_chk24 v1334), ∀ a x, ((![v1334] : Fin 1 → IVec S16 32) a x).toNat < S8192.size a := fun v1334 k1_hw24 => k1_hw24.2.2.2.2.2.2.2.2.2.2.1
theorem k1_idx380_inb : ∀ (v1334 : IVec S16 32) (k1_hw24 : k1_chk24 v1334), ∀ a x, ((![v1334] : Fin 1 → IVec S16 32) a x).toNat < S8192.size a := fun v1334 k1_hw24 => k1_hw24.2.2.2.2.2.2.2.2.2.2.2.1
theorem k1_idx381_inb : ∀ (v1334 : IVec S16 32) (k1_hw24 : k1_chk24 v1334), ∀ a x, ((![v1334] : Fin 1 → IVec S16 32) a x).toNat < S8192.size a := fun v1334 k1_hw24 => k1_hw24.2.2.2.2.2.2.2.2.2.2.2.2.1
theorem k1_idx382_inb : ∀ (v1334 : IVec S16 32) (k1_hw24 : k1_chk24 v1334), ∀ a x, ((![v1334] : Fin 1 → IVec S16 32) a x).toNat < S8192.size a := fun v1334 k1_hw24 => k1_hw24.2.2.2.2.2.2.2.2.2.2.2.2.2.1
theorem k1_idx383_inb : ∀ (v1334 : IVec S16 32) (k1_hw24 : k1_chk24 v1334), ∀ a x, ((![v1334] : Fin 1 → IVec S16 32) a x).toNat < S8192.size a := fun v1334 k1_hw24 => k1_hw24.2.2.2.2.2.2.2.2.2.2.2.2.2.2.1
theorem k1_idx384_inb : ∀ (v1334 : IVec S16 32) (k1_hw24 : k1_chk24 v1334), ∀ a x, ((![v1334] : Fin 1 → IVec S16 32) a x).toNat < S8192.size a := fun v1334 k1_hw24 => k1_hw24.2.2.2.2.2.2.2.2.2.2.2.2.2.2.2

def k1_chk25 (v1368 : IVec S16 32) : Prop :=
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a) ∧
  (∀ a x, ((![v1368] : Fin 1 → IVec S16 32) a x).toNat < S8192.size a)
theorem k1_idx385_inb : ∀ (v1368 : IVec S16 32) (k1_hw25 : k1_chk25 v1368), ∀ a x, ((![v1368] : Fin 1 → IVec S16 32) a x).toNat < S8192.size a := fun v1368 k1_hw25 => k1_hw25.1
theorem k1_idx386_inb : ∀ (v1368 : IVec S16 32) (k1_hw25 : k1_chk25 v1368), ∀ a x, ((![v1368] : Fin 1 → IVec S16 32) a x).toNat < S8192.size a := fun v1368 k1_hw25 => k1_hw25.2.1
theorem k1_idx387_inb : ∀ (v1368 : IVec S16 32) (k1_hw25 : k1_chk25 v1368), ∀ a x, ((![v1368] : Fin 1 → IVec S16 32) a x).toNat < S8192.size a := fun v1368 k1_hw25 => k1_hw25.2.2.1
theorem k1_idx388_inb : ∀ (v1368 : IVec S16 32) (k1_hw25 : k1_chk25 v1368), ∀ a x, ((![v1368] : Fin 1 → IVec S16 32) a x).toNat < S8192.size a := fun v1368 k1_hw25 => k1_hw25.2.2.2.1
theorem k1_idx389_inb : ∀ (v1368 : IVec S16 32) (k1_hw25 : k1_chk25 v1368), ∀ a x, ((![v1368] : Fin 1 → IVec S16 32) a x).toNat < S8192.size a := fun v1368 k1_hw25 => k1_hw25.2.2.2.2.1
theorem k1_idx390_inb : ∀ (v1368 : IVec S16 32) (k1_hw25 : k1_chk25 v1368), ∀ a x, ((![v1368] : Fin 1 → IVec S16 32) a x).toNat < S8192.size a := fun v1368 k1_hw25 => k1_hw25.2.2.2.2.2.1
theorem k1_idx391_inb : ∀ (v1368 : IVec S16 32) (k1_hw25 : k1_chk25 v1368), ∀ a x, ((![v1368] : Fin 1 → IVec S16 32) a x).toNat < S8192.size a := fun v1368 k1_hw25 => k1_hw25.2.2.2.2.2.2.1
theorem k1_idx392_inb : ∀ (v1368 : IVec S16 32) (k1_hw25 : k1_chk25 v1368), ∀ a x, ((![v1368] : Fin 1 → IVec S16 32) a x).toNat < S8192.size a := fun v1368 k1_hw25 => k1_hw25.2.2.2.2.2.2.2.1
theorem k1_idx393_inb : ∀ (v1368 : IVec S16 32) (k1_hw25 : k1_chk25 v1368), ∀ a x, ((![v1368] : Fin 1 → IVec S16 32) a x).toNat < S8192.size a := fun v1368 k1_hw25 => k1_hw25.2.2.2.2.2.2.2.2.1
theorem k1_idx394_inb : ∀ (v1368 : IVec S16 32) (k1_hw25 : k1_chk25 v1368), ∀ a x, ((![v1368] : Fin 1 → IVec S16 32) a x).toNat < S8192.size a := fun v1368 k1_hw25 => k1_hw25.2.2.2.2.2.2.2.2.2.1
theorem k1_idx395_inb : ∀ (v1368 : IVec S16 32) (k1_hw25 : k1_chk25 v1368), ∀ a x, ((![v1368] : Fin 1 → IVec S16 32) a x).toNat < S8192.size a := fun v1368 k1_hw25 => k1_hw25.2.2.2.2.2.2.2.2.2.2.1
theorem k1_idx396_inb : ∀ (v1368 : IVec S16 32) (k1_hw25 : k1_chk25 v1368), ∀ a x, ((![v1368] : Fin 1 → IVec S16 32) a x).toNat < S8192.size a := fun v1368 k1_hw25 => k1_hw25.2.2.2.2.2.2.2.2.2.2.2.1
theorem k1_idx397_inb : ∀ (v1368 : IVec S16 32) (k1_hw25 : k1_chk25 v1368), ∀ a x, ((![v1368] : Fin 1 → IVec S16 32) a x).toNat < S8192.size a := fun v1368 k1_hw25 => k1_hw25.2.2.2.2.2.2.2.2.2.2.2.2.1
theorem k1_idx398_inb : ∀ (v1368 : IVec S16 32) (k1_hw25 : k1_chk25 v1368), ∀ a x, ((![v1368] : Fin 1 → IVec S16 32) a x).toNat < S8192.size a := fun v1368 k1_hw25 => k1_hw25.2.2.2.2.2.2.2.2.2.2.2.2.2.1
theorem k1_idx399_inb : ∀ (v1368 : IVec S16 32) (k1_hw25 : k1_chk25 v1368), ∀ a x, ((![v1368] : Fin 1 → IVec S16 32) a x).toNat < S8192.size a := fun v1368 k1_hw25 => k1_hw25.2.2.2.2.2.2.2.2.2.2.2.2.2.2.1
theorem k1_idx400_inb : ∀ (v1368 : IVec S16 32) (k1_hw25 : k1_chk25 v1368), ∀ a x, ((![v1368] : Fin 1 → IVec S16 32) a x).toNat < S8192.size a := fun v1368 k1_hw25 => k1_hw25.2.2.2.2.2.2.2.2.2.2.2.2.2.2.2

def k1_chk26 (v1402 : IVec S16 32) : Prop :=
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a) ∧
  (∀ a x, ((![v1402] : Fin 1 → IVec S16 32) a x).toNat < S8192.size a)
theorem k1_idx401_inb : ∀ (v1402 : IVec S16 32) (k1_hw26 : k1_chk26 v1402), ∀ a x, ((![v1402] : Fin 1 → IVec S16 32) a x).toNat < S8192.size a := fun v1402 k1_hw26 => k1_hw26.1
theorem k1_idx402_inb : ∀ (v1402 : IVec S16 32) (k1_hw26 : k1_chk26 v1402), ∀ a x, ((![v1402] : Fin 1 → IVec S16 32) a x).toNat < S8192.size a := fun v1402 k1_hw26 => k1_hw26.2.1
theorem k1_idx403_inb : ∀ (v1402 : IVec S16 32) (k1_hw26 : k1_chk26 v1402), ∀ a x, ((![v1402] : Fin 1 → IVec S16 32) a x).toNat < S8192.size a := fun v1402 k1_hw26 => k1_hw26.2.2.1
theorem k1_idx404_inb : ∀ (v1402 : IVec S16 32) (k1_hw26 : k1_chk26 v1402), ∀ a x, ((![v1402] : Fin 1 → IVec S16 32) a x).toNat < S8192.size a := fun v1402 k1_hw26 => k1_hw26.2.2.2.1
theorem k1_idx405_inb : ∀ (v1402 : IVec S16 32) (k1_hw26 : k1_chk26 v1402), ∀ a x, ((![v1402] : Fin 1 → IVec S16 32) a x).toNat < S8192.size a := fun v1402 k1_hw26 => k1_hw26.2.2.2.2.1
theorem k1_idx406_inb : ∀ (v1402 : IVec S16 32) (k1_hw26 : k1_chk26 v1402), ∀ a x, ((![v1402] : Fin 1 → IVec S16 32) a x).toNat < S8192.size a := fun v1402 k1_hw26 => k1_hw26.2.2.2.2.2.1
theorem k1_idx407_inb : ∀ (v1402 : IVec S16 32) (k1_hw26 : k1_chk26 v1402), ∀ a x, ((![v1402] : Fin 1 → IVec S16 32) a x).toNat < S8192.size a := fun v1402 k1_hw26 => k1_hw26.2.2.2.2.2.2.1
theorem k1_idx408_inb : ∀ (v1402 : IVec S16 32) (k1_hw26 : k1_chk26 v1402), ∀ a x, ((![v1402] : Fin 1 → IVec S16 32) a x).toNat < S8192.size a := fun v1402 k1_hw26 => k1_hw26.2.2.2.2.2.2.2.1
theorem k1_idx409_inb : ∀ (v1402 : IVec S16 32) (k1_hw26 : k1_chk26 v1402), ∀ a x, ((![v1402] : Fin 1 → IVec S16 32) a x).toNat < S8192.size a := fun v1402 k1_hw26 => k1_hw26.2.2.2.2.2.2.2.2.1
theorem k1_idx410_inb : ∀ (v1402 : IVec S16 32) (k1_hw26 : k1_chk26 v1402), ∀ a x, ((![v1402] : Fin 1 → IVec S16 32) a x).toNat < S8192.size a := fun v1402 k1_hw26 => k1_hw26.2.2.2.2.2.2.2.2.2.1
theorem k1_idx411_inb : ∀ (v1402 : IVec S16 32) (k1_hw26 : k1_chk26 v1402), ∀ a x, ((![v1402] : Fin 1 → IVec S16 32) a x).toNat < S8192.size a := fun v1402 k1_hw26 => k1_hw26.2.2.2.2.2.2.2.2.2.2.1
theorem k1_idx412_inb : ∀ (v1402 : IVec S16 32) (k1_hw26 : k1_chk26 v1402), ∀ a x, ((![v1402] : Fin 1 → IVec S16 32) a x).toNat < S8192.size a := fun v1402 k1_hw26 => k1_hw26.2.2.2.2.2.2.2.2.2.2.2.1
theorem k1_idx413_inb : ∀ (v1402 : IVec S16 32) (k1_hw26 : k1_chk26 v1402), ∀ a x, ((![v1402] : Fin 1 → IVec S16 32) a x).toNat < S8192.size a := fun v1402 k1_hw26 => k1_hw26.2.2.2.2.2.2.2.2.2.2.2.2.1
theorem k1_idx414_inb : ∀ (v1402 : IVec S16 32) (k1_hw26 : k1_chk26 v1402), ∀ a x, ((![v1402] : Fin 1 → IVec S16 32) a x).toNat < S8192.size a := fun v1402 k1_hw26 => k1_hw26.2.2.2.2.2.2.2.2.2.2.2.2.2.1
theorem k1_idx415_inb : ∀ (v1402 : IVec S16 32) (k1_hw26 : k1_chk26 v1402), ∀ a x, ((![v1402] : Fin 1 → IVec S16 32) a x).toNat < S8192.size a := fun v1402 k1_hw26 => k1_hw26.2.2.2.2.2.2.2.2.2.2.2.2.2.2.1
theorem k1_idx416_inb : ∀ (v1402 : IVec S16 32) (k1_hw26 : k1_chk26 v1402), ∀ a x, ((![v1402] : Fin 1 → IVec S16 32) a x).toNat < S8192.size a := fun v1402 k1_hw26 => k1_hw26.2.2.2.2.2.2.2.2.2.2.2.2.2.2.2

def k1_chk27 (v1436 : IVec S16 32) : Prop :=
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a) ∧
  (∀ a x, ((![v1436] : Fin 1 → IVec S16 32) a x).toNat < S8192.size a)
theorem k1_idx417_inb : ∀ (v1436 : IVec S16 32) (k1_hw27 : k1_chk27 v1436), ∀ a x, ((![v1436] : Fin 1 → IVec S16 32) a x).toNat < S8192.size a := fun v1436 k1_hw27 => k1_hw27.1
theorem k1_idx418_inb : ∀ (v1436 : IVec S16 32) (k1_hw27 : k1_chk27 v1436), ∀ a x, ((![v1436] : Fin 1 → IVec S16 32) a x).toNat < S8192.size a := fun v1436 k1_hw27 => k1_hw27.2.1
theorem k1_idx419_inb : ∀ (v1436 : IVec S16 32) (k1_hw27 : k1_chk27 v1436), ∀ a x, ((![v1436] : Fin 1 → IVec S16 32) a x).toNat < S8192.size a := fun v1436 k1_hw27 => k1_hw27.2.2.1
theorem k1_idx420_inb : ∀ (v1436 : IVec S16 32) (k1_hw27 : k1_chk27 v1436), ∀ a x, ((![v1436] : Fin 1 → IVec S16 32) a x).toNat < S8192.size a := fun v1436 k1_hw27 => k1_hw27.2.2.2.1
theorem k1_idx421_inb : ∀ (v1436 : IVec S16 32) (k1_hw27 : k1_chk27 v1436), ∀ a x, ((![v1436] : Fin 1 → IVec S16 32) a x).toNat < S8192.size a := fun v1436 k1_hw27 => k1_hw27.2.2.2.2.1
theorem k1_idx422_inb : ∀ (v1436 : IVec S16 32) (k1_hw27 : k1_chk27 v1436), ∀ a x, ((![v1436] : Fin 1 → IVec S16 32) a x).toNat < S8192.size a := fun v1436 k1_hw27 => k1_hw27.2.2.2.2.2.1
theorem k1_idx423_inb : ∀ (v1436 : IVec S16 32) (k1_hw27 : k1_chk27 v1436), ∀ a x, ((![v1436] : Fin 1 → IVec S16 32) a x).toNat < S8192.size a := fun v1436 k1_hw27 => k1_hw27.2.2.2.2.2.2.1
theorem k1_idx424_inb : ∀ (v1436 : IVec S16 32) (k1_hw27 : k1_chk27 v1436), ∀ a x, ((![v1436] : Fin 1 → IVec S16 32) a x).toNat < S8192.size a := fun v1436 k1_hw27 => k1_hw27.2.2.2.2.2.2.2.1
theorem k1_idx425_inb : ∀ (v1436 : IVec S16 32) (k1_hw27 : k1_chk27 v1436), ∀ a x, ((![v1436] : Fin 1 → IVec S16 32) a x).toNat < S8192.size a := fun v1436 k1_hw27 => k1_hw27.2.2.2.2.2.2.2.2.1
theorem k1_idx426_inb : ∀ (v1436 : IVec S16 32) (k1_hw27 : k1_chk27 v1436), ∀ a x, ((![v1436] : Fin 1 → IVec S16 32) a x).toNat < S8192.size a := fun v1436 k1_hw27 => k1_hw27.2.2.2.2.2.2.2.2.2.1
theorem k1_idx427_inb : ∀ (v1436 : IVec S16 32) (k1_hw27 : k1_chk27 v1436), ∀ a x, ((![v1436] : Fin 1 → IVec S16 32) a x).toNat < S8192.size a := fun v1436 k1_hw27 => k1_hw27.2.2.2.2.2.2.2.2.2.2.1
theorem k1_idx428_inb : ∀ (v1436 : IVec S16 32) (k1_hw27 : k1_chk27 v1436), ∀ a x, ((![v1436] : Fin 1 → IVec S16 32) a x).toNat < S8192.size a := fun v1436 k1_hw27 => k1_hw27.2.2.2.2.2.2.2.2.2.2.2.1
theorem k1_idx429_inb : ∀ (v1436 : IVec S16 32) (k1_hw27 : k1_chk27 v1436), ∀ a x, ((![v1436] : Fin 1 → IVec S16 32) a x).toNat < S8192.size a := fun v1436 k1_hw27 => k1_hw27.2.2.2.2.2.2.2.2.2.2.2.2.1
theorem k1_idx430_inb : ∀ (v1436 : IVec S16 32) (k1_hw27 : k1_chk27 v1436), ∀ a x, ((![v1436] : Fin 1 → IVec S16 32) a x).toNat < S8192.size a := fun v1436 k1_hw27 => k1_hw27.2.2.2.2.2.2.2.2.2.2.2.2.2.1
theorem k1_idx431_inb : ∀ (v1436 : IVec S16 32) (k1_hw27 : k1_chk27 v1436), ∀ a x, ((![v1436] : Fin 1 → IVec S16 32) a x).toNat < S8192.size a := fun v1436 k1_hw27 => k1_hw27.2.2.2.2.2.2.2.2.2.2.2.2.2.2.1
theorem k1_idx432_inb : ∀ (v1436 : IVec S16 32) (k1_hw27 : k1_chk27 v1436), ∀ a x, ((![v1436] : Fin 1 → IVec S16 32) a x).toNat < S8192.size a := fun v1436 k1_hw27 => k1_hw27.2.2.2.2.2.2.2.2.2.2.2.2.2.2.2

def k1_chk28 (v1470 : IVec S16 32) : Prop :=
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a) ∧
  (∀ a x, ((![v1470] : Fin 1 → IVec S16 32) a x).toNat < S8192.size a)
theorem k1_idx433_inb : ∀ (v1470 : IVec S16 32) (k1_hw28 : k1_chk28 v1470), ∀ a x, ((![v1470] : Fin 1 → IVec S16 32) a x).toNat < S8192.size a := fun v1470 k1_hw28 => k1_hw28.1
theorem k1_idx434_inb : ∀ (v1470 : IVec S16 32) (k1_hw28 : k1_chk28 v1470), ∀ a x, ((![v1470] : Fin 1 → IVec S16 32) a x).toNat < S8192.size a := fun v1470 k1_hw28 => k1_hw28.2.1
theorem k1_idx435_inb : ∀ (v1470 : IVec S16 32) (k1_hw28 : k1_chk28 v1470), ∀ a x, ((![v1470] : Fin 1 → IVec S16 32) a x).toNat < S8192.size a := fun v1470 k1_hw28 => k1_hw28.2.2.1
theorem k1_idx436_inb : ∀ (v1470 : IVec S16 32) (k1_hw28 : k1_chk28 v1470), ∀ a x, ((![v1470] : Fin 1 → IVec S16 32) a x).toNat < S8192.size a := fun v1470 k1_hw28 => k1_hw28.2.2.2.1
theorem k1_idx437_inb : ∀ (v1470 : IVec S16 32) (k1_hw28 : k1_chk28 v1470), ∀ a x, ((![v1470] : Fin 1 → IVec S16 32) a x).toNat < S8192.size a := fun v1470 k1_hw28 => k1_hw28.2.2.2.2.1
theorem k1_idx438_inb : ∀ (v1470 : IVec S16 32) (k1_hw28 : k1_chk28 v1470), ∀ a x, ((![v1470] : Fin 1 → IVec S16 32) a x).toNat < S8192.size a := fun v1470 k1_hw28 => k1_hw28.2.2.2.2.2.1
theorem k1_idx439_inb : ∀ (v1470 : IVec S16 32) (k1_hw28 : k1_chk28 v1470), ∀ a x, ((![v1470] : Fin 1 → IVec S16 32) a x).toNat < S8192.size a := fun v1470 k1_hw28 => k1_hw28.2.2.2.2.2.2.1
theorem k1_idx440_inb : ∀ (v1470 : IVec S16 32) (k1_hw28 : k1_chk28 v1470), ∀ a x, ((![v1470] : Fin 1 → IVec S16 32) a x).toNat < S8192.size a := fun v1470 k1_hw28 => k1_hw28.2.2.2.2.2.2.2.1
theorem k1_idx441_inb : ∀ (v1470 : IVec S16 32) (k1_hw28 : k1_chk28 v1470), ∀ a x, ((![v1470] : Fin 1 → IVec S16 32) a x).toNat < S8192.size a := fun v1470 k1_hw28 => k1_hw28.2.2.2.2.2.2.2.2.1
theorem k1_idx442_inb : ∀ (v1470 : IVec S16 32) (k1_hw28 : k1_chk28 v1470), ∀ a x, ((![v1470] : Fin 1 → IVec S16 32) a x).toNat < S8192.size a := fun v1470 k1_hw28 => k1_hw28.2.2.2.2.2.2.2.2.2.1
theorem k1_idx443_inb : ∀ (v1470 : IVec S16 32) (k1_hw28 : k1_chk28 v1470), ∀ a x, ((![v1470] : Fin 1 → IVec S16 32) a x).toNat < S8192.size a := fun v1470 k1_hw28 => k1_hw28.2.2.2.2.2.2.2.2.2.2.1
theorem k1_idx444_inb : ∀ (v1470 : IVec S16 32) (k1_hw28 : k1_chk28 v1470), ∀ a x, ((![v1470] : Fin 1 → IVec S16 32) a x).toNat < S8192.size a := fun v1470 k1_hw28 => k1_hw28.2.2.2.2.2.2.2.2.2.2.2.1
theorem k1_idx445_inb : ∀ (v1470 : IVec S16 32) (k1_hw28 : k1_chk28 v1470), ∀ a x, ((![v1470] : Fin 1 → IVec S16 32) a x).toNat < S8192.size a := fun v1470 k1_hw28 => k1_hw28.2.2.2.2.2.2.2.2.2.2.2.2.1
theorem k1_idx446_inb : ∀ (v1470 : IVec S16 32) (k1_hw28 : k1_chk28 v1470), ∀ a x, ((![v1470] : Fin 1 → IVec S16 32) a x).toNat < S8192.size a := fun v1470 k1_hw28 => k1_hw28.2.2.2.2.2.2.2.2.2.2.2.2.2.1
theorem k1_idx447_inb : ∀ (v1470 : IVec S16 32) (k1_hw28 : k1_chk28 v1470), ∀ a x, ((![v1470] : Fin 1 → IVec S16 32) a x).toNat < S8192.size a := fun v1470 k1_hw28 => k1_hw28.2.2.2.2.2.2.2.2.2.2.2.2.2.2.1
theorem k1_idx448_inb : ∀ (v1470 : IVec S16 32) (k1_hw28 : k1_chk28 v1470), ∀ a x, ((![v1470] : Fin 1 → IVec S16 32) a x).toNat < S8192.size a := fun v1470 k1_hw28 => k1_hw28.2.2.2.2.2.2.2.2.2.2.2.2.2.2.2

def k1_chk29 (v1504 : IVec S16 32) : Prop :=
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a) ∧
  (∀ a x, ((![v1504] : Fin 1 → IVec S16 32) a x).toNat < S8192.size a)
theorem k1_idx449_inb : ∀ (v1504 : IVec S16 32) (k1_hw29 : k1_chk29 v1504), ∀ a x, ((![v1504] : Fin 1 → IVec S16 32) a x).toNat < S8192.size a := fun v1504 k1_hw29 => k1_hw29.1
theorem k1_idx450_inb : ∀ (v1504 : IVec S16 32) (k1_hw29 : k1_chk29 v1504), ∀ a x, ((![v1504] : Fin 1 → IVec S16 32) a x).toNat < S8192.size a := fun v1504 k1_hw29 => k1_hw29.2.1
theorem k1_idx451_inb : ∀ (v1504 : IVec S16 32) (k1_hw29 : k1_chk29 v1504), ∀ a x, ((![v1504] : Fin 1 → IVec S16 32) a x).toNat < S8192.size a := fun v1504 k1_hw29 => k1_hw29.2.2.1
theorem k1_idx452_inb : ∀ (v1504 : IVec S16 32) (k1_hw29 : k1_chk29 v1504), ∀ a x, ((![v1504] : Fin 1 → IVec S16 32) a x).toNat < S8192.size a := fun v1504 k1_hw29 => k1_hw29.2.2.2.1
theorem k1_idx453_inb : ∀ (v1504 : IVec S16 32) (k1_hw29 : k1_chk29 v1504), ∀ a x, ((![v1504] : Fin 1 → IVec S16 32) a x).toNat < S8192.size a := fun v1504 k1_hw29 => k1_hw29.2.2.2.2.1
theorem k1_idx454_inb : ∀ (v1504 : IVec S16 32) (k1_hw29 : k1_chk29 v1504), ∀ a x, ((![v1504] : Fin 1 → IVec S16 32) a x).toNat < S8192.size a := fun v1504 k1_hw29 => k1_hw29.2.2.2.2.2.1
theorem k1_idx455_inb : ∀ (v1504 : IVec S16 32) (k1_hw29 : k1_chk29 v1504), ∀ a x, ((![v1504] : Fin 1 → IVec S16 32) a x).toNat < S8192.size a := fun v1504 k1_hw29 => k1_hw29.2.2.2.2.2.2.1
theorem k1_idx456_inb : ∀ (v1504 : IVec S16 32) (k1_hw29 : k1_chk29 v1504), ∀ a x, ((![v1504] : Fin 1 → IVec S16 32) a x).toNat < S8192.size a := fun v1504 k1_hw29 => k1_hw29.2.2.2.2.2.2.2.1
theorem k1_idx457_inb : ∀ (v1504 : IVec S16 32) (k1_hw29 : k1_chk29 v1504), ∀ a x, ((![v1504] : Fin 1 → IVec S16 32) a x).toNat < S8192.size a := fun v1504 k1_hw29 => k1_hw29.2.2.2.2.2.2.2.2.1
theorem k1_idx458_inb : ∀ (v1504 : IVec S16 32) (k1_hw29 : k1_chk29 v1504), ∀ a x, ((![v1504] : Fin 1 → IVec S16 32) a x).toNat < S8192.size a := fun v1504 k1_hw29 => k1_hw29.2.2.2.2.2.2.2.2.2.1
theorem k1_idx459_inb : ∀ (v1504 : IVec S16 32) (k1_hw29 : k1_chk29 v1504), ∀ a x, ((![v1504] : Fin 1 → IVec S16 32) a x).toNat < S8192.size a := fun v1504 k1_hw29 => k1_hw29.2.2.2.2.2.2.2.2.2.2.1
theorem k1_idx460_inb : ∀ (v1504 : IVec S16 32) (k1_hw29 : k1_chk29 v1504), ∀ a x, ((![v1504] : Fin 1 → IVec S16 32) a x).toNat < S8192.size a := fun v1504 k1_hw29 => k1_hw29.2.2.2.2.2.2.2.2.2.2.2.1
theorem k1_idx461_inb : ∀ (v1504 : IVec S16 32) (k1_hw29 : k1_chk29 v1504), ∀ a x, ((![v1504] : Fin 1 → IVec S16 32) a x).toNat < S8192.size a := fun v1504 k1_hw29 => k1_hw29.2.2.2.2.2.2.2.2.2.2.2.2.1
theorem k1_idx462_inb : ∀ (v1504 : IVec S16 32) (k1_hw29 : k1_chk29 v1504), ∀ a x, ((![v1504] : Fin 1 → IVec S16 32) a x).toNat < S8192.size a := fun v1504 k1_hw29 => k1_hw29.2.2.2.2.2.2.2.2.2.2.2.2.2.1
theorem k1_idx463_inb : ∀ (v1504 : IVec S16 32) (k1_hw29 : k1_chk29 v1504), ∀ a x, ((![v1504] : Fin 1 → IVec S16 32) a x).toNat < S8192.size a := fun v1504 k1_hw29 => k1_hw29.2.2.2.2.2.2.2.2.2.2.2.2.2.2.1
theorem k1_idx464_inb : ∀ (v1504 : IVec S16 32) (k1_hw29 : k1_chk29 v1504), ∀ a x, ((![v1504] : Fin 1 → IVec S16 32) a x).toNat < S8192.size a := fun v1504 k1_hw29 => k1_hw29.2.2.2.2.2.2.2.2.2.2.2.2.2.2.2

def k1_chk30 (v1538 : IVec S16 32) : Prop :=
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a) ∧
  (∀ a x, ((![v1538] : Fin 1 → IVec S16 32) a x).toNat < S8192.size a)
theorem k1_idx465_inb : ∀ (v1538 : IVec S16 32) (k1_hw30 : k1_chk30 v1538), ∀ a x, ((![v1538] : Fin 1 → IVec S16 32) a x).toNat < S8192.size a := fun v1538 k1_hw30 => k1_hw30.1
theorem k1_idx466_inb : ∀ (v1538 : IVec S16 32) (k1_hw30 : k1_chk30 v1538), ∀ a x, ((![v1538] : Fin 1 → IVec S16 32) a x).toNat < S8192.size a := fun v1538 k1_hw30 => k1_hw30.2.1
theorem k1_idx467_inb : ∀ (v1538 : IVec S16 32) (k1_hw30 : k1_chk30 v1538), ∀ a x, ((![v1538] : Fin 1 → IVec S16 32) a x).toNat < S8192.size a := fun v1538 k1_hw30 => k1_hw30.2.2.1
theorem k1_idx468_inb : ∀ (v1538 : IVec S16 32) (k1_hw30 : k1_chk30 v1538), ∀ a x, ((![v1538] : Fin 1 → IVec S16 32) a x).toNat < S8192.size a := fun v1538 k1_hw30 => k1_hw30.2.2.2.1
theorem k1_idx469_inb : ∀ (v1538 : IVec S16 32) (k1_hw30 : k1_chk30 v1538), ∀ a x, ((![v1538] : Fin 1 → IVec S16 32) a x).toNat < S8192.size a := fun v1538 k1_hw30 => k1_hw30.2.2.2.2.1
theorem k1_idx470_inb : ∀ (v1538 : IVec S16 32) (k1_hw30 : k1_chk30 v1538), ∀ a x, ((![v1538] : Fin 1 → IVec S16 32) a x).toNat < S8192.size a := fun v1538 k1_hw30 => k1_hw30.2.2.2.2.2.1
theorem k1_idx471_inb : ∀ (v1538 : IVec S16 32) (k1_hw30 : k1_chk30 v1538), ∀ a x, ((![v1538] : Fin 1 → IVec S16 32) a x).toNat < S8192.size a := fun v1538 k1_hw30 => k1_hw30.2.2.2.2.2.2.1
theorem k1_idx472_inb : ∀ (v1538 : IVec S16 32) (k1_hw30 : k1_chk30 v1538), ∀ a x, ((![v1538] : Fin 1 → IVec S16 32) a x).toNat < S8192.size a := fun v1538 k1_hw30 => k1_hw30.2.2.2.2.2.2.2.1
theorem k1_idx473_inb : ∀ (v1538 : IVec S16 32) (k1_hw30 : k1_chk30 v1538), ∀ a x, ((![v1538] : Fin 1 → IVec S16 32) a x).toNat < S8192.size a := fun v1538 k1_hw30 => k1_hw30.2.2.2.2.2.2.2.2.1
theorem k1_idx474_inb : ∀ (v1538 : IVec S16 32) (k1_hw30 : k1_chk30 v1538), ∀ a x, ((![v1538] : Fin 1 → IVec S16 32) a x).toNat < S8192.size a := fun v1538 k1_hw30 => k1_hw30.2.2.2.2.2.2.2.2.2.1
theorem k1_idx475_inb : ∀ (v1538 : IVec S16 32) (k1_hw30 : k1_chk30 v1538), ∀ a x, ((![v1538] : Fin 1 → IVec S16 32) a x).toNat < S8192.size a := fun v1538 k1_hw30 => k1_hw30.2.2.2.2.2.2.2.2.2.2.1
theorem k1_idx476_inb : ∀ (v1538 : IVec S16 32) (k1_hw30 : k1_chk30 v1538), ∀ a x, ((![v1538] : Fin 1 → IVec S16 32) a x).toNat < S8192.size a := fun v1538 k1_hw30 => k1_hw30.2.2.2.2.2.2.2.2.2.2.2.1
theorem k1_idx477_inb : ∀ (v1538 : IVec S16 32) (k1_hw30 : k1_chk30 v1538), ∀ a x, ((![v1538] : Fin 1 → IVec S16 32) a x).toNat < S8192.size a := fun v1538 k1_hw30 => k1_hw30.2.2.2.2.2.2.2.2.2.2.2.2.1
theorem k1_idx478_inb : ∀ (v1538 : IVec S16 32) (k1_hw30 : k1_chk30 v1538), ∀ a x, ((![v1538] : Fin 1 → IVec S16 32) a x).toNat < S8192.size a := fun v1538 k1_hw30 => k1_hw30.2.2.2.2.2.2.2.2.2.2.2.2.2.1
theorem k1_idx479_inb : ∀ (v1538 : IVec S16 32) (k1_hw30 : k1_chk30 v1538), ∀ a x, ((![v1538] : Fin 1 → IVec S16 32) a x).toNat < S8192.size a := fun v1538 k1_hw30 => k1_hw30.2.2.2.2.2.2.2.2.2.2.2.2.2.2.1
theorem k1_idx480_inb : ∀ (v1538 : IVec S16 32) (k1_hw30 : k1_chk30 v1538), ∀ a x, ((![v1538] : Fin 1 → IVec S16 32) a x).toNat < S8192.size a := fun v1538 k1_hw30 => k1_hw30.2.2.2.2.2.2.2.2.2.2.2.2.2.2.2

def k1_chk31 (v1572 : IVec S16 32) : Prop :=
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a) ∧
  (∀ a x, ((![v1572] : Fin 1 → IVec S16 32) a x).toNat < S8192.size a)
theorem k1_idx481_inb : ∀ (v1572 : IVec S16 32) (k1_hw31 : k1_chk31 v1572), ∀ a x, ((![v1572] : Fin 1 → IVec S16 32) a x).toNat < S8192.size a := fun v1572 k1_hw31 => k1_hw31.1
theorem k1_idx482_inb : ∀ (v1572 : IVec S16 32) (k1_hw31 : k1_chk31 v1572), ∀ a x, ((![v1572] : Fin 1 → IVec S16 32) a x).toNat < S8192.size a := fun v1572 k1_hw31 => k1_hw31.2.1
theorem k1_idx483_inb : ∀ (v1572 : IVec S16 32) (k1_hw31 : k1_chk31 v1572), ∀ a x, ((![v1572] : Fin 1 → IVec S16 32) a x).toNat < S8192.size a := fun v1572 k1_hw31 => k1_hw31.2.2.1
theorem k1_idx484_inb : ∀ (v1572 : IVec S16 32) (k1_hw31 : k1_chk31 v1572), ∀ a x, ((![v1572] : Fin 1 → IVec S16 32) a x).toNat < S8192.size a := fun v1572 k1_hw31 => k1_hw31.2.2.2.1
theorem k1_idx485_inb : ∀ (v1572 : IVec S16 32) (k1_hw31 : k1_chk31 v1572), ∀ a x, ((![v1572] : Fin 1 → IVec S16 32) a x).toNat < S8192.size a := fun v1572 k1_hw31 => k1_hw31.2.2.2.2.1
theorem k1_idx486_inb : ∀ (v1572 : IVec S16 32) (k1_hw31 : k1_chk31 v1572), ∀ a x, ((![v1572] : Fin 1 → IVec S16 32) a x).toNat < S8192.size a := fun v1572 k1_hw31 => k1_hw31.2.2.2.2.2.1
theorem k1_idx487_inb : ∀ (v1572 : IVec S16 32) (k1_hw31 : k1_chk31 v1572), ∀ a x, ((![v1572] : Fin 1 → IVec S16 32) a x).toNat < S8192.size a := fun v1572 k1_hw31 => k1_hw31.2.2.2.2.2.2.1
theorem k1_idx488_inb : ∀ (v1572 : IVec S16 32) (k1_hw31 : k1_chk31 v1572), ∀ a x, ((![v1572] : Fin 1 → IVec S16 32) a x).toNat < S8192.size a := fun v1572 k1_hw31 => k1_hw31.2.2.2.2.2.2.2.1
theorem k1_idx489_inb : ∀ (v1572 : IVec S16 32) (k1_hw31 : k1_chk31 v1572), ∀ a x, ((![v1572] : Fin 1 → IVec S16 32) a x).toNat < S8192.size a := fun v1572 k1_hw31 => k1_hw31.2.2.2.2.2.2.2.2.1
theorem k1_idx490_inb : ∀ (v1572 : IVec S16 32) (k1_hw31 : k1_chk31 v1572), ∀ a x, ((![v1572] : Fin 1 → IVec S16 32) a x).toNat < S8192.size a := fun v1572 k1_hw31 => k1_hw31.2.2.2.2.2.2.2.2.2.1
theorem k1_idx491_inb : ∀ (v1572 : IVec S16 32) (k1_hw31 : k1_chk31 v1572), ∀ a x, ((![v1572] : Fin 1 → IVec S16 32) a x).toNat < S8192.size a := fun v1572 k1_hw31 => k1_hw31.2.2.2.2.2.2.2.2.2.2.1
theorem k1_idx492_inb : ∀ (v1572 : IVec S16 32) (k1_hw31 : k1_chk31 v1572), ∀ a x, ((![v1572] : Fin 1 → IVec S16 32) a x).toNat < S8192.size a := fun v1572 k1_hw31 => k1_hw31.2.2.2.2.2.2.2.2.2.2.2.1
theorem k1_idx493_inb : ∀ (v1572 : IVec S16 32) (k1_hw31 : k1_chk31 v1572), ∀ a x, ((![v1572] : Fin 1 → IVec S16 32) a x).toNat < S8192.size a := fun v1572 k1_hw31 => k1_hw31.2.2.2.2.2.2.2.2.2.2.2.2.1
theorem k1_idx494_inb : ∀ (v1572 : IVec S16 32) (k1_hw31 : k1_chk31 v1572), ∀ a x, ((![v1572] : Fin 1 → IVec S16 32) a x).toNat < S8192.size a := fun v1572 k1_hw31 => k1_hw31.2.2.2.2.2.2.2.2.2.2.2.2.2.1
theorem k1_idx495_inb : ∀ (v1572 : IVec S16 32) (k1_hw31 : k1_chk31 v1572), ∀ a x, ((![v1572] : Fin 1 → IVec S16 32) a x).toNat < S8192.size a := fun v1572 k1_hw31 => k1_hw31.2.2.2.2.2.2.2.2.2.2.2.2.2.2.1
theorem k1_idx496_inb : ∀ (v1572 : IVec S16 32) (k1_hw31 : k1_chk31 v1572), ∀ a x, ((![v1572] : Fin 1 → IVec S16 32) a x).toNat < S8192.size a := fun v1572 k1_hw31 => k1_hw31.2.2.2.2.2.2.2.2.2.2.2.2.2.2.2

def k1_chk32 (v1606 : IVec S16 32) : Prop :=
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a) ∧
  (∀ a x, ((![v1606] : Fin 1 → IVec S16 32) a x).toNat < S8192.size a)
theorem k1_idx497_inb : ∀ (v1606 : IVec S16 32) (k1_hw32 : k1_chk32 v1606), ∀ a x, ((![v1606] : Fin 1 → IVec S16 32) a x).toNat < S8192.size a := fun v1606 k1_hw32 => k1_hw32.1
theorem k1_idx498_inb : ∀ (v1606 : IVec S16 32) (k1_hw32 : k1_chk32 v1606), ∀ a x, ((![v1606] : Fin 1 → IVec S16 32) a x).toNat < S8192.size a := fun v1606 k1_hw32 => k1_hw32.2.1
theorem k1_idx499_inb : ∀ (v1606 : IVec S16 32) (k1_hw32 : k1_chk32 v1606), ∀ a x, ((![v1606] : Fin 1 → IVec S16 32) a x).toNat < S8192.size a := fun v1606 k1_hw32 => k1_hw32.2.2.1
theorem k1_idx500_inb : ∀ (v1606 : IVec S16 32) (k1_hw32 : k1_chk32 v1606), ∀ a x, ((![v1606] : Fin 1 → IVec S16 32) a x).toNat < S8192.size a := fun v1606 k1_hw32 => k1_hw32.2.2.2.1
theorem k1_idx501_inb : ∀ (v1606 : IVec S16 32) (k1_hw32 : k1_chk32 v1606), ∀ a x, ((![v1606] : Fin 1 → IVec S16 32) a x).toNat < S8192.size a := fun v1606 k1_hw32 => k1_hw32.2.2.2.2.1
theorem k1_idx502_inb : ∀ (v1606 : IVec S16 32) (k1_hw32 : k1_chk32 v1606), ∀ a x, ((![v1606] : Fin 1 → IVec S16 32) a x).toNat < S8192.size a := fun v1606 k1_hw32 => k1_hw32.2.2.2.2.2.1
theorem k1_idx503_inb : ∀ (v1606 : IVec S16 32) (k1_hw32 : k1_chk32 v1606), ∀ a x, ((![v1606] : Fin 1 → IVec S16 32) a x).toNat < S8192.size a := fun v1606 k1_hw32 => k1_hw32.2.2.2.2.2.2.1
theorem k1_idx504_inb : ∀ (v1606 : IVec S16 32) (k1_hw32 : k1_chk32 v1606), ∀ a x, ((![v1606] : Fin 1 → IVec S16 32) a x).toNat < S8192.size a := fun v1606 k1_hw32 => k1_hw32.2.2.2.2.2.2.2.1
theorem k1_idx505_inb : ∀ (v1606 : IVec S16 32) (k1_hw32 : k1_chk32 v1606), ∀ a x, ((![v1606] : Fin 1 → IVec S16 32) a x).toNat < S8192.size a := fun v1606 k1_hw32 => k1_hw32.2.2.2.2.2.2.2.2.1
theorem k1_idx506_inb : ∀ (v1606 : IVec S16 32) (k1_hw32 : k1_chk32 v1606), ∀ a x, ((![v1606] : Fin 1 → IVec S16 32) a x).toNat < S8192.size a := fun v1606 k1_hw32 => k1_hw32.2.2.2.2.2.2.2.2.2.1
theorem k1_idx507_inb : ∀ (v1606 : IVec S16 32) (k1_hw32 : k1_chk32 v1606), ∀ a x, ((![v1606] : Fin 1 → IVec S16 32) a x).toNat < S8192.size a := fun v1606 k1_hw32 => k1_hw32.2.2.2.2.2.2.2.2.2.2.1
theorem k1_idx508_inb : ∀ (v1606 : IVec S16 32) (k1_hw32 : k1_chk32 v1606), ∀ a x, ((![v1606] : Fin 1 → IVec S16 32) a x).toNat < S8192.size a := fun v1606 k1_hw32 => k1_hw32.2.2.2.2.2.2.2.2.2.2.2.1
theorem k1_idx509_inb : ∀ (v1606 : IVec S16 32) (k1_hw32 : k1_chk32 v1606), ∀ a x, ((![v1606] : Fin 1 → IVec S16 32) a x).toNat < S8192.size a := fun v1606 k1_hw32 => k1_hw32.2.2.2.2.2.2.2.2.2.2.2.2.1
theorem k1_idx510_inb : ∀ (v1606 : IVec S16 32) (k1_hw32 : k1_chk32 v1606), ∀ a x, ((![v1606] : Fin 1 → IVec S16 32) a x).toNat < S8192.size a := fun v1606 k1_hw32 => k1_hw32.2.2.2.2.2.2.2.2.2.2.2.2.2.1
theorem k1_idx511_inb : ∀ (v1606 : IVec S16 32) (k1_hw32 : k1_chk32 v1606), ∀ a x, ((![v1606] : Fin 1 → IVec S16 32) a x).toNat < S8192.size a := fun v1606 k1_hw32 => k1_hw32.2.2.2.2.2.2.2.2.2.2.2.2.2.2.1
theorem k1_idx512_inb : ∀ (v1606 : IVec S16 32) (k1_hw32 : k1_chk32 v1606), ∀ a x, ((![v1606] : Fin 1 → IVec S16 32) a x).toNat < S8192.size a := fun v1606 k1_hw32 => k1_hw32.2.2.2.2.2.2.2.2.2.2.2.2.2.2.2
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_609_r2 : BitVec 32 := 0#32
  ![v1.toNat, 0]
abbrev grid2 : Pipeline.Grid := .none

abbrev stage2_0 : Fin 1 → Memref sig .tc .vmem S16384x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16384x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x8192 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16384x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .smem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S64x8192 : Shape := ⟨2, ![64, 8192]⟩
abbrev S1 : Shape := ⟨1, ![1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S64x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S16384x8192, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S1, .i32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S1x1, .i32⟩
  | .hbm, ⟨37, _⟩ => ⟨S16384x1, .i32⟩
  | .hbm, ⟨38, _⟩ => ⟨S16384x1, .i1⟩
  | .hbm, ⟨39, _⟩ => ⟨S16384x1, .i1⟩
  | .hbm, ⟨40, _⟩ => ⟨S_, .i1⟩
  | .hbm, ⟨41, _⟩ => ⟨S16384, .i1⟩
  | .hbm, ⟨42, _⟩ => ⟨S16384x64, .f32⟩
  | .hbm, ⟨43, _⟩ => ⟨S16384x64, .i1⟩
  | .hbm, ⟨44, _⟩ => ⟨S_, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384x64, .f32⟩
  | .hbm, ⟨54, _⟩ => ⟨S16384x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S_, .i32⟩
  | .hbm, ⟨65, _⟩ => ⟨S8192, .i32⟩
  | .hbm, ⟨66, _⟩ => ⟨S_, .i32⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S_, .i32⟩
  | .hbm, ⟨79, _⟩ => ⟨S16384, .i32⟩
  | .hbm, ⟨80, _⟩ => ⟨S8192, .i32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S8192, .f32⟩
  | .hbm, ⟨96, _⟩ => ⟨S8192, .i1⟩
  | .hbm, ⟨97, _⟩ => ⟨S8192, .i32⟩
  | .hbm, ⟨98, _⟩ => ⟨S_, .i32⟩
  | .hbm, ⟨99, _⟩ => ⟨S_, .i32⟩
  | .hbm, ⟨100, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_cst_5 : Ref sig .tc := ⟨.hbm, 57, rfl⟩
abbrev main_v23 : Ref sig .tc := ⟨.hbm, 58, rfl⟩
abbrev main_cst_6 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c : Ref sig .tc := ⟨.hbm, 64, rfl⟩
abbrev main_v28 : Ref sig .tc := ⟨.hbm, 65, rfl⟩
abbrev main_c_7 : Ref sig .tc := ⟨.hbm, 66, rfl⟩
abbrev main_call2_v0 : Ref sig .tc := ⟨.hbm, 67, rfl⟩
abbrev main_call2_v1 : Ref sig .tc := ⟨.hbm, 68, rfl⟩
abbrev main_v29 : Ref sig .tc := ⟨.hbm, 69, rfl⟩
abbrev main_c_8 : Ref sig .tc := ⟨.hbm, 70, rfl⟩
abbrev main_v30 : Ref sig .tc := ⟨.hbm, 71, rfl⟩
abbrev main_v31 : Ref sig .tc := ⟨.hbm, 72, rfl⟩
abbrev main_c_9 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_c_10 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_11 : Ref sig .tc := ⟨.hbm, 82, rfl⟩
abbrev main_v39 : Ref sig .tc := ⟨.hbm, 83, rfl⟩
abbrev main_v40 : Ref sig .tc := ⟨.hbm, 84, rfl⟩
abbrev main_cst_12 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_13 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_14 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_c_15 : Ref sig .tc := ⟨.hbm, 98, rfl⟩
abbrev main_v51 : Ref sig .tc := ⟨.hbm, 99, rfl⟩
abbrev main_v52 : Ref sig .tc := ⟨.hbm, 100, rfl⟩

abbrev nD : Nat := 1
abbrev τ : Topo := Topo.v7x

variable {F : FTy → Type} [FloatOps F]
-- ==== Proof.First.lean ====
/-
  The first place of the least entry of a row: what it is, that it is unique, and the two folds that find it.
-/
module

public import Idealize.ShloMosaic.PureOps
public import Idealize.ShloMosaic.PureOps.Ideal.Laws
public import Idealize.ShloMosaic.Lib.Pointwise
public import Idealize.ShloMosaic.Lib.ValueIdx

@[expose] public section

noncomputable section

namespace Cert.Proof

open Idealize.ShloMosaic Idealize.ShloMosaic.ValueIdx

/-- `k` is the first place of the least entry. -/
def IsFirst {n : Nat} (f : Fin n → EReal) (k : Fin n) : Prop := (∀ j, f k ≤ f j) ∧ ∀ j, j < k → f k < f j

theorem IsFirst.unique {n : Nat} {f : Fin n → EReal} {k l : Fin n} (hk : IsFirst f k) (hl : IsFirst f l) : k = l := by
  rcases lt_trichotomy k l with h | h | h
  · exact absurd (hl.2 k h) (not_lt.2 (hk.1 l))
  · exact h
  · exact absurd (hk.2 l h) (not_lt.2 (hl.1 k))

/-- A fold of `min` from the top over a nonempty set is the entry at some member and below all of them. -/
theorem fold_min_attained {ι : Type} (S : Finset ι) (hS : S.Nonempty) (f : ι → EReal) :
    (∃ i ∈ S, S.fold min ⊤ f = f i) ∧ ∀ i ∈ S, S.fold min ⊤ f ≤ f i := by
  have hle : ∀ i ∈ S, S.fold min ⊤ f ≤ f i := fun i hi => (Finset.fold_min_le _).2 (.inr ⟨i, hi, le_rfl⟩)
  obtain ⟨i, hi, h⟩ := S.exists_min_image f hS
  exact ⟨⟨i, hi, le_antisymm (hle i hi) ((Finset.le_fold_min _).2 ⟨le_top, h⟩)⟩, hle⟩

theorem toInt_minsi {w : Nat} (a b : BitVec w) : (IntOp.minsi a b).toInt = min a.toInt b.toInt := by
  simp only [IntOp.minsi, BitVec.slt]
  split_ifs with h <;> simp only [decide_eq_true_eq] at h <;> omega

theorem minsi_mem {w : Nat} (a b : BitVec w) : IntOp.minsi a b = a ∨ IntOp.minsi a b = b := by
  simp only [IntOp.minsi]
  split_ifs <;> simp

/-- A fold of the signed minimum is its start or the word at some member, and at most each of them. -/
theorem fold_minsi {ι : Type} (S : Finset ι) (g : ι → BitVec 32) (z : BitVec 32) :
    (S.fold IntOp.minsi z g = z ∨ ∃ i ∈ S, S.fold IntOp.minsi z g = g i)
      ∧ ∀ i ∈ S, (S.fold IntOp.minsi z g).toInt ≤ (g i).toInt := by
  classical
  induction S using Finset.induction_on with
  | empty => simp
  | insert a S ha ih =>
    rw [Finset.fold_insert ha]
    constructor
    · rcases minsi_mem (g a) (S.fold IntOp.minsi z g) with h | h
      · exact .inr ⟨a, Finset.mem_insert_self _ _, h⟩
      · rw [h]
        rcases ih.1 with e | ⟨i, hi, e⟩
        · exact .inl e
        · exact .inr ⟨i, Finset.mem_insert_of_mem hi, e⟩
    · intro i hi
      rw [toInt_minsi]
      rcases Finset.mem_insert.1 hi with rfl | hi
      · exact min_le_left _ _
      · exact (min_le_right _ _).trans (ih.2 i hi)

theorem toInt_ofNat_small {k : Nat} (h : k < 2 ^ 31) : (BitVec.ofNat 32 k).toInt = k := by
  rw [BitVec.toInt_eq_toNat_cond, BitVec.toNat_ofNat]; omega

/-- The fold of the signed minimum over the places whose entry is the least: the first of them. -/
theorem fold_place {ι : Type} {n : Nat} (hn : n ≤ 4096) (S : Finset ι) (f : ι → EReal) (p : ι → Fin n) (e : Fin n → EReal)
    (hS : S.Nonempty) (hf : ∀ i ∈ S, f i = e (p i)) (hp : ∀ k, ∃ i ∈ S, p i = k) :
    ∃ k, IsFirst e k ∧ S.fold min ⊤ f = e k
      ∧ S.fold IntOp.minsi 2147483647#32
          (fun i => Scalar.select (Ideal.cmp .oeq (f i) (S.fold min ⊤ f)) (BitVec.ofNat 32 (p i).val) 1073741824#32) = BitVec.ofNat 32 k.val := by
  obtain ⟨⟨a, ha, hm⟩, hle⟩ := fold_min_attained S hS f
  generalize S.fold min ⊤ f = m at *
  have hsel : ∀ i, Scalar.select (Ideal.cmp .oeq (f i) m) (BitVec.ofNat 32 (p i).val) 1073741824#32
      = if f i = m then BitVec.ofNat 32 (p i).val else 1073741824#32 := fun i => by
    by_cases h : f i = m <;> simp [Ideal.cmp, Scalar.select, h]
  simp only [hsel]
  obtain ⟨h1, h2⟩ := fold_minsi S (fun i => if f i = m then BitVec.ofNat 32 (p i).val else 1073741824#32) 2147483647#32
  have hat : ∀ i ∈ S, f i = m → (S.fold IntOp.minsi 2147483647#32
      (fun i => if f i = m then BitVec.ofNat 32 (p i).val else 1073741824#32)).toInt ≤ (p i).val := fun i hi h => by
    have := h2 i hi
    rw [if_pos h, toInt_ofNat_small (by have := (p i).isLt; omega)] at this
    exact this
  have hal := hat a ha hm.symm
  have hal' := (p a).isLt
  rcases h1 with h | ⟨i, hi, h⟩
  · rw [h] at hal
    have : (2147483647#32 : BitVec 32).toInt = 2147483647 := by decide
    omega
  by_cases hi' : f i = m
  · rw [if_pos hi'] at h
    rw [h] at hat ⊢
    refine ⟨p i, ⟨fun j => ?_, fun j hj => ?_⟩, ?_, rfl⟩
    · obtain ⟨b, hb, rfl⟩ := hp j
      rw [← hf i hi, ← hf b hb, hi']
      exact hle b hb
    · obtain ⟨b, hb, rfl⟩ := hp j
      rw [← hf i hi, ← hf b hb, hi']
      refine lt_of_le_of_ne (hle b hb) fun e => ?_
      have h' := hat b hb e.symm
      rw [toInt_ofNat_small (by have := (p i).isLt; omega)] at h'
      have : (p b).val < (p i).val := hj
      omega
    · rw [← hf i hi, hi']
  · rw [if_neg hi'] at h
    rw [h] at hal
    have : (1073741824#32 : BitVec 32).toInt = 1073741824 := by decide
    omega

/-- Two halves of a row: the second's first least place where its least entry is strictly less, else the first's. -/
theorem first_halves (f : Fin 8192 → EReal) (ka kb : Fin 4096)
    (ha : IsFirst (fun k : Fin 4096 => f ⟨k.val, by omega⟩) ka) (hb : IsFirst (fun k : Fin 4096 => f ⟨4096 + k.val, by omega⟩) kb) :
    ∃ k, IsFirst f k ∧ Scalar.select (Ideal.cmp .olt (f ⟨4096 + kb.val, by omega⟩) (f ⟨ka.val, by omega⟩))
      (IntOp.addi (BitVec.ofNat 32 kb.val) 4096#32) (BitVec.ofNat 32 ka.val) = BitVec.ofNat 32 k.val := by
  by_cases h : f ⟨4096 + kb.val, by omega⟩ < f ⟨ka.val, by omega⟩
  · refine ⟨⟨4096 + kb.val, by omega⟩, ⟨fun j => ?_, fun j hj => ?_⟩, ?_⟩
    · by_cases hj : j.val < 4096
      · exact h.le.trans (ha.1 ⟨j.val, hj⟩)
      · have := hb.1 ⟨j.val - 4096, by omega⟩
        have e : (⟨4096 + (j.val - 4096), by omega⟩ : Fin 8192) = j := Fin.ext (by show 4096 + (j.val - 4096) = j.val; omega)
        simpa only [e] using this
    · by_cases hj' : j.val < 4096
      · exact lt_of_lt_of_le h (ha.1 ⟨j.val, hj'⟩)
      · have hlt : j.val < 4096 + kb.val := hj
        have hk : (⟨j.val - 4096, by omega⟩ : Fin 4096) < kb := by simp only [Fin.lt_def]; omega
        have := hb.2 _ hk
        have e : (⟨4096 + (j.val - 4096), by omega⟩ : Fin 8192) = j := Fin.ext (by show 4096 + (j.val - 4096) = j.val; omega)
        simpa only [e] using this
    · have e : Ideal.cmp .olt (f ⟨4096 + kb.val, by omega⟩) (f ⟨ka.val, by omega⟩) = 1#1 := by simp [Ideal.cmp, h]
      rw [e, select_one]
      apply BitVec.eq_of_toNat_eq
      simp only [IntOp.addi, BitVec.toNat_add, BitVec.toNat_ofNat]
      omega
  · refine ⟨⟨ka.val, by omega⟩, ⟨fun j => ?_, fun j hj => ?_⟩, ?_⟩
    · by_cases hj : j.val < 4096
      · exact ha.1 ⟨j.val, hj⟩
      · refine (not_lt.1 h).trans ?_
        have := hb.1 ⟨j.val - 4096, by omega⟩
        have e : (⟨4096 + (j.val - 4096), by omega⟩ : Fin 8192) = j := Fin.ext (by show 4096 + (j.val - 4096) = j.val; omega)
        simpa only [e] using this
    · have hlt : j.val < ka.val := hj
      exact ha.2 ⟨j.val, by omega⟩ hlt
    · simp [Ideal.cmp, Scalar.select, h]

/-- One pair is at most another: by value, then by the signed index. -/
def LexLe (p q : EReal × BitVec 32) : Prop := p.1 < q.1 ∨ p.1 = q.1 ∧ p.2.toInt ≤ q.2.toInt

theorem LexLe.trans {p q r : EReal × BitVec 32} (h : LexLe p q) (h' : LexLe q r) : LexLe p r := by
  rcases h with h | ⟨h, h2⟩ <;> rcases h' with h' | ⟨h', h2'⟩
  · exact .inl (h.trans h')
  · exact .inl (h' ▸ h)
  · exact .inl (h ▸ h')
  · exact .inr ⟨h.trans h', h2.trans h2'⟩

/-- A fold of a choice of the lesser pair ends at its start or a member, and at most each of them. -/
theorem foldl_lex (r : EReal × BitVec 32 → EReal × BitVec 32 → EReal × BitVec 32)
    (hr : ∀ a b, (r a b = a ∨ r a b = b) ∧ LexLe (r a b) a ∧ LexLe (r a b) b) (l : List (EReal × BitVec 32)) :
    ∀ z, (l.foldl r z = z ∨ l.foldl r z ∈ l) ∧ LexLe (l.foldl r z) z ∧ ∀ q ∈ l, LexLe (l.foldl r z) q := by
  induction l with
  | nil => exact fun z => ⟨.inl rfl, .inr ⟨rfl, le_rfl⟩, fun q hq => by simp at hq⟩
  | cons b l ih =>
    intro z
    obtain ⟨h1, h2, h3⟩ := ih (r z b)
    obtain ⟨g1, g2, g3⟩ := hr z b
    rw [List.foldl_cons]
    refine ⟨?_, h2.trans g2, fun q hq => ?_⟩
    · rcases h1 with h | h
      · rcases g1 with g | g
        · exact .inl (h.trans g)
        · exact .inr (List.mem_cons.2 (.inl (h.trans g)))
      · exact .inr (List.mem_cons_of_mem _ h)
    · rcases List.mem_cons.1 hq with rfl | hq
      · exact h2.trans g3
      · exact h3 q hq

/-- From the top and the place zero over a row's pairs such a fold ends at the first place of the least entry. -/
theorem foldl_first {n : Nat} (hn : 0 < n) (hn' : n ≤ 8192) (f : Fin n → EReal) (r : EReal × BitVec 32 → EReal × BitVec 32 → EReal × BitVec 32)
    (hr : ∀ a b, (r a b = a ∨ r a b = b) ∧ LexLe (r a b) a ∧ LexLe (r a b) b) (l : List (EReal × BitVec 32))
    (hl : ∀ q, q ∈ l ↔ ∃ k : Fin n, q = (f k, BitVec.ofNat 32 k.val)) :
    ∃ k, IsFirst f k ∧ (l.foldl r (⊤, 0#32)).2 = BitVec.ofNat 32 k.val := by
  obtain ⟨h1, h2, h3⟩ := foldl_lex r hr l (⊤, 0#32)
  generalize l.foldl r (⊤, 0#32) = p at *
  have hp : ∃ k : Fin n, p = (f k, BitVec.ofNat 32 k.val) := by
    rcases h1 with h | h
    · refine ⟨⟨0, hn⟩, ?_⟩
      have := h3 _ ((hl _).2 ⟨⟨0, hn⟩, rfl⟩)
      rw [h] at this ⊢
      rcases this with t | ⟨t, _⟩
      · exact absurd t not_top_lt
      · exact Prod.ext t rfl
    · exact (hl p).1 h
  obtain ⟨k, rfl⟩ := hp
  refine ⟨k, ⟨fun j => ?_, fun j hj => ?_⟩, rfl⟩
  · rcases h3 _ ((hl _).2 ⟨j, rfl⟩) with t | ⟨t, _⟩
    · exact le_of_lt t
    · exact le_of_eq t
  · rcases h3 _ ((hl _).2 ⟨j, rfl⟩) with t | ⟨_, t⟩
    · exact t
    · have a := k.isLt; have b := j.isLt
      rw [toInt_ofNat_small (show k.val < 2 ^ 31 by omega), toInt_ofNat_small (show j.val < 2 ^ 31 by omega)] at t
      have : j.val < k.val := hj
      omega

end Cert.Proof
-- ==== Proof.Setup.lean ====
/-
  The kernel's program as the launch theorem sees it: its label signatures, the SparseCore configuration, the resource
  algebra, and a vector subcore's coordinates. Nothing here is proved but the configuration's side facts.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the TensorCore pipelines', the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance : (EP (F := F)).LandsIn (upEmb : UEmb _ (MT nD τ sig (HIx 1) (Elt F) ℕ UU ℕ)) := by unfold EP; infer_instance
abbrev EC : UEmb Counters (MT nD τ sig (HIx 1) (Elt F) ℕ UU ℕ) := countersEmb

/-! ## A vector subcore's coordinates -/

abbrev cV (L : grid1.Coords) : Fin τ.nSC := (L 0).castLE hcore1
abbrev jV (L : grid1.Coords) : Fin τ.nSub := (L 1).castLE hsub1

end Cert.Proof
-- ==== Proof.Hist.lean ====
/-
  A tile's histogram in tile memory: 8192 counters, zeroed sixteen at a time, then raised once for every one of the 512
  indices a second buffer holds. The indices are taken sixteen at a time, as the lanes of a vector, and each lane by its
  own masked scatter-add, so that two equal indices of one vector are both counted. `count idx n x` is how many of the
  first `n` indices name counter `x`; `Zeroed n` and `Counted n` are the two phases' states, and the rules of this module
  take one operation of the program each.
-/
module

public import Idealize.ShloMosaic.Lib.SparseCore.Ops
public import Idealize.ShloMosaic.Lib.Writes
public import Idealize.ShloMosaic.Lib.Pipeline.Value

@[expose] public section

noncomputable section

namespace Cert.Proof.Hist

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.SparseCore

/-- The counters, the indices, a vector's lanes, and sixteen indices of one row. -/
abbrev SH : Shape := ⟨1, ![8192]⟩
abbrev SI : Shape := ⟨2, ![4, 128]⟩
abbrev SL : Shape := ⟨1, ![16]⟩
abbrev SR : Shape := ⟨2, ![1, 16]⟩

/-! ## Counting -/

/-- The `i`-th index, in row-major order. -/
def flat (idx : SI.Idx → BitVec 32) (i : ℕ) : BitVec 32 :=
  idx fun a => match a with
    | 0 => ⟨i / 128 % 4, Nat.mod_lt _ (by decide)⟩
    | 1 => ⟨i % 128, Nat.mod_lt _ (by decide)⟩

/-- How many of the first `n` indices name counter `x`. -/
def count (idx : SI.Idx → BitVec 32) (n : ℕ) (x : SH.Idx) : ℕ :=
  ((Finset.range n).filter fun i => (flat idx i).toNat = (x 0).val).card

theorem count_zero (idx : SI.Idx → BitVec 32) (x : SH.Idx) : count idx 0 x = 0 := rfl

theorem count_succ (idx : SI.Idx → BitVec 32) (n : ℕ) (x : SH.Idx) :
    count idx (n + 1) x = count idx n x + if (flat idx n).toNat = (x 0).val then 1 else 0 := by
  unfold count
  rw [Finset.range_add_one, Finset.filter_insert]
  split
  · rw [Finset.card_insert_of_notMem (by simp)]
  · rfl

/-- Lane `l` of a vector. -/
def lane (l : ℕ) (hl : l < 16) : SL.Idx := fun a => match a with | 0 => ⟨l, hl⟩

/-- The mask of lane `l`. -/
abbrev laneMask (κ : Kind) (hi : SL.Iotas κ 32 [0]) (l : ℕ) : IVec SL 1 :=
  cmpi .eq (iota κ SL 32 [0] hi) (broadcast SL (BitVec.ofNat 32 l))

theorem laneMask_iff (κ : Kind) (hi : SL.Iotas κ 32 [0]) (l : ℕ) (hl : l < 16) (k : SL.Idx) :
    laneMask κ hi l k = 1 ↔ (k 0).val = l := by
  have hk : (k 0).val < 16 := (k 0).isLt
  show IntOp.cmpi .eq (BitVec.ofNat 32 ([(0 : Fin 1)].foldl (fun n a => n * SL.size a + (k a).val) 0)) (BitVec.ofNat 32 l) = 1 ↔ _
  have : ([(0 : Fin 1)].foldl (fun n a => n * SL.size a + (k a).val) 0) = (k 0).val := by simp
  rw [this]
  unfold IntOp.cmpi
  constructor
  · intro h
    by_contra hne
    have : (BitVec.ofNat 32 (k 0).val == BitVec.ofNat 32 l) = false := by
      rw [beq_eq_false_iff_ne]
      intro h'
      have := congrArg BitVec.toNat h'
      simp only [BitVec.toNat_ofNat] at this
      omega
    simp only [this] at h
    exact absurd h (by decide)
  · rintro rfl
    simp

theorem foldl_skip {α β : Type} (f : β → α → β) : ∀ (L : List α), (∀ k ∈ L, ∀ g, f g k = g) → ∀ g : β, L.foldl f g = g
  | [], _, _ => rfl
  | k :: L, h, g => by
    rw [List.foldl_cons, h k List.mem_cons_self]
    exact foldl_skip f L (fun k hk => h k (List.mem_cons_of_mem _ hk)) g

/-- A fold whose step changes nothing but at one element is that step. -/
theorem foldl_finRange_single {n : ℕ} {β : Type} (f : β → Fin n → β) (l : Fin n) (hf : ∀ k, k ≠ l → ∀ g, f g k = g) (g : β) :
    (List.finRange n).foldl f g = f g l := by
  obtain ⟨L₁, L₂, hL⟩ := List.append_of_mem (List.mem_finRange l)
  have hn : (List.finRange n).Nodup := List.nodup_finRange n
  rw [hL] at hn ⊢
  have h1 : l ∉ L₁ := fun h => (List.disjoint_of_nodup_append hn h List.mem_cons_self).elim
  have h2 : l ∉ L₂ := (List.nodup_cons.mp (List.Nodup.of_append_right hn)).1
  rw [List.foldl_append, List.foldl_cons, foldl_skip f L₁ (fun k hk g => hf k (fun e => h1 (e ▸ hk)) g),
    foldl_skip f L₂ (fun k hk g => hf k (fun e => h2 (e ▸ hk)) g)]

/-- One lane's scatter-add of ones raises the counter the lane names. -/
theorem storeIdx_lane {F : FTy → Type} [FloatOps F] (κ : Kind) (hi : SL.Iotas κ 32 [0]) (l : ℕ) (hl : l < 16) (f : Vec F SH .i32)
    (v : IVec SL 32) (h : ∀ a x, ((![v] : Fin 1 → IVec SL 32) a x).toNat < SH.size a) (x : SH.Idx) :
    storeIdx (F := F) (e := .i32) f ![v] (broadcast SL 1#32) (laneMask κ hi l) true h x
      = if (v (lane l hl)).toNat = (x 0).val then f x + 1#32 else f x := by
  unfold storeIdx
  rw [foldl_finRange_single (n := (![16] : Fin 1 → ℕ) 0) (l := ⟨l, hl⟩)]
  · have hm : laneMask κ hi l (Shape.ofLane (d := ![16]) ⟨l, hl⟩) = 1 := (laneMask_iff κ hi l hl _).mpr rfl
    have hv : (Shape.ofLane (d := ![16]) ⟨l, hl⟩ : SL.Idx) = lane l hl := by
      funext a; rw [Fin.eq_zero a]; rfl
    simp only [hm, if_true]
    by_cases hc : (v (lane l hl)).toNat = (x 0).val
    · have hx : ∀ a, (x a).val = (idxAt (s := SH) ![v] h (Shape.ofLane (d := ![16]) ⟨l, hl⟩) a).val := by
        intro a; rw [Fin.eq_zero a]; rw [hv]; exact hc.symm
      have he : (idxAt (s := SH) ![v] h (Shape.ofLane (d := ![16]) ⟨l, hl⟩)) = x := funext fun a => Fin.ext (hx a).symm
      rw [if_pos hc, if_pos hx, he]; rfl
    · have hx : ¬ ∀ a, (x a).val = (idxAt (s := SH) ![v] h (Shape.ofLane (d := ![16]) ⟨l, hl⟩) a).val := by
        intro hx; apply hc; have := hx 0; rw [hv] at this; exact this.symm
      rw [if_neg hc, if_neg hx]
  · intro k hk g
    have hm : ¬ laneMask κ hi l (Shape.ofLane (d := ![16]) k) = 1 := fun hm => hk (Fin.ext ((laneMask_iff κ hi l hl _).mp hm))
    simp only [hm, if_false]

/-! ## The two phases, step by step -/

section Steps

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} {𝒱 : Variants} {c : Thread nD τ} {bd : Option 𝒱.V}
variable {α : Type} {Q : α → sProp (MT nD τ sig Ix (Elt F) Name U Lvl)}

local notation "𝕄" => MT nD τ sig Ix (Elt F) Name U Lvl

/-- The first `n` counters are zero. -/
def Zeroed (c : Thread nD τ) (bh : Memref sig c.2.kind .vmem SH .i32) (n : ℕ) (R : sProp 𝕄) : sProp 𝕄 :=
  iprop((∃ f, (bh.view.loc c ↦[bh.view.set]{fullShare} f) ∗ ⌜∀ x : SH.Idx, (x 0).val < n → bh.view.read (Elt F) f x = 0#32⌝) ∗ R)

/-- The counters count the first `n` indices of the second buffer. -/
def Counted (c : Thread nD τ) (bh : Memref sig c.2.kind .vmem SH .i32) (bi : Memref sig c.2.kind .vmem SI .i32) (fi : Buf (Elt F) (bi.view.loc c))
    (n : ℕ) (R : sProp 𝕄) : sProp 𝕄 :=
  iprop((∃ f, (bh.view.loc c ↦[bh.view.set]{fullShare} f) ∗ ⌜∀ x : SH.Idx, bh.view.read (Elt F) f x = BitVec.ofNat 32 (count (bi.view.read (Elt F) fi) n x)⌝)
    ∗ (bi.view.loc c ↦[bi.view.set]{fullShare} fi) ∗ R)

theorem counted_of_zeroed {bh : Memref sig c.2.kind .vmem SH .i32} {bi : Memref sig c.2.kind .vmem SI .i32} {fi : Buf (Elt F) (bi.view.loc c)} {R : sProp 𝕄} :
    Zeroed c bh 8192 iprop((bi.view.loc c ↦[bi.view.set]{fullShare} fi) ∗ R) ⊢ Counted c bh bi fi 0 R := by
  unfold Zeroed Counted
  iintro H
  icases H with ⟨⟨%f, Hf, %hf⟩, Hi, HR⟩
  isplitl [Hf]
  · iexists f
    isplitl [Hf]; · iexact Hf
    ipureintro
    exact fun x => by rw [hf x (x 0).isLt, count_zero]
  isplitl [Hi]; · iexact Hi
  iexact HR

/-- A dead load of the counters. -/
theorem zeroed_load {bh : Memref sig c.2.kind .vmem SH .i32} {n : ℕ} {R : sProp 𝕄} {r : LoadRect SH} {hl : bh.view.LoadsAt r}
    {k : (r.shape.Idx → Elt F .i32) → Prog (TpuEff nD τ sig (Elt F) Λ c.2) α}
    (h : ∀ v, Zeroed c bh n R ⊢ wp frame (wpE defs 𝒱 c bd) Set.univ (k v) Q) :
    Zeroed c bh n R ⊢ wp frame (wpE defs 𝒱 c bd) Set.univ (.op (.load bh r hl) k) Q := by
  unfold Zeroed at h ⊢
  iintro H
  icases H with ⟨⟨%f, Hf, %hf⟩, HR⟩
  iapply (wp_load (defs := defs) 𝒱 c bd Set.univ (m := bh) (r := r) (k := k) (S := bh.view.set) (View.setOn_subset_set _ _)) $$ Hf
  iintro Hf
  iapply (h _)
  isplitl [Hf]
  · iexists f
    isplitl [Hf]; · iexact Hf
    ipureintro; exact hf
  iexact HR

/-- Sixteen more counters zeroed. -/
theorem zeroed_store {bh : Memref sig c.2.kind .vmem SH .i32} {n : ℕ} {R : sProp 𝕄} {inb : ∀ a, (![n] : Fin 1 → ℕ) a + SL.size a ≤ SH.size a}
    {hx : (bh.access (Rect.unit (s := SH) ![n] SL.size inb)).Stores Finset.univ} {hm}
    {k : PUnit → Prog (TpuEff nD τ sig (Elt F) Λ c.2) α} (n' : ℕ) (hn : n' = n + 16)
    (h : Zeroed c bh n' R ⊢ wp frame (wpE defs 𝒱 c bd) Set.univ (k ⟨⟩) Q) :
    Zeroed c bh n R ⊢ wp frame (wpE defs 𝒱 c bd) Set.univ
      (.op (.store bh (Rect.unit (s := SH) ![n] SL.size inb) (broadcast SL 0#32) Finset.univ hx hm) k) Q := by
  subst hn
  unfold Zeroed at h ⊢
  iintro H
  icases H with ⟨⟨%f, Hf, %hf⟩, HR⟩
  iapply (wp_store (defs := defs) 𝒱 c bd Set.univ (m := bh) (r := Rect.unit (s := SH) ![n] SL.size inb) (Mk := Finset.univ) (k := k) (hx := hx) (hm := hm)
    (S := bh.view.set) ((View.setOn_subset_set _ _).trans (View.set_slice_subset _ _))) $$ Hf
  iintro Hf
  iapply h
  isplitl [Hf]
  · iexists _
    isplitl [Hf]; · iexact Hf
    ipureintro
    intro x hxn
    by_cases hlt : (x 0).val < n
    · exact (View.read_writes_cons_miss_of_axis bh.view f ⟨Rect.unit (s := SH) ![n] SL.size inb, broadcast SL 0#32⟩ [] x 0 n 16 rfl rfl rfl (.inl hlt)).trans (hf x hlt)
    · exact View.read_writes_cons_hit_of_coords bh.view f (Rect.unit (s := SH) ![n] SL.size inb) (broadcast SL 0#32) []
        (lane ((x 0).val - n) (by omega)) x (fun a => by
          rw [Fin.eq_zero a]; show (x 0).val = n + 1 * ((x 0).val - n); omega)
  iexact HR

/-- A load of sixteen indices. -/
theorem counted_load {bh : Memref sig c.2.kind .vmem SH .i32} {bi : Memref sig c.2.kind .vmem SI .i32} {fi : Buf (Elt F) (bi.view.loc c)}
    {n : ℕ} {R : sProp 𝕄} {r : LoadRect SI} {hl : bi.view.LoadsAt r}
    {k : (r.shape.Idx → Elt F .i32) → Prog (TpuEff nD τ sig (Elt F) Λ c.2) α}
    (h : Counted c bh bi fi n R ⊢ wp frame (wpE defs 𝒱 c bd) Set.univ (k (bi.view.readAt (Elt F) r fi)) Q) :
    Counted c bh bi fi n R ⊢ wp frame (wpE defs 𝒱 c bd) Set.univ (.op (.load bi r hl) k) Q := by
  unfold Counted at h ⊢
  iintro H
  icases H with ⟨Hh, Hi, HR⟩
  iapply (wp_load (defs := defs) 𝒱 c bd Set.univ (m := bi) (r := r) (k := k) (S := bi.view.set) (View.setOn_subset_set _ _)) $$ Hi
  iintro Hi
  iapply h
  isplitl [Hh]; · iexact Hh
  isplitl [Hi]; · iexact Hi
  iexact HR

omit [FloatOps F] in
/-- A side condition that holds. -/
theorem assumed {P : Prop} {d : Decidable P} {H : sProp 𝕄} {k : PLift P → Prog (TpuEff nD τ sig (Elt F) Λ c.2) α} (hP : P)
    (h : H ⊢ wp frame (wpE defs 𝒱 c bd) Set.univ (k ⟨hP⟩) Q) : H ⊢ wp frame (wpE defs 𝒱 c bd) Set.univ (.op (.assume P d) k) Q :=
  h.trans (wp_assume 𝒱 c bd Set.univ hP)

/-- The sixteen lanes loaded at row `r`, column `o`. -/
theorem lanes_eq (bi : Memref sig c.2.kind .vmem SI .i32) (fi : Buf (Elt F) (bi.view.loc c)) (r o : ℕ)
    (inb : ∀ a, (![r, o] : Fin 2 → ℕ) a + SR.size a ≤ SI.size a) (hsc : SR.ShapeCasts SL) (l : ℕ) (hl : l < 16) :
    shapeCast SL (bi.view.readAt (Elt F) (Rect.unit (s := SI) ![r, o] SR.size inb).toLoadRect fi) hsc (lane l hl)
      = flat (bi.view.read (Elt F) fi) (128 * r + o + l) := by
  have hr : r + 1 ≤ 4 := inb 0
  have ho : o + 16 ≤ 128 := inb 1
  rw [shapeCast_apply (k := (fun a => match a with | 0 => ⟨0, by decide⟩ | 1 => ⟨l, hl⟩ : SR.Idx))]
  · show bi.view.read (Elt F) fi _ = bi.view.read (Elt F) fi _
    congr 1
    funext a
    match a with
    | 0 => exact Fin.ext (by show r + 1 * 0 = (128 * r + o + l) / 128 % 4; omega)
    | 1 => exact Fin.ext (by show o + 1 * l = (128 * r + o + l) % 128; omega)
  · rw [Shape.rowMajor_val_two, Shape.rowMajor_val_one]
    show 0 * 16 + l = l
    omega

theorem lanes_lt (bi : Memref sig c.2.kind .vmem SI .i32) (fi : Buf (Elt F) (bi.view.loc c))
    (hin : ∀ x, (bi.view.read (Elt F) fi x).toNat < 8192) {r o : ℕ} {inb : ∀ a, (![r, o] : Fin 2 → ℕ) a + SR.size a ≤ SI.size a} {hsc : SR.ShapeCasts SL}
    (a : Fin 1) (x : SL.Idx) :
    ((![shapeCast SL (bi.view.readAt (Elt F) (Rect.unit (s := SI) ![r, o] SR.size inb).toLoadRect fi) hsc] : Fin 1 → IVec SL 32) a x).toNat < SH.size a := by
  rw [Fin.eq_zero a]
  exact hin _

/-- The same condition as often as a vector's sixteen scatters ask it. -/
theorem sixteen {P : Prop} (h : P) : P ∧ P ∧ P ∧ P ∧ P ∧ P ∧ P ∧ P ∧ P ∧ P ∧ P ∧ P ∧ P ∧ P ∧ P ∧ P :=
  ⟨h, h, h, h, h, h, h, h, h, h, h, h, h, h, h, h⟩

/-- One lane's scatter-add: one more index counted. -/
theorem counted_scatter {bh : Memref sig c.2.kind .vmem SH .i32} {bi : Memref sig c.2.kind .vmem SI .i32} {fi : Buf (Elt F) (bi.view.loc c)}
    {n r o : ℕ} {R : sProp 𝕄} {inb : ∀ a, (![r, o] : Fin 2 → ℕ) a + SR.size a ≤ SI.size a} {hsc : SR.ShapeCasts SL} {κ : Kind} {hi : SL.Iotas κ 32 [0]}
    {hv} {hs : (bh.access (.whole SH)).Stores Finset.univ}
    {k : PUnit → Prog (TpuEff nD τ sig (Elt F) Λ c.2) α} (l : ℕ) (hl : l < 16) (hn : n = 128 * r + o + l) (n' : ℕ) (hn' : n' = n + 1)
    (h : Counted c bh bi fi n' R ⊢ wp frame (wpE defs 𝒱 c bd) Set.univ (k ⟨⟩) Q) :
    Counted c bh bi fi n R ⊢ wp frame (wpE defs 𝒱 c bd) Set.univ
      (SparseCore.vectorStoreIdx bh ![shapeCast SL (bi.view.readAt (Elt F) (Rect.unit (s := SI) ![r, o] SR.size inb).toLoadRect fi) hsc]
        (broadcast SL 1#32) (laneMask κ hi l) true hv hs >>= k) Q := by
  subst hn'
  unfold Counted at h ⊢
  iintro H
  icases H with ⟨⟨%f, Hf, %hf⟩, Hi, HR⟩
  have hset : (bh.access (.whole SH)).set = bh.view.set := by
    rw [View.set_slice, Rect.set_whole]; rfl
  ihave Hf' := (Entails.of_eq (congrArg (fun S => (bh.view.loc c ↦[S]{fullShare} f : sProp 𝕄)) hset.symm)) $$ Hf
  iapply (SparseCore.wp_vectorStoreIdx (defs := defs) 𝒱 c bd Set.univ (base := bh) (k := k)) $$ Hf'
  iintro Hf'
  iapply h
  isplitl [Hf']
  · iexists _
    isplitl [Hf']
    · iapply (Entails.of_eq (congrArg (fun S => (bh.view.loc c ↦[S]{fullShare} _ : sProp 𝕄)) hset)) $$ Hf'
    ipureintro
    intro x
    refine (View.read_writes_cons_hit_of_coords bh.view f (Rect.whole SH)
      (storeIdx (F := F) (s := SH) (e := .i32) ((bh.access (.whole SH)).read (Elt F) f)
        ![shapeCast SL (bi.view.readAt (Elt F) (Rect.unit (s := SI) ![r, o] SR.size inb).toLoadRect fi) hsc] (broadcast SL 1#32) (laneMask κ hi l) true hv)
      [] x x (fun a => ?_)).trans ?_
    · show (x a).val = 0 + 1 * (x a).val; omega
    rw [storeIdx_lane κ hi l hl, lanes_eq (hl := hl), count_succ, ← hn]
    have hr : (bh.access (.whole SH)).read (Elt F) f x = bh.view.read (Elt F) f x := by
      show bh.view.read (Elt F) f ((Rect.whole SH).emb x) = _
      rw [Rect.emb_whole_apply]
    rw [hr, hf x]
    split
    · show BitVec.ofNat 32 _ + BitVec.ofNat 32 1 = _
      rw [← BitVec.ofNat_add]
    · rfl
  isplitl [Hi]; · iexact Hi
  iexact HR

omit [FloatOps F] in
/-- One part of the program, then the rest. -/
theorem bound {β : Type} {H : sProp 𝕄} {p : Prog (TpuEff nD τ sig (Elt F) Λ c.2) β} {k : β → Prog (TpuEff nD τ sig (Elt F) Λ c.2) α} (v : β) (H' : sProp 𝕄)
    (hp : H ⊢ wp frame (wpE defs 𝒱 c bd) Set.univ p fun w => iprop(⌜w = v⌝ ∗ H')) (hk : H' ⊢ wp frame (wpE defs 𝒱 c bd) Set.univ (k v) Q) :
    H ⊢ wp frame (wpE defs 𝒱 c bd) Set.univ (p >>= k) Q := by
  rw [wp_bind]
  refine hp.trans (wp_mono _ _ _ fun w => ?_)
  iintro H
  icases H with ⟨%e, H⟩
  subst e
  iapply hk $$ H

omit [FloatOps F] in
/-- The end of a part. -/
theorem ended {β : Type} {H : sProp 𝕄} (v : β) :
    H ⊢ wp frame (wpE defs 𝒱 c bd) Set.univ (.ret v : Prog (TpuEff nD τ sig (Elt F) Λ c.2) β) fun w => iprop(⌜w = v⌝ ∗ H) := by
  refine Entails.trans ?_ (le_wp_ret _ _ _ _ _)
  iintro H
  isplitr; · ipureintro; rfl
  iexact H

end Steps

end Cert.Proof.Hist
-- ==== Proof.Parts.lean ====
/-
  How a tile's blocks lie in the four arrays of the SparseCore call, and what the call leaves in the two it writes:
  tile `w` of the thirty-two takes rows `4 w … 4 w + 3` of the index array, rows `512 w … 512 w + 511` of the gathered
  rows and row `w` of the histograms (`wid` is `w` from the tile's coordinates).
-/
module

public import proofs.«01_k».proof.Proof.Setup
public import proofs.«01_k».proof.Proof.Hist

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays -/

abbrev iLoc (d : Dev nD) : Loc nD τ sig := (SparseCore.T d).loc main_v10
abbrev tLoc (d : Dev nD) : Loc nD τ sig := (SparseCore.T d).loc main_v11
abbrev oLoc (d : Dev nD) : Loc nD τ sig := (SparseCore.T d).loc main_v12_0
abbrev hLoc (d : Dev nD) : Loc nD τ sig := (SparseCore.T d).loc main_v12_1

local notation "iV" => (Memref.whole Cert.KernelIdeal.main_v10_scv : Memref Cert.KernelIdeal.sig Kind.scVector Space.hbm Cert.KernelIdeal.S128x128 EltTy.i32)
local notation "tV'" => (Memref.whole Cert.KernelIdeal.main_v11_scv : Memref Cert.KernelIdeal.sig Kind.scVector Space.hbm Cert.KernelIdeal.S8192x128 EltTy.f32)
local notation "oV" => (Memref.whole Cert.KernelIdeal.main_v12_0_scv : Memref Cert.KernelIdeal.sig Kind.scVector Space.hbm Cert.KernelIdeal.S16384x128 EltTy.f32)
local notation "hV" => (Memref.whole Cert.KernelIdeal.main_v12_1_scv : Memref Cert.KernelIdeal.sig Kind.scVector Space.hbm Cert.KernelIdeal.S32x8192 EltTy.i32)

theorem idiv : 32 ∣ S128x128.size 0 := ⟨4, rfl⟩
theorem odiv : 32 ∣ S16384x128.size 0 := ⟨512, rfl⟩
theorem hdiv : 32 ∣ S32x8192.size 0 := ⟨1, rfl⟩
abbrev irow (w : Fin 32) : Rect S128x128 := Rect.part (s := S128x128) (a₀ := 0) idiv w
abbrev orow (w : Fin 32) : Rect S16384x128 := Rect.part (s := S16384x128) (a₀ := 0) odiv w
abbrev hrow (w : Fin 32) : Rect S32x8192 := Rect.part (s := S32x8192) (a₀ := 0) hdiv w

theorem wid_lt (L : grid1.Coords) : 2 * (L 1).val + (L 0).val < 32 := by
  have h0 : (L 0).val < 2 := (L 0).isLt
  have h1 : (L 1).val < 16 := (L 1).isLt
  omega
/-- The tile's number. -/
def wid (L : grid1.Coords) : Fin 32 := ⟨2 * (L 1).val + (L 0).val, wid_lt L⟩

abbrev irowK (L : grid1.Coords) : Rect S128x128 := Rect.unit (s := S128x128) (k1_off1 L) S4x128.size (k1_off1_inb L)
abbrev orowK (L : grid1.Coords) : Rect S16384x128 := Rect.unit (s := S16384x128) (k1_off2 L) S512x128.size (k1_off2_inb L)
abbrev hrowK (L : grid1.Coords) : Rect S32x8192 := Rect.unit (s := S32x8192) (k1_off3 L) S1x8192.size (k1_off3_inb L)

/-- The blocks as the tile addresses them. -/
abbrev iRowK (L : grid1.Coords) : Memref sig .scVector .hbm S4x128 .i32 := (iV).slice (irowK L) (fun _ => rfl)
abbrev oRowK (L : grid1.Coords) : Memref sig .scVector .hbm S512x128 .f32 := (oV).slice (orowK L) (fun _ => rfl)
abbrev hRowK (L : grid1.Coords) : Memref sig .scVector .hbm S8192 .i32 := ((hV).slice (hrowK L) (fun _ => rfl)).squeeze S8192 squeezes_S1x8192_S8192
abbrev tAllK : Memref sig .scVector .hbm S8192x128 .f32 := (tV').slice (Rect.unit (s := S8192x128) ![0, 0] S8192x128.size inb_S8192x128_S8192x128_0_0) (fun _ => rfl)

theorem irowK_eq (L : grid1.Coords) : irowK L = irow (wid L) := by
  unfold irowK irow Rect.part Rect.block
  congr 1 <;> funext a
  · rw [k1_off1_eq]
    match a with
    | 0 => simp [Shape.partIx, Shape.partSize, wid]; omega
    | 1 => simp [Shape.partIx, Shape.partSize]
  · match a with
    | 0 => simp [Shape.partSize]
    | 1 => simp [Shape.partSize]
theorem orowK_eq (L : grid1.Coords) : orowK L = orow (wid L) := by
  unfold orowK orow Rect.part Rect.block
  congr 1 <;> funext a
  · rw [k1_off2_eq]
    match a with
    | 0 => simp [Shape.partIx, Shape.partSize, wid]; omega
    | 1 => simp [Shape.partIx, Shape.partSize]
  · match a with
    | 0 => simp [Shape.partSize]
    | 1 => simp [Shape.partSize]
theorem hrowK_eq (L : grid1.Coords) : hrowK L = hrow (wid L) := by
  unfold hrowK hrow Rect.part Rect.block
  congr 1 <;> funext a
  · rw [k1_off3_eq]
    match a with
    | 0 => simp [Shape.partIx, Shape.partSize, wid]
    | 1 => simp [Shape.partIx, Shape.partSize]
  · match a with
    | 0 => simp [Shape.partSize]
    | 1 => simp [Shape.partSize]

theorem set_iRowK (L : grid1.Coords) : (iRowK L).view.set = (irow (wid L)).set := by
  show ((View.whole (main_v10_scv : Ref sig .scVector)).slice (irowK L)).set = _
  rw [View.set_slice_whole, irowK_eq]
theorem set_oRowK (L : grid1.Coords) : (oRowK L).view.set = (orow (wid L)).set := by
  show ((View.whole (main_v12_0_scv : Ref sig .scVector)).slice (orowK L)).set = _
  rw [View.set_slice_whole, orowK_eq]
theorem set_hRowK (L : grid1.Coords) : (hRowK L).view.set = (hrow (wid L)).set := by
  show (((View.whole (main_v12_1_scv : Ref sig .scVector)).slice (hrowK L)).reshape S8192 squeezes_S1x8192_S8192.numel_eq).set = _
  rw [View.set_reshape, View.set_slice_whole]
  exact congrArg (fun r : Rect S32x8192 => r.set) (hrowK_eq L)

/-! ## What a tile holds -/

theorem pos32 : 0 < 32 := by decide
/-- Tile `w`'s share of the table. -/
abbrev tq (w : Fin 32) : PosShare TreeShare := pieceOf fullShare 32 pos32 w

abbrev iPts (d : Dev nD) (w : Fin 32) (f : Buf (Elt F) (iLoc d)) : sProp 𝕄 := iLoc d ↦[(irow w).set]{fullShare} f
abbrev tPts (d : Dev nD) (w : Fin 32) (f : Buf (Elt F) (tLoc d)) : sProp 𝕄 := tLoc d ↦{tq w} f
abbrev oPts (d : Dev nD) (w : Fin 32) (f : Buf (Elt F) (oLoc d)) : sProp 𝕄 := oLoc d ↦[(orow w).set]{fullShare} f
abbrev hPts (d : Dev nD) (w : Fin 32) (f : Buf (Elt F) (hLoc d)) : sProp 𝕄 := hLoc d ↦[(hrow w).set]{fullShare} f

theorem iPts_all (d : Dev nD) (f : Buf (Elt F) (iLoc d)) :
    (iLoc d ↦{fullShare} f : sProp 𝕄) = bigSep Finset.univ fun w => iPts d w f := by
  rw [← pointsTo_biUnion Finset.univ (ℓ := iLoc d) (fun w => (irow w).set) (fun i _ j _ h => Rect.part_disjoint idiv h), Rect.biUnion_part idiv]; try rfl
theorem oPts_all (d : Dev nD) (f : Buf (Elt F) (oLoc d)) :
    (oLoc d ↦{fullShare} f : sProp 𝕄) = bigSep Finset.univ fun w => oPts d w f := by
  rw [← pointsTo_biUnion Finset.univ (ℓ := oLoc d) (fun w => (orow w).set) (fun i _ j _ h => Rect.part_disjoint odiv h), Rect.biUnion_part odiv]; try rfl
theorem hPts_all (d : Dev nD) (f : Buf (Elt F) (hLoc d)) :
    (hLoc d ↦{fullShare} f : sProp 𝕄) = bigSep Finset.univ fun w => hPts d w f := by
  rw [← pointsTo_biUnion Finset.univ (ℓ := hLoc d) (fun w => (hrow w).set) (fun i _ j _ h => Rect.part_disjoint hdiv h), Rect.biUnion_part hdiv]; try rfl
theorem tPts_all (d : Dev nD) (f : Buf (Elt F) (tLoc d)) :
    (tLoc d ↦{fullShare} f : sProp 𝕄) = bigSep Finset.univ fun w => tPts d w f :=
  pointsTo_piecesOf Finset.univ f pos32 fullShare

/-! ## What the call leaves -/

/-- Tile `w`'s 512 indices. -/
def rowsOf (fI : S128x128.Idx → BitVec 32) (w : Fin 32) : S4x128.Idx → BitVec 32 := fun x =>
  fI fun a => match a with
    | 0 => ⟨4 * w.val + (x 0).val, by have := w.isLt; have : (x 0).val < 4 := (x 0).isLt; show _ < 128; omega⟩
    | 1 => ⟨(x 1).val, (x 1).isLt⟩

/-- Token `t`'s place in the index array. -/
def tokAt (t : ℕ) (ht : t < 16384) : S128x128.Idx := fun a => match a with
  | 0 => ⟨t / 128, by show _ < 128; omega⟩
  | 1 => ⟨t % 128, by show _ < 128; omega⟩

/-- The gathered rows: token `t`'s is the table's row that its index names. -/
def gathered (fT : S8192x128.Idx → F .f32) (fI : S128x128.Idx → BitVec 32) : S16384x128.Idx → F .f32 := fun x =>
  fT fun a => match a with
    | 0 => ⟨(fI (tokAt (x 0).val (x 0).isLt)).toNat % 8192, Nat.mod_lt _ (by decide)⟩
    | 1 => ⟨(x 1).val, (x 1).isLt⟩

/-- The histograms: row `w` counts tile `w`'s indices. -/
def histed (fI : S128x128.Idx → BitVec 32) : S32x8192.Idx → BitVec 32 := fun x =>
  BitVec.ofNat 32 (Hist.count (rowsOf fI (x 0)) 512 fun a => match a with | 0 => ⟨(x 1).val, (x 1).isLt⟩)

/-! ## The tile's views, coordinate by coordinate -/

theorem read_iRowK (L : grid1.Coords) (fI : S128x128.Idx → BitVec 32) (x : S4x128.Idx) :
    (iRowK L).view.read (Elt F) fI x = rowsOf fI (wid L) x := by
  show fI ((irowK L).emb x) = _
  unfold rowsOf
  congr 1
  funext a
  match a with
  | 0 => exact Fin.ext (by show (k1_off1 L) 0 + 1 * (x 0).val = 4 * (2 * (L 1).val + (L 0).val) + (x 0).val; rw [k1_off1_eq]; simp; omega)
  | 1 => exact Fin.ext (by show (k1_off1 L) 1 + 1 * (x 1).val = (x 1).val; rw [k1_off1_eq]; simp)

theorem emb_oRowK_0 (L : grid1.Coords) (x : S512x128.Idx) : ((oRowK L).view.emb x 0).val = 512 * (wid L).val + (x 0).val := by
  show (k1_off2 L) 0 + 1 * (x 0).val = 512 * (2 * (L 1).val + (L 0).val) + (x 0).val
  rw [k1_off2_eq]; simp; omega
theorem emb_oRowK_1 (L : grid1.Coords) (x : S512x128.Idx) : ((oRowK L).view.emb x 1).val = (x 1).val := by
  show (k1_off2 L) 1 + 1 * (x 1).val = (x 1).val
  rw [k1_off2_eq]; simp

theorem emb_hRowK (L : grid1.Coords) (x : S8192.Idx) :
    (hRowK L).view.emb x = fun a => match a with | 0 => wid L | 1 => ⟨(x 0).val, (x 0).isLt⟩ := by
  have he : (Shape.reshapeEquiv squeezes_S1x8192_S8192.numel_eq x : S1x8192.Idx) = fun a => match a with | 0 => ⟨0, by decide⟩ | 1 => ⟨(x 0).val, (x 0).isLt⟩ := by
    apply Shape.reshapeEquiv_eq_of_rowMajor
    rw [Shape.rowMajor_val_two, Shape.rowMajor_val_one]
    show 0 * 8192 + (x 0).val = (x 0).val
    omega
  show (hrowK L).emb (Shape.reshapeEquiv squeezes_S1x8192_S8192.numel_eq x) = _
  rw [he]
  funext a
  match a with
  | 0 => exact Fin.ext (by show (k1_off3 L) 0 + 1 * 0 = 2 * (L 1).val + (L 0).val; rw [k1_off3_eq]; simp)
  | 1 => exact Fin.ext (by show (k1_off3 L) 1 + 1 * (x 0).val = (x 0).val; rw [k1_off3_eq]; simp)

end Cert.Proof
-- ==== Proof.Gather.lean ====
/-
  Several indirect gathers in flight on ONE DMA semaphore. Every row of every gather is one transfer of a
  `Transfers.Batch`: `k` of its `n` transfers issued, a gather of `o` rows issues the next `o` of them
  (`wp_gatherBatch`). What row `j` delivers (`rowGot`) is the destination's row written with the source's row that the
  list names, the entry of the list it was read at, and the piece of the source's share that went with it; the rows of
  one gather together are its destination written with its payload, and the two shares whole again (`rowGot_join`).
-/
module

public import Idealize.ShloMosaic.Lib.Batch
public import Idealize.ShloMosaic.Lib.SparseCore.Stream

@[expose] public section

noncomputable section

namespace Cert.Proof

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.SparseCore

section Pending

variable {M : Type} [URA M] {n : ℕ}

/-- The `o` transfers from the `k`-th on, and those after them. -/
theorem pending_add (Φ : Fin n → sProp M) (k o : ℕ) (h : k + o ≤ n) :
    bigSep (Transfers.pending k) Φ
      = iprop((bigSep Finset.univ fun j : Fin o => Φ ⟨k + j.val, by omega⟩) ∗ bigSep (Transfers.pending (k + o)) Φ) := by
  classical
  let em : Fin o ↪ Fin n := ⟨fun j => ⟨k + j.val, by omega⟩, fun a b e => by
    have := congrArg Fin.val e; simp only at this; exact Fin.ext (by omega)⟩
  have hd : Disjoint (Finset.univ.map em) (Transfers.pending (n := n) (k + o)) := by
    refine Finset.disjoint_left.mpr fun t ht ht' => ?_
    obtain ⟨j, -, rfl⟩ := Finset.mem_map.mp ht
    simp only [Transfers.pending, Finset.mem_filter, Finset.mem_univ, true_and] at ht'
    have : k + o ≤ k + j.val := ht'
    omega
  have hu : Transfers.pending (n := n) k = Finset.univ.map em ∪ Transfers.pending (k + o) := by
    ext t
    simp only [Transfers.pending, Finset.mem_filter, Finset.mem_univ, true_and, Finset.mem_union, Finset.mem_map]
    constructor
    · intro hk
      by_cases hlt : t.val < k + o
      · exact .inl ⟨⟨t.val - k, by omega⟩, Fin.ext (by show k + (t.val - k) = t.val; omega)⟩
      · exact .inr (by omega)
    · rintro (⟨j, rfl⟩ | hk)
      · show k ≤ k + j.val; omega
      · omega
  rw [hu, BI.bigSep_union hd, BI.bigSep_map]; rfl

end Pending

section Gather

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Entry `j` of an offset list, in row-major order. -/
def entryAt {o : ℕ} (hn : si.numel = o) (j : Fin o) : si.Idx := si.rowMajor.symm (j.cast hn.symm)

theorem entryAt_bijective {o : ℕ} (hn : si.numel = o) : Function.Bijective (entryAt (si := si) hn) :=
  si.rowMajor.symm.bijective.comp (finCongr hn.symm).bijective

/-- What row `j` of a gather delivers: the destination's row written, the list's entry, the source's piece. -/
def rowGot (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
          ((dst.view.slice (s.rowRect hg.axis' j)).write (Elt F) fd (fun i : (s.rowShape hg.axis').Idx => src.view.read (Elt F) fs (hg.rowIdx (r j) i)) Finset.univ))
      ∗ (offs.view.loc c ↦[{offs.view.emb (entryAt hn j)}]{qo} fo)) ∗ (src.view.loc c ↦[src.view.set]{pieceOf q _ ho j} fs))

instance rowGot_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (rowGot c src dst hg offs hn ho q qo fs fd fo r j) := by
  unfold rowGot; infer_instance

/-- A gather's rows, all delivered. -/
theorem rowGot_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    (bigSep Finset.univ fun j => rowGot c src dst hg offs hn ho q qo fs fd fo r j)
      ⊢ (iprop((dst.view.loc c ↦[dst.view.set]{fullShare}
                (dst.view.write (Elt F) fd (gatherPayload hg (src.view.read (Elt F) fs) r) Finset.univ))
          ∗ (src.view.loc c ↦[src.view.set]{q} fs) ∗ (offs.view.loc c ↦[offs.view.set]{qo} fo)) : sProp 𝕄) := by
  unfold rowGot
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (pointsTo_rows_write c dst.view hg.axis' fd (fun j (i : (s.rowShape hg.axis').Idx) => src.view.read (Elt F) fs (hg.rowIdx (r j) i))
      (gatherPayload hg (src.view.read (Elt F) fs) r) (fun j i => by unfold gatherPayload; rw [Shape.Gathers.idx_rowRect_emb])) $$ Hrows
  isplitl [Hsrc]; · iapply (Entails.of_eq (pointsTo_piecesOf (src.view.set) fs ho q).symm) $$ Hsrc
  iapply (Entails.of_eq (pointsTo_entries c offs.view (entryAt hn) (entryAt_bijective hn) qo fo).symm) $$ Hoffs

/-- A gather's issue into a batch: its `o` rows are the batch's next `o` transfers. -/
theorem wp_gatherBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) {n : ℕ} (N : ℕ) {D : Fin n → sProp 𝕄} (i : ℕ) (hi : i + s.size hg.axis' ≤ n)
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hD : ∀ j : Fin (s.size hg.axis'), rowGot c src dst hg offs hn ho q qo fs fd fo (rows (offs.view.read (Elt F) fo) hn hin) j ⊢ D ⟨i + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D i 0)
      ⊢ iprop((Transfers.Batch EC c (.dma sem) ι N D (i + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [show (fun j => (rd j).dst.view.dmaCredit) = fun _ => N from funext fun j => hN j]
    rw [Finset.sum_const, Finset.card_univ, Fintype.card_fin, smul_eq_mul]
  unfold Transfers.Batch
  iintro ⟨Hs, Hd, Ho, ⟨%γ, %γ₀, %κ, #Hinv, Hγ, H0, Hcr⟩⟩ Hk
  ihave Hγ' := (Entails.of_eq (pending_add (fun t => count EC (γ t) 0) i _ hi)) $$ Hγ
  icases Hγ' with ⟨Hγ, Hrest⟩
  ihave Hd' := (Entails.of_eq (pointsTo_rows c dst.view hg.axis' fullShare fd)) $$ Hd
  ihave Ho' := (Entails.of_eq (pointsTo_entries c offs.view (entryAt hn) (entryAt_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · have hrow : ∀ j : Fin (s.size hg.axis'), iprop(inv κ (Transfers.batchBody EC (c, SemLoc.dma sem) N D γ γ₀)
          ∗ ((((dst.view.loc c ↦[(dst.view.slice (s.rowRect hg.axis' j)).set]{fullShare} fd)
            ∗ (offs.view.loc c ↦[{offs.view.emb (entryAt hn j)}]{qo} fo))
          ∗ (src.view.loc c ↦[src.view.set]{pieceOf q _ ho j} fs)) ∗ count EC (γ ⟨i + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (fun i : (s.rowShape hg.axis').Idx => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcr : (rd j).dst.view.amount (SemLoc.dma sem) = N := hN j
        rw [hcr]
        iapply (Transfers.batch_creditUpdate_with EC (D := D) (γ := γ) (γ₀ := γ₀) ⟨i + j.val, by omega⟩ (put := iprop(emp))
          ((show iprop(emp ∗ _) ⊢ rowGot c src dst hg offs hn ho q qo fs fd fo r j from by
            unfold rowGot
            iintro ⟨-, H⟩; iexact H).trans (hD j)))
        isplitr; · iexact Hinv
        isplitl [Hγj]; · iexact Hγj
        iempintro
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred
    iapply Hk
    iexists γ, γ₀, κ
    isplitr; · iexact Hinv
    isplitl [Hrest]; · iexact Hrest
    isplitl [H0]; · iexact H0
    iapply (show iprop(cred (tallyAt (c, SemLoc.dma sem) ι (i * N - 0)) ∗ cred (tallyAt (c, SemLoc.dma sem) ι (s.size hg.axis' * N)))
        ⊢ cred (tallyAt (c, SemLoc.dma sem) ι ((i + s.size hg.axis') * N - 0)) from by
      rw [Nat.sub_zero, Nat.sub_zero, Nat.add_mul, ← tallyAt_add]
      iintro ⟨H, H'⟩
      icombine H H' as H
      iexact H)
    isplitl [Hcr] <;> iassumption

end Gather

end Cert.Proof

end
-- ==== Proof.HistRun.lean ====
/-
  The tile's histogram, run: the 512 zeroing stores, then the 512 masked scatter-adds, between what comes before (the
  index fetch and the gather) and what comes after (the write-out). The program is printed in parts; each part is taken
  by `Hist.bound` and walked by `Hist`'s rules.
-/
module

public import proofs.«01_k».proof.Proof.Setup
public import proofs.«01_k».proof.Proof.Hist

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Hist

variable {F : FTy → Type} [FloatOps F]

local notation "𝕄" => MT nD τ sig (HIx 1) (Elt F) ℕ UU ℕ

variable (d : Dev nD) (L : grid1.Coords)

/-- A tile's thread. -/
abbrev tV : Thread nD τ := V d (cV L) (jV L)

/-- The end of a part, of a tile's program. -/
theorem tEnd {β : Type} {H : sProp 𝕄} (v : β) :
    H ⊢ wp frame (wpE (defs₀ (F := F)) 𝒱₀ (tV d L) none) Set.univ (.ret v : Prog (TpuEff nD τ sig (Elt F) Λ₀ (tV d L).2) β)
      fun w => iprop(⌜w = v⌝ ∗ H) := ended v

variable (arg2 : Memref sig .scVector .hbm S128x128 .i32) (harg2 : arg2.IsWhole) (arg3 : Memref sig .scVector .hbm S8192x128 .f32) (harg3 : arg3.IsWhole)
  (arg4 : Memref sig .scVector .hbm S16384x128 .f32) (harg4 : arg4.IsWhole) (arg5 : Memref sig .scVector .hbm S32x8192 .i32) (harg5 : arg5.IsWhole)
  (arg6 : Memref sig .scVector .vmem S4x128 .i32) (harg6 : arg6.IsWhole) (arg7 : Memref sig .scVector .vmem S512x128 .f32) (harg7 : arg7.IsWhole)
  (arg8 : Memref sig .scVector .vmem S8192 .i32) (harg8 : arg8.IsWhole) (arg9 : DmaSems sig S_) (s0 s1 s2 : DmaSems sig S_)

/-- What follows the histogram: row `k1_off3` of the counters written out. -/
def histOut : Prog (TpuEff nD τ sig (Elt F) Λ₀ (tV d L).2) PUnit := do
  let row : Memref sig .scVector .hbm S8192 .i32 :=
    (arg5.slice (Rect.unit (s := S32x8192) (k1_off3 L) S1x8192.size (k1_off3_inb L)) (fun _ => rfl)).squeeze S8192 squeezes_S1x8192_S8192
  Prog.lift (.enqueueDma arg8 (.here row) (.dma s2.sem) harg8.wordExact ((View.wordExact_bits rfl).reshape _ _) ⟨Or.inl rfl, trivial⟩)
  Prog.lift (.waitDma2 s2.sem arg8 row harg8.wordExact ((View.wordExact_bits rfl).reshape _ _))
  pure ⟨⟩

set_option maxRecDepth 65536 in
set_option maxHeartbeats 4000000 in
theorem wp_hist {H0 R : sProp 𝕄} {Q : PUnit → sProp 𝕄} (fi : Buf (Elt F) (arg6.view.loc (tV d L)))
    (hin : ∀ x, (arg6.view.read (Elt F) fi x).toNat < 8192)
    (h12 : H0 ⊢ wp frame (wpE (defs₀ (F := F)) 𝒱₀ (tV d L) none) Set.univ
      (k1_part1 L arg2 harg2 arg3 harg3 arg4 harg4 arg5 harg5 arg6 harg6 arg7 harg7 arg8 harg8 arg9 s0 s1 s2 >>= fun v1 =>
        k1_part2 L arg2 harg2 arg3 harg3 arg4 harg4 arg5 harg5 arg6 harg6 arg7 harg7 arg8 harg8 arg9 s0 s1 s2 v1)
      fun w => iprop(⌜w = k1_pay1⌝ ∗ Zeroed (tV d L) arg8 0 iprop((arg6.view.loc (tV d L) ↦[arg6.view.set]{fullShare} fi) ∗ R)))
    (h3 : Counted (tV d L) arg8 arg6 fi 512 R ⊢ wp frame (wpE (defs₀ (F := F)) 𝒱₀ (tV d L) none) Set.univ (histOut d L arg5 arg8 harg8 s2) Q) :
    H0 ⊢ wp frame (wpE (defs₀ (F := F)) 𝒱₀ (tV d L) none) Set.univ
      (cc1__sc_gather_hist L arg2 harg2 arg3 harg3 arg4 harg4 arg5 harg5 arg6 harg6 arg7 harg7 arg8 harg8 arg9 s0 s1 s2) Q := by
  rw [cc1__sc_gather_hist_eq_skeleton]
  unfold cc1__sc_gather_hist_skel
  refine bound ?_ ?_ ?_ ?_
  rotate_left 2
  · rw [k1_part66_eq_skeleton]
    unfold k1_part66_skel
    rw [wp_bind] at h12 ⊢
    refine h12.trans (wp_mono _ _ _ fun v1 => ?_)
    refine bound _ _ .rfl ?_
    iterate 25
      refine bound ?_ ?_ ?_ ?_
      rotate_left 2
      · iterate 20
          refine zeroed_load fun _ => ?_
          refine zeroed_store _ (by simp only [Nat.reduceAdd]; rfl) ?_
        exact tEnd (F := F) d L _
    refine bound ?_ ?_ ?_ ?_
    rotate_left 2
    · iterate 12
        refine zeroed_load fun _ => ?_
        refine zeroed_store _ (by simp only [Nat.reduceAdd]; rfl) ?_
      refine counted_of_zeroed.trans ?_
      refine counted_load ?_
      refine assumed ?_ ?_
      · exact sixteen (lanes_lt (c := tV d L) arg6 fi hin)
      iterate 4 refine counted_scatter _ (by decide) (by rfl) _ (by simp only [Nat.reduceAdd]; rfl) ?_
      exact tEnd (F := F) d L _
    iterate 4
      refine bound ?_ ?_ ?_ ?_
      rotate_left 2
      · iterate 12 refine counted_scatter _ (by decide) (by rfl) _ (by simp only [Nat.reduceAdd]; rfl) ?_
        refine counted_load ?_
        refine assumed ?_ ?_
        · exact sixteen (lanes_lt (c := tV d L) arg6 fi hin)
        iterate 1 refine counted_scatter _ (by decide) (by rfl) _ (by simp only [Nat.reduceAdd]; rfl) ?_
        exact tEnd (F := F) d L _
      refine bound ?_ ?_ ?_ ?_
      rotate_left 2
      · iterate 15 refine counted_scatter _ (by decide) (by rfl) _ (by simp only [Nat.reduceAdd]; rfl) ?_
        exact tEnd (F := F) d L _
      refine bound ?_ ?_ ?_ ?_
      rotate_left 2
      · refine counted_load ?_
        refine assumed ?_ ?_
        · exact sixteen (lanes_lt (c := tV d L) arg6 fi hin)
        iterate 14 refine counted_scatter _ (by decide) (by rfl) _ (by simp only [Nat.reduceAdd]; rfl) ?_
        exact tEnd (F := F) d L _
      refine bound ?_ ?_ ?_ ?_
      rotate_left 2
      · iterate 2 refine counted_scatter _ (by decide) (by rfl) _ (by simp only [Nat.reduceAdd]; rfl) ?_
        refine counted_load ?_
        refine assumed ?_ ?_
        · exact sixteen (lanes_lt (c := tV d L) arg6 fi hin)
        iterate 11 refine counted_scatter _ (by decide) (by rfl) _ (by simp only [Nat.reduceAdd]; rfl) ?_
        exact tEnd (F := F) d L _
      refine bound ?_ ?_ ?_ ?_
      rotate_left 2
      · iterate 5 refine counted_scatter _ (by decide) (by rfl) _ (by simp only [Nat.reduceAdd]; rfl) ?_
        refine counted_load ?_
        refine assumed ?_ ?_
        · exact sixteen (lanes_lt (c := tV d L) arg6 fi hin)
        iterate 9 refine counted_scatter _ (by decide) (by rfl) _ (by simp only [Nat.reduceAdd]; rfl) ?_
        exact tEnd (F := F) d L _
      refine bound ?_ ?_ ?_ ?_
      rotate_left 2
      · iterate 7 refine counted_scatter _ (by decide) (by rfl) _ (by simp only [Nat.reduceAdd]; rfl) ?_
        refine counted_load ?_
        refine assumed ?_ ?_
        · exact sixteen (lanes_lt (c := tV d L) arg6 fi hin)
        iterate 6 refine counted_scatter _ (by decide) (by rfl) _ (by simp only [Nat.reduceAdd]; rfl) ?_
        exact tEnd (F := F) d L _
      refine bound ?_ ?_ ?_ ?_
      rotate_left 2
      · iterate 10 refine counted_scatter _ (by decide) (by rfl) _ (by simp only [Nat.reduceAdd]; rfl) ?_
        refine counted_load ?_
        refine assumed ?_ ?_
        · exact sixteen (lanes_lt (c := tV d L) arg6 fi hin)
        iterate 4 refine counted_scatter _ (by decide) (by rfl) _ (by simp only [Nat.reduceAdd]; rfl) ?_
        exact tEnd (F := F) d L _
    refine bound ?_ ?_ ?_ ?_
    rotate_left 2
    · iterate 12 refine counted_scatter _ (by decide) (by rfl) _ (by simp only [Nat.reduceAdd]; rfl) ?_
      refine counted_load ?_
      refine assumed ?_ ?_
      · exact sixteen (lanes_lt (c := tV d L) arg6 fi hin)
      iterate 1 refine counted_scatter _ (by decide) (by rfl) _ (by simp only [Nat.reduceAdd]; rfl) ?_
      exact tEnd (F := F) d L _
    refine bound ?_ ?_ ?_ ?_
    rotate_left 2
    · iterate 15 refine counted_scatter _ (by decide) (by rfl) _ (by simp only [Nat.reduceAdd]; rfl) ?_
      exact tEnd (F := F) d L _
    refine bound ?_ ?_ ?_ ?_
    rotate_left 2
    · refine counted_load ?_
      refine assumed ?_ ?_
      · exact sixteen (lanes_lt (c := tV d L) arg6 fi hin)
      iterate 14 refine counted_scatter _ (by decide) (by rfl) _ (by simp only [Nat.reduceAdd]; rfl) ?_
      exact tEnd (F := F) d L _
    refine bound ?_ ?_ ?_ ?_
    rotate_left 2
    · iterate 2 refine counted_scatter _ (by decide) (by rfl) _ (by simp only [Nat.reduceAdd]; rfl) ?_
      refine counted_load ?_
      refine assumed ?_ ?_
      · exact sixteen (lanes_lt (c := tV d L) arg6 fi hin)
      iterate 11 refine counted_scatter _ (by decide) (by rfl) _ (by simp only [Nat.reduceAdd]; rfl) ?_
      exact tEnd (F := F) d L _
    exact tEnd (F := F) d L _
  refine bound ?_ ?_ ?_ ?_
  rotate_left 2
  · iterate 5 refine counted_scatter _ (by decide) (by rfl) _ (by simp only [Nat.reduceAdd]; rfl) ?_
    refine counted_load ?_
    refine assumed ?_ ?_
    · exact sixteen (lanes_lt (c := tV d L) arg6 fi hin)
    iterate 9 refine counted_scatter _ (by decide) (by rfl) _ (by simp only [Nat.reduceAdd]; rfl) ?_
    exact tEnd (F := F) d L _
  refine bound ?_ ?_ ?_ ?_
  rotate_left 2
  · iterate 7 refine counted_scatter _ (by decide) (by rfl) _ (by simp only [Nat.reduceAdd]; rfl) ?_
    refine counted_load ?_
    refine assumed ?_ ?_
    · exact sixteen (lanes_lt (c := tV d L) arg6 fi hin)
    iterate 6 refine counted_scatter _ (by decide) (by rfl) _ (by simp only [Nat.reduceAdd]; rfl) ?_
    exact tEnd (F := F) d L _
  refine bound ?_ ?_ ?_ ?_
  rotate_left 2
  · iterate 10 refine counted_scatter _ (by decide) (by rfl) _ (by simp only [Nat.reduceAdd]; rfl) ?_
    refine counted_load ?_
    refine assumed ?_ ?_
    · exact sixteen (lanes_lt (c := tV d L) arg6 fi hin)
    iterate 4 refine counted_scatter _ (by decide) (by rfl) _ (by simp only [Nat.reduceAdd]; rfl) ?_
    exact tEnd (F := F) d L _
  refine bound ?_ ?_ ?_ ?_
  rotate_left 2
  · iterate 12 refine counted_scatter _ (by decide) (by rfl) _ (by simp only [Nat.reduceAdd]; rfl) ?_
    refine counted_load ?_
    refine assumed ?_ ?_
    · exact sixteen (lanes_lt (c := tV d L) arg6 fi hin)
    iterate 1 refine counted_scatter _ (by decide) (by rfl) _ (by simp only [Nat.reduceAdd]; rfl) ?_
    exact tEnd (F := F) d L _
  refine bound ?_ ?_ ?_ ?_
  rotate_left 2
  · iterate 15 refine counted_scatter _ (by decide) (by rfl) _ (by simp only [Nat.reduceAdd]; rfl) ?_
    exact tEnd (F := F) d L _
  exact h3

end Cert.Proof
-- ==== Proof.Fetch.lean ====
/-
  A tile's first two parts: its 512 indices fetched, the four gathers of 128 table rows each — all outstanding on one
  semaphore before the first wait — and the gathered rows written out. The gathers' 512 row transfers are one
  `Transfers.Batch` (`Gather.lean`).
-/
module

public import proofs.«01_k».proof.Proof.Parts
public import proofs.«01_k».proof.Proof.Gather
public import proofs.«01_k».proof.Proof.HistRun

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v10_scv : Memref Cert.KernelIdeal.sig Kind.scVector Space.hbm Cert.KernelIdeal.S128x128 EltTy.i32)
local notation "tV'" => (Memref.whole Cert.KernelIdeal.main_v11_scv : Memref Cert.KernelIdeal.sig Kind.scVector Space.hbm Cert.KernelIdeal.S8192x128 EltTy.f32)
local notation "oV" => (Memref.whole Cert.KernelIdeal.main_v12_0_scv : Memref Cert.KernelIdeal.sig Kind.scVector Space.hbm Cert.KernelIdeal.S16384x128 EltTy.f32)
local notation "hV" => (Memref.whole Cert.KernelIdeal.main_v12_1_scv : Memref Cert.KernelIdeal.sig Kind.scVector Space.hbm Cert.KernelIdeal.S32x8192 EltTy.i32)
local notation "sV" => (Memref.whole Cert.KernelIdeal.cc1_scratch0 : Memref Cert.KernelIdeal.sig Kind.scVector Space.vmem Cert.KernelIdeal.S4x128 EltTy.i32)
local notation "rV" => (Memref.whole Cert.KernelIdeal.cc1_scratch1 : Memref Cert.KernelIdeal.sig Kind.scVector Space.vmem Cert.KernelIdeal.S512x128 EltTy.f32)
local notation "cV'" => (Memref.whole Cert.KernelIdeal.cc1_scratch2 : Memref Cert.KernelIdeal.sig Kind.scVector Space.vmem Cert.KernelIdeal.S8192 EltTy.i32)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The four slices of the row buffer and of the index list -/

theorem pos4 : 0 < 4 := by decide
theorem dinb (j : Fin 4) : ∀ a, (![128 * j.val, 0] : Fin 2 → ℕ) a + S128x128.size a ≤ S512x128.size a := by
  intro a; have := j.isLt
  match a with
  | 0 => show 128 * j.val + 128 ≤ 512; omega
  | 1 => show 0 + 128 ≤ 128; omega
theorem oinb (j : Fin 4) : ∀ a, (![j.val, 0] : Fin 2 → ℕ) a + S1x128.size a ≤ S4x128.size a := by
  intro a; have := j.isLt
  match a with
  | 0 => show j.val + 1 ≤ 4; omega
  | 1 => show 0 + 128 ≤ 128; omega
abbrev drowK (j : Fin 4) : Rect S512x128 := Rect.unit (s := S512x128) ![128 * j.val, 0] S128x128.size (dinb j)
abbrev lrowK (j : Fin 4) : Rect S4x128 := Rect.unit (s := S4x128) ![j.val, 0] S1x128.size (oinb j)
abbrev dK (j : Fin 4) : Memref sig .scVector .vmem S128x128 .f32 := (rV).slice (drowK j) (fun _ => rfl)
abbrev lK (j : Fin 4) : Memref sig .scVector .vmem S128 .i32 := ((sV).slice (lrowK j) (fun _ => rfl)).squeeze S128 squeezes_S1x128_S128

theorem ddiv : 4 ∣ S512x128.size 0 := ⟨128, rfl⟩
theorem ldiv : 4 ∣ S4x128.size 0 := ⟨1, rfl⟩
theorem drowK_eq (j : Fin 4) : drowK j = Rect.part (s := S512x128) (a₀ := 0) ddiv j := by
  unfold drowK Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]
theorem lrowK_eq (j : Fin 4) : lrowK j = Rect.part (s := S4x128) (a₀ := 0) ldiv j := by
  unfold lrowK Rect.part Rect.block
  congr 1 <;> funext a
  · match a with
    | 0 => simp [Shape.partIx, Shape.partSize]
    | 1 => simp [Shape.partIx, Shape.partSize]
  · match a with
    | 0 => simp [Shape.partSize]
    | 1 => simp [Shape.partSize]
theorem set_dK (j : Fin 4) : (dK j).view.set = (Rect.part (s := S512x128) (a₀ := 0) ddiv j).set := by
  show ((View.whole (cc1_scratch1 : Ref sig .scVector)).slice (drowK j)).set = _
  rw [View.set_slice_whole, drowK_eq]
theorem set_lK (j : Fin 4) : (lK j).view.set = (Rect.part (s := S4x128) (a₀ := 0) ldiv j).set := by
  show (((View.whole (cc1_scratch0 : Ref sig .scVector)).slice (lrowK j)).reshape S128 squeezes_S1x128_S128.numel_eq).set = _
  rw [View.set_reshape, View.set_slice_whole]
  exact congrArg (fun r : Rect S4x128 => r.set) (lrowK_eq j)

variable (d : Dev nD) (L : grid1.Coords)

theorem dK_all (f : Buf (Elt F) ((rV).view.loc (tV d L))) :
    ((rV).view.loc (tV d L) ↦{fullShare} f : sProp 𝕄) = bigSep Finset.univ fun j : Fin 4 => (dK j).view.loc (tV d L) ↦[(dK j).view.set]{fullShare} f := by
  rw [bigSep_congr (fun j _ => show ((dK j).view.loc (tV d L) ↦[(dK j).view.set]{fullShare} f : sProp 𝕄)
      = ((rV).view.loc (tV d L) ↦[(Rect.part (s := S512x128) (a₀ := 0) ddiv j).set]{fullShare} f) by rw [set_dK])]
  rw [← pointsTo_biUnion Finset.univ (ℓ := (rV).view.loc (tV d L)) (fun j : Fin 4 => (Rect.part (s := S512x128) (a₀ := 0) ddiv j).set)
    (fun i _ j _ h => Rect.part_disjoint ddiv h), Rect.biUnion_part ddiv]; try rfl
theorem lK_all (f : Buf (Elt F) ((sV).view.loc (tV d L))) :
    ((sV).view.loc (tV d L) ↦{fullShare} f : sProp 𝕄) = bigSep Finset.univ fun j : Fin 4 => (lK j).view.loc (tV d L) ↦[(lK j).view.set]{fullShare} f := by
  rw [bigSep_congr (fun j _ => show ((lK j).view.loc (tV d L) ↦[(lK j).view.set]{fullShare} f : sProp 𝕄)
      = ((sV).view.loc (tV d L) ↦[(Rect.part (s := S4x128) (a₀ := 0) ldiv j).set]{fullShare} f) by rw [set_lK])]
  rw [← pointsTo_biUnion Finset.univ (ℓ := (sV).view.loc (tV d L)) (fun j : Fin 4 => (Rect.part (s := S4x128) (a₀ := 0) ldiv j).set)
    (fun i _ j _ h => Rect.part_disjoint ldiv h), Rect.biUnion_part ldiv]; try rfl

/-- Slice `j` of the list, entry by entry. -/
theorem read_lK (j : Fin 4) (f : S4x128.Idx → BitVec 32) (x : S128.Idx) :
    (lK j).view.read (Elt F) f x = f fun a => match a with | 0 => j | 1 => ⟨(x 0).val, (x 0).isLt⟩ := by
  have he : (Shape.reshapeEquiv squeezes_S1x128_S128.numel_eq x : S1x128.Idx) = fun a => match a with | 0 => ⟨0, by decide⟩ | 1 => ⟨(x 0).val, (x 0).isLt⟩ := by
    apply Shape.reshapeEquiv_eq_of_rowMajor
    rw [Shape.rowMajor_val_two, Shape.rowMajor_val_one]
    show 0 * 128 + (x 0).val = (x 0).val
    omega
  show f ((lrowK j).emb (Shape.reshapeEquiv squeezes_S1x128_S128.numel_eq x)) = _
  rw [he]
  congr 1
  funext a
  match a with
  | 0 => exact Fin.ext (by show j.val + 1 * 0 = j.val; omega)
  | 1 => exact Fin.ext (by show 0 + 1 * (x 0).val = (x 0).val; omega)

/-- What the row buffer holds once its four gathers have landed. -/
def landed (fT : S8192x128.Idx → F .f32) (fi : S4x128.Idx → BitVec 32) : S512x128.Idx → F .f32 := fun x =>
  fT fun a => match a with
    | 0 => ⟨(fi fun b => match b with
        | 0 => ⟨(x 0).val / 128, by have : (x 0).val < 512 := (x 0).isLt; show _ < 4; omega⟩
        | 1 => ⟨(x 0).val % 128, Nat.mod_lt _ (by decide)⟩).toNat % 8192, Nat.mod_lt _ (by decide)⟩
    | 1 => ⟨(x 1).val, (x 1).isLt⟩

theorem lK_lt {fi : S4x128.Idx → BitVec 32} (hin : ∀ x, (fi x).toNat < 8192) (j : Fin 4) :
    ∀ x, ((lK j).view.read (Elt F) fi x).toNat < S8192x128.size gathers_S8192x128_S128x128.axis := by
  intro x; rw [read_lK]; exact hin _

/-- Row `r` of gather `j`, delivered. -/
abbrev rowD (q : PosShare TreeShare) (fT : S8192x128.Idx → F .f32) (fr : S512x128.Idx → F .f32) (fi : S4x128.Idx → BitVec 32)
    (hin : ∀ x, (fi x).toNat < 8192) (j : Fin 4) (r : Fin 128) : sProp 𝕄 :=
  rowGot (tV d L) tAllK (dK j) gathers_S8192x128_S128x128 (lK j) rfl (by decide) (pieceOf q 4 pos4 j) fullShare fT fr fi
    (SparseCore.rows ((lK j).view.read (Elt F) fi) rfl (lK_lt (F := F) hin j)) r

/-- What gather `j` leaves in its slice. -/
theorem landed_eq (fT : S8192x128.Idx → F .f32) (fr : S512x128.Idx → F .f32) (fi : S4x128.Idx → BitVec 32)
    (hin : ∀ x, (fi x).toNat < 8192) (j : Fin 4) :
    ∀ y ∈ (dK j).view.set, (dK j).view.write (Elt F) fr (SparseCore.gatherPayload gathers_S8192x128_S128x128 (tAllK.view.read (Elt F) fT)
        (SparseCore.rows ((lK j).view.read (Elt F) fi) rfl (lK_lt (F := F) hin j))) Finset.univ y = landed fT fi y := by
  intro y hy
  obtain ⟨x, -, rfl⟩ := Finset.mem_map.mp hy
  rw [View.write_emb_of_mem _ _ (Finset.mem_univ x)]
  show (tAllK.view.read (Elt F) fT) (gathers_S8192x128_S128x128.idx _ x) = _
  have hy0 : (((dK j).view.emb x) 0).val = 128 * j.val + (x 0).val := by
    show 128 * j.val + 1 * (x 0).val = _; omega
  have hy1 : (((dK j).view.emb x) 1).val = (x 1).val := by
    show 0 + 1 * (x 1).val = _; omega
  have hx0 : (x 0).val < 128 := (x 0).isLt
  show fT ((Rect.unit (s := S8192x128) ![0, 0] S8192x128.size inb_S8192x128_S8192x128_0_0).emb _) = _
  unfold landed
  congr 1
  funext a
  match a with
  | 0 =>
    refine Fin.ext ?_
    show 0 + 1 * (gathers_S8192x128_S128x128.idx _ x gathers_S8192x128_S128x128.axis).val = _
    rw [Shape.Gathers.idx_axis]
    show 0 + 1 * ((lK j).view.read (Elt F) fi (S128.rowMajor.symm _)).toNat = _
    rw [read_lK]
    have e : ((S128.rowMajor.symm ((x gathers_S8192x128_S128x128.axis').cast rfl)) 0).val = (x 0).val := by
      rw [← Shape.rowMajor_val_one, Equiv.apply_symm_apply]; rfl
    rw [Nat.zero_add, Nat.one_mul]
    show _ = (fi _).toNat % 8192
    rw [Nat.mod_eq_of_lt (hin _)]
    congr 2
    funext b
    match b with
    | 0 => exact Fin.ext (by show j.val = _ / 128; rw [hy0]; omega)
    | 1 => exact Fin.ext (by show _ = _ % 128; rw [hy0]; refine e.trans ?_; omega)
  | 1 =>
    refine Fin.ext ?_
    show 0 + 1 * (gathers_S8192x128_S128x128.idx _ x 1).val = _
    rw [Shape.Gathers.idx_of_ne _ _ _ _ (by decide), Nat.zero_add, Nat.one_mul]
    exact hy1.symm

end Cert.Proof
-- ==== Proof.Tile.lean ====
/-
  A tile's program, run: the indices fetched, the four gathers, the gathered rows out, the histogram, the histogram out.
-/
module

public import proofs.«01_k».proof.Proof.Fetch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v10_scv : Memref Cert.KernelIdeal.sig Kind.scVector Space.hbm Cert.KernelIdeal.S128x128 EltTy.i32)
local notation "tV'" => (Memref.whole Cert.KernelIdeal.main_v11_scv : Memref Cert.KernelIdeal.sig Kind.scVector Space.hbm Cert.KernelIdeal.S8192x128 EltTy.f32)
local notation "oV" => (Memref.whole Cert.KernelIdeal.main_v12_0_scv : Memref Cert.KernelIdeal.sig Kind.scVector Space.hbm Cert.KernelIdeal.S16384x128 EltTy.f32)
local notation "hV" => (Memref.whole Cert.KernelIdeal.main_v12_1_scv : Memref Cert.KernelIdeal.sig Kind.scVector Space.hbm Cert.KernelIdeal.S32x8192 EltTy.i32)
local notation "sV" => (Memref.whole Cert.KernelIdeal.cc1_scratch0 : Memref Cert.KernelIdeal.sig Kind.scVector Space.vmem Cert.KernelIdeal.S4x128 EltTy.i32)
local notation "rV" => (Memref.whole Cert.KernelIdeal.cc1_scratch1 : Memref Cert.KernelIdeal.sig Kind.scVector Space.vmem Cert.KernelIdeal.S512x128 EltTy.f32)
local notation "cV'" => (Memref.whole Cert.KernelIdeal.cc1_scratch2 : Memref Cert.KernelIdeal.sig Kind.scVector Space.vmem Cert.KernelIdeal.S8192 EltTy.i32)

variable (d : Dev nD) (L : grid1.Coords)

/-- All 512 rows, numbered gather by gather. -/
abbrev rowD' (q : PosShare TreeShare) (fT : S8192x128.Idx → F .f32) (fr : S512x128.Idx → F .f32) (fi : S4x128.Idx → BitVec 32)
    (hin : ∀ x, (fi x).toNat < 8192) (t : Fin 512) : sProp 𝕄 :=
  rowD d L q fT fr fi hin ((finProdFinEquiv (m := 4) (n := 128)).symm t).1 ((finProdFinEquiv (m := 4) (n := 128)).symm t).2

instance rowD'_storable (q : PosShare TreeShare) (fT : S8192x128.Idx → F .f32) (fr : S512x128.Idx → F .f32) (fi : S4x128.Idx → BitVec 32)
    (hin : ∀ x, (fi x).toNat < 8192) (t : Fin 512) : Storable (upEmb : UEmb _ 𝕄) (rowD' (F := F) d L q fT fr fi hin t) := by
  exact rowGot_storable _ _ _ _ _ _ _ _ _ _ _ _ _ _

theorem rowD'_at (q : PosShare TreeShare) (fT : S8192x128.Idx → F .f32) (fr : S512x128.Idx → F .f32) (fi : S4x128.Idx → BitVec 32)
    (hin : ∀ x, (fi x).toNat < 8192) (j : Fin 4) (r : Fin 128) (i : ℕ) (hi : i = 128 * j.val) (h : i + r.val < 512) :
    rowD (F := F) d L q fT fr fi hin j r ⊢ rowD' d L q fT fr fi hin ⟨i + r.val, h⟩ := by
  subst hi
  have e : (finProdFinEquiv (m := 4) (n := 128)).symm ⟨128 * j.val + r.val, h⟩ = (j, r) := by
    rw [Equiv.symm_apply_eq]; exact Fin.ext (show 128 * j.val + r.val = r.val + 128 * j.val by omega)
  unfold rowD'
  rw [e]

theorem rowD'_all (q : PosShare TreeShare) (fT : S8192x128.Idx → F .f32) (fr : S512x128.Idx → F .f32) (fi : S4x128.Idx → BitVec 32)
    (hin : ∀ x, (fi x).toNat < 8192) :
    (bigSep Finset.univ fun t => rowD' (F := F) d L q fT fr fi hin t)
      ⊢ iprop(((rV).view.loc (tV d L) ↦{fullShare} landed fT fi) ∗ (tAllK.view.loc (tV d L) ↦[tAllK.view.set]{q} fT)
          ∗ ((sV).view.loc (tV d L) ↦{fullShare} fi)) := by
  rw [BI.bigSep_univ_equiv (finProdFinEquiv (m := 4) (n := 128)), BI.bigSep_univ_prod]
  have h : ∀ j : Fin 4, (bigSep Finset.univ fun r : Fin 128 => rowD' (F := F) d L q fT fr fi hin (finProdFinEquiv (m := 4) (n := 128) (j, r)))
      ⊢ iprop(((dK j).view.loc (tV d L) ↦[(dK j).view.set]{fullShare} landed fT fi)
          ∗ (tAllK.view.loc (tV d L) ↦[tAllK.view.set]{pieceOf q 4 pos4 j} fT) ∗ ((lK j).view.loc (tV d L) ↦[(lK j).view.set]{fullShare} fi)) := fun j => by
    rw [bigSep_congr (fun r _ => show rowD' (F := F) d L q fT fr fi hin (finProdFinEquiv (m := 4) (n := 128) (j, r)) = rowD d L q fT fr fi hin j r by
      unfold rowD'; rw [Equiv.symm_apply_apply])]
    refine (rowGot_join (tV d L) tAllK (dK j) gathers_S8192x128_S128x128 (lK j) rfl (by decide) (pieceOf q 4 pos4 j) fullShare fT fr fi _).trans ?_
    rw [pointsTo_congr (landed_eq (F := F) fT fr fi hin j)]
  refine (BI.bigSep_mono (fun j _ => h j)).trans ?_
  rw [bigSep_sep', bigSep_sep', dK_all, lK_all]
  rw [← (pointsTo_piecesOf (ℓ := tAllK.view.loc (tV d L)) (tAllK.view.set) fT pos4 q : (_ : sProp 𝕄) = _)]
  exact (Entails.of_eq rfl : (_ : sProp 𝕄) ⊢ _)

/-- A row transfer's amount. -/
abbrev rowN : ℕ := ((dK 0).slice (S128x128.rowRect gathers_S8192x128_S128x128.axis' (0 : Fin 128))
    (S128x128.stride_rowRect gathers_S8192x128_S128x128.axis' (0 : Fin 128))).view.dmaCredit
theorem rowN_eq (j : Fin 4) (r : Fin 128) : ((dK j).slice (S128x128.rowRect gathers_S8192x128_S128x128.axis' r)
    (S128x128.stride_rowRect gathers_S8192x128_S128x128.axis' r)).view.dmaCredit = rowN := rfl
theorem dK_credit (j : Fin 4) : (dK j).view.dmaCredit = 128 * rowN :=
  (show (dK j).view.dmaCredit = (dK 0).view.dmaCredit from rfl).trans (by decide)
theorem rowN_pos : 0 < rowN := by decide

theorem pts_iRowK (f : Buf (Elt F) (iLoc d)) :
    ((iRowK L).view.loc (tV d L) ↦[(iRowK L).view.set]{fullShare} f : sProp 𝕄) = iPts d (wid L) f := by
  rw [set_iRowK]
theorem pts_oRowK (f : Buf (Elt F) (oLoc d)) :
    ((oRowK L).view.loc (tV d L) ↦[(oRowK L).view.set]{fullShare} f : sProp 𝕄) = oPts d (wid L) f := by
  rw [set_oRowK]
theorem pts_hRowK (f : Buf (Elt F) (hLoc d)) :
    ((hRowK L).view.loc (tV d L) ↦[(hRowK L).view.set]{fullShare} f : sProp 𝕄) = hPts d (wid L) f := by
  rw [set_hRowK]
theorem set_sV : (sV).view.set = Finset.univ := View.set_whole _
theorem set_cV : (cV').view.set = Finset.univ := View.set_whole _

/-- The row buffer written out is the tile's block of the gathered rows. -/
theorem out_eq (fT : S8192x128.Idx → F .f32) (fI : S128x128.Idx → BitVec 32) (fO : S16384x128.Idx → F .f32) (hI : ∀ x, (fI x).toNat < 8192) :
    ∀ y ∈ (oRowK L).view.set, (oRowK L).view.writes (Elt F) fO [⟨Rect.whole S512x128, landed fT (rowsOf fI (wid L))⟩] y = gathered fT fI y := by
  intro y hy
  obtain ⟨x, -, rfl⟩ := Finset.mem_map.mp hy
  refine (congrFun (View.read_writes_whole (Val := Elt F) (oRowK L).view fO (landed fT (rowsOf fI (wid L)))) x).trans ?_
  unfold landed gathered
  have hx0 : (x 0).val < 512 := (x 0).isLt
  congr 1
  funext a
  match a with
  | 0 =>
    refine Fin.ext ?_
    show (rowsOf fI (wid L) _).toNat % 8192 = (fI _).toNat % 8192
    unfold rowsOf tokAt
    congr 3
    funext b
    have e0 := emb_oRowK_0 L x
    match b with
    | 0 => exact Fin.ext (by show 4 * (wid L).val + (x 0).val / 128 = ((oRowK L).view.emb x 0).val / 128; rw [e0]; omega)
    | 1 => exact Fin.ext (by show (x 0).val % 128 = ((oRowK L).view.emb x 0).val % 128; rw [e0]; omega)
  | 1 => exact Fin.ext (emb_oRowK_1 L x).symm

set_option maxRecDepth 65536 in
/-- The counters written out are the tile's row of the histograms. -/
theorem hist_eq (fI : S128x128.Idx → BitVec 32) (fH : S32x8192.Idx → BitVec 32) (f : S8192.Idx → BitVec 32)
    (hf : ∀ x, f x = BitVec.ofNat 32 (Hist.count (rowsOf fI (wid L)) 512 x)) :
    ∀ y ∈ (hRowK L).view.set, (hRowK L).view.writes (Elt F) fH [⟨Rect.whole S8192, f⟩] y = histed fI y := by
  intro y hy
  obtain ⟨x, -, rfl⟩ := Finset.mem_map.mp hy
  have e := congrFun (View.read_writes_whole (Val := Elt F) (hRowK L).view fH f) x
  rw [View.read_apply, cast_eq] at e
  rw [e, hf, emb_hRowK]
  rfl

/-! ## The first two parts -/

/-- The last gather's wait, which collects the batch. -/
theorem wp_gatherWaitAll {n : ℕ} {srcw : Memref sig .scVector .hbm S8192x128 .f32} {dstw : Memref sig .scVector .vmem S128x128 .f32}
    {hsrc : srcw.view.WordExact} {hdst : dstw.view.WordExact} {α : Type} {Q : α → sProp 𝕄} {sem : DmaSem sig}
    {k : PUnit → Prog (TpuEff nD τ sig (Elt F) Λ₀ (tV d L).2) α} {N J : ℕ} (hJ : dstw.view.dmaCredit = J) (hN0 : 0 < N)
    {D : Fin n → sProp 𝕄} {u : ℕ} (hu : u + J = N * n) {O : CellTallies nD τ sig (HIx 1)} {W : Waits sig (HIx 1)} :
    iprop(Transfers.Batch EC (tV d L) (.dma sem) (default : HIx 1) N D n u ∗ owes (tV d L) O W ∗ MayWait (tV d L) (.dma sem) (default : HIx 1) O)
      ⊢ iprop((iprop(bigSep Finset.univ D ∗ semVal (tV d L, .dma sem) 0 ∗ owes (tV d L) O (insert (SemLoc.dma sem, default) W))
            -∗ wp frame (wpE (defs₀ (F := F)) 𝒱₀ (tV d L) none) Set.univ (k ⟨⟩) Q)
          -∗ wp frame (wpE (defs₀ (F := F)) 𝒱₀ (tV d L) none) Set.univ (SparseCore.waitIndirectGather sem srcw dstw hsrc hdst >>= k) Q) :=
  Transfers.wp_waitBatchAllO EC 𝒱₀ (tV d L) none (dstw := dstw) (default : HIx 1) hJ hN0 hu

set_option maxHeartbeats 4000000 in
theorem fetch (fT : S8192x128.Idx → F .f32) (fI : S128x128.Idx → BitVec 32) (fO : S16384x128.Idx → F .f32) (hI : ∀ x, (fI x).toNat < 8192)
    (B : sProp 𝕄) (O : CellTallies nD τ sig (HIx 1)) (W : Waits sig (HIx 1)) (hO : ∀ g, O g none = 0) :
    iprop(levAts (K (F := F)).L (K (F := F)).lev
        ∗ (iPts d (wid L) fI ∗ tPts d (wid L) fT ∗ oPts d (wid L) fO)
        ∗ ((∃ f, (sV).view.loc (tV d L) ↦{fullShare} f) ∗ (∃ f, (rV).view.loc (tV d L) ↦{fullShare} f) ∗ (∃ f, (cV').view.loc (tV d L) ↦{fullShare} f))
        ∗ (semVal (tV d L, SemLoc.dma cc1_scratch3.sem) 0 ∗ semVal (tV d L, SemLoc.dma cc1_scoped0.sem) 0 ∗ semVal (tV d L, SemLoc.dma cc1_scoped1.sem) 0)
        ∗ B ∗ owes (tV d L) O W)
      ⊢ wp frame (wpE (defs₀ (F := F)) 𝒱₀ (tV d L) none) Set.univ
          (k1_part1 L iV (Memref.isWhole_whole _) tV' (Memref.isWhole_whole _) oV (Memref.isWhole_whole _) hV (Memref.isWhole_whole _)
              sV (Memref.isWhole_whole _) rV (Memref.isWhole_whole _) cV' (Memref.isWhole_whole _) cc1_scratch3 cc1_scoped0 cc1_scoped1 cc1_scoped2 >>= fun v1 =>
            k1_part2 L iV (Memref.isWhole_whole _) tV' (Memref.isWhole_whole _) oV (Memref.isWhole_whole _) hV (Memref.isWhole_whole _)
              sV (Memref.isWhole_whole _) rV (Memref.isWhole_whole _) cV' (Memref.isWhole_whole _) cc1_scratch3 cc1_scoped0 cc1_scoped1 cc1_scoped2 v1)
          fun w => iprop(⌜w = k1_pay1⌝ ∗ Hist.Zeroed (tV d L) cV' 0 iprop(((sV).view.loc (tV d L) ↦[(sV).view.set]{fullShare} rowsOf fI (wid L))
            ∗ (iPts d (wid L) fI ∗ tPts d (wid L) fT ∗ oPts d (wid L) (gathered fT fI))
            ∗ (∃ f, (rV).view.loc (tV d L) ↦{fullShare} f)
            ∗ (semVal (tV d L, SemLoc.dma cc1_scratch3.sem) 0 ∗ semVal (tV d L, SemLoc.dma cc1_scoped0.sem) 0 ∗ semVal (tV d L, SemLoc.dma cc1_scoped1.sem) 0)
            ∗ B ∗ ∃ W', ⌜∀ p ∈ W', p ∈ W ∨ p.2 = none⌝ ∗ owes (tV d L) O W')) := by
  rw [k1_part1_eq_skeleton, k1_part2_eq_skeleton]
  unfold k1_part1_skel k1_part2_skel
  rw [wp_bind]
  have hin : ∀ x, (rowsOf fI (wid L) x).toNat < 8192 := fun x => hI _
  iintro ⟨#Hlv, ⟨Hi, Ht, Ho⟩, ⟨⟨%fs, Hs⟩, ⟨%fr, Hr⟩, Hc⟩, ⟨HsemG, HsemA, HsemB⟩, HB, HO⟩
  ihave Hmw := (show levAts (K (F := F)).L (K (F := F)).lev ⊢ Transfers.MayWaits (tV d L) (default : HIx 1) O from
    (K (F := F)).mayWaits_none (thr := tV d L) hO) $$ Hlv
  ihave Hi' := (Entails.of_eq (pts_iRowK (F := F) d L _).symm) $$ Hi
  ihave Ho' := (Entails.of_eq (pts_oRowK (F := F) d L _).symm) $$ Ho
  sl_exec
  ihave Hs2 := (Entails.of_eq (show ((sV).view.loc (tV d L) ↦{fullShare} View.write (Elt F) (sV).view fs (fetch.sl.dma0 (F := F) L fI) Finset.univ : sProp 𝕄)
      = bigSep Finset.univ fun j : Fin 4 => (lK j).view.loc (tV d L) ↦[(lK j).view.set]{fullShare} rowsOf fI (wid L) by
    rw [View.write_whole_univ, show fetch.sl.dma0 (F := F) L fI = rowsOf fI (wid L) from funext fun x => read_iRowK L fI x, lK_all])) $$ Hs
  ihave Hr2 := (Entails.of_eq (dK_all (F := F) d L fr)) $$ Hr
  ihave Hts := (pointsTo_split_subset (q := tq (wid L)) (f := fT) (S := Finset.univ) (Finset.subset_univ (tAllK).view.set)).1 $$ Ht
  icases Hts with ⟨Hts, Htr⟩
  ihave Hts2 := (Entails.of_eq (pointsTo_piecesOf (ℓ := tAllK.view.loc (tV d L)) (tAllK.view.set) fT pos4 (tq (wid L)))) $$ Hts
  ihave Hs3 := (Entails.of_eq (bigSep_fin4 (F := F) _)) $$ Hs2
  ihave Hr3 := (Entails.of_eq (bigSep_fin4 (F := F) _)) $$ Hr2
  ihave Ht3 := (Entails.of_eq (bigSep_fin4 (F := F) _)) $$ Hts2
  icases Hs3 with ⟨Hs0, Hs1, Hs2, Hs3⟩
  icases Hr3 with ⟨Hr0, Hr1, Hr2, Hr3⟩
  icases Ht3 with ⟨Ht0, Ht1, Ht2, Ht3⟩
  imod (Transfers.batch_alloc' EC (tV d L) (default : HIx 1) rowN (rowD' d L (tq (wid L)) fT fr (rowsOf fI (wid L)) hin) (E := Set.univ)) $$ HsemG with HG
  iapply (wp_gatherBatch EC 𝒱₀ (tV d L) none (src := tAllK) (dst := dK 0) (offs := lK 0) (hg := gathers_S8192x128_S128x128) (default : HIx 1) rowN 0 (by decide)
    (rowN_eq 0) (by decide) (lK_lt (F := F) hin 0) (fun r => rowD'_at d L _ _ _ _ hin 0 r 0 rfl _)) $$ [Ht0 Hr0 Hs0 HG]
  · isplitl [Ht0]; · iexact Ht0
    isplitl [Hr0]; · iexact Hr0
    isplitl [Hs0]; · iexact Hs0
    iexact HG
  iintro HG
  iapply (wp_gatherBatch EC 𝒱₀ (tV d L) none (src := tAllK) (dst := dK 1) (offs := lK 1) (hg := gathers_S8192x128_S128x128) (default : HIx 1) rowN 128 (by decide)
    (rowN_eq 1) (by decide) (lK_lt (F := F) hin 1) (fun r => rowD'_at d L _ _ _ _ hin 1 r 128 rfl _)) $$ [Ht1 Hr1 Hs1 HG]
  · isplitl [Ht1]; · iexact Ht1
    isplitl [Hr1]; · iexact Hr1
    isplitl [Hs1]; · iexact Hs1
    iexact HG
  iintro HG
  iapply (wp_gatherBatch EC 𝒱₀ (tV d L) none (src := tAllK) (dst := dK 2) (offs := lK 2) (hg := gathers_S8192x128_S128x128) (default : HIx 1) rowN 256 (by decide)
    (rowN_eq 2) (by decide) (lK_lt (F := F) hin 2) (fun r => rowD'_at d L _ _ _ _ hin 2 r 256 rfl _)) $$ [Ht2 Hr2 Hs2 HG]
  · isplitl [Ht2]; · iexact Ht2
    isplitl [Hr2]; · iexact Hr2
    isplitl [Hs2]; · iexact Hs2
    iexact HG
  iintro HG
  sl_step
  iapply (wp_gatherBatch EC 𝒱₀ (tV d L) none (src := tAllK) (dst := dK 3) (offs := lK 3) (hg := gathers_S8192x128_S128x128) (default : HIx 1) rowN 384 (by decide)
    (rowN_eq 3) (by decide) (lK_lt (F := F) hin 3) (fun r => rowD'_at d L _ _ _ _ hin 3 r 384 rfl _)) $$ [Ht3 Hr3 Hs3 HG]
  · isplitl [Ht3]; · iexact Ht3
    isplitl [Hr3]; · iexact Hr3
    isplitl [Hs3]; · iexact Hs3
    iexact HG
  iintro HG
  ihave HG' := (show Transfers.Batch EC (tV d L) (SemLoc.dma cc1_scratch3.sem) (default : HIx 1) rowN (rowD' d L (tq (wid L)) fT fr (rowsOf fI (wid L)) hin)
      (384 + S128x128.size gathers_S8192x128_S128x128.axis') 0 ⊢ Transfers.Batch EC (tV d L) (SemLoc.dma cc1_scratch3.sem) (default : HIx 1) rowN (rowD' d L (tq (wid L)) fT fr (rowsOf fI (wid L)) hin) 512 (0 * (128 * rowN)) from
    Entails.of_eq (by rw [Nat.zero_mul]; rfl)) $$ HG
  iapply (Transfers.wp_waitBatchMulO EC 𝒱₀ (tV d L) none (dstw := dK 0) (default : HIx 1) 128 (dK_credit 0) (D := (rowD' d L (tq (wid L)) fT fr (rowsOf fI (wid L)) hin)) (j := 512) (u := 0 * (128 * rowN)) (by omega)) $$ [HG' HO]
  · isplitl [HG']; · iexact HG'
    isplitl [HO]; · iexact HO
    iapply (Transfers.MayWaits.elim (SemLoc.dma cc1_scratch3.sem)) $$ Hmw
  iintro ⟨HG', HO⟩
  ihave HG := (Entails.of_eq (show Transfers.Batch EC (tV d L) (SemLoc.dma cc1_scratch3.sem) (default : HIx 1) rowN (rowD' d L (tq (wid L)) fT fr (rowsOf fI (wid L)) hin) 512 (0 * (128 * rowN) + 128 * rowN)
    = Transfers.Batch EC (tV d L) (SemLoc.dma cc1_scratch3.sem) (default : HIx 1) rowN (rowD' d L (tq (wid L)) fT fr (rowsOf fI (wid L)) hin) 512 (1 * (128 * rowN)) by congr 1)) $$ HG'
  iapply (Transfers.wp_waitBatchMulO EC 𝒱₀ (tV d L) none (dstw := dK 1) (default : HIx 1) 128 (dK_credit 1) (D := (rowD' d L (tq (wid L)) fT fr (rowsOf fI (wid L)) hin)) (j := 512) (u := 1 * (128 * rowN)) (by omega)) $$ [HG HO]
  · isplitl [HG]; · iexact HG
    isplitl [HO]; · iexact HO
    iapply (Transfers.MayWaits.elim (SemLoc.dma cc1_scratch3.sem)) $$ Hmw
  iintro ⟨HG', HO⟩
  ihave HG := (Entails.of_eq (show Transfers.Batch EC (tV d L) (SemLoc.dma cc1_scratch3.sem) (default : HIx 1) rowN (rowD' d L (tq (wid L)) fT fr (rowsOf fI (wid L)) hin) 512 (1 * (128 * rowN) + 128 * rowN)
    = Transfers.Batch EC (tV d L) (SemLoc.dma cc1_scratch3.sem) (default : HIx 1) rowN (rowD' d L (tq (wid L)) fT fr (rowsOf fI (wid L)) hin) 512 (2 * (128 * rowN)) by congr 1)) $$ HG'
  iapply (Transfers.wp_waitBatchMulO EC 𝒱₀ (tV d L) none (dstw := dK 2) (default : HIx 1) 128 (dK_credit 2) (D := (rowD' d L (tq (wid L)) fT fr (rowsOf fI (wid L)) hin)) (j := 512) (u := 2 * (128 * rowN)) (by omega)) $$ [HG HO]
  · isplitl [HG]; · iexact HG
    isplitl [HO]; · iexact HO
    iapply (Transfers.MayWaits.elim (SemLoc.dma cc1_scratch3.sem)) $$ Hmw
  iintro ⟨HG', HO⟩
  ihave HG := (Entails.of_eq (show Transfers.Batch EC (tV d L) (SemLoc.dma cc1_scratch3.sem) (default : HIx 1) rowN (rowD' d L (tq (wid L)) fT fr (rowsOf fI (wid L)) hin) 512 (2 * (128 * rowN) + 128 * rowN)
    = Transfers.Batch EC (tV d L) (SemLoc.dma cc1_scratch3.sem) (default : HIx 1) rowN (rowD' d L (tq (wid L)) fT fr (rowsOf fI (wid L)) hin) 512 (3 * (128 * rowN)) by congr 1)) $$ HG'
  iapply (wp_gatherWaitAll d L (dstw := dK 3) (dK_credit 3) rowN_pos (D := (rowD' d L (tq (wid L)) fT fr (rowsOf fI (wid L)) hin)) (u := 3 * (128 * rowN)) (by omega)) $$ [HG HO]
  · isplitl [HG]; · iexact HG
    isplitl [HO]; · iexact HO
    iapply (Transfers.MayWaits.elim (SemLoc.dma cc1_scratch3.sem)) $$ Hmw
  iintro ⟨HD, HsemG, HO⟩
  ihave HD' := (rowD'_all (F := F) d L _ _ _ _ hin) $$ HD
  icases HD' with ⟨Hr, Hts, Hs⟩
  ihave Ht := (pointsTo_split_subset (ℓ := tLoc d) (q := tq (wid L)) (f := fT) (S := Finset.univ) (Finset.subset_univ (tAllK).view.set)).2 $$ [Hts Htr]; · isplitl [Hts] <;> iassumption
  sl_exec
  sl_step
  isplitr; · ipureintro; rfl
  unfold Hist.Zeroed
  isplitl [Hc]
  · icases Hc with ⟨%fc, Hc⟩
    iexists fc
    isplitl [Hc]; · iapply (Entails.of_eq (show ((cV').view.loc (tV d L) ↦{fullShare} fc : sProp 𝕄) = (cV').view.loc (tV d L) ↦[(cV').view.set]{fullShare} fc by rw [set_cV])); iexact Hc
    ipureintro; exact fun x hx => absurd hx (Nat.not_lt_zero _)
  isplitl [Hs]
  · iapply (Entails.of_eq (show ((sV).view.loc (tV d L) ↦{fullShare} rowsOf fI (wid L) : sProp 𝕄)
      = (sV).view.loc (tV d L) ↦[(sV).view.set]{fullShare} rowsOf fI (wid L) by rw [set_sV])); iexact Hs
  isplitl [Hi' Ht Ho']
  · isplitl [Hi']; · iapply (Entails.of_eq (pts_iRowK (F := F) d L _)); iexact Hi'
    isplitl [Ht]; · iexact Ht
    iapply (Entails.of_eq (pts_oRowK (F := F) d L _))
    iapply (Entails.of_eq (pointsTo_congr (ℓ := (oRowK L).view.loc (tV d L)) (out_eq (F := F) L fT fI fO hI))); iexact Ho'
  isplitl [Hr]; · iexists _; iexact Hr
  isplitl [HsemG HsemA HsemB]
  · isplitl [HsemG]; · iexact HsemG
    isplitl [HsemA]; · iexact HsemA
    iexact HsemB
  isplitl [HB]; · iexact HB
  iexists _; isplitr
  swap; · iexact HO
  ipureintro; intro p hp
  iterate 6 (rcases Finset.mem_insert.mp hp with hp | hp; · exact .inr (hp ▸ rfl))
  exact .inl hp

/-! ## The tile -/

abbrev cell (d : Dev nD) (c : Fin τ.nSC) (i : Fin τ.nSub) (s : DmaSem sig) : GSem nD τ sig := (V d c i, .dma s)

theorem ownSems0_V :
    (ownSems0 (tV d L) : sProp 𝕄)
      = iprop(semVal (tV d L, SemLoc.dma cc1_scratch3.sem) 0 ∗ semVal (tV d L, SemLoc.dma cc1_scoped0.sem) 0 ∗ semVal (tV d L, SemLoc.dma cc1_scoped1.sem) 0
          ∗ semVal (tV d L, SemLoc.dma cc1_scoped2.sem) 0
          ∗ bigSep (((((ownCells (tV d L)).erase (tV d L, SemLoc.dma cc1_scratch3.sem)).erase (tV d L, SemLoc.dma cc1_scoped0.sem)).erase
              (tV d L, SemLoc.dma cc1_scoped1.sem)).erase (tV d L, SemLoc.dma cc1_scoped2.sem)) fun g => semVal g 0) := by
  have hm : ∀ s : DmaSem sig, (SemLoc.dma s : SemLoc sig).isScoped .scVector = true → ((tV d L, SemLoc.dma s) : GSem nD τ sig) ∈ ownCells (tV d L) :=
    fun s h => mem_ownCells.mpr ⟨rfl, h⟩
  have hne : ∀ s s' : DmaSem sig, (SemLoc.dma s : SemLoc sig) ≠ SemLoc.dma s' → ((tV d L, SemLoc.dma s) : GSem nD τ sig) ≠ (tV d L, SemLoc.dma s') :=
    fun s s' h e => h (Prod.mk.inj e).2
  unfold SparseCore.Cfg.ownSems0
  rw [SparseCore.bigSep_erase' (hm cc1_scratch3.sem (by decide)),
    SparseCore.bigSep_erase' (Finset.mem_erase.mpr ⟨hne cc1_scoped0.sem cc1_scratch3.sem (by decide), hm cc1_scoped0.sem (by decide)⟩),
    SparseCore.bigSep_erase' (Finset.mem_erase.mpr ⟨hne cc1_scoped1.sem cc1_scoped0.sem (by decide),
      Finset.mem_erase.mpr ⟨hne cc1_scoped1.sem cc1_scratch3.sem (by decide), hm cc1_scoped1.sem (by decide)⟩⟩),
    SparseCore.bigSep_erase' (Finset.mem_erase.mpr ⟨hne cc1_scoped2.sem cc1_scoped1.sem (by decide),
      Finset.mem_erase.mpr ⟨hne cc1_scoped2.sem cc1_scoped0.sem (by decide),
        Finset.mem_erase.mpr ⟨hne cc1_scoped2.sem cc1_scratch3.sem (by decide), hm cc1_scoped2.sem (by decide)⟩⟩⟩)]

theorem ownBufs_V :
    (ownBufs (tV d L) : sProp 𝕄)
      = iprop((∃ f, (tV d L).loc cc1_scratch0 ↦{fullShare} f) ∗ (∃ f, (tV d L).loc cc1_scratch1 ↦{fullShare} f) ∗ (∃ f, (tV d L).loc cc1_scratch2 ↦{fullShare} f)
          ∗ bigSep ((((ownRefs (τ := τ) (sig := sig) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have hm0 : (Proc.scVector (cV L) (jV L)).devRef cc1_scratch0 ∈ ownRefs (τ := τ) (sig := sig) (.scVector (cV L) (jV L)) := SparseCore.Cfg.mem_ownRefs_of_owner rfl
  have hm1 : (Proc.scVector (cV L) (jV L)).devRef cc1_scratch1 ∈ ownRefs (τ := τ) (sig := sig) (.scVector (cV L) (jV L)) := SparseCore.Cfg.mem_ownRefs_of_owner rfl
  have hm2 : (Proc.scVector (cV L) (jV L)).devRef cc1_scratch2 ∈ ownRefs (τ := τ) (sig := sig) (.scVector (cV L) (jV L)) := SparseCore.Cfg.mem_ownRefs_of_owner rfl
  have hne : ∀ r r' : Ref sig .scVector, r ≠ r' → (Proc.scVector (cV L) (jV L)).devRef r ≠ ((Proc.scVector (cV L) (jV L)).devRef r' : DevRef τ sig) :=
    fun r r' h e => h (Proc.devRef_injective _ e)
  unfold SparseCore.Cfg.ownBufs
  refine (SparseCore.bigSep_erase' hm0).trans ?_
  rw [SparseCore.bigSep_erase' (Finset.mem_erase.mpr ⟨hne cc1_scratch1 cc1_scratch0 (by decide), hm1⟩),
    SparseCore.bigSep_erase' (Finset.mem_erase.mpr ⟨hne cc1_scratch2 cc1_scratch1 (by decide),
      Finset.mem_erase.mpr ⟨hne cc1_scratch2 cc1_scratch0 (by decide), hm2⟩⟩)]

/-- The tile's own buffers beside the three the task uses. -/
def restBufs : sProp 𝕄 := bigSep ((((ownRefs (τ := τ) (sig := sig) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)

/-- The tile's own semaphores beside the four the task uses. -/
def restSems : sProp 𝕄 := bigSep (((((ownCells (tV d L)).erase (tV d L, SemLoc.dma cc1_scratch3.sem)).erase (tV d L, SemLoc.dma cc1_scoped0.sem)).erase
              (tV d L, SemLoc.dma cc1_scoped1.sem)).erase (tV d L, SemLoc.dma cc1_scoped2.sem)) fun g => semVal g 0

/-- What the fetch and the histogram leave alone. -/
def tileRest (fH : S32x8192.Idx → BitVec 32) : sProp 𝕄 :=
  iprop(levAts (K (F := F)).L (K (F := F)).lev ∗ hPts d (wid L) fH ∗ semVal (tV d L, SemLoc.dma cc1_scoped2.sem) 0 ∗ restBufs (F := F) d L ∗ restSems (F := F) d L)

set_option maxHeartbeats 4000000 in
/-- The counters written out as row `wid L` of the partial histograms. -/
theorem tile_out (fT : S8192x128.Idx → F .f32) (fI : S128x128.Idx → BitVec 32) (fH : S32x8192.Idx → BitVec 32)
    (O : CellTallies nD τ sig (HIx 1)) (W : Waits sig (HIx 1)) (hO : ∀ g, O g none = 0) :
    Hist.Counted (tV d L) cV' sV (rowsOf fI (wid L)) 512
      iprop((iPts d (wid L) fI ∗ tPts d (wid L) fT ∗ oPts d (wid L) (gathered fT fI)) ∗ (∃ f, (rV).view.loc (tV d L) ↦{fullShare} f)
      ∗ (semVal (tV d L, SemLoc.dma cc1_scratch3.sem) 0 ∗ semVal (tV d L, SemLoc.dma cc1_scoped0.sem) 0 ∗ semVal (tV d L, SemLoc.dma cc1_scoped1.sem) 0)
      ∗ tileRest d L fH ∗ ∃ W', ⌜∀ p ∈ W', p ∈ W ∨ p.2 = none⌝ ∗ owes (tV d L) O W')
      ⊢ wp frame (wpE (defs₀ (F := F)) 𝒱₀ (tV d L) none) Set.univ (histOut d L hV cV' (Memref.isWhole_whole _) cc1_scoped2)
          fun _ => iprop((iPts d (wid L) fI ∗ tPts d (wid L) fT ∗ oPts d (wid L) (gathered fT fI) ∗ hPts d (wid L) (histed fI))
            ∗ ((∃ f, (sV).view.loc (tV d L) ↦{fullShare} f) ∗ (∃ f, (rV).view.loc (tV d L) ↦{fullShare} f) ∗ (∃ f, (cV').view.loc (tV d L) ↦{fullShare} f)
              ∗ restBufs (F := F) d L)
            ∗ (semVal (tV d L, SemLoc.dma cc1_scratch3.sem) 0 ∗ semVal (tV d L, SemLoc.dma cc1_scoped0.sem) 0 ∗ semVal (tV d L, SemLoc.dma cc1_scoped1.sem) 0
              ∗ semVal (tV d L, SemLoc.dma cc1_scoped2.sem) 0 ∗ restSems (F := F) d L)
            ∗ ∃ W', ⌜∀ p ∈ W', p ∈ W ∨ p.2 = none⌝ ∗ owes (tV d L) O W') := by
  unfold Hist.Counted tileRest histOut
  iintro ⟨⟨%f, Hc, %hf⟩, Hs, ⟨Hi, Ht, Ho⟩, Hr, ⟨HsemG, HsemA, HsemB⟩, ⟨#Hlv, Hh, HsemC, Hbufs, Hsems⟩, %W', %hW', HO⟩
  ihave Hmw := (show levAts (K (F := F)).L (K (F := F)).lev ⊢ Transfers.MayWaits (tV d L) (default : HIx 1) O from
    (K (F := F)).mayWaits_none (thr := tV d L) hO) $$ Hlv
  ihave Hh' := (Entails.of_eq (pts_hRowK (F := F) d L _).symm) $$ Hh
  ihave Hc' := (Entails.of_eq (show ((cV').view.loc (tV d L) ↦[(cV').view.set]{fullShare} f : sProp 𝕄) = (cV').view.loc (tV d L) ↦{fullShare} f by rw [set_cV])) $$ Hc
  ihave Hs' := (Entails.of_eq (show ((sV).view.loc (tV d L) ↦[(sV).view.set]{fullShare} rowsOf fI (wid L) : sProp 𝕄) = (sV).view.loc (tV d L) ↦{fullShare} rowsOf fI (wid L) by rw [set_sV])) $$ Hs
  sl_exec
  sl_step
  isplitl [Hi Ht Ho Hh']
  · isplitl [Hi]; · iexact Hi
    isplitl [Ht]; · iexact Ht
    isplitl [Ho]; · iexact Ho
    iapply (Entails.of_eq (pts_hRowK (F := F) d L _))
    iapply (Entails.of_eq (pointsTo_congr (ℓ := (hRowK L).view.loc (tV d L)) (hist_eq (F := F) L fI fH f hf))); iexact Hh'
  isplitl [Hs' Hr Hc' Hbufs]
  · isplitl [Hs']; · iexists _; iexact Hs'
    isplitl [Hr]; · iexact Hr
    isplitl [Hc']; · iexists _; iexact Hc'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  exact hW' p hp

set_option maxHeartbeats 4000000 in
theorem tile_body (hF : (K (F := F)).Facts) (fT : S8192x128.Idx → F .f32) (fI : S128x128.Idx → BitVec 32) (fO : S16384x128.Idx → F .f32)
    (fH : S32x8192.Idx → BitVec 32) (hI : ∀ x, (fI x).toNat < 8192) (O : CellTallies nD τ sig (HIx 1)) (W : Waits sig (HIx 1)) (hO : ∀ g, O g none = 0) :
    iprop(levAts (K (F := F)).L (K (F := F)).lev ∗ emp
        ∗ (iPts d (wid L) fI ∗ tPts d (wid L) fT ∗ oPts d (wid L) fO ∗ hPts d (wid L) fH)
        ∗ scopedBufs (tV d L) ∗ scopedSems0 (tV d L) ∗ owes (tV d L) O W)
      ⊢ wp frame (wpE (defs₀ (F := F)) 𝒱₀ (tV d L) none) Set.univ
          (cc1__sc_gather_hist L iV (Memref.isWhole_whole _) tV' (Memref.isWhole_whole _) oV (Memref.isWhole_whole _) hV (Memref.isWhole_whole _)
              sV (Memref.isWhole_whole _) rV (Memref.isWhole_whole _) cV' (Memref.isWhole_whole _) cc1_scratch3 cc1_scoped0 cc1_scoped1 cc1_scoped2)
          fun _ => iprop((iPts d (wid L) fI ∗ tPts d (wid L) fT ∗ oPts d (wid L) (gathered fT fI) ∗ hPts d (wid L) (histed fI))
            ∗ scopedBufs (tV d L) ∗ scopedSems0 (tV d L)
            ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L), ownSems0_V, ownBufs_V]
  have hw := wp_hist (F := F) d L iV (Memref.isWhole_whole _) tV' (Memref.isWhole_whole _) oV (Memref.isWhole_whole _) hV (Memref.isWhole_whole _)
    sV (Memref.isWhole_whole _) rV (Memref.isWhole_whole _) cV' (Memref.isWhole_whole _) cc1_scratch3 cc1_scoped0 cc1_scoped1 cc1_scoped2
    (R := iprop((iPts d (wid L) fI ∗ tPts d (wid L) fT ∗ oPts d (wid L) (gathered fT fI)) ∗ (∃ f, (rV).view.loc (tV d L) ↦{fullShare} f)
      ∗ (semVal (tV d L, SemLoc.dma cc1_scratch3.sem) 0 ∗ semVal (tV d L, SemLoc.dma cc1_scoped0.sem) 0 ∗ semVal (tV d L, SemLoc.dma cc1_scoped1.sem) 0)
      ∗ tileRest d L fH ∗ ∃ W', ⌜∀ p ∈ W', p ∈ W ∨ p.2 = none⌝ ∗ owes (tV d L) O W'))
    (rowsOf fI (wid L)) (fun x => hI _) (fetch d L fT fI fO hI (tileRest d L fH) O W hO)
    (tile_out d L fT fI fH O W hO)
  refine (?_ : (_ : sProp 𝕄) ⊢ _).trans (hw.trans (wp_mono frame _ _ fun _ => (?_ : (_ : sProp 𝕄) ⊢ _)))
  · unfold tileRest
    iintro ⟨#Hlv, -, ⟨Hi, Ht, Ho, Hh⟩, ⟨Hs, Hr, Hc, Hbufs⟩, ⟨HsemG, HsemA, HsemB, HsemC, Hsems⟩, HO⟩
    isplitr; · iexact Hlv
    isplitl [Hi Ht Ho]
    · isplitl [Hi]; · iexact Hi
      isplitl [Ht] <;> iassumption
    isplitl [Hs Hr Hc]
    · isplitl [Hs]; · iexact Hs
      isplitl [Hr] <;> iassumption
    isplitl [HsemG HsemA HsemB]
    · isplitl [HsemG]; · iexact HsemG
      isplitl [HsemA] <;> iassumption
    isplitr [HO]
    · isplitr; · iexact Hlv
      isplitl [Hh]; · iexact Hh
      isplitl [HsemC]; · iexact HsemC
      isplitl [Hbufs]; · unfold restBufs; iexact Hbufs
      unfold restSems; iexact Hsems
    iexact HO
  · unfold restBufs restSems
    iintro ⟨Hpts, ⟨Hs, Hr, Hc, Hbufs⟩, ⟨HsemG, HsemA, HsemB, HsemC, Hsems⟩, HO⟩
    isplitl [Hpts]; · iexact Hpts
    isplitl [Hs Hr Hc Hbufs]
    · isplitl [Hs]; · iexact Hs
      isplitl [Hr]; · iexact Hr
      isplitl [Hc] <;> iassumption
    isplitl [HsemG HsemA HsemB HsemC Hsems]
    · isplitl [HsemG]; · iexact HsemG
      isplitl [HsemA]; · iexact HsemA
      isplitl [HsemB]; · iexact HsemB
      isplitl [HsemC]; · iexact HsemC
      iexact Hsems
    iexact HO

end Cert.Proof
-- ==== Proof.Call.lean ====
/-
  The SparseCore call as the launch theorem takes it: what the two SparseCores and their tiles are handed and give back
  (`P`, at the concrete contents of the four arrays), a tile's obligation from `tile_body`, and the four arrays dealt over
  the thirty-two tiles and gathered again.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "iV" => (Memref.whole Cert.KernelIdeal.main_v10_scv : Memref Cert.KernelIdeal.sig Kind.scVector Space.hbm Cert.KernelIdeal.S128x128 EltTy.i32)
local notation "tV'" => (Memref.whole Cert.KernelIdeal.main_v11_scv : Memref Cert.KernelIdeal.sig Kind.scVector Space.hbm Cert.KernelIdeal.S8192x128 EltTy.f32)
local notation "oV" => (Memref.whole Cert.KernelIdeal.main_v12_0_scv : Memref Cert.KernelIdeal.sig Kind.scVector Space.hbm Cert.KernelIdeal.S16384x128 EltTy.f32)
local notation "hV" => (Memref.whole Cert.KernelIdeal.main_v12_1_scv : Memref Cert.KernelIdeal.sig Kind.scVector Space.hbm Cert.KernelIdeal.S32x8192 EltTy.i32)
local notation "sV" => (Memref.whole Cert.KernelIdeal.cc1_scratch0 : Memref Cert.KernelIdeal.sig Kind.scVector Space.vmem Cert.KernelIdeal.S4x128 EltTy.i32)
local notation "rV" => (Memref.whole Cert.KernelIdeal.cc1_scratch1 : Memref Cert.KernelIdeal.sig Kind.scVector Space.vmem Cert.KernelIdeal.S512x128 EltTy.f32)
local notation "cV'" => (Memref.whole Cert.KernelIdeal.cc1_scratch2 : Memref Cert.KernelIdeal.sig Kind.scVector Space.vmem Cert.KernelIdeal.S8192 EltTy.i32)

/-! ## The tiles, numbered -/

def coordsV (c : Fin (grid1.bound 0)) (s : Fin (grid1.bound 1)) : grid1.Coords :=
  fun | 0 => c | 1 => s | ⟨_ + 2, h⟩ => absurd h (Nat.not_lt.2 (Nat.le_add_left _ _))

/-- The tile that subcore `s` of SparseCore `c` runs. -/
def wOf (c : Fin 2) (s : Fin 16) : Fin 32 := wid (coordsV c s)

/-- The pairs of a SparseCore and a subcore are the thirty-two tiles. -/
def tiles : Fin 2 × Fin 16 ≃ Fin 32 where
  toFun p := wOf p.1 p.2
  invFun w := (⟨w.val % 2, Nat.mod_lt _ (by decide)⟩, ⟨w.val / 2, by have := w.isLt; omega⟩)
  left_inv := by
    rintro ⟨c, s⟩
    have hc := c.isLt
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

/-- What lies over the tiles, dealt to the SparseCores' subcores. -/
theorem deal (Φ : Fin 32 → sProp 𝕄) :
    (bigSep Finset.univ fun c : Fin 2 => bigSep Finset.univ fun s : Fin 16 => Φ (wOf c s)) = bigSep Finset.univ Φ := by
  rw [bigSep_univ_equiv tiles Φ, bigSep_univ_prod]
  rfl

/-! ## What the call takes and leaves -/

/-- A tile's blocks before its task, -/
abbrev tileIn (d : Dev nD) (fT : S8192x128.Idx → F .f32) (fI : S128x128.Idx → BitVec 32) (fO : S16384x128.Idx → F .f32)
    (fH : S32x8192.Idx → BitVec 32) (w : Fin 32) : sProp 𝕄 :=
  iprop(iPts d w fI ∗ tPts d w fT ∗ oPts d w fO ∗ hPts d w fH)

/-- and the four arrays whole. -/
abbrev callIn (d : Dev nD) (fT : S8192x128.Idx → F .f32) (fI : S128x128.Idx → BitVec 32) (fO : S16384x128.Idx → F .f32)
    (fH : S32x8192.Idx → BitVec 32) : sProp 𝕄 :=
  iprop((iLoc d ↦{fullShare} fI) ∗ (tLoc d ↦{fullShare} fT) ∗ (oLoc d ↦{fullShare} fO) ∗ hLoc d ↦{fullShare} fH)

theorem callIn_eq (d : Dev nD) (fT : S8192x128.Idx → F .f32) (fI : S128x128.Idx → BitVec 32) (fO : S16384x128.Idx → F .f32)
    (fH : S32x8192.Idx → BitVec 32) :
    (callIn d fT fI fO fH : sProp 𝕄) = bigSep Finset.univ fun w => tileIn d fT fI fO fH w := by
  unfold callIn tileIn
  rw [iPts_all, tPts_all, oPts_all, hPts_all, bigSep_sep', bigSep_sep', bigSep_sep']

variable (fT : Dev nD → S8192x128.Idx → F .f32) (fI : Dev nD → S128x128.Idx → BitVec 32) (fO : Dev nD → S16384x128.Idx → F .f32)
  (fH : Dev nD → S32x8192.Idx → BitVec 32)

abbrev goAt (d : Dev nD) (c : Fin 2) (s : Fin 16) : sProp 𝕄 := tileIn d (fT d) (fI d) (fO d) (fH d) (wOf c s)
abbrev tdAt (d : Dev nD) (c : Fin 2) (s : Fin 16) : sProp 𝕄 := tileIn d (fT d) (fI d) (gathered (fT d) (fI d)) (histed (fI d)) (wOf c s)

/-- A SparseCore takes its sixteen tiles' blocks and brings them back, the gathered rows and the histograms written. -/
def P : (K (F := F)).Pay (nD := nD) (Val := Elt F) (Name := ℕ) (U := UU) where
  st := fun q d c => match q with | 0 => bigSep Finset.univ fun s : Fin 16 => goAt fT fI fO fH d (Fin.cast nCore_zero c) s
  dn := fun q d c => match q with | 0 => bigSep Finset.univ fun s : Fin 16 => tdAt fT fI d (Fin.cast nCore_zero c) s
  go := fun q d c i => match q with | 0 => goAt fT fI fO fH d (Fin.cast nCore_zero c) (Fin.cast nSub_zero i)
  td := fun q d c i => match q with | 0 => tdAt fT fI d (Fin.cast nCore_zero c) (Fin.cast nSub_zero i)
  x := fun _ _ => iprop(emp)

instance P_storable : (P (F := F) fT fI fO fH).IsStorable where
  st q d c := match q with
    | 0 => (inferInstance : BI.Storable (upEmb : UEmb _ 𝕄) (bigSep Finset.univ fun s : Fin 16 => goAt fT fI fO fH d (Fin.cast nCore_zero c) s))
  dn q d c := match q with
    | 0 => (inferInstance : BI.Storable (upEmb : UEmb _ 𝕄) (bigSep Finset.univ fun s : Fin 16 => tdAt fT fI d (Fin.cast nCore_zero c) s))
  go q d c i := match q with
    | 0 => (inferInstance : BI.Storable (upEmb : UEmb _ 𝕄) (goAt fT fI fO fH d (Fin.cast nCore_zero c) (Fin.cast nSub_zero i)))
  td q d c i := match q with
    | 0 => (inferInstance : BI.Storable (upEmb : UEmb _ 𝕄) (tdAt fT fI d (Fin.cast nCore_zero c) (Fin.cast nSub_zero i)))

/-! ## A tile's obligation -/

theorem defs₀_vector (c : Fin τ.nSC) (s : Fin τ.nSub) :
    defs₀ (F := F) (.scVector c s) 1 ()
      = SparseCore.onTile hcore1 hsub1 (fun c s => cc1__sc_gather_hist (coordsV c s)
          iV (Memref.isWhole_whole _) tV' (Memref.isWhole_whole _) oV (Memref.isWhole_whole _) hV (Memref.isWhole_whole _)
          sV (Memref.isWhole_whole _) rV (Memref.isWhole_whole _) cV' (Memref.isWhole_whole _) cc1_scratch3 cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl_mono {thr : Thread nD τ} {p : Prog (TpuEff nD τ sig (Elt F) Λ₀ thr.2) PUnit} {X A B C : sProp 𝕄} {O : CellTallies nD τ sig (HIx 1)}
    {W : Waits sig (HIx 1)} {q : Fin 1}
    (h : X ⊢ wp frame (wpE (defs₀ (F := F)) 𝒱₀ thr none) Set.univ p fun _ => iprop(A ∗ B ∗ C ∗ ∃ W', ⌜∀ p ∈ W', p ∈ W ∨ p.2 = none⌝ ∗ owes thr O W')) :
    X ⊢ wp frame (wpE (defs₀ (F := F)) 𝒱₀ thr none) Set.univ p fun _ => iprop(A ∗ B ∗ C ∗ ∃ W', ⌜∀ p ∈ W', p ∈ W ∨ p.2 = none ∨ p.2 = some q⌝ ∗ owes thr O W') :=
  h.trans (wp_mono frame _ _ fun _ => obl_post)

/-- The launch's vector-subcore body at a tile is the tile's program. -/
theorem defs₀_tile (c : Fin 2) (s : Fin 16) :
    defs₀ (F := F) (.scVector (cV (coordsV c s)) (jV (coordsV c s))) 1 ()
      = cc1__sc_gather_hist (coordsV c s)
          iV (Memref.isWhole_whole _) tV' (Memref.isWhole_whole _) oV (Memref.isWhole_whole _) hV (Memref.isWhole_whole _)
          sV (Memref.isWhole_whole _) rV (Memref.isWhole_whole _) cV' (Memref.isWhole_whole _) cc1_scratch3 cc1_scoped0 cc1_scoped1 cc1_scoped2 := by
  rw [defs₀_vector]
  have hci : (cV (coordsV c s)).val < grid1.bound 0 ∧ (jV (coordsV c s)).val < grid1.bound 1 := ⟨c.isLt, s.isLt⟩
  unfold SparseCore.onTile
  exact dif_pos hci

set_option maxRecDepth 16384 in
/-- The launch's tile body at subcore `s` of SparseCore `c` is `tile_body` at its tile. -/
theorem tile_at (hF : (K (F := F)).Facts) (d : Dev nD) (c : Fin 2) (s : Fin 16)
    (fT : S8192x128.Idx → F .f32) (fI : S128x128.Idx → BitVec 32) (fO : S16384x128.Idx → F .f32)
    (fH : S32x8192.Idx → BitVec 32) (hI : ∀ x, (fI x).toNat < 8192) (O : CellTallies nD τ sig (HIx 1)) (W : Waits sig (HIx 1)) (hO : ∀ g, O g none = 0) :
    iprop(levAts (K (F := F)).L (K (F := F)).lev ∗ emp ∗ tileIn d fT fI fO fH (wOf c s) ∗ scopedBufs (tV d (coordsV c s)) ∗ scopedSems0 (tV d (coordsV c s))
        ∗ owes (tV d (coordsV c s)) O W)
      ⊢ wp frame (wpE (D (F := F)) 𝒱 (tV d (coordsV c s)) (some v₀)) Set.univ
          (Pipeline.liftProg (defs₀ (F := F) (.scVector (cV (coordsV c s)) (jV (coordsV c s))) 1 ()))
          fun _ => iprop(tileIn d fT fI (gathered fT fI) (histed fI) (wOf c s)
            ∗ scopedBufs (tV d (coordsV c s)) ∗ scopedSems0 (tV d (coordsV c s))
            ∗ ∃ W', ⌜∀ p ∈ W', p ∈ W ∨ p.2 = none ∨ p.2 = some (0 : Fin 1)⌝ ∗ owes (tV d (coordsV c s)) O W') := by
  refine BI.Entails.trans ?_ (Pipeline.wp_liftProg (D (F := F)) (Pipeline.defs_kernel pcfgs defs₀) 𝒱₀ _ Set.univ none _ _)
  rw [defs₀_tile]
  unfold wOf
  have h := obl_mono (q := 0) (tile_body d (coordsV c s) hF fT fI fO fH hI O W hO)
  revert h
  generalize cc1__sc_gather_hist (F := F) (coordsV c s) iV (Memref.isWhole_whole _) tV' (Memref.isWhole_whole _) oV (Memref.isWhole_whole _) hV (Memref.isWhole_whole _)
    sV (Memref.isWhole_whole _) rV (Memref.isWhole_whole _) cV' (Memref.isWhole_whole _) cc1_scratch3 cc1_scoped0 cc1_scoped1 cc1_scoped2 = p
  intro h
  exact h

theorem tileObl (hF : (K (F := F)).Facts) (hI : ∀ d x, (fI d x).toNat < 8192) :
    (K (F := F)).TileObl (D (F := F)) 𝒱 (P fT fI fO fH) v₀ 0 := by
  intro d c i O W hO _ _
  simp only [show (P fT fI fO fH).ox = fun _ _ => 0 from rfl, add_zero]
  exact tile_at hF d c i (fT d) (fI d) (fO d) (fH d) (hI d) O W hO

/-! ## Dealing and gathering -/

theorem vecSplit : (K (F := F)).VecSplit' (P fT fI fO fH) 0 := by
  intro d c
  show (bigSep Finset.univ fun s : Fin 16 => goAt fT fI fO fH d (Fin.cast nCore_zero c) s) ⊢ |={Set.univ}=> iprop(
      (bigSep Finset.univ fun i : Fin ((K (F := F)).nSub 0) => goAt fT fI fO fH d (Fin.cast nCore_zero c) (Fin.cast nSub_zero i))
      ∗ ((bigSep Finset.univ fun i : Fin ((K (F := F)).nSub 0) => tdAt fT fI d (Fin.cast nCore_zero c) (Fin.cast nSub_zero i))
          -∗ bigSep Finset.univ fun s : Fin 16 => tdAt fT fI d (Fin.cast nCore_zero c) s))
  rw [show (bigSep Finset.univ fun i : Fin ((K (F := F)).nSub 0) => goAt fT fI fO fH d (Fin.cast nCore_zero c) (Fin.cast nSub_zero i))
      = bigSep Finset.univ fun s : Fin 16 => goAt fT fI fO fH d (Fin.cast nCore_zero c) s from rfl,
    show (bigSep Finset.univ fun i : Fin ((K (F := F)).nSub 0) => tdAt fT fI d (Fin.cast nCore_zero c) (Fin.cast nSub_zero i))
      = bigSep Finset.univ fun s : Fin 16 => tdAt fT fI d (Fin.cast nCore_zero c) s from rfl]
  iintro H; imodintro
  isplitl [H]; · iexact H
  iintro H; iexact H

/-- The four arrays whole are what the two SparseCores take, -/
theorem st0_eq (d : Dev nD) :
    (bigSep Finset.univ fun c : Fin ((K (F := F)).nCore 0) => (P fT fI fO fH).st 0 d c) = (callIn d (fT d) (fI d) (fO d) (fH d) : sProp 𝕄) := by
  rw [callIn_eq, ← deal]
  rfl
/-- and so they come back. -/
theorem dn0_eq (d : Dev nD) :
    (bigSep Finset.univ fun c : Fin ((K (F := F)).nCore 0) => (P fT fI fO fH).dn 0 d c)
      = (callIn d (fT d) (fI d) (gathered (fT d) (fI d)) (histed (fI d)) : sProp 𝕄) := by
  rw [callIn_eq, ← deal]
  rfl

end Cert.Proof
-- ==== Proof.Region.lean ====
/-
  A TensorCore kernel region of @main entered in the middle of a SparseCore launch: the segment over the unscoped buffers
  at a valuation, the core owing the launch's handshake units throughout and its recorded waits bounded by a level.
-/
module

public import proofs.«01_k».proof.Proof.Setup
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionArrays
public import Idealize.ShloMosaic.Lib.Pipeline.FrameTail
public import Idealize.ShloMosaic.Lib.Pipeline.FrameBody
public import Idealize.ShloMosaic.Lib.Pipeline.Value

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf pin ucRefs arrRefs arrRef afterRegion)

variable {F : FTy → Type} [FloatOps F]

local notation "𝕄" => MT nD τ sig (HIx 1) (Elt F) ℕ UU ℕ

/-- The prefetched tables' admissible contents: no table. -/
abbrev adm : (p : Fin 2) → (pcfgs (F := F) p).Adm := fun p => (cfgs p).toPCfg_adm

/-- The waits core `d` may have recorded: those at levels up to `b`. -/
def recd (d : Dev nD) (b : ℕ) : Set (SemLoc sig × HIx 1) := {p | (K (F := F)).lev (T d, p.1) p.2 ≤ b}

/-- What core `d` owes between its calls, its recorded waits bounded. -/
def owing (d : Dev nD) (O : CellTallies nD τ sig (HIx 1)) (b : ℕ) : sProp 𝕄 :=
  iprop(∃ W, ⌜(K (F := F)).WBelow (T d) W b⌝ ∗ owes (T d) O W)

/-- A pipeline's relational proof data, one family for the two pipelines. -/
abbrev RDats := (p : Fin 2) → (c : Dev nD) → Pipeline.RDat τ (Elt F) (HIx 1) ℕ UU ℕ (pin (pcfgs (F := F)) adm p) c

/-- What a region's proof data must say for the region to run so: the invariant is the scoped buffers that stage no window,
    the arrays are held in full, the tallies owed are constant and none is a pipeline's own, the waits' bound is constant. -/
structure Quiet (rdats : RDats (F := F)) (p : Fin 2) (O : Dev nD → CellTallies nD τ sig (HIx 1)) (b : ℕ) : Prop where
  share : ∀ c w, (rdats p c).share w = fullShare
  owed : ∀ c t, (rdats p c).owed t = O c
  noNone : ∀ c g, O c g none = 0
  recorded : ∀ c t, (rdats p c).recorded t = recd (F := F) c b
  inv : ∀ c t, (rdats p c).Φ t = Pipeline.scopedRest (pin (pcfgs (F := F)) adm p).spec c

variable {rdats : RDats (F := F)} {p : Fin 2} {O : Dev nD → CellTallies nD τ sig (HIx 1)} {b : ℕ}

theorem owing_owesAt (q : Quiet rdats p O b) (d : Dev nD) (t) : owing d (O d) b ⊢ ((rdats p d).owesAt none t : sProp 𝕄) := by
  unfold owing Pipeline.RDat.owesAt Pipeline.owesWithin
  rw [q.owed]
  iintro ⟨%W, %hW, HO⟩
  iexists W; isplitr
  · ipureintro; intro x hx; exact Or.inl (by rw [q.recorded]; exact hW x hx)
  · iexact HO

theorem owesAt_owing (q : Quiet rdats p O b) (d : Dev nD) (t) : ((rdats p d).owesAt none t : sProp 𝕄) ⊢ owing d (O d) b := by
  unfold owing Pipeline.RDat.owesAt Pipeline.owesWithin
  rw [q.owed]
  iintro ⟨%W, %hW, HO⟩
  iexists W; isplitr
  · ipureintro; intro x hx
    rcases hW hx with h | ⟨w, s, rfl⟩
    · rw [q.recorded] at h; exact h
    · exact Nat.zero_le _
  · iexact HO

/-- Contents for every window's array of pipeline `p` on core `d`. -/
abbrev Arrs (p : Fin 2) (d : Dev nD) := (w : Fin (pin (pcfgs (F := F)) adm p).W) → Buf (Elt F) (((pin (pcfgs (F := F)) adm p).win w).arr.view.loc (d.tc : Thread nD τ))

/-- The arrays may hold these contents after the last write-back. -/
def Ends (rdats : RDats (F := F)) (p : Fin 2) (d : Dev nD) (A : Arrs (F := F) p d) : Prop :=
  ∀ w, (rdats p d).ArrAt w (pin (pcfgs (F := F)) adm p).N (A w)

variable (kit : Pipeline.PLaunchFacts (nD := nD) (τ := τ) (pcfgs (F := F)) p) (hK : (pcfgs (F := F) p).pre.K = 0)

include kit in
theorem held_split [∀ e, Nonempty (Elt F e)] (q : Quiet rdats p O b) (d : Dev nD) (V : Valuation τ sig (Elt F)) (G : Arrs (F := F) p d)
    (hG : ∀ w, G w = V (Proc.devRef .tc (arrRef (pin (pcfgs (F := F)) adm p).spec w))) :
    (StableHlo.held (T d) (ucRefs τ sig) V : sProp 𝕄)
      = iprop((rdats p d).arrays G ∗ StableHlo.held (T d) (ucRefs τ sig \ arrRefs (pcfgs (F := F) p).spec) V) := by
  have h := Pipeline.arrays_held (pcfgs (F := F)) adm
    (fun p c => { A := (rdats p c).A, after := fun _ _ _ => Classical.arbitrary _, Φ := (rdats p c).Φ, q := (rdats p c).q, owed := (rdats p c).owed })
    p kit d (q.share d) G V hG
  rw [StableHlo.held_sub_split (T d) (Pipeline.arrRefs_sub_ucRefs (τ := τ) (pcfgs (F := F) p).spec kit.win.arr_unscoped) V, ← h]
  rfl

theorem held_rest (d : Dev nD) (V V' : Valuation τ sig (Elt F))
    (h : ∀ r : Ref sig .tc, (∀ w, r ≠ arrRef (pin (pcfgs (F := F)) adm p).spec w) → V' (Proc.devRef .tc r) = V (Proc.devRef .tc r)) :
    (StableHlo.held (T d) (ucRefs τ sig \ arrRefs (pcfgs (F := F) p).spec) V : sProp 𝕄)
      = StableHlo.held (T d) (ucRefs τ sig \ arrRefs (pcfgs (F := F) p).spec) V' := by
  refine StableHlo.held_congr _ fun x hx => ?_
  obtain ⟨hx, hn⟩ := Finset.mem_sdiff.mp hx
  obtain ⟨r, -, rfl⟩ := Finset.mem_map.mp (Finset.mem_filter.mp hx).1
  refine (h r fun w hw => hn ?_).symm
  exact Finset.mem_map.mpr ⟨r, Finset.mem_image.mpr ⟨w, Finset.mem_univ _, hw.symm⟩, rfl⟩

/-- The arrays at the end, opened: at some contents they may then hold. -/
theorem arraysAt_open (d : Dev nD) : ((rdats p d).arraysAt (pin (pcfgs (F := F)) adm p).N : sProp 𝕄)
    ⊢ iprop(∃ A : Arrs (F := F) p d, ⌜Ends rdats p d A⌝ ∗ (rdats p d).arrays A) := by
  unfold Pipeline.RDat.arraysAt
  iintro Ha
  ihave Ha' := (BI.bigSep_exists_pi Finset.univ (fun w F' => iprop(⌜(rdats p d).ArrAt w (pin (pcfgs (F := F)) adm p).N F'⌝
      ∗ ((pin (pcfgs (F := F)) adm p).win w).arr.view.loc (d.tc : Thread nD τ) ↦[((pin (pcfgs (F := F)) adm p).win w).arr.view.set]{(rdats p d).share w} F'))) $$ Ha
  icases Ha' with ⟨%A, Ha⟩
  ihave Ha2 := (BI.bigSep_pure_sep Finset.univ (fun w => (rdats p d).ArrAt w (pin (pcfgs (F := F)) adm p).N (A w))
      (fun w => ((pin (pcfgs (F := F)) adm p).win w).arr.view.loc (d.tc : Thread nD τ) ↦[((pin (pcfgs (F := F)) adm p).win w).arr.view.set]{(rdats p d).share w} A w)) $$ Ha
  icases Ha2 with ⟨%hA, Ha⟩
  iexists A; isplitr
  · ipureintro; exact fun w => hA w (Finset.mem_univ w)
  unfold Pipeline.RDat.arrays
  iexact Ha

/-- What a region leaves: the unscoped buffers at `V' d A` for some final contents `A` of its arrays. -/
def leftAt (rdats : RDats (F := F)) (p : Fin 2) (O : Dev nD → CellTallies nD τ sig (HIx 1)) (b : ℕ) (V' : (d : Dev nD) → Arrs (F := F) p d → Valuation τ sig (Elt F))
    (d : Dev nD) : sProp 𝕄 :=
  iprop(∃ A : Arrs (F := F) p d, ⌜Ends rdats p d A⌝ ∗ StableHlo.held (T d) (ucRefs τ sig) (V' d A) ∗ owing d (O d) b)

/-- The region as a segment: entered from the unscoped buffers at `V`, left with them at `V'` of the arrays' final contents. -/
def regSeg [∀ e, Nonempty (Elt F e)] (q : Quiet rdats p O b) (hbody : ∀ c, (rdats p c).BodyObligation (defs₀ (F := F)) 𝒱₀ none Set.univ)
    (V : Dev nD → Valuation τ sig (Elt F)) (V' : (d : Dev nD) → Arrs (F := F) p d → Valuation τ sig (Elt F))
    (hA : ∀ c w, (rdats p c).A w = V c (Proc.devRef .tc (arrRef (pin (pcfgs (F := F)) adm p).spec w)))
    (hon : ∀ c A, Ends rdats p c A → ∀ w, A w = V' c A (Proc.devRef .tc (arrRef (pin (pcfgs (F := F)) adm p).spec w)))
    (hoff : ∀ c A, ∀ r : Ref sig .tc, (∀ w, r ≠ arrRef (pin (pcfgs (F := F)) adm p).spec w) → V' c A (Proc.devRef .tc r) = V c (Proc.devRef .tc r)) :
    Pipeline.RDat.RegionSeg (pcfgs (F := F)) adm rdats none defs₀ 𝒱₀ (K (F := F)).L (K (F := F)).lev p where
  win := kit.to₀.win
  block_pos := kit.block_pos
  stage_whole := kit.stage_whole
  K := PEmpty
  osem k := k.elim
  ho := Pipeline.OwnSemFacts.none _
  hbody := hbody
  hwaits c := Pipeline.RDat.cellsWaits_intro _ _ _ p c fun w s t => by
    rw [q.owed]
    exact (K (F := F)).mayWait_none _ (q.noNone c)
  pre c := iprop(StableHlo.held (T c) (ucRefs τ sig) (V c) ∗ owing c (O c) b)
  post c := leftAt rdats p O b V' c
  X _ := BI.emp
  Y _ := BI.emp
  Z c := StableHlo.held (T c) (ucRefs τ sig \ arrRefs (pcfgs (F := F) p).spec) (V c)
  hentry c := by
    rw [Pipeline.ownSems0_none, Pipeline.prefHeld_of_none _ hK, held_split kit q c (V c) _ (hA c)]
    iintro ⟨⟨⟨Ha, Hr⟩, HO⟩, -, -⟩
    imodintro
    isplitl [Ha]; · iexact Ha
    isplitr; · iempintro
    isplitl [HO]; · iapply (owing_owesAt q c 0); iexact HO
    isplitr; · iempintro
    iexact Hr
  hin c := by
    rw [q.inv]
    iintro ⟨-, -, Hr⟩; iexact Hr
  hout c := by
    rw [Pipeline.ownSems0_none, q.inv]
    iintro Hr
    isplitr; · iempintro
    isplitr; · iempintro
    iexact Hr
  hexit c := by
    iintro ⟨Ha, HO, -, HZ⟩
    imodintro
    ihave Ha' := (arraysAt_open c) $$ Ha
    icases Ha' with ⟨%A, %hE, Ha⟩
    unfold leftAt
    iexists A
    isplitr; · ipureintro; exact hE
    isplitr [HO]
    · iapply (Entails.of_eq (held_split kit q c (V' c A) A (hon c A hE)).symm)
      isplitl [Ha]; · iexact Ha
      iapply (Entails.of_eq (held_rest c (V c) (V' c A) (hoff c A)))
      iexact HZ
    · iapply (owesAt_owing q c _); iexact HO

include kit hK in
/-- The region run on core `d` under the launch's own body table. -/
theorem reg_wp [∀ e, Nonempty (Elt F e)] (q : Quiet rdats p O b) (hbody : ∀ c, (rdats p c).BodyObligation (defs₀ (F := F)) 𝒱₀ none Set.univ)
    (V : Dev nD → Valuation τ sig (Elt F)) (V' : (d : Dev nD) → Arrs (F := F) p d → Valuation τ sig (Elt F))
    (hA : ∀ c w, (rdats p c).A w = V c (Proc.devRef .tc (arrRef (pin (pcfgs (F := F)) adm p).spec w)))
    (hon : ∀ c A, Ends rdats p c A → ∀ w, A w = V' c A (Proc.devRef .tc (arrRef (pin (pcfgs (F := F)) adm p).spec w)))
    (hoff : ∀ c A, ∀ r : Ref sig .tc, (∀ w, r ≠ arrRef (pin (pcfgs (F := F)) adm p).spec w) → V' c A (Proc.devRef .tc r) = V c (Proc.devRef .tc r))
    (d : Dev nD) :
    iprop(boundary (T d) ∗ StableHlo.held (T d) (ucRefs τ sig) (V d) ∗ owing d (O d) b ∗ levAts (K (F := F)).L (K (F := F)).lev
        ∗ Pipeline.cellsGhost (pin (pcfgs (F := F)) adm) EP p d ∗ Pipeline.toksInit (pin (pcfgs (F := F)) adm) EP p d)
      ⊢ wp frame (wpE ((K (F := F)).defs (D (F := F))) 𝒱 (T d) none) Set.univ (Prog.lift (.customCall (SparseCore.inner (Pipeline.entry p)) ()))
          fun _ => iprop(boundary (T d) ∗ leftAt rdats p O b V' d) := by
  have h := Pipeline.RDat.RegionSeg.wp (pcfgs (F := F)) adm rdats none (kit.cellOf_inj adm) EP defs₀ 𝒱₀ (K (F := F)).L (K (F := F)).lev
    (regSeg kit hK q hbody V V' hA hon hoff) d none (by intro u hu; cases hu) (fun _ => Prog.ret PUnit.unit)
    (fun _ => iprop(boundary (T d) ∗ leftAt rdats p O b V' d))
  refine ((?_ : (_ : sProp 𝕄) ⊢ _).trans h).trans
    ((K (F := F)).wp_liftProg (D (F := F)) 𝒱₀.lift (T d) Set.univ none (.op (.customCall (Pipeline.entry p) ()) fun _ => Prog.ret PUnit.unit) _)
  iintro ⟨HB, HV, HO, HL, HG, HT⟩
  isplitr
  · iintro H
    iapply (le_wp_ret frame _ _)
    iexact H
  isplitl [HB]; · iexact HB
  isplitl [HV HO]
  · unfold regSeg; dsimp only
    isplitl [HV]; · iexact HV
    iexact HO
  isplitl [HL]; · iexact HL
  isplitl [HG] <;> iassumption

end Cert.Proof

end
-- ==== Proof.Body.lean ====
/-
  The two TensorCore kernel bodies on their staging buffers: what each leaves in them, as the payloads of its stores.
-/
module

public import proofs.«01_k».proof.Proof.Region
public import Idealize.ShloMosaic.Lib.WritesUnit

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem zero2 : (![0, 0] : Fin 2 → Nat) = fun _ => 0 := funext fun a => by match a with | ⟨0, _⟩ => rfl | ⟨1, _⟩ => rfl

/-- A store over a memref's whole shape leaves it reading the payload. -/
theorem read_store_whole [∀ e, Nonempty (Elt F e)] {sp : Space} {S : Shape} {e : EltTy} (m : Memref sig .tc sp S e) {off : Fin S.rank → Nat}
    (h : off = fun _ => 0) (inb : ∀ a, off a + S.size a ≤ S.size a) (f : m.view.ty.Contents (Elt F)) (w : S.Idx → Elt F e) :
    m.view.read (Elt F) ((m.access (Rect.unit (s := S) off S.size inb)).write (Elt F) f w Finset.univ) = w := by
  subst h
  refine (View.read_writes_eq_canon m.view f [⟨Rect.unit (s := S) (fun _ => 0) S.size inb, w⟩] fun y => ⟨_, List.mem_singleton_self _, ?_⟩).trans
    (View.canon_unit_zero rfl inb w)
  show y ∈ (Rect.whole S).set; rw [Rect.set_whole]; exact Finset.mem_univ y

/-- A load over a memref's whole shape reads its contents. -/
theorem readAt_whole {sp : Space} {S : Shape} {e : EltTy} (m : Memref sig .tc sp S e) {off : Fin S.rank → Nat}
    (h : off = fun _ => 0) (inb : ∀ a, off a + S.size a ≤ S.size a) (f : m.view.ty.Contents (Elt F)) :
    m.view.readAt (Elt F) (Rect.unit (s := S) off S.size inb).toLoadRect f = m.view.read (Elt F) f := by
  rw [View.readAt_eq_ld, View.ld_unit_zero h]

set_option maxRecDepth 65536 in
set_option maxHeartbeats 4000000 in
/-- The argmin body: every input left as it was, the result's buffer at the payload of its one store. -/
theorem argmin_body [∀ e, Nonempty (Elt F e)] (c : Dev nD) (i : grid0.Coords) (m1 : Memref sig .tc .vmem S256x1 .f32) (h1 : m1.IsWhole) (m2 : Memref sig .tc .vmem S1x8192 .f32) (h2 : m2.IsWhole)
    (m3 : Memref sig .tc .vmem S256x64 .f32) (h3 : m3.IsWhole) (m4 : Memref sig .tc .vmem S8192x64 .f32) (h4 : m4.IsWhole)
    (m5 : Memref sig .tc .vmem S256x1 .i32) (h5 : m5.IsWhole) (X1 X2 X3 X4 X5) :
    iprop(owns (T c) m1 fullShare X1 ∗ owns (T c) m2 fullShare X2 ∗ owns (T c) m3 fullShare X3 ∗ owns (T c) m4 fullShare X4 ∗ owns (T c) m5 fullShare X5)
      ⊢ (wp frame (wpE (defs₀ (F := F)) 𝒱₀ (T c) none) Set.univ (cc0__argmin_body (F := F) i m1 h1 m2 h2 m3 h3 m4 h4 m5 h5) fun _ =>
          iprop(owns (T c) m1 fullShare X1 ∗ owns (T c) m2 fullShare X2 ∗ owns (T c) m3 fullShare X3 ∗ owns (T c) m4 fullShare X4
            ∗ owns (T c) m5 fullShare (k0_pay1 X3 X4 X1 X2)) : sProp 𝕄) := by
  simp only [cc0__argmin_body_eq_skeleton]; unfold cc0__argmin_body_skel
  simp only [Prog.lift, Prog.bind_op, Prog.bind_ret]
  unfold owns
  iintro ⟨⟨%f1, %e1, H1⟩, ⟨%f2, %e2, H2⟩, ⟨%f3, %e3, H3⟩, ⟨%f4, %e4, H4⟩, ⟨%f5, %e5, H5⟩⟩
  sl_steps
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  iexists _; isplitr; swap; (· iexact H5); ipureintro
  refine (read_store_whole m5 zero2 _ f5 _).trans ?_
  rw [← e1, ← e2, ← e3, ← e4]
  exact congr (congr (congr (congrArg k0_pay1 (readAt_whole m3 zero2 _ f3)) (readAt_whole m4 zero2 _ f4)) (readAt_whole m1 zero2 _ f1)) (readAt_whole m2 zero2 _ f2)

/-- The statistics row's place `k`. -/
abbrev statIx (k : Fin 8) : S1x8.Idx := fun a => match a with | ⟨0, _⟩ => (0 : Fin 1) | ⟨1, _⟩ => k

/-- The statistics row `X` after the statistics body on the tokens `Z`, the gathered rows `Q` and the tables `H`. -/
def IsStats (Z Q : Vec F S16384x64 .f32) (H : Vec F S32x8192 .i32) (X : Vec F S1x8 .f32) : Prop :=
  X (statIx 0) = k2_pay5 Z Q ∧ X (statIx 1) = k2_pay6 Z Q ∧ X (statIx 2) = k2_pay2 (k2_pay5 Z Q) (k2_pay6 Z Q)
    ∧ X (statIx 3) = k2_pay8 H ∧ X (statIx 4) = k2_pay1 (k2_pay9 H)

/-- A store at the row's place `k`, read back at `k`. -/
theorem row_hit (m : Memref sig .tc .smem S1x8 .f32) (f : m.view.ty.Contents (Elt F)) (v : F .f32) (L : List (View.Piece (Elt F) S1x8 .f32)) (k : Nat)
    (inb : ∀ a, (![0, k] : Fin 2 → Nat) a + (![1, 1] : Fin 2 → Nat) a ≤ S1x8.size a) (j : Fin 8) (h : j.val = k) :
    m.view.read (Elt F) (m.view.writes (Elt F) f (⟨Rect.unit (s := S1x8) ![0, k] ![1, 1] inb, fun _ => v⟩ :: L)) (statIx j) = v :=
  View.read_writes_cons_unit_of_mem m.view f inb (fun _ => v) L (statIx j) (fun a => match a with | ⟨0, _⟩ => (0 : Fin 1) | ⟨1, _⟩ => (0 : Fin 1)) rfl
    fun a => by match a with
      | ⟨0, _⟩ => rfl
      | ⟨1, _⟩ => show j.val = k + 0; omega

/-- A store at the row's place `k`, read at another. -/
theorem row_miss (m : Memref sig .tc .smem S1x8 .f32) (f : m.view.ty.Contents (Elt F)) (v : F .f32) (L : List (View.Piece (Elt F) S1x8 .f32)) (k : Nat)
    (inb : ∀ a, (![0, k] : Fin 2 → Nat) a + (![1, 1] : Fin 2 → Nat) a ≤ S1x8.size a) (j : Fin 8) (h : j.val ≠ k) :
    m.view.read (Elt F) (m.view.writes (Elt F) f (⟨Rect.unit (s := S1x8) ![0, k] ![1, 1] inb, fun _ => v⟩ :: L)) (statIx j)
      = m.view.read (Elt F) (m.view.writes (Elt F) f L) (statIx j) :=
  View.read_writes_cons_unit_of_not_mem m.view f inb (fun _ => v) L (statIx j) rfl 1
    (by show j.val < k ∨ k + 1 ≤ j.val; omega)

set_option maxRecDepth 65536 in
set_option maxHeartbeats 4000000 in
/-- The statistics body: every input left as it was, the straight-through result and the first five places of the row written. -/
theorem stats_body [∀ e, Nonempty (Elt F e)] (c : Dev nD) (m0 : Memref sig .tc .vmem S16384x64 .f32) (h0 : m0.IsWhole) (m1 : Memref sig .tc .vmem S16384x64 .f32) (h1 : m1.IsWhole)
    (m2 : Memref sig .tc .vmem S32x8192 .i32) (h2 : m2.IsWhole) (m3 : Memref sig .tc .vmem S16384x64 .f32) (h3 : m3.IsWhole)
    (m4 : Memref sig .tc .smem S1x8 .f32) (h4 : m4.IsWhole) (X0 X1 X2 X3 X4) :
    iprop(owns (T c) m0 fullShare X0 ∗ owns (T c) m1 fullShare X1 ∗ owns (T c) m2 fullShare X2 ∗ owns (T c) m3 fullShare X3 ∗ owns (T c) m4 fullShare X4)
      ⊢ (wp frame (wpE (defs₀ (F := F)) 𝒱₀ (T c) none) Set.univ (cc2__stats_body (F := F) m0 h0 m1 h1 m2 h2 m3 h3 m4 h4) fun _ =>
          iprop(owns (T c) m0 fullShare X0 ∗ owns (T c) m1 fullShare X1 ∗ owns (T c) m2 fullShare X2 ∗ owns (T c) m3 fullShare (k2_pay4 X0 X1)
            ∗ ∃ X, ⌜IsStats X0 X1 X2 X⌝ ∗ owns (T c) m4 fullShare X) : sProp 𝕄) := by
  simp only [cc2__stats_body_eq_skeleton]; unfold cc2__stats_body_skel
  simp only [k2_part1_eq_skeleton]; unfold k2_part1_skel smemLoad smemLoadElt
  simp only [Prog.lift, Prog.bind_op, Prog.bind_ret, pure_bind]
  unfold owns
  iintro ⟨⟨%f0, %e0, H0⟩, ⟨%f1, %e1, H1⟩, ⟨%f2, %e2, H2⟩, ⟨%f3, %e3, H3⟩, ⟨%f4, %e4, H4⟩⟩
  sl_steps
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]
  · iexists _; isplitr; swap; (· iexact H3); ipureintro
    refine (read_store_whole m3 zero2 _ f3 _).trans ?_
    rw [← e0, ← e1]
    exact congr (congrArg k2_pay4 (readAt_whole m0 zero2 _ f0)) (readAt_whole m1 zero2 _ f1)
  iexists _; isplitr; swap
  · iexists _; isplitr; swap; (· iexact H4); ipureintro; rfl
  ipureintro
  have a0 := readAt_whole m0 zero2 inb_S16384x64_S16384x64_0_0 f0
  have a1 := readAt_whole m1 zero2 inb_S16384x64_S16384x64_0_0 f1
  have a2 := readAt_whole m2 zero2 inb_S32x8192_S32x8192_0_0 f2
  rw [e0] at a0; rw [e1] at a1; rw [e2] at a2
  refine ⟨?_, ?_, ?_, ?_, ?_⟩
  · rw [row_miss, row_miss, row_miss, row_miss, row_hit]; exact congr (congrArg k2_pay5 a0) a1
    all_goals decide
  · rw [row_miss, row_miss, row_miss, row_hit]; exact congr (congrArg k2_pay6 a0) a1
    all_goals decide
  · rw [row_miss, row_miss, row_hit]
    exact congr (congrArg k2_pay2 (congr (congrArg k2_pay5 a0) a1)) (congr (congrArg k2_pay6 a0) a1)
    all_goals decide
  · rw [row_miss, row_hit]; exact congrArg k2_pay8 a2
    all_goals decide
  · rw [row_hit]; exact congrArg (fun X => k2_pay1 (k2_pay9 X)) a2
    all_goals decide

end Cert.Proof

end
-- ==== Proof.Tc.lean ====
/-
  The two TensorCore regions' proof data: each body's obligation off its triple, and what the result arrays hold at the end.
-/
module

public import proofs.«01_k».proof.Proof.Body
public import Idealize.ShloMosaic.Lib.Pipeline.ArrRel

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (pin ucRefs arrRef)

variable {F : FTy → Type} [FloatOps F]

local notation "𝕄" => MT nD τ sig (HIx 1) (Elt F) ℕ UU ℕ

variable (V : Dev nD → Valuation τ sig (Elt F)) (O : Dev nD → CellTallies nD τ sig (HIx 1)) (b : ℕ)

/-- The argmin pipeline's block of window `w` at point `t`. -/
abbrev blk0 (c : Dev nD) (w : Fin 5) (t : Fin cfg0.N) := ((cfg0.win w).blk t).view.read (Elt F) (V c (Proc.devRef .tc (arrRef spec0 w)))

/-- The statistics pipeline's block of window `w`. -/
abbrev blk2 (c : Dev nD) (w : Fin 5) (t : Fin cfg2.N) := ((cfg2.win w).blk t).view.read (Elt F) (V c (Proc.devRef .tc (arrRef spec2 w)))

/-- What the argmin body may leave: its inputs as found, the result its payload at the point's blocks. -/
def after0 (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, _, Y, X => X = Y
  | ⟨4, _⟩, t, _, X => X = k0_pay1 (blk0 V c 2 t) (blk0 V c 3 t) (blk0 V c 0 t) (blk0 V c 1 t)
  | ⟨_ + 5, h⟩, _, _, _ => absurd h (Nat.not_lt.2 (Nat.le_add_left _ _))

/-- What the statistics body may leave: its inputs as found, the straight-through result, and a row of statistics. -/
def after2 (c : Dev nD) : (w : Fin cfg2.W) → Fin cfg2.N → (Y X : (cfg2.win w).block.Idx → Elt F (cfg2.win w).elt) → Prop
  | ⟨0, _⟩, _, Y, X => X = Y
  | ⟨1, _⟩, _, Y, X => X = Y
  | ⟨2, _⟩, _, Y, X => X = Y
  | ⟨3, _⟩, t, _, X => X = k2_pay4 (blk2 V c 0 t) (blk2 V c 1 t)
  | ⟨4, _⟩, t, _, X => IsStats (blk2 V c 0 t) (blk2 V c 1 t) (blk2 V c 2 t) X
  | ⟨_ + 5, h⟩, _, _, _ => absurd h (Nat.not_lt.2 (Nat.le_add_left _ _))

/-- The argmin pipeline's proof data. -/
def rdat0 (c : Dev nD) : Pipeline.RDat τ (Elt F) (HIx 1) ℕ UU ℕ cfg0 c where
  A w := V c (Proc.devRef .tc (arrRef spec0 w))
  after := after0 V c
  Φ _ := Pipeline.scopedRest spec0 c
  q _ := fullShare
  owed _ := O c
  recorded _ := recd (F := F) c b

/-- The statistics pipeline's proof data. -/
def rdat2 (c : Dev nD) : Pipeline.RDat τ (Elt F) (HIx 1) ℕ UU ℕ cfg2 c where
  A w := V c (Proc.devRef .tc (arrRef spec2 w))
  after := after2 V c
  Φ _ := Pipeline.scopedRest spec2 c
  q _ := fullShare
  owed _ := O c
  recorded _ := recd (F := F) c b

/-- The two pipelines' proof data at a valuation of the unscoped buffers. -/
def rds : RDats (F := F)
  | ⟨0, _⟩, c => rdat0 V O b c
  | ⟨1, _⟩, c => rdat2 V O b c
  | ⟨_ + 2, h⟩, _ => absurd h (Nat.not_lt.2 (Nat.le_add_left _ _))

theorem share0 (c : Dev nD) (w : Fin cfg0.W) : (rdat0 V O b c).share w = fullShare := by
  unfold Pipeline.RDat.share; dsimp only [rdat0]; rw [ite_self]

theorem share2 (c : Dev nD) (w : Fin cfg2.W) : (rdat2 V O b c).share w = fullShare := by
  unfold Pipeline.RDat.share; dsimp only [rdat2]; rw [ite_self]

theorem quiet0 (hO : ∀ c g, O c g none = 0) : Quiet (rds V O b) 0 O b where
  share c w := share0 V O b c w
  owed _ _ := by dsimp only [rds, rdat0]
  noNone := hO
  recorded _ _ := by dsimp only [rds, rdat0]
  inv _ _ := by dsimp only [rds, rdat0]; rfl

theorem quiet2 (hO : ∀ c g, O c g none = 0) : Quiet (rds V O b) 1 O b where
  share c w := share2 V O b c w
  owed _ _ := by dsimp only [rds, rdat2]
  noNone := hO
  recorded _ _ := by dsimp only [rds, rdat2]
  inv _ _ := by dsimp only [rds, rdat2]; rfl

/-! ## What the bodies find -/

theorem found0_0 [∀ e, Nonempty (Elt F e)] (c : Dev nD) (t : Fin cfg0.N) (Y : Vec F S256x1 .f32) (h : (rdat0 V O b c).Finds 0 t Y) : Y = blk0 V c 0 t := by
  obtain ⟨d, e⟩ := (rdat0 V O b c).finds_in_eq_fetched 0 rfl (fun _ _ _ => rfl) (fun _ _ _ h => h) t Y h
  exact e

theorem found0_1 [∀ e, Nonempty (Elt F e)] (c : Dev nD) (t : Fin cfg0.N) (Y : Vec F S1x8192 .f32) (h : (rdat0 V O b c).Finds 1 t Y) : Y = blk0 V c 1 t := by
  obtain ⟨d, e⟩ := (rdat0 V O b c).finds_in_eq_fetched 1 rfl (fun _ _ _ => rfl) (fun _ _ _ h => h) t Y h
  exact e

theorem found0_2 [∀ e, Nonempty (Elt F e)] (c : Dev nD) (t : Fin cfg0.N) (Y : Vec F S256x64 .f32) (h : (rdat0 V O b c).Finds 2 t Y) : Y = blk0 V c 2 t := by
  obtain ⟨d, e⟩ := (rdat0 V O b c).finds_in_eq_fetched 2 rfl (fun _ _ _ => rfl) (fun _ _ _ h => h) t Y h
  exact e

theorem found0_3 [∀ e, Nonempty (Elt F e)] (c : Dev nD) (t : Fin cfg0.N) (Y : Vec F S8192x64 .f32) (h : (rdat0 V O b c).Finds 3 t Y) : Y = blk0 V c 3 t := by
  obtain ⟨d, e⟩ := (rdat0 V O b c).finds_in_eq_fetched 3 rfl (fun _ _ _ => rfl) (fun _ _ _ h => h) t Y h
  exact e

theorem found2_0 [∀ e, Nonempty (Elt F e)] (c : Dev nD) (t : Fin cfg2.N) (Y : Vec F S16384x64 .f32) (h : (rdat2 V O b c).Finds 0 t Y) : Y = blk2 V c 0 t := by
  obtain ⟨d, e⟩ := (rdat2 V O b c).finds_in_eq_fetched 0 rfl (fun _ _ _ => rfl) (fun _ _ _ h => h) t Y h
  exact e

theorem found2_1 [∀ e, Nonempty (Elt F e)] (c : Dev nD) (t : Fin cfg2.N) (Y : Vec F S16384x64 .f32) (h : (rdat2 V O b c).Finds 1 t Y) : Y = blk2 V c 1 t := by
  obtain ⟨d, e⟩ := (rdat2 V O b c).finds_in_eq_fetched 1 rfl (fun _ _ _ => rfl) (fun _ _ _ h => h) t Y h
  exact e

theorem found2_2 [∀ e, Nonempty (Elt F e)] (c : Dev nD) (t : Fin cfg2.N) (Y : Vec F S32x8192 .i32) (h : (rdat2 V O b c).Finds 2 t Y) : Y = blk2 V c 2 t := by
  obtain ⟨d, e⟩ := (rdat2 V O b c).finds_in_eq_fetched 2 rfl (fun _ _ _ => rfl) (fun _ _ _ h => h) t Y h
  exact e

/-! ## The body obligations -/

set_option maxRecDepth 65536 in
theorem body0 [∀ e, Nonempty (Elt F e)] (c : Dev nD) : (rdat0 V O b c).BodyObligation (defs₀ (F := F)) 𝒱₀ none Set.univ := by
  intro t Y hY
  have e0 := found0_0 V O b c t _ (hY 0)
  have e1 := found0_1 V O b c t _ (hY 1)
  have e2 := found0_2 V O b c t _ (hY 2)
  have e3 := found0_3 V O b c t _ (hY 3)
  have hb := argmin_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Y 0) (Y 1) (Y 2) (Y 3) (Y 4)
  show iprop(Pipeline.scopedRest spec0 c ∗ (rdat0 V O b c).owesAt none t.castSucc ∗ bigSep Finset.univ fun w => owns (T c) ((cfg0.win w).stage (cfg0.slots t w)) fullShare (Y w))
      ⊢ (wp frame (wpE (defs₀ (F := F)) 𝒱₀ (T c) none) Set.univ (bodyAt0 t) fun _ =>
          iprop(Pipeline.scopedRest spec0 c ∗ (rdat0 V O b c).owesAt none t.castSucc ∗ bigSep Finset.univ fun w => iprop(∃ X, ⌜after0 V c w t (Y w) X⌝ ∗ owns (T c) ((cfg0.win w).stage (cfg0.slots t w)) fullShare X)) : sProp 𝕄)
  rw [bigSep_W0, bigSep_W0]
  iintro ⟨HΦ, HO, Hs⟩
  ihave Hwp := hb $$ Hs
  iapply (wp_wand_r frame _ Set.univ) $$ [Hwp HΦ HO]
  isplitl [Hwp]; · iexact Hwp
  iintro %r ⟨H0, H1, H2, H3, H4⟩
  isplitl [HΦ]; · iexact HΦ
  isplitl [HO]; · iexact HO
  isplitl [H0]; · iexists (Y 0); isplitr; (· ipureintro; exact rfl); iexact H0
  isplitl [H1]; · iexists (Y 1); isplitr; (· ipureintro; exact rfl); iexact H1
  isplitl [H2]; · iexists (Y 2); isplitr; (· ipureintro; exact rfl); iexact H2
  isplitl [H3]; · iexists (Y 3); isplitr; (· ipureintro; exact rfl); iexact H3
  iexists (k0_pay1 (Y 2) (Y 3) (Y 0) (Y 1)); isplitr
  · ipureintro; show k0_pay1 (Y 2) (Y 3) (Y 0) (Y 1) = _; rw [e0, e1, e2, e3]
  · iexact H4

set_option maxRecDepth 65536 in
theorem body2 [∀ e, Nonempty (Elt F e)] (c : Dev nD) : (rdat2 V O b c).BodyObligation (defs₀ (F := F)) 𝒱₀ none Set.univ := by
  intro t Y hY
  have e0 := found2_0 V O b c t _ (hY 0)
  have e1 := found2_1 V O b c t _ (hY 1)
  have e2 := found2_2 V O b c t _ (hY 2)
  have hb := stats_body c (win2_0.stage (cfg2.slots t 0)) (hstage2_0 0) (win2_1.stage (cfg2.slots t 1)) (hstage2_1 0) (win2_2.stage (cfg2.slots t 2)) (hstage2_2 0) (win2_3.stage (cfg2.slots t 3)) (hstage2_3 0) (win2_4.stage (cfg2.slots t 4)) (hstage2_4 0) (Y 0) (Y 1) (Y 2) (Y 3) (Y 4)
  show iprop(Pipeline.scopedRest spec2 c ∗ (rdat2 V O b c).owesAt none t.castSucc ∗ bigSep Finset.univ fun w => owns (T c) ((cfg2.win w).stage (cfg2.slots t w)) fullShare (Y w))
      ⊢ (wp frame (wpE (defs₀ (F := F)) 𝒱₀ (T c) none) Set.univ (bodyAt2 t) fun _ =>
          iprop(Pipeline.scopedRest spec2 c ∗ (rdat2 V O b c).owesAt none t.castSucc ∗ bigSep Finset.univ fun w => iprop(∃ X, ⌜after2 V c w t (Y w) X⌝ ∗ owns (T c) ((cfg2.win w).stage (cfg2.slots t w)) fullShare X)) : sProp 𝕄)
  rw [bigSep_W2, bigSep_W2]
  iintro ⟨HΦ, HO, Hs⟩
  ihave Hwp := hb $$ Hs
  iapply (wp_wand_r frame _ Set.univ) $$ [Hwp HΦ HO]
  isplitl [Hwp]; · iexact Hwp
  iintro %r ⟨H0, H1, H2, H3, ⟨%X, %hX, H4⟩⟩
  isplitl [HΦ]; · iexact HΦ
  isplitl [HO]; · iexact HO
  isplitl [H0]; · iexists (Y 0); isplitr; (· ipureintro; exact rfl); iexact H0
  isplitl [H1]; · iexists (Y 1); isplitr; (· ipureintro; exact rfl); iexact H1
  isplitl [H2]; · iexists (Y 2); isplitr; (· ipureintro; exact rfl); iexact H2
  isplitl [H3]
  · iexists (k2_pay4 (Y 0) (Y 1)); isplitr
    · ipureintro; show k2_pay4 (Y 0) (Y 1) = _; rw [e0, e1]
    · iexact H3
  iexists X; isplitr
  · ipureintro; show IsStats (blk2 V c 0 t) (blk2 V c 1 t) (blk2 V c 2 t) X; rw [← e0, ← e1, ← e2]; exact hX
  · iexact H4

/-! ## The result arrays at the end -/

/-- Row `y` of block `q` of the tokens. -/
abbrev blkRow (q : Fin 64) (y : Fin 256) : Fin 16384 := ⟨256 * q.val + y.val, by have := q.isLt; have := y.isLt; omega⟩

/-- The array's index of a block's. -/
def rowIx {n : Nat} (q : Fin 64) (y : (⟨2, ![256, n]⟩ : Shape).Idx) : (⟨2, ![16384, n]⟩ : Shape).Idx :=
  fun a => match a with | ⟨0, _⟩ => blkRow q (y 0) | ⟨1, _⟩ => y 1

/-- An array's block `q`: its 256 rows from `256 * q`. -/
abbrev rowBlk {n : Nat} {e : EltTy} (X : Vec F ⟨2, ![16384, n]⟩ e) (q : Fin 64) : Vec F ⟨2, ![256, n]⟩ e :=
  fun y => X (rowIx q y)

/-- The argmin's result array as one function of its operands: block `q` is the payload at the operands' blocks `q`. -/
def codes (z2 : Vec F S16384x1 .f32) (e2 : Vec F S1x8192 .f32) (zm2 : Vec F S16384x64 .f32) (emb : Vec F S8192x64 .f32) : IVec S16384x1 32 :=
  fun i => k0_pay1 (rowBlk zm2 ⟨(i 0).val / 256, by have : (i 0).val < 16384 := (i 0).isLt; omega⟩) emb
    (rowBlk z2 ⟨(i 0).val / 256, by have : (i 0).val < 16384 := (i 0).isLt; omega⟩) e2
    fun a => match a with | ⟨0, _⟩ => ⟨(i 0).val % 256, Nat.mod_lt _ (by decide)⟩ | ⟨1, _⟩ => i 1

theorem idx0_0 : ∀ t : Fin cfg0.N, win0_0.index t (0 : Fin 2) = t.val ∧ win0_0.index t (1 : Fin 2) = 0 := (by decide +kernel : ∀ t : Fin grid0.N, _)
theorem idx0_1 : ∀ t : Fin cfg0.N, win0_1.index t (0 : Fin 2) = 0 ∧ win0_1.index t (1 : Fin 2) = 0 := (by decide +kernel : ∀ t : Fin grid0.N, _)
theorem idx0_2 : ∀ t : Fin cfg0.N, win0_2.index t (0 : Fin 2) = t.val ∧ win0_2.index t (1 : Fin 2) = 0 := (by decide +kernel : ∀ t : Fin grid0.N, _)
theorem idx0_3 : ∀ t : Fin cfg0.N, win0_3.index t (0 : Fin 2) = 0 ∧ win0_3.index t (1 : Fin 2) = 0 := (by decide +kernel : ∀ t : Fin grid0.N, _)
theorem idx0_4 : ∀ t : Fin cfg0.N, win0_4.index t (0 : Fin 2) = t.val ∧ win0_4.index t (1 : Fin 2) = 0 := (by decide +kernel : ∀ t : Fin grid0.N, _)

theorem emb0_0 (t : Fin cfg0.N) (j : S256x1.Idx) : (((cfg0.win 0).blk t).view.emb j : S16384x1.Idx) = rowIx (t.cast N_0) j := by
  obtain ⟨e0, e1⟩ := idx0_0 t
  funext a; apply Fin.ext
  match a with
  | ⟨0, _⟩ => show win0_0.index t (0 : Fin 2) * 256 + 1 * (j 0).val = 256 * t.val + (j 0).val; omega
  | ⟨1, _⟩ => show win0_0.index t (1 : Fin 2) * 1 + 1 * (j 1).val = (j 1).val; omega

theorem emb0_1 (t : Fin cfg0.N) (j : S1x8192.Idx) : (((cfg0.win 1).blk t).view.emb j : S1x8192.Idx) = j := by
  obtain ⟨e0, e1⟩ := idx0_1 t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem emb0_2 (t : Fin cfg0.N) (j : S256x64.Idx) : (((cfg0.win 2).blk t).view.emb j : S16384x64.Idx) = rowIx (t.cast N_0) j := by
  obtain ⟨e0, e1⟩ := idx0_2 t
  funext a; apply Fin.ext
  match a with
  | ⟨0, _⟩ => show win0_2.index t (0 : Fin 2) * 256 + 1 * (j 0).val = 256 * t.val + (j 0).val; omega
  | ⟨1, _⟩ => show win0_2.index t (1 : Fin 2) * 64 + 1 * (j 1).val = (j 1).val; omega

theorem emb0_3 (t : Fin cfg0.N) (j : S8192x64.Idx) : (((cfg0.win 3).blk t).view.emb j : S8192x64.Idx) = j := by
  obtain ⟨e0, e1⟩ := idx0_3 t
  funext a; apply Fin.ext
  match a with
  | ⟨0, _⟩ => show win0_3.index t (0 : Fin 2) * 8192 + 1 * (j 0).val = (j 0).val; omega
  | ⟨1, _⟩ => show win0_3.index t (1 : Fin 2) * 64 + 1 * (j 1).val = (j 1).val; omega

theorem emb0_4 (t : Fin cfg0.N) (j : S256x1.Idx) : (((cfg0.win 4).blk t).view.emb j : S16384x1.Idx) = rowIx (t.cast N_0) j := by
  obtain ⟨e0, e1⟩ := idx0_4 t
  funext a; apply Fin.ext
  match a with
  | ⟨0, _⟩ => show win0_4.index t (0 : Fin 2) * 256 + 1 * (j 0).val = 256 * t.val + (j 0).val; omega
  | ⟨1, _⟩ => show win0_4.index t (1 : Fin 2) * 1 + 1 * (j 1).val = (j 1).val; omega

/-- The point's payload is the point's block of `codes`. -/
theorem pay_codes (z2 : Vec F S16384x1 .f32) (e2 : Vec F S1x8192 .f32) (zm2 : Vec F S16384x64 .f32) (emb : Vec F S8192x64 .f32) (q : Fin 64) (j : S256x1.Idx) :
    codes z2 e2 zm2 emb (rowIx q j) = k0_pay1 (rowBlk zm2 q) emb (rowBlk z2 q) e2 j := by
  have hj : (j 0).val < 256 := (j 0).isLt
  unfold codes
  have hq : (⟨(256 * q.val + (j 0).val) / 256, by have := q.isLt; omega⟩ : Fin 64) = q := Fin.ext (by show (256 * q.val + (j 0).val) / 256 = q.val; omega)
  have hi : ((fun a => match a with | ⟨0, _⟩ => ⟨(256 * q.val + (j 0).val) % 256, Nat.mod_lt _ (by decide)⟩ | ⟨1, _⟩ => j 1) : S256x1.Idx) = j := by
    funext a
    match a with
    | ⟨0, _⟩ => exact Fin.ext (by show (256 * q.val + (j 0).val) % 256 = (j 0).val; omega)
    | ⟨1, _⟩ => rfl
  show k0_pay1 (rowBlk zm2 ⟨(256 * q.val + (j 0).val) / 256, _⟩) emb (rowBlk z2 ⟨(256 * q.val + (j 0).val) / 256, _⟩) e2 (fun a => match a with | ⟨0, _⟩ => ⟨(256 * q.val + (j 0).val) % 256, _⟩ | ⟨1, _⟩ => j 1) = _
  rw [hq, hi]

/-- The argmin's result array at the end of its region. -/
theorem final0 [∀ e, Nonempty (Elt F e)] (c : Dev nD) (A : Buf (Elt F) ((cfg0.win 4).arr.view.loc (c.tc : Thread nD τ))) (h : (rdat0 V O b c).ArrAt 4 cfg0.N A) :
    A = codes (V c (Proc.devRef .tc main_v2)) (V c (Proc.devRef .tc main_v7)) (V c (Proc.devRef .tc main_v6)) (V c (Proc.devRef .tc main_arg1)) := by
  obtain ⟨X, hX, hA⟩ := h.exists_exact
  rw [hA (Function.update (fun _ _ _ => Classical.arbitrary _) 4 X) fun u _ _ => by rw [Function.update_self]]
  refine Pipeline.Dat.arrAt_eq_of_cover _ 4 _ (fun t _ => ?_) fun i => ?_
  · obtain ⟨Y, -, e⟩ := hX t t.isLt (flush0_4 t)
    have e' : X t = k0_pay1 (blk0 V c 2 t) (blk0 V c 3 t) (blk0 V c 0 t) (blk0 V c 1 t) := e
    have b0 : blk0 V c 0 t = rowBlk (V c (Proc.devRef .tc main_v2)) (t.cast N_0) := funext fun j => congrArg (V c (Proc.devRef .tc main_v2)) (emb0_0 t j)
    have b1 : blk0 V c 1 t = V c (Proc.devRef .tc main_v7) := funext fun j => congrArg (V c (Proc.devRef .tc main_v7)) (emb0_1 t j)
    have b2 : blk0 V c 2 t = rowBlk (V c (Proc.devRef .tc main_v6)) (t.cast N_0) := funext fun j => congrArg (V c (Proc.devRef .tc main_v6)) (emb0_2 t j)
    have b3 : blk0 V c 3 t = V c (Proc.devRef .tc main_arg1) := funext fun j => congrArg (V c (Proc.devRef .tc main_arg1)) (emb0_3 t j)
    funext j
    show (Function.update (fun _ _ _ => Classical.arbitrary _) (4 : Fin cfg0.W) X : (w' : Fin cfg0.W) → Fin cfg0.N → (cfg0.win w').block.Idx → Elt F (cfg0.win w').elt) 4 t j
      = codes _ _ _ _ (((cfg0.win 4).blk t).view.emb j)
    rw [Function.update_self, e', b0, b1, b2, b3, emb0_4]
    exact (pay_codes _ _ _ _ _ _).symm
  · have hi : (i (0 : Fin 2)).val < 16384 := (i (0 : Fin 2)).isLt
    refine ⟨(⟨(i (0 : Fin 2)).val / 256, by rw [N_0]; omega⟩ : Fin grid0.N), flush0_4 _, ?_⟩
    have hm := ((cfg0.win 4).blk (⟨(i (0 : Fin 2)).val / 256, by rw [N_0]; omega⟩ : Fin grid0.N)).view.emb_mem_set
      (fun a => match a with | ⟨0, _⟩ => ⟨(i (0 : Fin 2)).val % 256, Nat.mod_lt _ (by decide)⟩ | ⟨1, _⟩ => i (1 : Fin 2) : S256x1.Idx)
    rw [emb0_4] at hm
    refine (congrArg (· ∈ _) (funext fun a => ?_)).mp hm
    match a with
    | ⟨0, _⟩ => exact Fin.ext (by show 256 * ((i (0 : Fin 2)).val / 256) + (i (0 : Fin 2)).val % 256 = (i (0 : Fin 2)).val; omega)
    | ⟨1, _⟩ => rfl

/-! The statistics call has no grid: a window's one block is its array. -/

theorem emb2_0 (t : Fin cfg2.N) (j : S16384x64.Idx) : (((cfg2.win 0).blk t).view.emb j : S16384x64.Idx) = j := by
  funext a; apply Fin.ext
  match a with
  | ⟨0, _⟩ => show 0 * 16384 + 1 * (j 0).val = (j 0).val; omega
  | ⟨1, _⟩ => show 0 * 64 + 1 * (j 1).val = (j 1).val; omega

theorem emb2_1 (t : Fin cfg2.N) (j : S16384x64.Idx) : (((cfg2.win 1).blk t).view.emb j : S16384x64.Idx) = j := by
  funext a; apply Fin.ext
  match a with
  | ⟨0, _⟩ => show 0 * 16384 + 1 * (j 0).val = (j 0).val; omega
  | ⟨1, _⟩ => show 0 * 64 + 1 * (j 1).val = (j 1).val; omega

theorem emb2_2 (t : Fin cfg2.N) (j : S32x8192.Idx) : (((cfg2.win 2).blk t).view.emb j : S32x8192.Idx) = j := by
  funext a; apply Fin.ext
  match a with
  | ⟨0, _⟩ => show 0 * 32 + 1 * (j 0).val = (j 0).val; omega
  | ⟨1, _⟩ => show 0 * 8192 + 1 * (j 1).val = (j 1).val; omega

theorem emb2_3 (t : Fin cfg2.N) (j : S16384x64.Idx) : (((cfg2.win 3).blk t).view.emb j : S16384x64.Idx) = j := by
  funext a; apply Fin.ext
  match a with
  | ⟨0, _⟩ => show 0 * 16384 + 1 * (j 0).val = (j 0).val; omega
  | ⟨1, _⟩ => show 0 * 64 + 1 * (j 1).val = (j 1).val; omega

theorem emb2_4 (t : Fin cfg2.N) (j : S1x8.Idx) : (((cfg2.win 4).blk t).view.emb j : S1x8.Idx) = j := by
  funext a; apply Fin.ext
  match a with
  | ⟨0, _⟩ => show 0 * 1 + 1 * (j 0).val = (j 0).val; omega
  | ⟨1, _⟩ => show 0 * 8 + 1 * (j 1).val = (j 1).val; omega

theorem blk2_0 (c : Dev nD) (t : Fin cfg2.N) : blk2 V c 0 t = V c (Proc.devRef .tc main_arg0) := funext fun j => congrArg (V c (Proc.devRef .tc main_arg0)) (emb2_0 t j)
theorem blk2_1 (c : Dev nD) (t : Fin cfg2.N) : blk2 V c 1 t = V c (Proc.devRef .tc main_v13) := funext fun j => congrArg (V c (Proc.devRef .tc main_v13)) (emb2_1 t j)
theorem blk2_2 (c : Dev nD) (t : Fin cfg2.N) : blk2 V c 2 t = V c (Proc.devRef .tc main_v12_1) := funext fun j => congrArg (V c (Proc.devRef .tc main_v12_1)) (emb2_2 t j)

/-- The straight-through result at the end of the statistics region. -/
theorem final2_3 [∀ e, Nonempty (Elt F e)] (c : Dev nD) (A : Buf (Elt F) ((cfg2.win 3).arr.view.loc (c.tc : Thread nD τ))) (h : (rdat2 V O b c).ArrAt 3 cfg2.N A) :
    A = k2_pay4 (V c (Proc.devRef .tc main_arg0)) (V c (Proc.devRef .tc main_v13)) := by
  obtain ⟨X, hX, hA⟩ := h.exists_exact
  rw [hA (Function.update (fun _ _ _ => Classical.arbitrary _) 3 X) fun u _ _ => by rw [Function.update_self]]
  refine Pipeline.Dat.arrAt_eq_of_cover _ 3 _ (fun t _ => ?_) fun i => ?_
  · obtain ⟨Y, -, e⟩ := hX t t.isLt (flush2_3 t)
    have e' : X t = k2_pay4 (blk2 V c 0 t) (blk2 V c 1 t) := e
    funext j
    show (Function.update (fun _ _ _ => Classical.arbitrary _) (3 : Fin cfg2.W) X : (w' : Fin cfg2.W) → Fin cfg2.N → (cfg2.win w').block.Idx → Elt F (cfg2.win w').elt) 3 t j
      = k2_pay4 _ _ (((cfg2.win 3).blk t).view.emb j)
    rw [Function.update_self, e', blk2_0, blk2_1, emb2_3]
  · have hm := ((cfg2.win 3).blk t2_0).view.emb_mem_set i
    rw [emb2_3] at hm
    exact ⟨t2_0, flush2_3 _, hm⟩

/-- The statistics row at the end of its region. -/
theorem final2_4 [∀ e, Nonempty (Elt F e)] (c : Dev nD) (A : Buf (Elt F) ((cfg2.win 4).arr.view.loc (c.tc : Thread nD τ))) (h : (rdat2 V O b c).ArrAt 4 cfg2.N A) :
    IsStats (V c (Proc.devRef .tc main_arg0)) (V c (Proc.devRef .tc main_v13)) (V c (Proc.devRef .tc main_v12_1)) A := by
  obtain ⟨X, hX, hA⟩ := h.exists_exact
  obtain ⟨Y, -, e⟩ := hX t2_0 t2_0.isLt (flush2_4 t2_0)
  have e' : IsStats (blk2 V c 0 t2_0) (blk2 V c 1 t2_0) (blk2 V c 2 t2_0) (X t2_0) := e
  rw [blk2_0, blk2_1, blk2_2] at e'
  suffices hAX : A = X t2_0 by rw [hAX]; exact e'
  rw [hA (Function.update (fun _ _ _ => Classical.arbitrary _) 4 X) fun u _ _ => by rw [Function.update_self]]
  refine Pipeline.Dat.arrAt_eq_of_cover _ 4 _ (fun t _ => ?_) fun i => ?_
  · obtain rfl := fin_N2 t
    funext j
    show (Function.update (fun _ _ _ => Classical.arbitrary _) (4 : Fin cfg2.W) X : (w' : Fin cfg2.W) → Fin cfg2.N → (cfg2.win w').block.Idx → Elt F (cfg2.win w').elt) 4 t2_0 j
      = X t2_0 (((cfg2.win 4).blk t2_0).view.emb j)
    rw [Function.update_self]; exact congrArg (X t2_0) (emb2_4 t2_0 j).symm
  · have hm := ((cfg2.win 4).blk t2_0).view.emb_mem_set i
    rw [emb2_4] at hm
    exact ⟨t2_0, flush2_4 _, hm⟩

/-! ## The two regions over a valuation -/

/-- The valuation after the argmin region. -/
def codesAt (V : Valuation τ sig (Elt F)) : Valuation τ sig (Elt F) :=
  Function.update V (Proc.devRef .tc main_v8)
    (codes (V (Proc.devRef .tc main_v2)) (V (Proc.devRef .tc main_v7)) (V (Proc.devRef .tc main_v6)) (V (Proc.devRef .tc main_arg1)))

/-- The valuation after the statistics region, its row being `X`. -/
def statsAt (V : Valuation τ sig (Elt F)) (X : Vec F S1x8 .f32) : Valuation τ sig (Elt F) :=
  Function.update (Function.update V (Proc.devRef .tc main_v14_0) (k2_pay4 (V (Proc.devRef .tc main_arg0)) (V (Proc.devRef .tc main_v13))))
    (Proc.devRef .tc main_v14_1) X

theorem codesAt_of_ne (V : Valuation τ sig (Elt F)) {r : Ref sig .tc} (h : r ≠ main_v8) : codesAt V (Proc.devRef .tc r) = V (Proc.devRef .tc r) :=
  Function.update_of_ne (fun e => h (Proc.devRef_injective _ e)) _ _

theorem codesAt_v8 (V : Valuation τ sig (Elt F)) : codesAt V (Proc.devRef .tc main_v8)
    = codes (V (Proc.devRef .tc main_v2)) (V (Proc.devRef .tc main_v7)) (V (Proc.devRef .tc main_v6)) (V (Proc.devRef .tc main_arg1)) :=
  Function.update_self _ _ _

theorem statsAt_v14_1 (V : Valuation τ sig (Elt F)) (X : Vec F S1x8 .f32) : statsAt V X (Proc.devRef .tc main_v14_1) = X :=
  Function.update_self _ _ _

theorem statsAt_of_ne (V : Valuation τ sig (Elt F)) (X) {r : Ref sig .tc} (h0 : r ≠ main_v14_0) (h1 : r ≠ main_v14_1) :
    statsAt V X (Proc.devRef .tc r) = V (Proc.devRef .tc r) :=
  (Function.update_of_ne (fun e => h1 (Proc.devRef_injective _ e)) _ _).trans (Function.update_of_ne (fun e => h0 (Proc.devRef_injective _ e)) _ _)

theorem statsAt_v14_0 (V : Valuation τ sig (Elt F)) (X) :
    statsAt V X (Proc.devRef .tc main_v14_0) = k2_pay4 (V (Proc.devRef .tc main_arg0)) (V (Proc.devRef .tc main_v13)) :=
  (Function.update_of_ne (fun e => absurd (Proc.devRef_injective _ e) (by decide)) _ _).trans (Function.update_self _ _ _)

variable {V O b}

theorem inputs0 (c : Dev nD) (A : Arrs (F := F) 0 c) (h : Ends (rds V O b) 0 c A) (w : Fin 5) (hw : (cfg0.win w).isOut = false) :
    A w = V c (Proc.devRef .tc (arrRef spec0 w)) := by
  have := h w; change (rdat0 V O b c).ArrAt w cfg0.N (A w) at this
  rw [(rdat0 V O b c).ArrAt_in w hw] at this; exact this

theorem inputs2 (c : Dev nD) (A : Arrs (F := F) 1 c) (h : Ends (rds V O b) 1 c A) (w : Fin 5) (hw : (cfg2.win w).isOut = false) :
    A w = V c (Proc.devRef .tc (arrRef spec2 w)) := by
  have := h w; change (rdat2 V O b c).ArrAt w cfg2.N (A w) at this
  rw [(rdat2 V O b c).ArrAt_in w hw] at this; exact this

set_option maxRecDepth 65536 in
/-- The argmin region: the unscoped buffers at `V`, then at `V` with the codes written. -/
theorem region0 [∀ e, Nonempty (Elt F e)] (hO : ∀ c g, O c g none = 0) (d : Dev nD) :
    iprop(boundary (T d) ∗ StableHlo.held (T d) (ucRefs τ sig) (V d) ∗ owing d (O d) b ∗ levAts (K (F := F)).L (K (F := F)).lev
        ∗ Pipeline.cellsGhost (pin (pcfgs (F := F)) adm) EP 0 d ∗ Pipeline.toksInit (pin (pcfgs (F := F)) adm) EP 0 d)
      ⊢ (wp frame (wpE ((K (F := F)).defs (D (F := F))) 𝒱 (T d) none) Set.univ (Prog.lift (.customCall (SparseCore.inner (Pipeline.entry 0)) ()))
          fun _ => iprop(boundary (T d) ∗ StableHlo.held (T d) (ucRefs τ sig) (codesAt (V d)) ∗ owing d (O d) b) : sProp 𝕄) := by
  have h := reg_wp (p := 0) (rdats := rds V O b) launch0.toP rfl (quiet0 V O b hO) (fun c => body0 V O b c) V (fun d _ => codesAt (V d))
    (fun c w => rfl) (fun c A hA w => ?_) (fun c A r hr => ?_) d
  · refine h.trans (wp_mono frame _ _ fun _ => ?_)
    unfold leftAt
    iintro ⟨HB, %A, -, HH, HO⟩
    isplitl [HB]; · iexact HB
    isplitl [HH]; · iexact HH
    iexact HO
  · match w with
    | ⟨0, _⟩ => exact (inputs0 c A hA 0 rfl).trans (codesAt_of_ne (V c) (by decide)).symm
    | ⟨1, _⟩ => exact (inputs0 c A hA 1 rfl).trans (codesAt_of_ne (V c) (by decide)).symm
    | ⟨2, _⟩ => exact (inputs0 c A hA 2 rfl).trans (codesAt_of_ne (V c) (by decide)).symm
    | ⟨3, _⟩ => exact (inputs0 c A hA 3 rfl).trans (codesAt_of_ne (V c) (by decide)).symm
    | ⟨4, _⟩ => exact (final0 V O b c (A 4) (hA 4)).trans (codesAt_v8 (V c)).symm
    | ⟨n + 5, h⟩ => exact absurd h (Nat.not_lt.2 (Nat.le_add_left _ _))
  · exact codesAt_of_ne (V c) (hr 4)

set_option maxRecDepth 65536 in
/-- The statistics region: the unscoped buffers at `V`, then at `V` with the straight-through result and a row of statistics written. -/
theorem region2 [∀ e, Nonempty (Elt F e)] (hO : ∀ c g, O c g none = 0) (d : Dev nD) :
    iprop(boundary (T d) ∗ StableHlo.held (T d) (ucRefs τ sig) (V d) ∗ owing d (O d) b ∗ levAts (K (F := F)).L (K (F := F)).lev
        ∗ Pipeline.cellsGhost (pin (pcfgs (F := F)) adm) EP 1 d ∗ Pipeline.toksInit (pin (pcfgs (F := F)) adm) EP 1 d)
      ⊢ (wp frame (wpE ((K (F := F)).defs (D (F := F))) 𝒱 (T d) none) Set.univ (Prog.lift (.customCall (SparseCore.inner (Pipeline.entry 1)) ()))
          fun _ => iprop(boundary (T d) ∗ (∃ X, ⌜IsStats (V d (Proc.devRef .tc main_arg0)) (V d (Proc.devRef .tc main_v13)) (V d (Proc.devRef .tc main_v12_1)) X⌝
            ∗ StableHlo.held (T d) (ucRefs τ sig) (statsAt (V d) X)) ∗ owing d (O d) b) : sProp 𝕄) := by
  have h := reg_wp (p := 1) (rdats := rds V O b) launch2.toP rfl (quiet2 V O b hO) (fun c => body2 V O b c) V (fun d A => statsAt (V d) (A 4))
    (fun c w => rfl) (fun c A hA w => ?_) (fun c A r hr => ?_) d
  · refine h.trans (wp_mono frame _ _ fun _ => ?_)
    unfold leftAt
    iintro ⟨HB, %A, %hA, HH, HO⟩
    isplitl [HB]; · iexact HB
    isplitl [HH]
    · iexists (A 4); isplitr
      · ipureintro; exact final2_4 V O b d (A 4) (hA 4)
      · iexact HH
    iexact HO
  · match w with
    | ⟨0, _⟩ => exact (inputs2 c A hA 0 rfl).trans (statsAt_of_ne (V c) _ (by decide) (by decide)).symm
    | ⟨1, _⟩ => exact (inputs2 c A hA 1 rfl).trans (statsAt_of_ne (V c) _ (by decide) (by decide)).symm
    | ⟨2, _⟩ => exact (inputs2 c A hA 2 rfl).trans (statsAt_of_ne (V c) _ (by decide) (by decide)).symm
    | ⟨3, _⟩ => exact (final2_3 V O b c (A 3) (hA 3)).trans (statsAt_v14_0 (V c) _).symm
    | ⟨4, _⟩ => exact (statsAt_v14_1 (V c) (A 4)).symm
    | ⟨n + 5, h⟩ => exact absurd h (Nat.not_lt.2 (Nat.le_add_left _ _))
  · exact statsAt_of_ne (V c) _ (fun e => hr 3 e) (fun e => hr 4 e)

end Cert.Proof

end
-- ==== Proof.Main.lean ====
/-
  @main on the TensorCore: its host operations as lists, what the unscoped buffers hold after each part, the four arrays of
  the SparseCore call taken out and put back, and the whole program's run.
-/
module

public import proofs.«01_k».proof.Proof.Call
public import proofs.«01_k».proof.Proof.Tc

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (pin ucRefs arrRef)

variable {F : FTy → Type} [FloatOps F]

local notation "𝕄" => MT nD τ sig (HIx 1) (Elt F) ℕ UU ℕ

/-! ## The host operations -/

/-- The squared norms, their broadcasts and `-2 z`. -/
def prepOps : List (HloOp τ sig (Elt F)) :=
  [StableHlo.binary main_arg0 main_arg0 main_v0 (mulf : (⟨S16384x64, .f32⟩ : BufTy).Contents (Elt F) → (⟨S16384x64, .f32⟩ : BufTy).Contents (Elt F) → (⟨S16384x64, .f32⟩ : BufTy).Contents (Elt F)),
   StableHlo.nullary main_cst (constant S_ .f32 0x00000000#32),
   StableHlo.binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
   StableHlo.unary main_v1 main_v2 (broadcastInDim S16384x1 ![0] bcast_S16384_S16384x1_0 : (⟨S16384, .f32⟩ : BufTy).Contents (Elt F) → (⟨S16384x1, .f32⟩ : BufTy).Contents (Elt F)),
   StableHlo.binary main_arg1 main_arg1 main_v3 (mulf : (⟨S8192x64, .f32⟩ : BufTy).Contents (Elt F) → (⟨S8192x64, .f32⟩ : BufTy).Contents (Elt F) → (⟨S8192x64, .f32⟩ : BufTy).Contents (Elt F)),
   StableHlo.nullary main_cst_0 (constant S_ .f32 0x00000000#32),
   StableHlo.binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.nullary main_cst_1 (constant S_ .f32 0xC0000000#32),
   StableHlo.unary main_cst_1 main_v5 (broadcastInDim S16384x64 ![] bcast_S_S16384x64 : (⟨S_, .f32⟩ : BufTy).Contents (Elt F) → (⟨S16384x64, .f32⟩ : BufTy).Contents (Elt F)),
   StableHlo.binary main_arg0 main_v5 main_v6 (mulf : (⟨S16384x64, .f32⟩ : BufTy).Contents (Elt F) → (⟨S16384x64, .f32⟩ : BufTy).Contents (Elt F) → (⟨S16384x64, .f32⟩ : BufTy).Contents (Elt F)),
   StableHlo.unary main_v4 main_v7 (broadcastInDim S1x8192 ![1] bcast_S8192_S1x8192_1 : (⟨S8192, .f32⟩ : BufTy).Contents (Elt F) → (⟨S1x8192, .f32⟩ : BufTy).Contents (Elt F))]

/-- The codes reshaped, and the table padded to 128 lanes. -/
def packOps : List (HloOp τ sig (Elt F)) :=
  [StableHlo.reshape main_v8 main_v9 (rfl : (.i32 : EltTy) = .i32) shapeCasts_S16384x1_S16384,
   StableHlo.reshape main_v8 main_v10 (rfl : (.i32 : EltTy) = .i32) shapeCasts_S16384x1_S128x128,
   StableHlo.nullary main_c (constantI S_ 32 0#32),
   StableHlo.TRef.unary (.of main_c : StableHlo.TRef sig ⟨S_, .i32⟩) main_call0.v0 (sitofp .f32),
   StableHlo.TRef.binary (.of main_arg1 : StableHlo.TRef sig ⟨S8192x64, .f32⟩) main_call0.v0 main_call0.v1 (fun x v => pad S8192x128 ![0, 0] ![0, 64] ![0, 0] x v pads_S8192x64_S8192x128_000_0640 h_S_)]

/-- The gathered rows cut to 64 lanes. -/
def cutOps : List (HloOp τ sig (Elt F)) :=
  [StableHlo.unary main_v12_0 main_v13 ((extractStridedSlice S16384x64 ![0, 0] · slices_S16384x128_S16384x64_0_0) : (⟨S16384x128, .f32⟩ : BufTy).Contents (Elt F) → (⟨S16384x64, .f32⟩ : BufTy).Contents (Elt F))]

/-- The five statistics taken off their row. -/
def pickOps : List (HloOp τ sig (Elt F)) :=
  [StableHlo.unary main_v14_1 main_v15 ((extractStridedSlice S1x1 ![0, 0] · slices_S1x8_S1x1_0_0) : (⟨S1x8, .f32⟩ : BufTy).Contents (Elt F) → (⟨S1x1, .f32⟩ : BufTy).Contents (Elt F)),
   StableHlo.reshape main_v15 main_v16 (rfl : (.f32 : EltTy) = .f32) shapeCasts_S1x1_S_,
   StableHlo.unary main_v14_1 main_v17 ((extractStridedSlice S1x1 ![0, 1] · slices_S1x8_S1x1_0_1) : (⟨S1x8, .f32⟩ : BufTy).Contents (Elt F) → (⟨S1x1, .f32⟩ : BufTy).Contents (Elt F)),
   StableHlo.reshape main_v17 main_v18 (rfl : (.f32 : EltTy) = .f32) shapeCasts_S1x1_S_,
   StableHlo.unary main_v14_1 main_v19 ((extractStridedSlice S1x1 ![0, 2] · slices_S1x8_S1x1_0_2) : (⟨S1x8, .f32⟩ : BufTy).Contents (Elt F) → (⟨S1x1, .f32⟩ : BufTy).Contents (Elt F)),
   StableHlo.reshape main_v19 main_v20 (rfl : (.f32 : EltTy) = .f32) shapeCasts_S1x1_S_,
   StableHlo.unary main_v14_1 main_v21 ((extractStridedSlice S1x1 ![0, 3] · slices_S1x8_S1x1_0_3) : (⟨S1x8, .f32⟩ : BufTy).Contents (Elt F) → (⟨S1x1, .f32⟩ : BufTy).Contents (Elt F)),
   StableHlo.reshape main_v21 main_v22 (rfl : (.f32 : EltTy) = .f32) shapeCasts_S1x1_S_,
   StableHlo.unary main_v14_1 main_v23 ((extractStridedSlice S1x1 ![0, 4] · slices_S1x8_S1x1_0_4) : (⟨S1x8, .f32⟩ : BufTy).Contents (Elt F) → (⟨S1x1, .f32⟩ : BufTy).Contents (Elt F)),
   StableHlo.reshape main_v23 main_v24 (rfl : (.f32 : EltTy) = .f32) shapeCasts_S1x1_S_]

set_option maxRecDepth 65536 in
theorem main_parts (d : Dev nD) : main (F := F) d =
    (StableHlo.seq prepOps >>= fun _ => Prog.lift (.customCall (SparseCore.inner (Pipeline.entry 0)) ()) >>= fun _ =>
      StableHlo.seq packOps >>= fun _ => (K (F := F)).run d 0 >>= fun _ => StableHlo.seq cutOps >>= fun _ =>
      Prog.lift (.customCall (SparseCore.inner (Pipeline.entry 1)) ()) >>= fun _ => StableHlo.seq pickOps >>= fun _ => pure ⟨⟩) := by
  rfl

/-! ## What the buffers hold -/

/-- The launch memory as a valuation. -/
def start (m : (ℓ : Loc nD τ sig) → Buf (Elt F) ℓ) (d : Dev nD) : Valuation τ sig (Elt F) := fun b => m (d, b)

variable (m : (ℓ : Loc nD τ sig) → Buf (Elt F) ℓ) (ρ : Dev nD → PrngReg)

/-- A valuation once the SparseCore call is over. -/
def callAt (V : Valuation τ sig (Elt F)) : Valuation τ sig (Elt F) :=
  Function.update (Function.update V (Proc.devRef .tc main_v12_0) (gathered (V (Proc.devRef .tc main_v11)) (V (Proc.devRef .tc main_v10))))
    (Proc.devRef .tc main_v12_1) (histed (V (Proc.devRef .tc main_v10)))

theorem callAt_of_ne (V : Valuation τ sig (Elt F)) {r : Ref sig .tc} (h0 : r ≠ main_v12_0) (h1 : r ≠ main_v12_1) :
    callAt V (Proc.devRef .tc r) = V (Proc.devRef .tc r) := by
  unfold callAt
  rw [Function.update_of_ne (fun e => h1 (Proc.devRef_injective _ e)), Function.update_of_ne (fun e => h0 (Proc.devRef_injective _ e))]
theorem callAt_v12_0 (V : Valuation τ sig (Elt F)) :
    callAt V (Proc.devRef .tc main_v12_0) = gathered (V (Proc.devRef .tc main_v11)) (V (Proc.devRef .tc main_v10)) := by
  unfold callAt
  rw [Function.update_of_ne (fun e => absurd (Proc.devRef_injective _ e) (by decide)), Function.update_self]
theorem callAt_v12_1 (V : Valuation τ sig (Elt F)) : callAt V (Proc.devRef .tc main_v12_1) = histed (V (Proc.devRef .tc main_v10)) := by
  unfold callAt
  exact Function.update_self _ _ _

def V1 (d : Dev nD) : Valuation τ sig (Elt F) := StableHlo.after prepOps (start m d)
def V2 (d : Dev nD) : Valuation τ sig (Elt F) := codesAt (V1 m d)
def V3 (d : Dev nD) : Valuation τ sig (Elt F) := StableHlo.after packOps (V2 m d)
def V4 (d : Dev nD) : Valuation τ sig (Elt F) := callAt (V3 m d)
def V5 (d : Dev nD) : Valuation τ sig (Elt F) := StableHlo.after cutOps (V4 m d)
def V7 (d : Dev nD) (X : S1x8.Idx → F .f32) : Valuation τ sig (Elt F) := StableHlo.after pickOps (statsAt (V5 m d) X)

abbrev fI (d : Dev nD) : S128x128.Idx → BitVec 32 := V3 m d (Proc.devRef .tc main_v10)
abbrev fT (d : Dev nD) : S8192x128.Idx → F .f32 := V3 m d (Proc.devRef .tc main_v11)
abbrev fO (d : Dev nD) : S16384x128.Idx → F .f32 := V3 m d (Proc.devRef .tc main_v12_0)
abbrev fH (d : Dev nD) : S32x8192.Idx → BitVec 32 := V3 m d (Proc.devRef .tc main_v12_1)

/-! ## The SparseCore call's four arrays out of the unscoped buffers -/

/-- The call's arrays as a set of buffers. -/
def callRefs : Finset (DevRef τ sig) :=
  {Proc.devRef .tc main_v10, Proc.devRef .tc main_v11, Proc.devRef .tc main_v12_0, Proc.devRef .tc main_v12_1}

theorem callRefs_sub : callRefs ⊆ ucRefs τ sig := by
  intro x hx
  simp only [callRefs, Finset.mem_insert, Finset.mem_singleton] at hx
  rcases hx with rfl | rfl | rfl | rfl <;> exact Pipeline.devRef_mem_ucRefs (by decide)

theorem held_callRefs (d : Dev nD) (V : Valuation τ sig (Elt F)) :
    (StableHlo.held (T d) callRefs V : sProp 𝕄)
      = callIn d (V (Proc.devRef .tc main_v11)) (V (Proc.devRef .tc main_v10)) (V (Proc.devRef .tc main_v12_0)) (V (Proc.devRef .tc main_v12_1)) := by
  have ne {a b : Ref sig .tc} (h : a ≠ b) : (Proc.devRef .tc a : DevRef τ sig) ≠ Proc.devRef .tc b := fun e => h (Proc.devRef_injective _ e)
  have h1 := ne (a := main_v10) (b := main_v11) (by decide)
  have h2 := ne (a := main_v10) (b := main_v12_0) (by decide)
  have h3 := ne (a := main_v10) (b := main_v12_1) (by decide)
  have h4 := ne (a := main_v11) (b := main_v12_0) (by decide)
  have h5 := ne (a := main_v11) (b := main_v12_1) (by decide)
  have h6 := ne (a := main_v12_0) (b := main_v12_1) (by decide)
  unfold StableHlo.held callRefs
  rw [SparseCore.bigSep_insert' (by simp [h1, h2, h3]), SparseCore.bigSep_insert' (by simp [h4, h5]), SparseCore.bigSep_insert' (by simp [h6]),
    bigSep_singleton]

theorem callRefs_other (V : Valuation τ sig (Elt F)) : ∀ x ∈ ucRefs τ sig \ callRefs, V x = callAt V x := by
  intro x hx
  have hn := (Finset.mem_sdiff.mp hx).2
  simp only [callRefs, Finset.mem_insert, Finset.mem_singleton, not_or] at hn
  unfold callAt
  rw [Function.update_of_ne hn.2.2.2, Function.update_of_ne hn.2.2.1]

theorem held_open (d : Dev nD) (V : Valuation τ sig (Elt F)) :
    (StableHlo.held (T d) (ucRefs τ sig) V : sProp 𝕄)
      = iprop(callIn d (V (Proc.devRef .tc main_v11)) (V (Proc.devRef .tc main_v10)) (V (Proc.devRef .tc main_v12_0)) (V (Proc.devRef .tc main_v12_1))
        ∗ StableHlo.held (T d) (ucRefs τ sig \ callRefs) V) := by
  rw [StableHlo.held_sub_split (T d) callRefs_sub, held_callRefs]

theorem held_close (d : Dev nD) (V : Valuation τ sig (Elt F)) :
    (iprop(callIn d (V (Proc.devRef .tc main_v11)) (V (Proc.devRef .tc main_v10))
          (gathered (V (Proc.devRef .tc main_v11)) (V (Proc.devRef .tc main_v10))) (histed (V (Proc.devRef .tc main_v10)))
        ∗ StableHlo.held (T d) (ucRefs τ sig \ callRefs) V) : sProp 𝕄)
      = StableHlo.held (T d) (ucRefs τ sig) (callAt V) := by
  rw [held_open d (callAt V), callAt_v12_0, callAt_v12_1, callAt_of_ne V (r := main_v11) (by decide) (by decide),
    callAt_of_ne V (r := main_v10) (by decide) (by decide), StableHlo.held_congr (T d) (callRefs_other V)]

/-! ## The ghost state -/

theorem cell_inj : Function.Injective (Pipeline.cellOf (nD := nD) (τ := τ) (pin (pcfgs (F := F)) adm)) := launch0.toP.cellOf_inj adm

def u₀ : UU := (initOf (K (F := F)).hsCells (K (F := F)).hsToks,
  (initOf (Pipeline.cells (pin (pcfgs (F := F)) adm) cell_inj) (Pipeline.launchToks (pin (pcfgs (F := F)) adm) cell_inj), 1))

/-- What the launch deals device `d` for its two pipelines. -/
def G (d : Dev nD) : sProp 𝕄 :=
  iprop((bigSep Finset.univ fun p : Fin 2 => Pipeline.cellsGhost (pin (pcfgs (F := F)) adm) EP p d)
    ∗ bigSep Finset.univ fun p : Fin 2 => Pipeline.toksInit (pin (pcfgs (F := F)) adm) EP p d)

theorem G_eq (d : Dev nD) : (G d : sProp 𝕄) =
    iprop((Pipeline.cellsGhost (pin (pcfgs (F := F)) adm) EP 0 d ∗ Pipeline.cellsGhost (pin (pcfgs (F := F)) adm) EP 1 d)
      ∗ (Pipeline.toksInit (pin (pcfgs (F := F)) adm) EP 0 d ∗ Pipeline.toksInit (pin (pcfgs (F := F)) adm) EP 1 d)) := by
  unfold G
  rw [show (Finset.univ : Finset (Fin 2)) = {0, 1} from rfl, SparseCore.bigSep_insert' (by decide), bigSep_singleton,
    SparseCore.bigSep_insert' (by decide), bigSep_singleton]

theorem own_halves (x : UP) : (BI.own (embR (x, (1 : Counters))) : sProp 𝕄) ⊢ BI.own (EP x) := Entails.of_eq rfl

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (fT m) (fI m) (fO m) (fH m)).x q thr) := by
  unfold u₀
  iintro Hu
  ihave H := (ownU_pair (initOf (K (F := F)).hsCells (K (F := F)).hsToks)
    ((initOf (Pipeline.cells (pin (pcfgs (F := F)) adm) cell_inj) (Pipeline.launchToks (pin (pcfgs (F := F)) adm) cell_inj), (1 : Counters)))) $$ Hu
  icases H with ⟨HH, HP⟩
  ihave HP := (own_halves (F := F) _) $$ HP
  imod (Pipeline.fund_ghost (pin (pcfgs (F := F)) adm) EP cell_inj) $$ HP with ⟨HC, HT⟩
  imodintro
  isplitl [HH]; · iexact HH
  isplitl [HC HT]
  · unfold G
    rw [bigSep_sep']
    isplitl [HC]; · iexact HC
    iexact HT
  rw [show (bigSep Finset.univ fun thr : Thread nD τ => bigSep Finset.univ fun q : Fin 1 => (P (F := F) (fT m) (fI m) (fO m) (fH m)).x q thr)
      = bigSep Finset.univ fun _ => iprop(emp) from bigSep_congr fun _ _ => bigSep_univ_of_subsingleton (0 : Fin 1)]
  iapply (Entails.of_eq (bigSep_emp_const (Finset.univ : Finset (Thread nD τ))).symm : (iprop(emp) : sProp 𝕄) ⊢ _)
  iempintro

/-! ## @main on the TensorCore -/

theorem Otc_none (d : Dev nD) (n : ℕ) (g : GSem nD τ sig) : (K (F := F)).Otc (N := 1) d n g none = 0 := by
  by_contra h
  have := (K (F := F)).lev_of_Otc_pos (Nat.pos_of_ne_zero h)
  rw [(K (F := F)).lev_none] at this
  omega

/-- What @main leaves: the unscoped buffers, a row of statistics among them. -/
def FIN (d : Dev nD) : sProp 𝕄 :=
  iprop(∃ X, ⌜IsStats (V5 m d (Proc.devRef .tc main_arg0)) (V5 m d (Proc.devRef .tc main_v13)) (V5 m d (Proc.devRef .tc main_v12_1)) X⌝
    ∗ StableHlo.held (T d) (ucRefs τ sig) (V7 m d X))

def fq (d : Dev nD) (s' : Phys nD τ sig (Elt F)) : Prop :=
  ∃ X, IsStats (V5 m d (Proc.devRef .tc main_arg0)) (V5 m d (Proc.devRef .tc main_v13)) (V5 m d (Proc.devRef .tc main_v12_1)) X
    ∧ ∀ x ∈ ucRefs τ sig, s'.mem.mem (d, x) = V7 m d X x

theorem hfin (d : Dev nD) (s' : Phys nD τ sig (Elt F)) : iprop(FIN m d ∗ SI s') ⊢ (⌜fq m d s'⌝ : sProp 𝕄) := by
  unfold FIN StableHlo.held
  iintro ⟨⟨%X, %hX, H⟩, HSI⟩
  ihave %h := (SI_pointsTo_bufs_agree (qs := fun _ => fullShare) (ucRefs τ sig)) $$ [HSI H]
  · isplitl [HSI]; · iexact HSI
    iexact H
  ipureintro
  exact ⟨X, hX, h⟩

theorem prep_sub : (prepOps : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub ..,
    StableHlo.nullary_bufs_sub .., StableHlo.binary_bufs_sub .., StableHlo.nullary_bufs_sub .., StableHlo.unary_bufs_sub .., StableHlo.binary_bufs_sub ..,
    StableHlo.unary_bufs_sub ..⟩
theorem pack_sub : (packOps : List (HloOp τ sig (Elt F))).Forall fun op => op.bufs ⊆ StableHlo.tcRefs τ sig :=
  ⟨StableHlo.reshape_bufs_sub .., StableHlo.reshape_bufs_sub .., StableHlo.nullary_bufs_sub .., StableHlo.unary_bufs_sub .., StableHlo.binary_bufs_sub ..⟩
theorem cut_sub : (cutOps : List (HloOp τ sig (Elt F))).Forall fun op => op.bufs ⊆ StableHlo.tcRefs τ sig :=
  StableHlo.unary_bufs_sub ..
theorem pick_sub : (pickOps : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub ..,
    StableHlo.reshape_bufs_sub .., StableHlo.unary_bufs_sub .., StableHlo.reshape_bufs_sub .., StableHlo.unary_bufs_sub .., StableHlo.reshape_bufs_sub ..⟩

theorem prep_fresh : (prepOps : List (HloOp τ sig (Elt F))).Forall fun op => op.fresh = ∅ := ⟨rfl, rfl, rfl, rfl, rfl, rfl, rfl, rfl, rfl, rfl, rfl⟩
theorem pack_fresh : (packOps : List (HloOp τ sig (Elt F))).Forall fun op => op.fresh = ∅ := ⟨rfl, rfl, rfl, rfl, rfl⟩
theorem cut_fresh : (cutOps : List (HloOp τ sig (Elt F))).Forall fun op => op.fresh = ∅ := rfl
theorem pick_fresh : (pickOps : List (HloOp τ sig (Elt F))).Forall fun op => op.fresh = ∅ := ⟨rfl, rfl, rfl, rfl, rfl, rfl, rfl, rfl, rfl, rfl⟩

set_option backward.isDefEq.respectTransparency.types false in
/-- A line of host operations, on the boundary and the unscoped buffers. -/
theorem host_wp (d : Dev nD) (ops : List (HloOp τ sig (Elt F))) (hs : ops.Forall fun op => op.bufs ⊆ StableHlo.tcRefs τ sig)
    (hf : ops.Forall fun op => op.fresh = ∅) (V : Valuation τ sig (Elt F)) :
    iprop(boundary (T d) ∗ StableHlo.held (T d) (ucRefs τ sig) V)
      ⊢ (wp frame (wpE ((K (F := F)).defs (D (F := F))) 𝒱 (T d) none) Set.univ (StableHlo.seq ops)
          fun _ => iprop(boundary (T d) ∗ StableHlo.held (T d) (ucRefs τ sig) (StableHlo.after ops V)) : sProp 𝕄) := by
  have h := StableHlo.wp_seq (defs := (K (F := F)).defs (D (F := F))) 𝒱 none Set.univ d (ucRefs τ sig) (fun _ => Prog.ret PUnit.unit)
    (K := fun _ => (iprop(boundary (T d) ∗ StableHlo.held (T d) (ucRefs τ sig) (StableHlo.after ops V)) : sProp 𝕄)) ops
    (fun op ho => Pipeline.sub_ucRefs op (List.forall_iff_forall_mem.mp hs op ho)) (fun op ho => List.forall_iff_forall_mem.mp hf op ho) V
  rw [show (StableHlo.seq ops >>= fun _ => Prog.ret PUnit.unit : Prog (TpuEff nD τ sig (Elt F) (SparseCore.Sig (ΛP (F := F)) 1) .tc) PUnit) = StableHlo.seq ops from bind_pure _] at h
  iintro H
  iapply h $$ H
  iintro H
  iapply (le_wp_ret frame _ _)
  iexact H

theorem after_wp {α β : Type} (d : Dev nD) (p : Prog (TpuEff nD τ sig (Elt F) (SparseCore.Sig (ΛP (F := F)) 1) .tc) α)
    (k : α → Prog (TpuEff nD τ sig (Elt F) (SparseCore.Sig (ΛP (F := F)) 1) .tc) β) (A : sProp 𝕄) (B : α → sProp 𝕄) (C : β → sProp 𝕄)
    (h : A ⊢ wp frame (wpE ((K (F := F)).defs (D (F := F))) 𝒱 (T d) none) Set.univ p B)
    (h' : ∀ a, B a ⊢ wp frame (wpE ((K (F := F)).defs (D (F := F))) 𝒱 (T d) none) Set.univ (k a) C) :
    A ⊢ wp frame (wpE ((K (F := F)).defs (D (F := F))) 𝒱 (T d) none) Set.univ (p >>= k) C := by
  rw [wp_bind]
  exact h.trans (wp_mono frame _ _ h')

/-- @main before a region: the boundary, the buffers at `V`, the call's protocol at round `n`, and what else is kept. -/
def atHost (d : Dev nD) (n : ℕ) (V : Valuation τ sig (Elt F)) (R : sProp 𝕄) : sProp 𝕄 :=
  iprop((boundary (T d) ∗ StableHlo.held (T d) (ucRefs τ sig) V) ∗ (K (F := F)).tcSt EH d n ∗ R)

/-- A line of host operations there. -/
theorem atHost_seq (d : Dev nD) (n : ℕ) (ops : List (HloOp τ sig (Elt F))) (hs : ops.Forall fun op => op.bufs ⊆ StableHlo.tcRefs τ sig)
    (hf : ops.Forall fun op => op.fresh = ∅) (V : Valuation τ sig (Elt F)) (R : sProp 𝕄) :
    atHost d n V R ⊢ wp frame (wpE ((K (F := F)).defs (D (F := F))) 𝒱 (T d) none) Set.univ (StableHlo.seq ops)
      fun _ => atHost d n (StableHlo.after ops V) R := by
  unfold atHost
  iintro ⟨HB, HR⟩
  ihave Hwp := (host_wp d ops hs hf V) $$ HB
  iapply (wp_wand_r frame _ Set.univ) $$ [Hwp HR]
  isplitl [Hwp]; · iexact Hwp
  iintro %r HB
  isplitl [HB]; · iexact HB
  iexact HR

abbrev Zb : SparseCore.Cfg.Blocks 1 1 := inferInstance

/-- What `tcSt` keeps besides the debt. -/
def tcKeep (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (Zb.last q)) 1)))

theorem tcSt_eq (d : Dev nD) (n : ℕ) :
    ((K (F := F)).tcSt EH d n : sProp 𝕄) = iprop(owing d ((K (F := F)).Otc d n) (8 * Zb.fst n) ∗ tcKeep d n) := rfl

variable [∀ e, Nonempty (Elt F e)]

theorem atHost_region0 (d : Dev nD) (V : Dev nD → Valuation τ sig (Elt F)) (R : sProp 𝕄) :
    atHost d 0 (V d) iprop(levAts (K (F := F)).L (K (F := F)).lev
        ∗ (Pipeline.cellsGhost (pin (pcfgs (F := F)) adm) EP 0 d ∗ Pipeline.toksInit (pin (pcfgs (F := F)) adm) EP 0 d) ∗ R)
      ⊢ wp frame (wpE ((K (F := F)).defs (D (F := F))) 𝒱 (T d) none) Set.univ (Prog.lift (.customCall (SparseCore.inner (Pipeline.entry 0)) ()))
        fun _ => atHost d 0 (codesAt (V d)) R := by
  unfold atHost
  rw [tcSt_eq]
  iintro ⟨⟨HB, HH⟩, ⟨HO, HK⟩, HL, ⟨HC, HT⟩, HR⟩
  ihave Hwp := (region0 (V := V) (O := fun d => (K (F := F)).Otc d 0) (b := 8 * Zb.fst 0) (fun c g => Otc_none c 0 g) d)
    $$ [HB HH HO HL HC HT]
  · isplitl [HB]; · iexact HB
    isplitl [HH]; · iexact HH
    isplitl [HO]; · iexact HO
    isplitl [HL]; · iexact HL
    isplitl [HC] <;> iassumption
  iapply (wp_wand_r frame _ Set.univ) $$ [Hwp HK HR]
  isplitl [Hwp]; · iexact Hwp
  iintro %r ⟨HB, HH, HO⟩
  isplitl [HB HH]
  · isplitl [HB] <;> iassumption
  isplitl [HO HK]
  · isplitl [HO] <;> iassumption
  iexact HR

theorem atHost_region2 (d : Dev nD) (V : Dev nD → Valuation τ sig (Elt F)) (R : sProp 𝕄) :
    atHost d 1 (V d) iprop(levAts (K (F := F)).L (K (F := F)).lev
        ∗ (Pipeline.cellsGhost (pin (pcfgs (F := F)) adm) EP 1 d ∗ Pipeline.toksInit (pin (pcfgs (F := F)) adm) EP 1 d) ∗ R)
      ⊢ wp frame (wpE ((K (F := F)).defs (D (F := F))) 𝒱 (T d) none) Set.univ (Prog.lift (.customCall (SparseCore.inner (Pipeline.entry 1)) ()))
        fun _ => iprop(∃ X, ⌜IsStats (V d (Proc.devRef .tc main_arg0)) (V d (Proc.devRef .tc main_v13)) (V d (Proc.devRef .tc main_v12_1)) X⌝
          ∗ atHost d 1 (statsAt (V d) X) R) := by
  unfold atHost
  rw [tcSt_eq]
  iintro ⟨⟨HB, HH⟩, ⟨HO, HK⟩, HL, ⟨HC, HT⟩, HR⟩
  ihave Hwp := (region2 (V := V) (O := fun d => (K (F := F)).Otc d 1) (b := 8 * Zb.fst 1) (fun c g => Otc_none c 1 g) d)
    $$ [HB HH HO HL HC HT]
  · isplitl [HB]; · iexact HB
    isplitl [HH]; · iexact HH
    isplitl [HO]; · iexact HO
    isplitl [HL]; · iexact HL
    isplitl [HC] <;> iassumption
  iapply (wp_wand_r frame _ Set.univ) $$ [Hwp HK HR]
  isplitl [Hwp]; · iexact Hwp
  iintro %r ⟨HB, ⟨%X, %hX, HH⟩, HO⟩
  iexists X
  isplitr; · ipureintro; exact hX
  isplitl [HB HH]
  · isplitl [HB] <;> iassumption
  isplitl [HO HK]
  · isplitl [HO] <;> iassumption
  iexact HR

/-- The SparseCore call there. -/
theorem atHost_call (κ : GSem nD τ sig → ℕ) (d : Dev nD) (R : sProp 𝕄) :
    atHost d 0 (V3 m d) iprop((K (F := F)).ctx EH (P (fT m) (fI m) (fO m) (fH m)) κ ∗ R)
      ⊢ wp frame (wpE ((K (F := F)).defs (D (F := F))) 𝒱 (T d) none) Set.univ ((K (F := F)).run d 0) fun _ => atHost d 1 (V4 m d) R := by
  unfold atHost V4
  iintro ⟨⟨HB, HH⟩, Hst, #Hctx, HR⟩
  ihave HH := (Entails.of_eq (held_open d (V3 m d))) $$ HH
  icases HH with ⟨HI, HH⟩
  iapply ((K (F := F)).wp_run (D (F := F)) 𝒱 (EH := EH) (P := P (fT m) (fI m) (fO m) (fH m)) κ d 0) $$ [Hst HI HB HH HR]
  isplitr; · iexact Hctx
  isplitl [Hst]; · iexact Hst
  isplitl [HI]
  · rw [st0_eq]
    iexact HI
  iintro ⟨Hst, Hdn⟩
  ihave HI := (Entails.of_eq (dn0_eq (fT m) (fI m) (fO m) (fH m) d)) $$ Hdn
  isplitl [HB HI HH]
  · isplitl [HB]; · iexact HB
    ihave HH := (Entails.of_eq (held_close d (V3 m d))) $$ [HI HH]
    · isplitl [HI] <;> iassumption
    iexact HH
  isplitl [Hst]; · iexact Hst
  iexact HR

theorem unscoped_start (d : Dev nD) :
    (unscopedBufs d (fun b => m ((SparseCore.T d).loc b)) : sProp 𝕄) = StableHlo.held (T d) (ucRefs τ sig) (start m d) :=
  Pipeline.unscopedBufs_held d (start m d)

theorem hmain (κ : GSem nD τ sig → ℕ) (d : Dev nD) :
    iprop((K (F := F)).ctx EH (P (fT m) (fI m) (fO m) (fH m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  rw [main_parts]
  have e0 : iprop((K (F := F)).ctx EH (P (fT m) (fI m) (fO m) (fH m)) κ ∗ (K (F := F)).tcSt EH d 0 ∗ (K (F := F)).tcRes m ρ d ∗ G d)
      ⊢ atHost d 0 (start m d) iprop(levAts (K (F := F)).L (K (F := F)).lev
        ∗ (Pipeline.cellsGhost (pin (pcfgs (F := F)) adm) EP 0 d ∗ Pipeline.toksInit (pin (pcfgs (F := F)) adm) EP 0 d)
        ∗ (K (F := F)).ctx EH (P (fT m) (fI m) (fO m) (fH m)) κ
        ∗ levAts (K (F := F)).L (K (F := F)).lev
        ∗ (Pipeline.cellsGhost (pin (pcfgs (F := F)) adm) EP 1 d ∗ Pipeline.toksInit (pin (pcfgs (F := F)) adm) EP 1 d)
        ∗ (K (F := F)).tcSems0 d) := by
    unfold atHost SparseCore.Cfg.tcRes
    iintro ⟨#Hctx, Hst, ⟨HB, HH, Hts, -⟩, HG⟩
    ihave HG := (Entails.of_eq (G_eq d)) $$ HG
    icases HG with ⟨⟨HC0, HC1⟩, ⟨HT0, HT1⟩⟩
    ihave HH := (Entails.of_eq (unscoped_start m d)) $$ HH
    ihave #HL := (SparseCore.Cfg.ctx_levAts κ) $$ Hctx
    isplitl [HB HH]
    · isplitl [HB] <;> iassumption
    isplitl [Hst]; · iexact Hst
    isplitr; · iexact HL
    isplitl [HC0 HT0]
    · isplitl [HC0] <;> iassumption
    isplitr; · iexact Hctx
    isplitr; · iexact HL
    isplitl [HC1 HT1]
    · isplitl [HC1] <;> iassumption
    iexact Hts
  refine after_wp d _ _ _ _ _ (e0.trans (atHost_seq d 0 prepOps prep_sub prep_fresh _ _)) fun _ => ?_
  refine after_wp d _ _ _ _ _ (atHost_region0 d (V1 m) _) fun _ => ?_
  refine after_wp d _ _ _ _ _ (atHost_seq d 0 packOps pack_sub pack_fresh _ _) fun _ => ?_
  refine after_wp d _ _ _ _ _ (atHost_call m κ d _) fun _ => ?_
  refine after_wp d _ _ _ _ _ (atHost_seq d 1 cutOps cut_sub cut_fresh _ _) fun _ => ?_
  refine after_wp d _ _ _ _ _ (atHost_region2 d (V5 m) _) fun _ => ?_
  iintro ⟨%X, %hX, H⟩
  ihave Hwp := (atHost_seq d 1 pickOps pick_sub pick_fresh (statsAt (V5 m d) X) ((K (F := F)).tcSems0 d)) $$ H
  rw [wp_bind]
  iapply (wp_wand_r frame _ Set.univ) $$ [Hwp]
  isplitl [Hwp]; · iexact Hwp
  iintro %r H
  iapply (le_wp_ret frame _ _)
  unfold atHost FIN SparseCore.Cfg.tcEnd
  icases H with ⟨⟨HB, HH⟩, Hst, Hts⟩
  isplitl [Hst]; · iexact Hst
  isplitl [HH]
  · iexists X
    isplitr; · ipureintro; exact hX
    iexact HH
  isplitl [HB] <;> iassumption

/-! ## The program's run -/

/-- Every execution ends, quiescent, with the unscoped buffers as computed. -/
theorem run_main (hI : ∀ d x, (fI m d x).toNat < 8192) :
    θ_run (Cert.KernelIdeal.defs (F := F)) (Cert.KernelIdeal.threads (F := F)) ⟨m, fun _ => 0, ρ⟩
      fun r => (∀ d, ∃ X, IsStats (V5 m d (Proc.devRef .tc main_arg0)) (V5 m d (Proc.devRef .tc main_v13)) (V5 m d (Proc.devRef .tc main_v12_1)) X
        ∧ ∀ x ∈ ucRefs τ sig, r.2.mem (d, x) = V7 m d X x) ∧ r.2.sem = fun _ => 0 :=
  SparseCore.Cfg.θ_run_sc_quiescent (K := K (F := F)) (D := D (F := F)) (𝒱 := 𝒱) (EH := EH) (P := P (fT m) (fI m) (fO m) (fH m)) (A := ∅) facts v₀
    (fun q hq => match q with | 0 => nomatch hq)
    (fun q _ => match q with | 0 => tileObl (fT m) (fI m) (fO m) (fH m) facts hI)
    (fun q _ => match q with | 0 => SparseCore.Cfg.VecSplit.of_plain (vecSplit (fT m) (fI m) (fO m) (fH m)))
    m ρ main (fun d => G d) (FIN m) (u₀ (F := F)) (sep_elim_left.trans (hu₀ m)) (hmain m ρ) (fq m) (hfin m) _ (fun _ h hz => ⟨h, hz⟩)

end Cert.Proof
-- ==== Proof.Codes.lean ====
/-
  The argmin body's payload at the extended reals: a row's code is the first place of its least distance.
-/
module

public import proofs.«01_k».proof.Proof.First
public import proofs.«01_k».proof.Proof.Main

@[expose] public section

set_option maxRecDepth 65536

noncomputable section

namespace Cert.Proof

open Cert.KernelIdeal Cert.KernelIdeal.Gen
open Idealize.ShloMosaic hiding ix1 ix2 eq_ix1 eq_ix2
open Idealize.ShloMosaic.ValueIdx

/-- A block's distances, as the body adds them up. -/
def distK (v0 : Vec Ideal S256x64 .f32) (v2 : Vec Ideal S8192x64 .f32) (v4 : Vec Ideal S256x1 .f32) (v6 : Vec Ideal S1x8192 .f32) : FVec Ideal S256x8192 .f32 :=
  addf (addf (broadcastTo S256x8192 (shapeCast S256x1 v4 shapeCasts_S256x1_S256x1) broadcasts_S256x1_S256x8192)
      (broadcastTo S256x8192 (shapeCast S1x8192 v6 shapeCasts_S1x8192_S1x8192) broadcasts_S1x8192_S256x8192))
    (matmul dot_S256x64_S8192x64_S256x8192_1_1_0_0_n_n none (φ₁ := .f32) (φ₂ := .f32)
      (shapeCast S256x64 v0 shapeCasts_S256x64_S256x64) v2 (constant S256x8192 .f32 0x00000000#32))

/-- The least entries of a half. -/
def leastK (x : FVec Ideal S256x4096 .f32) : FVec Ideal S256x1 .f32 :=
  shapeCast S256x1 (multiReduction .minimumf [1] S256 x 0x7F800000#32 reduces_S256x4096_S256 (.inl rfl) rfl) shapeCasts_S256_S256x1

/-- Their first places. -/
def placeK (x : FVec Ideal S256x4096 .f32) : IVec S256 32 :=
  multiReductionI .minsi [1] S256 (select (cmpf .oeq x (broadcastTo S256x4096 (leastK x) broadcasts_S256x1_S256x4096))
    (iota .tc S256x4096 32 [1] iota_S256x4096_d1_w32) (broadcast S256x4096 1073741824#32)) 2147483647#32 reduces_S256x4096_S256 rfl

/-- The two halves put together. -/
def joinK (a b : FVec Ideal S256x4096 .f32) : IVec S256x1 32 :=
  shapeCast S256x1 (select (cmpf .olt (shapeCast S256 (leastK b) shapeCasts_S256x1_S256)
      (extf .f32 (truncf .bf16 (shapeCast S256 (leastK a) shapeCasts_S256x1_S256) bitsLt_bf16_f32) bitsLt_bf16_f32))
    (addi (placeK b) (broadcast S256 4096#32)) (placeK a)) shapeCasts_S256_S256x1

theorem pay1_eq (v0 : Vec Ideal S256x64 .f32) (v2 : Vec Ideal S8192x64 .f32) (v4 : Vec Ideal S256x1 .f32) (v6 : Vec Ideal S1x8192 .f32) :
    k0_pay1 v0 v2 v4 v6 = joinK (extractStridedSlice S256x4096 ![0, 0] (distK v0 v2 v4 v6) slices_S256x8192_o0_0_S256x4096)
      (extractStridedSlice S256x4096 ![0, 4096] (distK v0 v2 v4 v6) slices_S256x8192_o0_4096_S256x4096) := rfl

theorem cast_col {α : Type} (x : S256.Idx → α) (r : Fin 256) (c : Fin 1) : shapeCast S256x1 x shapeCasts_S256_S256x1 (ix2 r c) = x (ix1 r) := by
  pointwise
  congr 1

theorem cast_row {α : Type} (x : S256x1.Idx → α) (r : Fin 256) : shapeCast S256 x shapeCasts_S256x1_S256 (ix1 r) = x (ix2 r 0) := by
  pointwise
  congr 1

theorem bc_row (x : FVec Ideal S256x1 .f32) (i : S256x4096.Idx) : broadcastTo S256x4096 x broadcasts_S256x1_S256x4096 i = x (ix2 (i 0) 0) := by
  show x _ = x _
  congr 1
  funext a
  match a with
  | ⟨0, _⟩ => exact Fin.ext rfl
  | ⟨1, _⟩ => exact Fin.ext rfl

theorem drop_row (i : S256x4096.Idx) (r : Fin 256) : reduces_S256x4096_S256.drop i = ix1 r ↔ i 0 = r := by
  rw [funext_iff]
  constructor
  · intro h
    exact Fin.ext ((reduces_S256x4096_S256.drop_apply_val_of_eq i 0 0).symm.trans (congrArg Fin.val (h 0)))
  · intro h b
    match b with
    | ⟨0, _⟩ => exact Fin.ext ((reduces_S256x4096_S256.drop_apply_val_of_eq i 0 0).trans (congrArg Fin.val h))

theorem iota_at (i : S256x4096.Idx) : iota .tc S256x4096 32 [1] iota_S256x4096_d1_w32 i = BitVec.ofNat 32 (i 1).val := by
  show BitVec.ofNat 32 (0 * _ + (i 1).val) = _
  rw [Nat.zero_mul, Nat.zero_add]

/-- A half's row: its least entry and the first place of it. -/
theorem half_row (x : FVec Ideal S256x4096 .f32) (r : Fin 256) :
    ∃ k : Fin 4096, IsFirst (fun k => x (ix2 r k)) k ∧ leastK x (ix2 r 0) = x (ix2 r k) ∧ placeK x (ix1 r) = BitVec.ofNat 32 k.val := by
  have hl : leastK x (ix2 r 0) = (Finset.univ.filter fun i => reduces_S256x4096_S256.drop i = ix1 r).fold min ⊤ x := by
    unfold leastK
    rw [cast_col]
    exact multiReduction_minimumf_eq_fold _ _ _ _ _ _
  have hp : placeK x (ix1 r) = (Finset.univ.filter fun i => reduces_S256x4096_S256.drop i = ix1 r).fold IntOp.minsi 2147483647#32
      (fun i => Scalar.select (Ideal.cmp .oeq (x i) (leastK x (ix2 r 0))) (BitVec.ofNat 32 (i 1).val) 1073741824#32) := by
    unfold placeK
    refine (multiReductionI_eq_fold _ _ _ _ _ _).trans (Finset.fold_congr fun i hi => ?_)
    rw [Finset.mem_filter, drop_row] at hi
    show Scalar.select (Ideal.cmp .oeq (x i) _) (iota .tc S256x4096 32 [1] iota_S256x4096_d1_w32 i) _ = _
    rw [iota_at, bc_row, hi.2]
    rfl
  obtain ⟨k, h1, h2, h3⟩ := fold_place (le_refl 4096) (Finset.univ.filter fun i => reduces_S256x4096_S256.drop i = ix1 r) x (fun i => i 1)
    (fun k => x (ix2 r k)) ⟨ix2 r 0, by rw [Finset.mem_filter, drop_row]; exact ⟨Finset.mem_univ _, rfl⟩⟩
    (fun i hi => by
      rw [Finset.mem_filter, drop_row] at hi
      rw [← hi.2]
      exact congrArg x (eq_ix2 i))
    fun k => ⟨ix2 r k, by rw [Finset.mem_filter, drop_row]; exact ⟨Finset.mem_univ _, rfl⟩, rfl⟩
  rw [← hl] at h2 h3
  exact ⟨k, h1, h2, hp.trans h3⟩

theorem cut_lo {α : Type} (D : S256x8192.Idx → α) (r : Fin 256) (k : Fin 4096) :
    extractStridedSlice S256x4096 ![0, 0] D slices_S256x8192_o0_0_S256x4096 (ix2 r k) = D (ix2 r ⟨k.val, by omega⟩) := by
  refine congrArg D (funext fun a => ?_)
  match a with
  | ⟨0, _⟩ => exact Fin.ext (Nat.zero_add r.val)
  | ⟨1, _⟩ => exact Fin.ext (Nat.zero_add k.val)

theorem cut_hi {α : Type} (D : S256x8192.Idx → α) (r : Fin 256) (k : Fin 4096) :
    extractStridedSlice S256x4096 ![0, 4096] D slices_S256x8192_o0_4096_S256x4096 (ix2 r k) = D (ix2 r ⟨4096 + k.val, by omega⟩) := by
  refine congrArg D (funext fun a => ?_)
  match a with
  | ⟨0, _⟩ => exact Fin.ext (Nat.zero_add r.val)
  | ⟨1, _⟩ => exact Fin.ext rfl

theorem pick_at (lb la : FVec Ideal S256 .f32) (pb pa : IVec S256 32) (i : S256.Idx) :
    select (cmpf .olt lb (extf .f32 (truncf .bf16 la bitsLt_bf16_f32) bitsLt_bf16_f32)) (addi pb (broadcast S256 4096#32)) pa i
      = Scalar.select (Ideal.cmp .olt (lb i) (la i)) (IntOp.addi (pb i) 4096#32) (pa i) := by
  rw [select_apply, cmpf_apply]
  rfl

theorem join_row (a b : FVec Ideal S256x4096 .f32) (r : Fin 256) (c : Fin 1) :
    joinK a b (ix2 r c) = Scalar.select (Ideal.cmp .olt (leastK b (ix2 r 0)) (leastK a (ix2 r 0)))
      (IntOp.addi (placeK b (ix1 r)) 4096#32) (placeK a (ix1 r)) := by
  unfold joinK
  rw [cast_col, pick_at, cast_row, cast_row]

/-- A block's row: its code is the first place of its least distance. -/
theorem pay1_row (v0 : Vec Ideal S256x64 .f32) (v2 : Vec Ideal S8192x64 .f32) (v4 : Vec Ideal S256x1 .f32) (v6 : Vec Ideal S1x8192 .f32)
    (r : Fin 256) (c : Fin 1) :
    ∃ k : Fin 8192, IsFirst (fun k => distK v0 v2 v4 v6 (ix2 r k)) k ∧ k0_pay1 v0 v2 v4 v6 (ix2 r c) = BitVec.ofNat 32 k.val := by
  rw [pay1_eq]
  generalize distK v0 v2 v4 v6 = D
  obtain ⟨ka, a1, a2, a3⟩ := half_row (extractStridedSlice S256x4096 ![0, 0] D slices_S256x8192_o0_0_S256x4096) r
  obtain ⟨kb, b1, b2, b3⟩ := half_row (extractStridedSlice S256x4096 ![0, 4096] D slices_S256x8192_o0_4096_S256x4096) r
  simp only [cut_lo] at a1 a2
  simp only [cut_hi] at b1 b2
  obtain ⟨k, h1, h2⟩ := first_halves (fun k => D (ix2 r k)) ka kb a1 b1
  refine ⟨k, h1, ?_⟩
  rw [← h2, join_row, a2, b2, a3, b3]

end Cert.Proof
-- ==== Proof.Range.lean ====
/-
  The codes at the extended reals are all below 8192, so the program runs; and its arguments are left as found.
-/
module

public import proofs.«01_k».proof.Proof.Codes

@[expose] public section

noncomputable section

namespace Cert.Proof

open Cert.KernelIdeal Cert.KernelIdeal.Gen
open Idealize.ShloMosaic hiding ix1 ix2 eq_ix1 eq_ix2
open Idealize.ShloMosaic.ValueIdx Idealize.ShloMosaic.StableHlo Idealize.ShloMosaic.TcCoe Idealize.SL.Sem

section AnyInstance
variable {F : FTy → Type} [FloatOps F]

abbrev prepRefs : List (Ref sig .tc) := [main_v0, main_cst, main_v1, main_v2, main_v3, main_cst_0, main_v4, main_cst_1, main_v5, main_v6, main_v7]
abbrev packRefs : List (Ref sig .tc) := [main_v9, main_v10, main_c, main_call0_v0, main_v11]
abbrev cutRefs : List (Ref sig .tc) := [main_v13]
abbrev pickRefs : List (Ref sig .tc) := [main_v15, main_v16, main_v17, main_v18, main_v19, main_v20, main_v21, main_v22, main_v23, main_v24]

theorem prep_keep (V : Valuation τ sig (Elt F)) {r : Ref sig .tc} (h : r ∉ prepRefs) : after prepOps V (Proc.devRef .tc r) = V (Proc.devRef .tc r) :=
  after_of_writes_sub prepOps V (forall_writes_sub_of_map rfl) h
theorem pack_keep (V : Valuation τ sig (Elt F)) {r : Ref sig .tc} (h : r ∉ packRefs) : after packOps V (Proc.devRef .tc r) = V (Proc.devRef .tc r) :=
  after_of_writes_sub packOps V (forall_writes_sub_of_map rfl) h
theorem cut_keep (V : Valuation τ sig (Elt F)) {r : Ref sig .tc} (h : r ∉ cutRefs) : after cutOps V (Proc.devRef .tc r) = V (Proc.devRef .tc r) :=
  after_of_writes_sub cutOps V (forall_writes_sub_of_map rfl) h
theorem pick_keep (V : Valuation τ sig (Elt F)) {r : Ref sig .tc} (h : r ∉ pickRefs) : after pickOps V (Proc.devRef .tc r) = V (Proc.devRef .tc r) :=
  after_of_writes_sub pickOps V (forall_writes_sub_of_map rfl) h

variable (m : (ℓ : Loc nD τ sig) → Buf (Elt F) ℓ) (d : Dev nD)

theorem V5_of_V2 {r : Ref sig .tc} (h1 : r ∉ packRefs) (h2 : r ≠ main_v12_0) (h3 : r ≠ main_v12_1) (h4 : r ∉ cutRefs) :
    V5 m d (Proc.devRef .tc r) = V2 m d (Proc.devRef .tc r) := by
  unfold V5 V4 V3
  rw [cut_keep _ h4, callAt_of_ne _ h2 h3, pack_keep _ h1]

theorem V2_arg {r : Ref sig .tc} (h1 : r ∉ prepRefs) (h2 : r ≠ main_v8) : V2 m d (Proc.devRef .tc r) = m ((d.tc : Thread nD τ).loc r) := by
  unfold V2 V1
  rw [codesAt_of_ne _ h2, prep_keep _ h1]
  rfl

theorem V7_arg0 (X) : V7 m d X (Proc.devRef .tc main_arg0) = m ((d.tc : Thread nD τ).loc main_arg0) := by
  unfold V7
  rw [pick_keep _ (by decide), statsAt_of_ne _ _ (by decide) (by decide), V5_of_V2 m d (by decide) (by decide) (by decide) (by decide),
    V2_arg m d (by decide) (by decide)]

theorem V7_arg1 (X) : V7 m d X (Proc.devRef .tc main_arg1) = m ((d.tc : Thread nD τ).loc main_arg1) := by
  unfold V7
  rw [pick_keep _ (by decide), statsAt_of_ne _ _ (by decide) (by decide), V5_of_V2 m d (by decide) (by decide) (by decide) (by decide),
    V2_arg m d (by decide) (by decide)]

theorem after_v10 (V : Valuation τ sig (Elt F)) : after packOps V (Proc.devRef .tc main_v10)
    = shapeCast S128x128 (V (Proc.devRef .tc main_v8) : IVec S16384x1 32) shapeCasts_S16384x1_S128x128 := by
  unfold packOps
  after_results
  rfl

end AnyInstance

/-- A token's code is the first place of the least entry of its block's row of distances. -/
theorem codes_row (z2 : Vec Ideal S16384x1 .f32) (e2 : Vec Ideal S1x8192 .f32) (zm2 : Vec Ideal S16384x64 .f32) (emb : Vec Ideal S8192x64 .f32)
    (q : Fin 64) (r : Fin 256) (c : Fin 1) :
    ∃ k : Fin 8192, IsFirst (fun k => distK (rowBlk zm2 q) emb (rowBlk z2 q) e2 (ix2 r k)) k
      ∧ codes z2 e2 zm2 emb (rowIx q (ix2 r c)) = BitVec.ofNat 32 k.val := by
  rw [pay_codes]
  exact pay1_row _ _ _ _ r c

theorem rowIx_onto (i : S16384x1.Idx) : ∃ (q : Fin 64) (r : Fin 256) (c : Fin 1), i = rowIx q (ix2 r c) := by
  have h : (i 0).val < 16384 := (i 0).isLt
  refine ⟨⟨(i 0).val / 256, by omega⟩, ⟨(i 0).val % 256, by omega⟩, i 1, funext fun a => ?_⟩
  match a with
  | ⟨0, _⟩ => exact Fin.ext (by show (i 0).val = 256 * ((i 0).val / 256) + (i 0).val % 256; omega)
  | ⟨1, _⟩ => rfl

theorem codes_lt (z2 : Vec Ideal S16384x1 .f32) (e2 : Vec Ideal S1x8192 .f32) (zm2 : Vec Ideal S16384x64 .f32) (emb : Vec Ideal S8192x64 .f32)
    (i : S16384x1.Idx) : (codes z2 e2 zm2 emb i).toNat < 8192 := by
  obtain ⟨q, r, c, rfl⟩ := rowIx_onto i
  obtain ⟨k, _, h⟩ := codes_row z2 e2 zm2 emb q r c
  rw [h, BitVec.toNat_ofNat]
  have := k.isLt
  omega

theorem fI_lt (m : (ℓ : Loc nD τ sig) → Buf (Elt Ideal) ℓ) (d : Dev nD) (x : S128x128.Idx) : (fI m d x).toNat < 8192 := by
  unfold fI V3 V2
  rw [after_v10, codesAt_v8]
  exact codes_lt _ _ _ _ _

end Cert.Proof
-- ==== Proof.Ref.lean ====
/-
  The reference's run: its operations in seven lines, and where each buffer ends.
-/
module

public import proofs.«01_k».proof.Proof.Gen.ReferenceIdeal
public import Idealize.ShloMosaic.Lib.StableHlo.Run
public import Idealize.ShloMosaic.Lib.Claim
public import Idealize.ShloMosaic.Lib.Quiescent

@[expose] public section

noncomputable section

namespace Cert.Proof.Ref

open Cert.ReferenceIdeal Cert.ReferenceIdeal.Gen
open Idealize.ShloMosaic Idealize.ShloMosaic.StableHlo Idealize.ShloMosaic.TcCoe Idealize.SL.Sem

variable {F : FTy → Type} [FloatOps F]

/-- The distances. -/
def distOps : List (HloOp τ sig (Elt F)) :=
  [binary main_arg0 main_arg0 main_v0 (mulf : (⟨S16384x64, .f32⟩ : BufTy).Contents (Elt F) → (⟨S16384x64, .f32⟩ : BufTy).Contents (Elt F) → (⟨S16384x64, .f32⟩ : BufTy).Contents (Elt F)),
   nullary main_cst (constant S_ .f32 0x00000000#32),
   binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
   unary main_v1 main_v2 (broadcastInDim S16384x1 ![0] bcast_S16384_S16384x1_0 : (⟨S16384, .f32⟩ : BufTy).Contents (Elt F) → (⟨S16384x1, .f32⟩ : BufTy).Contents (Elt F)),
   binary main_arg1 main_arg1 main_v3 (mulf : (⟨S8192x64, .f32⟩ : BufTy).Contents (Elt F) → (⟨S8192x64, .f32⟩ : BufTy).Contents (Elt F) → (⟨S8192x64, .f32⟩ : BufTy).Contents (Elt F)),
   nullary main_cst_0 (constant S_ .f32 0x00000000#32),
   binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   unary main_v4 main_v5 (broadcastInDim S1x8192 ![1] bcast_S8192_S1x8192_1 : (⟨S8192, .f32⟩ : BufTy).Contents (Elt F) → (⟨S1x8192, .f32⟩ : BufTy).Contents (Elt F)),
   unary main_v2 main_v6 (broadcastInDim S16384x8192 ![0, 1] bcast_S16384x1_S16384x8192_0_1 : (⟨S16384x1, .f32⟩ : BufTy).Contents (Elt F) → (⟨S16384x8192, .f32⟩ : BufTy).Contents (Elt F)),
   unary main_v5 main_v7 (broadcastInDim S16384x8192 ![0, 1] bcast_S1x8192_S16384x8192_0_1 : (⟨S1x8192, .f32⟩ : BufTy).Contents (Elt F) → (⟨S16384x8192, .f32⟩ : BufTy).Contents (Elt F)),
   binary main_v6 main_v7 main_v8 (addf : (⟨S16384x8192, .f32⟩ : BufTy).Contents (Elt F) → (⟨S16384x8192, .f32⟩ : BufTy).Contents (Elt F) → (⟨S16384x8192, .f32⟩ : BufTy).Contents (Elt F)),
   unary main_arg1 main_v9 ((transpose S64x8192 [1, 0] · transposes_S8192x64_S64x8192_1_0) : (⟨S8192x64, .f32⟩ : BufTy).Contents (Elt F) → (⟨S64x8192, .f32⟩ : BufTy).Contents (Elt F)),
   binary main_arg0 main_v9 main_v10 ((fun l r => Host.dotGeneral dot_S16384x64_S64x8192_S16384x8192_1_0_0_1_n_n none l r) : (⟨S16384x64, .f32⟩ : BufTy).Contents (Elt F) → (⟨S64x8192, .f32⟩ : BufTy).Contents (Elt F) → (⟨S16384x8192, .f32⟩ : BufTy).Contents (Elt F)),
   nullary main_cst_1 (constant S_ .f32 0x40000000#32),
   unary main_cst_1 main_v11 (broadcastInDim S16384x8192 ![] bcast_S_S16384x8192 : (⟨S_, .f32⟩ : BufTy).Contents (Elt F) → (⟨S16384x8192, .f32⟩ : BufTy).Contents (Elt F)),
   binary main_v11 main_v10 main_v12 (mulf : (⟨S16384x8192, .f32⟩ : BufTy).Contents (Elt F) → (⟨S16384x8192, .f32⟩ : BufTy).Contents (Elt F) → (⟨S16384x8192, .f32⟩ : BufTy).Contents (Elt F)),
   binary main_v8 main_v12 main_v13 (subf : (⟨S16384x8192, .f32⟩ : BufTy).Contents (Elt F) → (⟨S16384x8192, .f32⟩ : BufTy).Contents (Elt F) → (⟨S16384x8192, .f32⟩ : BufTy).Contents (Elt F))]
theorem distOps_sub : (distOps : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩
/-- and what it writes. -/
def distOpsRefs : List (Ref sig .tc) := [main_v0, main_cst, main_v1, main_v2, main_v3, main_cst_0, main_v4, main_v5, main_v6, main_v7, main_v8, main_v9, main_v10, main_cst_1, main_v11, main_v12, main_v13]

/-- Their argmin along the codes. -/
def argOps : List (HloOp τ sig (Elt F)) :=
  [nullary main_call0_v0 (iotaInDim S16384x8192 32 1),
   nullary main_call0_cst (constant S_ .f32 0x7F800000#32),
   nullary main_call0_c (constantI S_ 32 0#32),
   quaternary main_v13 main_call0_v0 main_call0_cst main_call0_c main_call0_v1_0 ((fun x y u v j => (Host.argReduce reducer_argmin_f32_i32 x y u v reducesTo_S16384x8192_S16384_d1 h_S_ j).1) : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .f32⟩ : BufTy).Contents (Elt F)),
   quaternary main_v13 main_call0_v0 main_call0_cst main_call0_c main_v14 ((fun x y u v j => (Host.argReduce reducer_argmin_f32_i32 x y u v reducesTo_S16384x8192_S16384_d1 h_S_ j).2) : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .i32⟩ : BufTy).Contents (Elt F))]
theorem argOps_sub : (argOps : List (HloOp τ sig (Elt F))).Forall fun op => op.bufs ⊆ tcRefs τ sig :=
  ⟨nullary_bufs_sub .., nullary_bufs_sub .., nullary_bufs_sub .., quaternary_bufs_sub .., quaternary_bufs_sub ..⟩
/-- and what it writes. -/
def argOpsRefs : List (Ref sig .tc) := [main_call0_v0, main_call0_cst, main_call0_c, main_call0_v1_0, main_v14]

/-- The chosen rows of the table. -/
def takeOps : List (HloOp τ sig (Elt F)) :=
  [nullary main_call1_c (constantI S_ 32 0#32),
   unary main_call1_c main_call1_v0 ((broadcastInDim S16384 ![] bcast_S_S16384) : (⟨S_, .i32⟩ : BufTy).Contents (Elt F) → (⟨S16384, .i32⟩ : BufTy).Contents (Elt F)),
   binary main_v14 main_call1_v0 main_call1_v1 ((cmpi .slt) : (⟨S16384, .i32⟩ : BufTy).Contents (Elt F) → (⟨S16384, .i32⟩ : BufTy).Contents (Elt F) → (⟨S16384, .i1⟩ : BufTy).Contents (Elt F)),
   nullary main_call1_c_0 (constantI S_ 32 8192#32),
   unary main_call1_c_0 main_call1_v2 ((broadcastInDim S16384 ![] bcast_S_S16384) : (⟨S_, .i32⟩ : BufTy).Contents (Elt F) → (⟨S16384, .i32⟩ : BufTy).Contents (Elt F)),
   binary main_v14 main_call1_v2 main_call1_v3 ((addi) : (⟨S16384, .i32⟩ : BufTy).Contents (Elt F) → (⟨S16384, .i32⟩ : BufTy).Contents (Elt F) → (⟨S16384, .i32⟩ : BufTy).Contents (Elt F)),
   ternary main_call1_v1 main_call1_v3 main_v14 main_call1_v4 ((select) : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
   unary main_call1_v4 main_call1_v5 ((broadcastInDim S16384x1 ![0] bcast_S16384_S16384x1_0) : (⟨S16384, .i32⟩ : BufTy).Contents (Elt F) → (⟨S16384x1, .i32⟩ : BufTy).Contents (Elt F)),
   nullary main_call1_c_1 (constantI S1 32 8191#32),
   nullary main_call1_c_2 (constantI S_ 32 0#32),
   unary main_call1_c_2 main_call1_v6 ((broadcastInDim S16384x1 ![] bcast_S_S16384x1) : (⟨S_, .i32⟩ : BufTy).Contents (Elt F) → (⟨S16384x1, .i32⟩ : BufTy).Contents (Elt F)),
   binary main_call1_v5 main_call1_v6 main_call1_v7 ((cmpi .sge) : (⟨S16384x1, .i32⟩ : BufTy).Contents (Elt F) → (⟨S16384x1, .i32⟩ : BufTy).Contents (Elt F) → (⟨S16384x1, .i1⟩ : BufTy).Contents (Elt F)),
   unary main_call1_c_1 main_call1_v8 ((broadcastInDim S1x1 ![1] bcast_S1_S1x1_1) : (⟨S1, .i32⟩ : BufTy).Contents (Elt F) → (⟨S1x1, .i32⟩ : BufTy).Contents (Elt F)),
   unary main_call1_v8 main_call1_v9 ((broadcastInDim S16384x1 ![0, 1] bcast_S1x1_S16384x1_0_1) : (⟨S1x1, .i32⟩ : BufTy).Contents (Elt F) → (⟨S16384x1, .i32⟩ : BufTy).Contents (Elt F)),
   binary main_call1_v5 main_call1_v9 main_call1_v10 ((cmpi .sle) : (⟨S16384x1, .i32⟩ : BufTy).Contents (Elt F) → (⟨S16384x1, .i32⟩ : BufTy).Contents (Elt F) → (⟨S16384x1, .i1⟩ : BufTy).Contents (Elt F)),
   binary main_call1_v7 main_call1_v10 main_call1_v11 ((andi) : (⟨S16384x1, .i1⟩ : BufTy).Contents (Elt F) → (⟨S16384x1, .i1⟩ : BufTy).Contents (Elt F) → (⟨S16384x1, .i1⟩ : BufTy).Contents (Elt F)),
   nullary main_call1_c_3 (constantI S_ 1 1#1),
   binary main_call1_v11 main_call1_c_3 main_call1_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
   binary main_arg1 main_call1_v5 main_call1_v13 ((fun x i => Host.gather gather_S8192x64_S16384x1_S16384x64_1_0_n_n_0_1_164 x i) : (⟨S8192x64, .f32⟩ : BufTy).Contents (Elt F) → (⟨S16384x1, .i32⟩ : BufTy).Contents (Elt F) → (⟨S16384x64, .f32⟩ : BufTy).Contents (Elt F)),
   unary main_call1_v12 main_call1_v14 ((broadcastInDim S16384x64 ![0] bcast_S16384_S16384x64_0) : (⟨S16384, .i1⟩ : BufTy).Contents (Elt F) → (⟨S16384x64, .i1⟩ : BufTy).Contents (Elt F)),
   nullary main_call1_cst (constant S_ .f32 0x7FC00000#32),
   unary main_call1_cst main_call1_v15 ((broadcastInDim S16384x64 ![] bcast_S_S16384x64) : (⟨S_, .f32⟩ : BufTy).Contents (Elt F) → (⟨S16384x64, .f32⟩ : BufTy).Contents (Elt F)),
   ternary main_call1_v14 main_call1_v13 main_call1_v15 main_v15 ((select) : (⟨S16384x64, .i1⟩ : BufTy).Contents (Elt F) → (⟨S16384x64, .f32⟩ : BufTy).Contents (Elt F) → (⟨S16384x64, .f32⟩ : BufTy).Contents (Elt F) → (⟨S16384x64, .f32⟩ : BufTy).Contents (Elt F))]
theorem takeOps_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- and what it writes. -/
def takeOpsRefs : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v15]

/-- The two losses, their weighted sum, and the straight-through rows. -/
def lossOps : List (HloOp τ sig (Elt F)) :=
  [binary main_v15 main_arg0 main_v16 (subf : (⟨S16384x64, .f32⟩ : BufTy).Contents (Elt F) → (⟨S16384x64, .f32⟩ : BufTy).Contents (Elt F) → (⟨S16384x64, .f32⟩ : BufTy).Contents (Elt F)),
   binary main_v16 main_v16 main_v17 (mulf : (⟨S16384x64, .f32⟩ : BufTy).Contents (Elt F) → (⟨S16384x64, .f32⟩ : BufTy).Contents (Elt F) → (⟨S16384x64, .f32⟩ : BufTy).Contents (Elt F)),
   nullary main_cst_2 (constant S_ .f32 0x00000000#32),
   binary main_v17 main_cst_2 main_v18 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
   nullary main_cst_3 (constant S_ .f32 0x49800000#32),
   binary main_v18 main_cst_3 main_v19 (Host.divf : (⟨S_, .f32⟩ : BufTy).Contents (Elt F) → (⟨S_, .f32⟩ : BufTy).Contents (Elt F) → (⟨S_, .f32⟩ : BufTy).Contents (Elt F)),
   binary main_arg0 main_v15 main_v20 (subf : (⟨S16384x64, .f32⟩ : BufTy).Contents (Elt F) → (⟨S16384x64, .f32⟩ : BufTy).Contents (Elt F) → (⟨S16384x64, .f32⟩ : BufTy).Contents (Elt F)),
   binary main_v20 main_v20 main_v21 (mulf : (⟨S16384x64, .f32⟩ : BufTy).Contents (Elt F) → (⟨S16384x64, .f32⟩ : BufTy).Contents (Elt F) → (⟨S16384x64, .f32⟩ : BufTy).Contents (Elt F)),
   nullary main_cst_4 (constant S_ .f32 0x00000000#32),
   binary main_v21 main_cst_4 main_v22 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
   nullary main_cst_5 (constant S_ .f32 0x49800000#32),
   binary main_v22 main_cst_5 main_v23 (Host.divf : (⟨S_, .f32⟩ : BufTy).Contents (Elt F) → (⟨S_, .f32⟩ : BufTy).Contents (Elt F) → (⟨S_, .f32⟩ : BufTy).Contents (Elt F)),
   nullary main_cst_6 (constant S_ .f32 0x3E800000#32),
   binary main_cst_6 main_v23 main_v24 (mulf : (⟨S_, .f32⟩ : BufTy).Contents (Elt F) → (⟨S_, .f32⟩ : BufTy).Contents (Elt F) → (⟨S_, .f32⟩ : BufTy).Contents (Elt F)),
   binary main_v19 main_v24 main_v25 (addf : (⟨S_, .f32⟩ : BufTy).Contents (Elt F) → (⟨S_, .f32⟩ : BufTy).Contents (Elt F) → (⟨S_, .f32⟩ : BufTy).Contents (Elt F)),
   binary main_v15 main_arg0 main_v26 (subf : (⟨S16384x64, .f32⟩ : BufTy).Contents (Elt F) → (⟨S16384x64, .f32⟩ : BufTy).Contents (Elt F) → (⟨S16384x64, .f32⟩ : BufTy).Contents (Elt F)),
   binary main_arg0 main_v26 main_v27 (addf : (⟨S16384x64, .f32⟩ : BufTy).Contents (Elt F) → (⟨S16384x64, .f32⟩ : BufTy).Contents (Elt F) → (⟨S16384x64, .f32⟩ : BufTy).Contents (Elt F))]
theorem lossOps_sub : (lossOps : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub ..⟩
/-- and what it writes. -/
def lossOpsRefs : List (Ref sig .tc) := [main_v16, main_v17, main_cst_2, main_v18, main_cst_3, main_v19, main_v20, main_v21, main_cst_4, main_v22, main_cst_5, main_v23, main_cst_6, main_v24, main_v25, main_v26, main_v27]

/-- How often each code is chosen. -/
def countOps : List (HloOp τ sig (Elt F)) :=
  [nullary main_c (constantI S_ 32 0#32),
   unary main_c main_v28 (broadcastInDim S8192 ![] bcast_S_S8192 : (⟨S_, .i32⟩ : BufTy).Contents (Elt F) → (⟨S8192, .i32⟩ : BufTy).Contents (Elt F)),
   nullary main_c_7 (constantI S_ 32 0#32),
   unary main_c_7 main_call2_v0 ((id) : (⟨S_, .i32⟩ : BufTy).Contents (Elt F) → (⟨S_, .i32⟩ : BufTy).Contents (Elt F)),
   unary main_call2_v0 main_call2_v1 ((broadcastInDim S16384 ![] bcast_S_S16384) : (⟨S_, .i32⟩ : BufTy).Contents (Elt F) → (⟨S16384, .i32⟩ : BufTy).Contents (Elt F)),
   binary main_call2_v1 main_v14 main_v29 ((maxsi) : (⟨S16384, .i32⟩ : BufTy).Contents (Elt F) → (⟨S16384, .i32⟩ : BufTy).Contents (Elt F) → (⟨S16384, .i32⟩ : BufTy).Contents (Elt F)),
   nullary main_c_8 (constantI S_ 32 0#32),
   unary main_c_8 main_v30 (broadcastInDim S16384 ![] bcast_S_S16384 : (⟨S_, .i32⟩ : BufTy).Contents (Elt F) → (⟨S16384, .i32⟩ : BufTy).Contents (Elt F)),
   binary main_v29 main_v30 main_v31 (cmpi .slt : (⟨S16384, .i32⟩ : BufTy).Contents (Elt F) → (⟨S16384, .i32⟩ : BufTy).Contents (Elt F) → (⟨S16384, .i1⟩ : BufTy).Contents (Elt F)),
   nullary main_c_9 (constantI S_ 32 8192#32),
   unary main_c_9 main_v32 (broadcastInDim S16384 ![] bcast_S_S16384 : (⟨S_, .i32⟩ : BufTy).Contents (Elt F) → (⟨S16384, .i32⟩ : BufTy).Contents (Elt F)),
   binary main_v29 main_v32 main_v33 (addi : (⟨S16384, .i32⟩ : BufTy).Contents (Elt F) → (⟨S16384, .i32⟩ : BufTy).Contents (Elt F) → (⟨S16384, .i32⟩ : BufTy).Contents (Elt F)),
   ternary main_v31 main_v33 main_v29 main_v34 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
   unary main_v34 main_v35 (broadcastInDim S16384x1 ![0] bcast_S16384_S16384x1_0 : (⟨S16384, .i32⟩ : BufTy).Contents (Elt F) → (⟨S16384x1, .i32⟩ : BufTy).Contents (Elt F)),
   nullary main_c_10 (constantI S_ 32 1#32),
   unary main_c_10 main_v36 (broadcastInDim S16384 ![] bcast_S_S16384 : (⟨S_, .i32⟩ : BufTy).Contents (Elt F) → (⟨S16384, .i32⟩ : BufTy).Contents (Elt F)),
   ternary main_v28 main_v35 main_v36 main_v37 ((fun x i u => Host.scatter scatter_S8192_S16384x1_S16384_n_0_0_1 IntOp.addi x i u) : (⟨S8192, .i32⟩ : BufTy).Contents (Elt F) → (⟨S16384x1, .i32⟩ : BufTy).Contents (Elt F) → (⟨S16384, .i32⟩ : BufTy).Contents (Elt F) → (⟨S8192, .i32⟩ : BufTy).Contents (Elt F))]
theorem countOps_sub : (countOps : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
/-- and what it writes. -/
def countOpsRefs : List (Ref sig .tc) := [main_c, main_v28, main_c_7, main_call2_v0, main_call2_v1, main_v29, main_c_8, main_v30, main_v31, main_c_9, main_v32, main_v33, main_v34, main_v35, main_c_10, main_v36, main_v37]

/-- The perplexity of the frequencies. -/
def perpOps : List (HloOp τ sig (Elt F)) :=
  [unary main_v37 main_v38 (sitofp .f32 : (⟨S8192, .i32⟩ : BufTy).Contents (Elt F) → (⟨S8192, .f32⟩ : BufTy).Contents (Elt F)),
   nullary main_cst_11 (constant S_ .f32 0x46800000#32),
   unary main_cst_11 main_v39 (broadcastInDim S8192 ![] bcast_S_S8192 : (⟨S_, .f32⟩ : BufTy).Contents (Elt F) → (⟨S8192, .f32⟩ : BufTy).Contents (Elt F)),
   binary main_v38 main_v39 main_v40 (Host.divf : (⟨S8192, .f32⟩ : BufTy).Contents (Elt F) → (⟨S8192, .f32⟩ : BufTy).Contents (Elt F) → (⟨S8192, .f32⟩ : BufTy).Contents (Elt F)),
   nullary main_cst_12 (constant S_ .f32 0x2EDBE6FF#32),
   unary main_cst_12 main_v41 (broadcastInDim S8192 ![] bcast_S_S8192 : (⟨S_, .f32⟩ : BufTy).Contents (Elt F) → (⟨S8192, .f32⟩ : BufTy).Contents (Elt F)),
   binary main_v40 main_v41 main_v42 (addf : (⟨S8192, .f32⟩ : BufTy).Contents (Elt F) → (⟨S8192, .f32⟩ : BufTy).Contents (Elt F) → (⟨S8192, .f32⟩ : BufTy).Contents (Elt F)),
   unary main_v42 main_v43 (Host.log : (⟨S8192, .f32⟩ : BufTy).Contents (Elt F) → (⟨S8192, .f32⟩ : BufTy).Contents (Elt F)),
   binary main_v40 main_v43 main_v44 (mulf : (⟨S8192, .f32⟩ : BufTy).Contents (Elt F) → (⟨S8192, .f32⟩ : BufTy).Contents (Elt F) → (⟨S8192, .f32⟩ : BufTy).Contents (Elt F)),
   nullary main_cst_13 (constant S_ .f32 0x00000000#32),
   binary main_v44 main_cst_13 main_v45 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
   unary main_v45 main_v46 (Host.negf : (⟨S_, .f32⟩ : BufTy).Contents (Elt F) → (⟨S_, .f32⟩ : BufTy).Contents (Elt F)),
   unary main_v46 main_v47 (Host.exp : (⟨S_, .f32⟩ : BufTy).Contents (Elt F) → (⟨S_, .f32⟩ : BufTy).Contents (Elt F))]
theorem perpOps_sub : (perpOps : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩
/-- and what it writes. -/
def perpOpsRefs : List (Ref sig .tc) := [main_v38, main_cst_11, main_v39, main_v40, main_cst_12, main_v41, main_v42, main_v43, main_v44, main_cst_13, main_v45, main_v46, main_v47]

/-- How many codes are chosen. -/
def activeOps : List (HloOp τ sig (Elt F)) :=
  [nullary main_cst_14 (constant S_ .f32 0x00000000#32),
   unary main_cst_14 main_v48 (broadcastInDim S8192 ![] bcast_S_S8192 : (⟨S_, .f32⟩ : BufTy).Contents (Elt F) → (⟨S8192, .f32⟩ : BufTy).Contents (Elt F)),
   binary main_v40 main_v48 main_v49 (cmpf .ogt : (⟨S8192, .f32⟩ : BufTy).Contents (Elt F) → (⟨S8192, .f32⟩ : BufTy).Contents (Elt F) → (⟨S8192, .i1⟩ : BufTy).Contents (Elt F)),
   unary main_v49 main_v50 ((extui 32 · natLt_1_32) : (⟨S8192, .i1⟩ : BufTy).Contents (Elt F) → (⟨S8192, .i32⟩ : BufTy).Contents (Elt F)),
   nullary main_c_15 (constantI S_ 32 0#32),
   binary main_v50 main_c_15 main_v51 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
   unary main_v51 main_v52 (sitofp .f32 : (⟨S_, .i32⟩ : BufTy).Contents (Elt F) → (⟨S_, .f32⟩ : BufTy).Contents (Elt F))]
theorem activeOps_sub : (activeOps : List (HloOp τ sig (Elt F))).Forall fun op => op.bufs ⊆ tcRefs τ sig :=
  ⟨nullary_bufs_sub .., unary_bufs_sub .., binary_bufs_sub .., unary_bufs_sub .., nullary_bufs_sub .., binary_bufs_sub .., unary_bufs_sub ..⟩
/-- and what it writes. -/
def activeOpsRefs : List (Ref sig .tc) := [main_cst_14, main_v48, main_v49, main_v50, main_c_15, main_v51, main_v52]

def ops : List (HloOp τ sig (Elt F)) := distOps ++ (argOps ++ (takeOps ++ (lossOps ++ (countOps ++ (perpOps ++ activeOps)))))

set_option maxRecDepth 65536 in
set_option maxHeartbeats 4000000 in
theorem main_eq (c : Dev nD) : main (F := F) c = seq ops := rfl

theorem ops_sub : (ops : List (HloOp τ sig (Elt F))).Forall fun op => op.bufs ⊆ tcRefs τ sig := by
  unfold ops
  simp only [List.forall_append]
  exact ⟨distOps_sub, argOps_sub, takeOps_sub, lossOps_sub, countOps_sub, perpOps_sub, activeOps_sub⟩

theorem scopedRefs_eq : (Finset.univ.filter fun b : Ref sig .tc => b.isScoped) = ∅ := by decide
theorem scopedSems_eq : (Finset.univ.filter fun sm : SemLoc sig => sm.isScoped .tc) = ∅ := by decide

/-- Every execution ends, with the buffers at the lines' results. -/
theorem run_ops (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (Proc.devRef .tc b)) ∧ r.2.sem = fun _ => 0 :=
  (θ_run defs _ _).mono (fun r h => ⟨h, sem_eq_zero_of_no_sems (by decide) r.2⟩)
    (run_seq scopedRefs_eq scopedSems_eq defs main (fun _ => ops) main_eq (fun _ => ops_sub) m ρ)

end Cert.Proof.Ref
-- ==== Proof.RefVal.lean ====
/-
  What the reference computes, line by line, as functions of its arguments.
-/
module

public import proofs.«01_k».proof.Proof.Ref

@[expose] public section

noncomputable section

namespace Cert.Proof.Ref

open Cert.ReferenceIdeal Cert.ReferenceIdeal.Gen
open Idealize.ShloMosaic Idealize.ShloMosaic.StableHlo Idealize.ShloMosaic.TcCoe Idealize.SL.Sem

variable {F : FTy → Type} [FloatOps F]

/-- The distances of `z`'s rows to the codes. -/
def distF (arg0 : (⟨S16384x64, .f32⟩ : BufTy).Contents (Elt F)) (arg1 : (⟨S8192x64, .f32⟩ : BufTy).Contents (Elt F)) : (⟨S16384x8192, .f32⟩ : BufTy).Contents (Elt F) :=
  let v0 : (⟨S16384x64, .f32⟩ : BufTy).Contents (Elt F) := mulf arg0 arg0
  let cst : (⟨S_, .f32⟩ : BufTy).Contents (Elt F) := (constant S_ .f32 0x00000000#32)
  let v1 : (⟨S16384, .f32⟩ : BufTy).Contents (Elt F) := (fun x v => Host.reduceAdd x v reducesTo_S16384x64_S16384_d1 h_S_) v0 cst
  let v2 : (⟨S16384x1, .f32⟩ : BufTy).Contents (Elt F) := (broadcastInDim S16384x1 ![0] bcast_S16384_S16384x1_0) v1
  let v6 : (⟨S16384x8192, .f32⟩ : BufTy).Contents (Elt F) := (broadcastInDim S16384x8192 ![0, 1] bcast_S16384x1_S16384x8192_0_1) v2
  let v3 : (⟨S8192x64, .f32⟩ : BufTy).Contents (Elt F) := mulf arg1 arg1
  let cst_0 : (⟨S_, .f32⟩ : BufTy).Contents (Elt F) := (constant S_ .f32 0x00000000#32)
  let v4 : (⟨S8192, .f32⟩ : BufTy).Contents (Elt F) := (fun x v => Host.reduceAdd x v reducesTo_S8192x64_S8192_d1 h_S_) v3 cst_0
  let v5 : (⟨S1x8192, .f32⟩ : BufTy).Contents (Elt F) := (broadcastInDim S1x8192 ![1] bcast_S8192_S1x8192_1) v4
  let v7 : (⟨S16384x8192, .f32⟩ : BufTy).Contents (Elt F) := (broadcastInDim S16384x8192 ![0, 1] bcast_S1x8192_S16384x8192_0_1) v5
  let v8 : (⟨S16384x8192, .f32⟩ : BufTy).Contents (Elt F) := addf v6 v7
  let cst_1 : (⟨S_, .f32⟩ : BufTy).Contents (Elt F) := (constant S_ .f32 0x40000000#32)
  let v11 : (⟨S16384x8192, .f32⟩ : BufTy).Contents (Elt F) := (broadcastInDim S16384x8192 ![] bcast_S_S16384x8192) cst_1
  let v9 : (⟨S64x8192, .f32⟩ : BufTy).Contents (Elt F) := (transpose S64x8192 [1, 0] · transposes_S8192x64_S64x8192_1_0) arg1
  let v10 : (⟨S16384x8192, .f32⟩ : BufTy).Contents (Elt F) := (fun l r => Host.dotGeneral dot_S16384x64_S64x8192_S16384x8192_1_0_0_1_n_n none l r) arg0 v9
  let v12 : (⟨S16384x8192, .f32⟩ : BufTy).Contents (Elt F) := mulf v11 v10
  subf v8 v12

/-- The nearest code of each row. -/
def argF (v13 : (⟨S16384x8192, .f32⟩ : BufTy).Contents (Elt F)) : (⟨S16384, .i32⟩ : BufTy).Contents (Elt F) :=
  let k0_v0 : (⟨S16384x8192, .i32⟩ : BufTy).Contents (Elt F) := (iotaInDim S16384x8192 32 1)
  let k0_cst : (⟨S_, .f32⟩ : BufTy).Contents (Elt F) := (constant S_ .f32 0x7F800000#32)
  let k0_c : (⟨S_, .i32⟩ : BufTy).Contents (Elt F) := (constantI S_ 32 0#32)
  (fun x y u v j => (Host.argReduce reducer_argmin_f32_i32 x y u v reducesTo_S16384x8192_S16384_d1 h_S_ j).2) v13 k0_v0 k0_cst k0_c

/-- The rows of the table at the codes. -/
def takeF (arg1 : (⟨S8192x64, .f32⟩ : BufTy).Contents (Elt F)) (v14 : (⟨S16384, .i32⟩ : BufTy).Contents (Elt F)) : (⟨S16384x64, .f32⟩ : BufTy).Contents (Elt F) :=
  let k1_c : (⟨S_, .i32⟩ : BufTy).Contents (Elt F) := (constantI S_ 32 0#32)
  let k1_v0 : (⟨S16384, .i32⟩ : BufTy).Contents (Elt F) := (broadcastInDim S16384 ![] bcast_S_S16384) k1_c
  let k1_v1 : (⟨S16384, .i1⟩ : BufTy).Contents (Elt F) := (cmpi .slt) v14 k1_v0
  let k1_c_0 : (⟨S_, .i32⟩ : BufTy).Contents (Elt F) := (constantI S_ 32 8192#32)
  let k1_v2 : (⟨S16384, .i32⟩ : BufTy).Contents (Elt F) := (broadcastInDim S16384 ![] bcast_S_S16384) k1_c_0
  let k1_v3 : (⟨S16384, .i32⟩ : BufTy).Contents (Elt F) := (addi) v14 k1_v2
  let k1_v4 : (⟨S16384, .i32⟩ : BufTy).Contents (Elt F) := (select) k1_v1 k1_v3 v14
  let k1_v5 : (⟨S16384x1, .i32⟩ : BufTy).Contents (Elt F) := (broadcastInDim S16384x1 ![0] bcast_S16384_S16384x1_0) k1_v4
  let k1_c_2 : (⟨S_, .i32⟩ : BufTy).Contents (Elt F) := (constantI S_ 32 0#32)
  let k1_v6 : (⟨S16384x1, .i32⟩ : BufTy).Contents (Elt F) := (broadcastInDim S16384x1 ![] bcast_S_S16384x1) k1_c_2
  let k1_v7 : (⟨S16384x1, .i1⟩ : BufTy).Contents (Elt F) := (cmpi .sge) k1_v5 k1_v6
  let k1_c_1 : (⟨S1, .i32⟩ : BufTy).Contents (Elt F) := (constantI S1 32 8191#32)
  let k1_v8 : (⟨S1x1, .i32⟩ : BufTy).Contents (Elt F) := (broadcastInDim S1x1 ![1] bcast_S1_S1x1_1) k1_c_1
  let k1_v9 : (⟨S16384x1, .i32⟩ : BufTy).Contents (Elt F) := (broadcastInDim S16384x1 ![0, 1] bcast_S1x1_S16384x1_0_1) k1_v8
  let k1_v10 : (⟨S16384x1, .i1⟩ : BufTy).Contents (Elt F) := (cmpi .sle) k1_v5 k1_v9
  let k1_v11 : (⟨S16384x1, .i1⟩ : BufTy).Contents (Elt F) := (andi) k1_v7 k1_v10
  let k1_c_3 : (⟨S_, .i1⟩ : BufTy).Contents (Elt F) := (constantI S_ 1 1#1)
  let k1_v12 : (⟨S16384, .i1⟩ : BufTy).Contents (Elt F) := (fun x v => Host.reduce IntOp.andi x v reducesTo_S16384x1_S16384_d1 h_S_) k1_v11 k1_c_3
  let k1_v14 : (⟨S16384x64, .i1⟩ : BufTy).Contents (Elt F) := (broadcastInDim S16384x64 ![0] bcast_S16384_S16384x64_0) k1_v12
  let k1_v13 : (⟨S16384x64, .f32⟩ : BufTy).Contents (Elt F) := (fun x i => Host.gather gather_S8192x64_S16384x1_S16384x64_1_0_n_n_0_1_164 x i) arg1 k1_v5
  let k1_cst : (⟨S_, .f32⟩ : BufTy).Contents (Elt F) := (constant S_ .f32 0x7FC00000#32)
  let k1_v15 : (⟨S16384x64, .f32⟩ : BufTy).Contents (Elt F) := (broadcastInDim S16384x64 ![] bcast_S_S16384x64) k1_cst
  (select) k1_v14 k1_v13 k1_v15

/-- The codebook loss. -/
def codebookF (arg0 : (⟨S16384x64, .f32⟩ : BufTy).Contents (Elt F)) (v15 : (⟨S16384x64, .f32⟩ : BufTy).Contents (Elt F)) : (⟨S_, .f32⟩ : BufTy).Contents (Elt F) :=
  let v16 : (⟨S16384x64, .f32⟩ : BufTy).Contents (Elt F) := subf v15 arg0
  let v17 : (⟨S16384x64, .f32⟩ : BufTy).Contents (Elt F) := mulf v16 v16
  let cst_2 : (⟨S_, .f32⟩ : BufTy).Contents (Elt F) := (constant S_ .f32 0x00000000#32)
  let v18 : (⟨S_, .f32⟩ : BufTy).Contents (Elt F) := (fun x v => Host.reduceAdd x v reducesTo_S16384x64_S_d0_1 h_S_) v17 cst_2
  let cst_3 : (⟨S_, .f32⟩ : BufTy).Contents (Elt F) := (constant S_ .f32 0x49800000#32)
  Host.divf v18 cst_3

/-- The commitment loss. -/
def commitF (arg0 : (⟨S16384x64, .f32⟩ : BufTy).Contents (Elt F)) (v15 : (⟨S16384x64, .f32⟩ : BufTy).Contents (Elt F)) : (⟨S_, .f32⟩ : BufTy).Contents (Elt F) :=
  let v20 : (⟨S16384x64, .f32⟩ : BufTy).Contents (Elt F) := subf arg0 v15
  let v21 : (⟨S16384x64, .f32⟩ : BufTy).Contents (Elt F) := mulf v20 v20
  let cst_4 : (⟨S_, .f32⟩ : BufTy).Contents (Elt F) := (constant S_ .f32 0x00000000#32)
  let v22 : (⟨S_, .f32⟩ : BufTy).Contents (Elt F) := (fun x v => Host.reduceAdd x v reducesTo_S16384x64_S_d0_1 h_S_) v21 cst_4
  let cst_5 : (⟨S_, .f32⟩ : BufTy).Contents (Elt F) := (constant S_ .f32 0x49800000#32)
  Host.divf v22 cst_5

/-- Their weighted sum. -/
def vqF (v19 : (⟨S_, .f32⟩ : BufTy).Contents (Elt F)) (v23 : (⟨S_, .f32⟩ : BufTy).Contents (Elt F)) : (⟨S_, .f32⟩ : BufTy).Contents (Elt F) :=
  let cst_6 : (⟨S_, .f32⟩ : BufTy).Contents (Elt F) := (constant S_ .f32 0x3E800000#32)
  let v24 : (⟨S_, .f32⟩ : BufTy).Contents (Elt F) := mulf cst_6 v23
  addf v19 v24

/-- The straight-through rows. -/
def throughF (arg0 : (⟨S16384x64, .f32⟩ : BufTy).Contents (Elt F)) (v15 : (⟨S16384x64, .f32⟩ : BufTy).Contents (Elt F)) : (⟨S16384x64, .f32⟩ : BufTy).Contents (Elt F) :=
  let v26 : (⟨S16384x64, .f32⟩ : BufTy).Contents (Elt F) := subf v15 arg0
  addf arg0 v26

/-- The counts of the codes. -/
def countF (v14 : (⟨S16384, .i32⟩ : BufTy).Contents (Elt F)) : (⟨S8192, .i32⟩ : BufTy).Contents (Elt F) :=
  let c : (⟨S_, .i32⟩ : BufTy).Contents (Elt F) := (constantI S_ 32 0#32)
  let v28 : (⟨S8192, .i32⟩ : BufTy).Contents (Elt F) := (broadcastInDim S8192 ![] bcast_S_S8192) c
  let c_7 : (⟨S_, .i32⟩ : BufTy).Contents (Elt F) := (constantI S_ 32 0#32)
  let k2_v0 : (⟨S_, .i32⟩ : BufTy).Contents (Elt F) := (id) c_7
  let k2_v1 : (⟨S16384, .i32⟩ : BufTy).Contents (Elt F) := (broadcastInDim S16384 ![] bcast_S_S16384) k2_v0
  let v29 : (⟨S16384, .i32⟩ : BufTy).Contents (Elt F) := (maxsi) k2_v1 v14
  let c_8 : (⟨S_, .i32⟩ : BufTy).Contents (Elt F) := (constantI S_ 32 0#32)
  let v30 : (⟨S16384, .i32⟩ : BufTy).Contents (Elt F) := (broadcastInDim S16384 ![] bcast_S_S16384) c_8
  let v31 : (⟨S16384, .i1⟩ : BufTy).Contents (Elt F) := (cmpi .slt) v29 v30
  let c_9 : (⟨S_, .i32⟩ : BufTy).Contents (Elt F) := (constantI S_ 32 8192#32)
  let v32 : (⟨S16384, .i32⟩ : BufTy).Contents (Elt F) := (broadcastInDim S16384 ![] bcast_S_S16384) c_9
  let v33 : (⟨S16384, .i32⟩ : BufTy).Contents (Elt F) := addi v29 v32
  let v34 : (⟨S16384, .i32⟩ : BufTy).Contents (Elt F) := select v31 v33 v29
  let v35 : (⟨S16384x1, .i32⟩ : BufTy).Contents (Elt F) := (broadcastInDim S16384x1 ![0] bcast_S16384_S16384x1_0) v34
  let c_10 : (⟨S_, .i32⟩ : BufTy).Contents (Elt F) := (constantI S_ 32 1#32)
  let v36 : (⟨S16384, .i32⟩ : BufTy).Contents (Elt F) := (broadcastInDim S16384 ![] bcast_S_S16384) c_10
  (fun x i u => Host.scatter scatter_S8192_S16384x1_S16384_n_0_0_1 IntOp.addi x i u) v28 v35 v36

/-- The frequencies of the codes. -/
def freqF (v37 : (⟨S8192, .i32⟩ : BufTy).Contents (Elt F)) : (⟨S8192, .f32⟩ : BufTy).Contents (Elt F) :=
  let v38 : (⟨S8192, .f32⟩ : BufTy).Contents (Elt F) := (sitofp .f32) v37
  let cst_11 : (⟨S_, .f32⟩ : BufTy).Contents (Elt F) := (constant S_ .f32 0x46800000#32)
  let v39 : (⟨S8192, .f32⟩ : BufTy).Contents (Elt F) := (broadcastInDim S8192 ![] bcast_S_S8192) cst_11
  Host.divf v38 v39

/-- The perplexity of the frequencies. -/
def perpF (v40 : (⟨S8192, .f32⟩ : BufTy).Contents (Elt F)) : (⟨S_, .f32⟩ : BufTy).Contents (Elt F) :=
  let cst_12 : (⟨S_, .f32⟩ : BufTy).Contents (Elt F) := (constant S_ .f32 0x2EDBE6FF#32)
  let v41 : (⟨S8192, .f32⟩ : BufTy).Contents (Elt F) := (broadcastInDim S8192 ![] bcast_S_S8192) cst_12
  let v42 : (⟨S8192, .f32⟩ : BufTy).Contents (Elt F) := addf v40 v41
  let v43 : (⟨S8192, .f32⟩ : BufTy).Contents (Elt F) := Host.log v42
  let v44 : (⟨S8192, .f32⟩ : BufTy).Contents (Elt F) := mulf v40 v43
  let cst_13 : (⟨S_, .f32⟩ : BufTy).Contents (Elt F) := (constant S_ .f32 0x00000000#32)
  let v45 : (⟨S_, .f32⟩ : BufTy).Contents (Elt F) := (fun x v => Host.reduceAdd x v reducesTo_S8192_S_d0 h_S_) v44 cst_13
  let v46 : (⟨S_, .f32⟩ : BufTy).Contents (Elt F) := Host.negf v45
  Host.exp v46

/-- How many frequencies are positive. -/
def activeF (v40 : (⟨S8192, .f32⟩ : BufTy).Contents (Elt F)) : (⟨S_, .f32⟩ : BufTy).Contents (Elt F) :=
  let cst_14 : (⟨S_, .f32⟩ : BufTy).Contents (Elt F) := (constant S_ .f32 0x00000000#32)
  let v48 : (⟨S8192, .f32⟩ : BufTy).Contents (Elt F) := (broadcastInDim S8192 ![] bcast_S_S8192) cst_14
  let v49 : (⟨S8192, .i1⟩ : BufTy).Contents (Elt F) := (cmpf .ogt) v40 v48
  let v50 : (⟨S8192, .i32⟩ : BufTy).Contents (Elt F) := (extui 32 · natLt_1_32) v49
  let c_15 : (⟨S_, .i32⟩ : BufTy).Contents (Elt F) := (constantI S_ 32 0#32)
  let v51 : (⟨S_, .i32⟩ : BufTy).Contents (Elt F) := (fun x v => Host.reduce IntOp.addi x v reducesTo_S8192_S_d0 h_S_) v50 c_15
  (sitofp .f32) v51

theorem after_distF (V : Valuation τ sig (Elt F)) :
    after distOps V (Proc.devRef .tc main_v13) = distF (V (Proc.devRef .tc main_arg0)) (V (Proc.devRef .tc main_arg1)) := by
  unfold distOps
  after_results
  rfl

theorem after_argF (V : Valuation τ sig (Elt F)) :
    after argOps V (Proc.devRef .tc main_v14) = argF (V (Proc.devRef .tc main_v13)) := by
  unfold argOps
  after_results
  rfl

theorem after_takeF (V : Valuation τ sig (Elt F)) :
    after takeOps V (Proc.devRef .tc main_v15) = takeF (V (Proc.devRef .tc main_arg1)) (V (Proc.devRef .tc main_v14)) := by
  unfold takeOps
  after_results
  rfl

theorem after_codebookF (V : Valuation τ sig (Elt F)) :
    after lossOps V (Proc.devRef .tc main_v19) = codebookF (V (Proc.devRef .tc main_arg0)) (V (Proc.devRef .tc main_v15)) := by
  unfold lossOps
  after_results
  rfl

theorem after_commitF (V : Valuation τ sig (Elt F)) :
    after lossOps V (Proc.devRef .tc main_v23) = commitF (V (Proc.devRef .tc main_arg0)) (V (Proc.devRef .tc main_v15)) := by
  unfold lossOps
  after_results
  rfl

theorem after_vqF (V : Valuation τ sig (Elt F)) :
    after lossOps V (Proc.devRef .tc main_v25) = vqF (codebookF (V (Proc.devRef .tc main_arg0)) (V (Proc.devRef .tc main_v15))) (commitF (V (Proc.devRef .tc main_arg0)) (V (Proc.devRef .tc main_v15))) := by
  unfold lossOps
  after_results
  rfl

theorem after_throughF (V : Valuation τ sig (Elt F)) :
    after lossOps V (Proc.devRef .tc main_v27) = throughF (V (Proc.devRef .tc main_arg0)) (V (Proc.devRef .tc main_v15)) := by
  unfold lossOps
  after_results
  rfl

theorem after_countF (V : Valuation τ sig (Elt F)) :
    after countOps V (Proc.devRef .tc main_v37) = countF (V (Proc.devRef .tc main_v14)) := by
  unfold countOps
  after_results
  rfl

theorem after_freqF (V : Valuation τ sig (Elt F)) :
    after perpOps V (Proc.devRef .tc main_v40) = freqF (V (Proc.devRef .tc main_v37)) := by
  unfold perpOps
  after_results
  rfl

theorem after_perpF (V : Valuation τ sig (Elt F)) :
    after perpOps V (Proc.devRef .tc main_v47) = perpF (freqF (V (Proc.devRef .tc main_v37))) := by
  unfold perpOps
  after_results
  rfl

theorem after_activeF (V : Valuation τ sig (Elt F)) :
    after activeOps V (Proc.devRef .tc main_v52) = activeF (V (Proc.devRef .tc main_v40)) := by
  unfold activeOps
  after_results
  rfl

theorem distOps_keep (V : Valuation τ sig (Elt F)) {r : Ref sig .tc} (h : r ∉ distOpsRefs) :
    after distOps V (Proc.devRef .tc r) = V (Proc.devRef .tc r) :=
  after_of_writes_sub distOps V (forall_writes_sub_of_map rfl) h

theorem argOps_keep (V : Valuation τ sig (Elt F)) {r : Ref sig .tc} (h : r ∉ argOpsRefs) :
    after argOps V (Proc.devRef .tc r) = V (Proc.devRef .tc r) :=
  after_of_writes_sub argOps V (forall_writes_sub_of_map rfl) h

theorem takeOps_keep (V : Valuation τ sig (Elt F)) {r : Ref sig .tc} (h : r ∉ takeOpsRefs) :
    after takeOps V (Proc.devRef .tc r) = V (Proc.devRef .tc r) :=
  after_of_writes_sub takeOps V (forall_writes_sub_of_map rfl) h

theorem lossOps_keep (V : Valuation τ sig (Elt F)) {r : Ref sig .tc} (h : r ∉ lossOpsRefs) :
    after lossOps V (Proc.devRef .tc r) = V (Proc.devRef .tc r) :=
  after_of_writes_sub lossOps V (forall_writes_sub_of_map rfl) h

theorem countOps_keep (V : Valuation τ sig (Elt F)) {r : Ref sig .tc} (h : r ∉ countOpsRefs) :
    after countOps V (Proc.devRef .tc r) = V (Proc.devRef .tc r) :=
  after_of_writes_sub countOps V (forall_writes_sub_of_map rfl) h

theorem perpOps_keep (V : Valuation τ sig (Elt F)) {r : Ref sig .tc} (h : r ∉ perpOpsRefs) :
    after perpOps V (Proc.devRef .tc r) = V (Proc.devRef .tc r) :=
  after_of_writes_sub perpOps V (forall_writes_sub_of_map rfl) h

theorem activeOps_keep (V : Valuation τ sig (Elt F)) {r : Ref sig .tc} (h : r ∉ activeOpsRefs) :
    after activeOps V (Proc.devRef .tc r) = V (Proc.devRef .tc r) :=
  after_of_writes_sub activeOps V (forall_writes_sub_of_map rfl) h

end Cert.Proof.Ref
-- ==== Proof.Frames.lean ====
/-
  The frames: each program runs from any launch state, its arguments and its counters left as found.
-/
module

public import proofs.«01_k».proof.Defs
public import proofs.«01_k».proof.Proof.Range
public import proofs.«01_k».proof.Proof.RefVal

@[expose] public section

noncomputable section

namespace Cert.Proof

open Idealize.ShloMosaic Idealize.ShloMosaic.StableHlo Idealize.ShloMosaic.TcCoe Idealize.SL.Sem
open Idealize.ShloMosaic.Pipeline (ucRefs devRef_mem_ucRefs)

theorem kernel_frame (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  refine (θ_run _ _ _).mono (fun r h => ⟨fun c => ?_, h.2⟩) (run_main m g (fI_lt m))
  obtain ⟨X, _, hX⟩ := h.1 c
  exact ⟨(hX _ (devRef_mem_ucRefs (by decide))).trans (V7_arg0 m c X), (hX _ (devRef_mem_ucRefs (by decide))).trans (V7_arg1 m c X)⟩

open Ref in
theorem reference_keep (V : Valuation Cert.ReferenceIdeal.τ Cert.ReferenceIdeal.sig (Elt Ideal)) {r : Ref Cert.ReferenceIdeal.sig .tc}
    (h1 : r ∉ distOpsRefs) (h2 : r ∉ argOpsRefs) (h3 : r ∉ takeOpsRefs) (h4 : r ∉ lossOpsRefs) (h5 : r ∉ countOpsRefs) (h6 : r ∉ perpOpsRefs)
    (h7 : r ∉ activeOpsRefs) : after ops V (Proc.devRef .tc r) = V (Proc.devRef .tc r) := by
  unfold ops
  rw [after_append, after_append, after_append, after_append, after_append, after_append, activeOps_keep _ h7, perpOps_keep _ h6,
    countOps_keep _ h5, lossOps_keep _ h4, takeOps_keep _ h3, argOps_keep _ h2, distOps_keep _ h1]

theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) := by
  refine (θ_run _ _ _).mono (fun r h => ⟨fun c => ⟨(h.1 c _).trans ?_, (h.1 c _).trans ?_⟩, h.2⟩) (Ref.run_ops m g)
  · exact reference_keep _ (by decide) (by decide) (by decide) (by decide) (by decide) (by decide) (by decide)
  · exact reference_keep _ (by decide) (by decide) (by decide) (by decide) (by decide) (by decide) (by decide)

end Cert.Proof
-- ==== Proof.RefArg.lean ====
/-
  The reference's argmin at the extended reals: a row's code is the first place of its least entry.
-/
module

public import proofs.«01_k».proof.Proof.First
public import proofs.«01_k».proof.Proof.RefVal
public import Idealize.ShloMosaic.PureOps.Ideal.Laws
public import Idealize.ShloMosaic.Lib.ValueIdx

@[expose] public section

set_option maxRecDepth 65536

noncomputable section

namespace Cert.Proof.Ref

open Cert.ReferenceIdeal Cert.ReferenceIdeal.Gen
open Idealize.ShloMosaic hiding ix1 ix2 eq_ix1 eq_ix2
open Idealize.ShloMosaic.ValueIdx

theorem drop_row (i : S16384x8192.Idx) (t : Fin 16384) : reducesTo_S16384x8192_S16384_d1.drop i = ix1 t ↔ i 0 = t := by
  rw [funext_iff]
  constructor
  · intro h
    exact Fin.ext ((reducesTo_S16384x8192_S16384_d1.drop_apply_val_of_eq i 0 0).symm.trans (congrArg Fin.val (h 0)))
  · intro h b
    match b with
    | ⟨0, _⟩ => exact Fin.ext ((reducesTo_S16384x8192_S16384_d1.drop_apply_val_of_eq i 0 0).trans (congrArg Fin.val h))

theorem mem_argReduceFiber {α β : Type} {s t : Shape} {axes : List (Fin s.rank)} (x : s.Idx → α) (y : s.Idx → β) (h : s.ReducesTo axes t) (j : t.Idx)
    (q : α × β) : q ∈ Host.argReduceFiber x y h j ↔ ∃ i, h.drop i = j ∧ q = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, ?_, ?_⟩
    · rw [List.mem_filter]
      refine ⟨List.mem_finRange _, ?_⟩
      rw [Equiv.symm_apply_apply]
      exact decide_eq_true hi
    · rw [Equiv.symm_apply_apply]

theorem mem_fiber (D : FVec Ideal S16384x8192 .f32) (t : Fin 16384) (q : EReal × BitVec 32) :
    q ∈ Host.argReduceFiber D (iotaInDim S16384x8192 32 1) reducesTo_S16384x8192_S16384_d1 (ix1 t)
      ↔ ∃ k : Fin 8192, q = (D (ix2 t k), BitVec.ofNat 32 k.val) := by
  rw [mem_argReduceFiber]
  constructor
  · rintro ⟨i, hi, rfl⟩
    have h0 : i 0 = t := (drop_row i t).1 hi
    have e : i = (ix2 t (i 1 : Fin 8192) : S16384x8192.Idx) := (eq_ix2 i).trans (congrArg (fun a => (ix2 a (i 1) : S16384x8192.Idx)) h0)
    exact ⟨i 1, Prod.ext (congrArg D e) rfl⟩
  · rintro ⟨k, rfl⟩
    exact ⟨ix2 t k, (drop_row _ _).2 rfl, rfl⟩

theorem reducer_lex (a b : EReal × BitVec 32) :
    (reducer_argmin_f32_i32 (F := Ideal) a b = a ∨ reducer_argmin_f32_i32 (F := Ideal) a b = b)
      ∧ LexLe (reducer_argmin_f32_i32 (F := Ideal) a b) a ∧ LexLe (reducer_argmin_f32_i32 (F := Ideal) a b) b := by
  have e : reducer_argmin_f32_i32 (F := Ideal) a b = if a.1 < b.1 ∨ a.1 = b.1 ∧ a.2.toInt < b.2.toInt then a else (b.1, b.2) := by
    unfold reducer_argmin_f32_i32
    dsimp only
    rw [Ideal.cmpf_def, Ideal.cmpf_def, Ideal.cmpf_def]
    by_cases h1 : a.1 < b.1
    · simp [Ideal.cmp, h1, IntOp.ori, IntOp.andi, Scalar.select, h1.ne]
    · by_cases h2 : a.1 = b.1
      · by_cases h3 : a.2.toInt < b.2.toInt
        · simp [Ideal.cmp, h2, IntOp.ori, IntOp.andi, IntOp.cmpi, Scalar.select, h3, BitVec.slt]
          exact Prod.ext h2.symm rfl
        · simp [Ideal.cmp, h2, IntOp.ori, IntOp.andi, IntOp.cmpi, Scalar.select, h3, BitVec.slt]
      · simp [Ideal.cmp, h1, h2, IntOp.ori, IntOp.andi, IntOp.cmpi, Scalar.select]
  rw [e]
  unfold LexLe
  split
  · next h =>
    refine ⟨.inl rfl, .inr ⟨rfl, le_refl _⟩, ?_⟩
    rcases h with h | ⟨h, h'⟩
    · exact .inl h
    · exact .inr ⟨h, le_of_lt h'⟩
  · next h =>
    refine ⟨.inr rfl, ?_, .inr ⟨rfl, le_refl _⟩⟩
    rw [not_or, not_and] at h
    rcases lt_or_eq_of_le (not_lt.1 h.1) with t | t
    · exact .inl t
    · exact .inr ⟨t, not_lt.1 (h.2 t.symm)⟩

theorem arg_fold {s t u : Shape} {axes : List (Fin s.rank)} (f : EReal × BitVec 32 → EReal × BitVec 32 → EReal × BitVec 32) (x : FVec Ideal s .f32)
    (y : s.Idx → BitVec 32) (h : s.ReducesTo axes t) (hu : 0 < u.numel) (j : t.Idx) :
    (Host.argReduce (F := Ideal) (φ := .f32) f x y (constant u .f32 0x7F800000#32) (constantI u 32 0#32) h hu j).2
      = ((Host.argReduceFiber x y h j).foldl f (⊤, 0#32)).2 := by
  have e : Ideal.ofBits .f32 0x7F800000#32 = ⊤ := by simp [Ideal.ofBits, Ideal.ieee]
  rw [Ideal.argReduce_eq_reduce2, Host.reduce2_eq_foldl_fiber, ← e]
  rfl

theorem argF_eq : @argF Ideal _ = fun v13 j => (Host.argReduce (F := Ideal) (φ := .f32) reducer_argmin_f32_i32 v13 (iotaInDim S16384x8192 32 1)
    (constant S_ .f32 0x7F800000#32) (constantI S_ 32 0#32) reducesTo_S16384x8192_S16384_d1 h_S_ j).2 := rfl

/-- A row's code is the first place of its least entry. -/
theorem argF_row (D : FVec Ideal S16384x8192 .f32) (t : Fin 16384) :
    ∃ k : Fin 8192, IsFirst (fun k => D (ix2 t k)) k ∧ @argF Ideal _ D (ix1 t) = BitVec.ofNat 32 k.val := by
  obtain ⟨k, h1, h2⟩ := foldl_first (Nat.succ_pos 8191) (le_refl 8192) (fun k => D (ix2 t k)) (reducer_argmin_f32_i32 (F := Ideal)) reducer_lex _ (mem_fiber D t)
  exact ⟨k, h1, (congrFun (congrFun argF_eq D) (ix1 t)).trans ((arg_fold _ _ _ _ _ _).trans h2)⟩

end Cert.Proof.Ref
-- ==== Proof.Dist.lean ====
/-
  The two programs' distances at the extended reals, on finite arguments: the kernel adds the products with rows scaled by
  minus two, the reference takes twice the products away.
-/
module

public import proofs.«01_k».proof.Proof.Range
public import proofs.«01_k».proof.Proof.RefArg

@[expose] public section

set_option maxRecDepth 65536

noncomputable section

namespace Cert.Proof

open Cert.KernelIdeal Cert.KernelIdeal.Gen
open Idealize.ShloMosaic hiding ix1 ix2 eq_ix1 eq_ix2
open Idealize.ShloMosaic.ValueIdx Idealize.ShloMosaic.StableHlo Idealize.ShloMosaic.TcCoe Idealize.SL.Sem

/-! ## The prepared arrays -/

section AnyInstance
variable {F : FTy → Type} [FloatOps F]

/-- The rows' square sums, the codes', and the scaled rows. -/
def sqZ (z : FVec F S16384x64 .f32) : FVec F S16384x1 .f32 :=
  broadcastInDim S16384x1 ![0] bcast_S16384_S16384x1_0 (Host.reduceAdd (mulf z z) (constant S_ .f32 0x00000000#32) reducesTo_S16384x64_S16384_d1 h_S_)

def sqE (e : FVec F S8192x64 .f32) : FVec F S8192 .f32 :=
  Host.reduceAdd (mulf e e) (constant S_ .f32 0x00000000#32) reducesTo_S8192x64_S8192_d1 h_S_

def scaled (z : FVec F S16384x64 .f32) : FVec F S16384x64 .f32 :=
  mulf z (broadcastInDim S16384x64 ![] bcast_S_S16384x64 (constant S_ .f32 0xC0000000#32))

theorem after_v2 (V : Valuation τ sig (Elt F)) : after prepOps V (Proc.devRef .tc main_v2) = sqZ (V (Proc.devRef .tc main_arg0)) := by
  unfold prepOps
  after_results
  rfl

theorem after_v7 (V : Valuation τ sig (Elt F)) :
    after prepOps V (Proc.devRef .tc main_v7) = broadcastInDim S1x8192 ![1] bcast_S8192_S1x8192_1 (sqE (V (Proc.devRef .tc main_arg1))) := by
  unfold prepOps
  after_results
  rfl

theorem after_v6 (V : Valuation τ sig (Elt F)) : after prepOps V (Proc.devRef .tc main_v6) = scaled (V (Proc.devRef .tc main_arg0)) := by
  unfold prepOps
  after_results
  rfl

end AnyInstance

theorem distF_eq : @Ref.distF Ideal _ = fun z e =>
    subf (addf (broadcastInDim Cert.ReferenceIdeal.S16384x8192 ![0, 1] Cert.ReferenceIdeal.Gen.facts.bcast_S16384x1_S16384x8192_0_1 (sqZ z))
        (broadcastInDim Cert.ReferenceIdeal.S16384x8192 ![0, 1] Cert.ReferenceIdeal.Gen.facts.bcast_S1x8192_S16384x8192_0_1 (broadcastInDim S1x8192 ![1] bcast_S8192_S1x8192_1 (sqE e))))
      (mulf (broadcastInDim Cert.ReferenceIdeal.S16384x8192 ![] Cert.ReferenceIdeal.Gen.facts.bcast_S_S16384x8192 (constant S_ .f32 0x40000000#32))
        (Host.dotGeneral (F := Ideal) (φ₁ := .f32) (φ₂ := .f32) Cert.ReferenceIdeal.dot_S16384x64_S64x8192_S16384x8192_1_0_0_1_n_n none z
          (transpose Cert.ReferenceIdeal.S64x8192 [1, 0] e Cert.ReferenceIdeal.Gen.facts.transposes_S8192x64_S64x8192_1_0))) := rfl

/-! ## The products -/

theorem lhsK (r : Fin 256) (k : Fin 8192) (j : Fin 64) :
    dot_S256x64_S8192x64_S256x8192_1_1_0_0_n_n.lhsIdx (ix2 r k) ((contrEquiv1 dot_S256x64_S8192x64_S256x8192_1_1_0_0_n_n 64 rfl rfl).symm j) = ix2 r j := by
  funext a
  match a with
  | ⟨0, _⟩ => rfl
  | ⟨1, _⟩ => rfl

theorem rhsK (r : Fin 256) (k : Fin 8192) (j : Fin 64) :
    dot_S256x64_S8192x64_S256x8192_1_1_0_0_n_n.rhsIdx (ix2 r k) ((contrEquiv1 dot_S256x64_S8192x64_S256x8192_1_1_0_0_n_n 64 rfl rfl).symm j) = ix2 k j := by
  funext a
  match a with
  | ⟨0, _⟩ => rfl
  | ⟨1, _⟩ => rfl

theorem lhsR (t : Fin 16384) (k : Fin 8192) (j : Fin 64) :
    Cert.ReferenceIdeal.dot_S16384x64_S64x8192_S16384x8192_1_0_0_1_n_n.lhsIdx (ix2 t k)
      ((contrEquiv1 Cert.ReferenceIdeal.dot_S16384x64_S64x8192_S16384x8192_1_0_0_1_n_n 64 rfl rfl).symm j) = ix2 t j := by
  funext a
  match a with
  | ⟨0, _⟩ => rfl
  | ⟨1, _⟩ => rfl

theorem rhsR (t : Fin 16384) (k : Fin 8192) (j : Fin 64) :
    Cert.ReferenceIdeal.dot_S16384x64_S64x8192_S16384x8192_1_0_0_1_n_n.rhsIdx (ix2 t k)
      ((contrEquiv1 Cert.ReferenceIdeal.dot_S16384x64_S64x8192_S16384x8192_1_0_0_1_n_n 64 rfl rfl).symm j) = ix2 j k := by
  funext a
  match a with
  | ⟨0, _⟩ => rfl
  | ⟨1, _⟩ => rfl

theorem productK (x : FVec Ideal S256x64 .f32) (e : FVec Ideal S8192x64 .f32) (r : Fin 256) (k : Fin 8192) :
    matmul (F := Ideal) (φ₁ := .f32) (φ₂ := .f32) dot_S256x64_S8192x64_S256x8192_1_1_0_0_n_n none x e (constant S256x8192 .f32 0x00000000#32) (ix2 r k)
      = ∑ j : Fin 64, x (ix2 r j) * e (ix2 k j) := by
  refine (Ideal.matmul_constant_zero_apply _ _ _ _ _).trans ?_
  rw [← Equiv.sum_comp (contrEquiv1 dot_S256x64_S8192x64_S256x8192_1_1_0_0_n_n 64 rfl rfl).symm]
  exact Finset.sum_congr rfl fun j _ => by rw [lhsK, rhsK]

theorem productR (z : FVec Ideal S16384x64 .f32) (e : FVec Ideal Cert.ReferenceIdeal.S64x8192 .f32) (t : Fin 16384) (k : Fin 8192) :
    Host.dotGeneral (F := Ideal) (φ₁ := .f32) (φ₂ := .f32) Cert.ReferenceIdeal.dot_S16384x64_S64x8192_S16384x8192_1_0_0_1_n_n none z e (ix2 t k)
      = ∑ j : Fin 64, z (ix2 t j) * e (ix2 j k) := by
  refine (Ideal.dotGeneral_apply _ _ _ _ _ _).trans ?_
  rw [← Equiv.sum_comp (contrEquiv1 Cert.ReferenceIdeal.dot_S16384x64_S64x8192_S16384x8192_1_0_0_1_n_n 64 rfl rfl).symm]
  exact Finset.sum_congr rfl fun j _ => by rw [lhsR, rhsR]

/-! ## The distances at a place -/

theorem bc_cols (x : FVec Ideal S256x1 .f32) (r : Fin 256) (k : Fin 8192) : broadcastTo S256x8192 x broadcasts_S256x1_S256x8192 (ix2 r k) = x (ix2 r 0) := by
  show x _ = x _
  congr 1
  funext a
  match a with
  | ⟨0, _⟩ => exact Fin.ext rfl
  | ⟨1, _⟩ => exact Fin.ext rfl

theorem bc_rows (x : FVec Ideal S1x8192 .f32) (r : Fin 256) (k : Fin 8192) : broadcastTo S256x8192 x broadcasts_S1x8192_S256x8192 (ix2 r k) = x (ix2 0 k) := by
  show x _ = x _
  congr 1
  funext a
  match a with
  | ⟨0, _⟩ => exact Fin.ext rfl
  | ⟨1, _⟩ => exact Fin.ext rfl

theorem distK_at (v0 : Vec Ideal S256x64 .f32) (v2 : Vec Ideal S8192x64 .f32) (v4 : Vec Ideal S256x1 .f32) (v6 : Vec Ideal S1x8192 .f32)
    (r : Fin 256) (k : Fin 8192) :
    distK v0 v2 v4 v6 (ix2 r k) = v4 (ix2 r 0) + v6 (ix2 0 k) + ∑ j : Fin 64, (v0 (ix2 r j) : EReal) * v2 (ix2 k j) := by
  unfold distK
  rw [shapeCast_self, shapeCast_self, shapeCast_self, addf_apply, addf_apply, bc_cols, bc_rows, productK]

theorem bcR_cols (x : FVec Ideal S16384x1 .f32) (t : Fin 16384) (k : Fin 8192) :
    broadcastInDim Cert.ReferenceIdeal.S16384x8192 ![0, 1] Cert.ReferenceIdeal.Gen.facts.bcast_S16384x1_S16384x8192_0_1 x (ix2 t k) = x (ix2 t 0) := by
  show x _ = x _
  congr 1
  funext a
  match a with
  | ⟨0, _⟩ => exact Fin.ext rfl
  | ⟨1, _⟩ => exact Fin.ext rfl

theorem bcR_rows (x : FVec Ideal S1x8192 .f32) (t : Fin 16384) (k : Fin 8192) :
    broadcastInDim Cert.ReferenceIdeal.S16384x8192 ![0, 1] Cert.ReferenceIdeal.Gen.facts.bcast_S1x8192_S16384x8192_0_1 x (ix2 t k) = x (ix2 0 k) := by
  show x _ = x _
  congr 1
  funext a
  match a with
  | ⟨0, _⟩ => exact Fin.ext rfl
  | ⟨1, _⟩ => exact Fin.ext rfl

theorem turned (e : FVec Ideal S8192x64 .f32) (j : Fin 64) (k : Fin 8192) :
    transpose Cert.ReferenceIdeal.S64x8192 [1, 0] e Cert.ReferenceIdeal.Gen.facts.transposes_S8192x64_S64x8192_1_0 (ix2 j k) = e (ix2 k j) := by
  show e _ = e _
  congr 1
  funext a
  match a with
  | ⟨0, _⟩ => exact Fin.ext rfl
  | ⟨1, _⟩ => exact Fin.ext rfl

theorem two_f32 : Ideal.ofBits .f32 0x40000000#32 = ((2 : ℝ) : EReal) := by
  simp [Ideal.ofBits, Ideal.ieee, -EReal.coe_mul]; norm_num

theorem neg_two_f32 : Ideal.ofBits .f32 0xC0000000#32 = ((-2 : ℝ) : EReal) := by
  simp [Ideal.ofBits, Ideal.ieee, -EReal.coe_mul, -EReal.coe_neg]; norm_num

theorem scaled_at (z : FVec Ideal S16384x64 .f32) (i : S16384x64.Idx) : scaled (F := Ideal) z i = z i * ((-2 : ℝ) : EReal) := by
  rw [← neg_two_f32]
  rfl

theorem distF_at (z : FVec Ideal S16384x64 .f32) (e : FVec Ideal S8192x64 .f32) (t : Fin 16384) (k : Fin 8192) :
    @Ref.distF Ideal _ z e (ix2 t k) = sqZ (F := Ideal) z (ix2 t 0) + broadcastInDim S1x8192 ![1] bcast_S8192_S1x8192_1 (sqE (F := Ideal) e) (ix2 0 k)
      - ((2 : ℝ) : EReal) * ∑ j : Fin 64, (z (ix2 t j) : EReal) * e (ix2 k j) := by
  refine (congrFun (congrFun (congrFun distF_eq z) e) (ix2 t k)).trans ?_
  rw [subf_apply, addf_apply, bcR_cols, bcR_rows, mulf_apply, productR, ← two_f32]
  exact congrArg (fun s : EReal => sqZ (F := Ideal) z (ix2 t 0) + broadcastInDim S1x8192 ![1] bcast_S8192_S1x8192_1 (sqE (F := Ideal) e) (ix2 0 k)
    - Ideal.ofBits .f32 0x40000000#32 * s) (Finset.sum_congr rfl fun j _ => congrArg (z (ix2 t j) * ·) (turned e j k))

/-- Sums of reals, with a factor of minus two inside or two outside. -/
theorem sum_neg_two {n : Nat} (z e : Fin n → EReal) (hz : ∀ j, ∃ u : ℝ, z j = u) (he : ∀ j, ∃ u : ℝ, e j = u) :
    ∑ j, z j * ((-2 : ℝ) : EReal) * e j = -(((2 : ℝ) : EReal) * ∑ j, z j * e j) := by
  choose u hu using hz
  choose v hv using he
  have h : ∀ (S : Finset (Fin n)) (f : Fin n → ℝ), ∑ j ∈ S, (f j : EReal) = ((∑ j ∈ S, f j : ℝ) : EReal) := fun S f => by
    induction S using Finset.cons_induction with
    | empty => simp
    | cons a S ha ih => rw [Finset.sum_cons, Finset.sum_cons, ih, EReal.coe_add]
  simp only [hu, hv, ← EReal.coe_mul, h, ← EReal.coe_neg]
  congr 1
  rw [Finset.mul_sum, ← Finset.sum_neg_distrib]
  exact Finset.sum_congr rfl fun j _ => by ring

/-- On finite arguments the two programs' distances are equal. -/
theorem dist_eq (z : FVec Ideal S16384x64 .f32) (e : FVec Ideal S8192x64 .f32) (hz : ∀ i, ∃ u : ℝ, z i = (u : EReal)) (he : ∀ i, ∃ u : ℝ, e i = (u : EReal))
    (q : Fin 64) (r : Fin 256) (k : Fin 8192) :
    distK (rowBlk (scaled (F := Ideal) z) q) e (rowBlk (sqZ (F := Ideal) z) q) (broadcastInDim S1x8192 ![1] bcast_S8192_S1x8192_1 (sqE (F := Ideal) e)) (ix2 r k)
      = @Ref.distF Ideal _ z e (ix2 (blkRow q r) k) := by
  rw [distK_at, distF_at, sub_eq_add_neg, ← sum_neg_two (fun j => z (ix2 (blkRow q r) j)) (fun j => e (ix2 k j)) (fun j => hz _) (fun j => he _)]
  have h0 : ∀ (n : Nat) (j : Fin n), rowIx q (ix2 r j) = ix2 (blkRow q r) j := fun n j => by
    funext a
    match a with
    | ⟨0, _⟩ => rfl
    | ⟨1, _⟩ => rfl
  simp only [rowBlk, h0, scaled_at]

end Cert.Proof
-- ==== Proof.Same.lean ====
/-
  The codes of the two programs are equal on finite arguments, and so are the rows taken at them.
-/
module

public import proofs.«01_k».proof.Proof.Dist
public import Idealize.ShloMosaic.Lib.Routing.OpsPair
public import Idealize.ShloMosaic.Lib.Routing.Ops
public import Idealize.ShloMosaic.Lib.ReduceAll
public import Idealize.ShloMosaic.Lib.KernelVsHost

@[expose] public section

set_option maxRecDepth 65536

noncomputable section

namespace Cert.Proof

open Cert.KernelIdeal Cert.KernelIdeal.Gen
open Idealize.ShloMosaic hiding ix1 ix2 eq_ix1 eq_ix2
open Idealize.ShloMosaic.ValueIdx Idealize.ShloMosaic.StableHlo Idealize.ShloMosaic.TcCoe Idealize.SL.Sem

variable (m : (ℓ : Loc nD τ sig) → Buf (Elt Ideal) ℓ) (d : Dev nD)

/-- The two arguments. -/
abbrev argZ : FVec Ideal S16384x64 .f32 := m ((d.tc : Thread nD τ).loc main_arg0)
abbrev argE : FVec Ideal S8192x64 .f32 := m ((d.tc : Thread nD τ).loc main_arg1)

/-- Both hold reals only. -/
def Real : Prop := (∀ i, ∃ u : ℝ, argZ m d i = (u : EReal)) ∧ ∀ i, ∃ u : ℝ, argE m d i = (u : EReal)

/-- The reference's codes. -/
def codeOf : Cert.ReferenceIdeal.S16384.Idx → BitVec 32 := @Ref.argF Ideal _ (@Ref.distF Ideal _ (argZ m d) (argE m d))

theorem codeOf_lt (t : Fin 16384) : (codeOf m d (ix1 t)).toNat < 8192 := by
  obtain ⟨k, _, h⟩ := Ref.argF_row (@Ref.distF Ideal _ (argZ m d) (argE m d)) t
  unfold codeOf
  rw [h, BitVec.toNat_ofNat]
  have := k.isLt
  omega

theorem V2_v8 : V2 m d (Proc.devRef .tc main_v8)
    = codes (F := Ideal) (sqZ (F := Ideal) (argZ m d)) (broadcastInDim S1x8192 ![1] bcast_S8192_S1x8192_1 (sqE (F := Ideal) (argE m d))) (scaled (F := Ideal) (argZ m d)) (argE m d) := by
  unfold V2 V1
  rw [codesAt_v8, after_v2, after_v7, after_v6, prep_keep _ (by decide)]
  rfl

/-- The kernel's code of a token is the reference's. -/
theorem v8_row (h : Real m d) (t : Fin 16384) (c : Fin 1) : (V2 m d (Proc.devRef .tc main_v8) : S16384x1.Idx → BitVec 32) (ix2 t c) = codeOf m d (ix1 t) := by
  obtain ⟨q, r, c', e⟩ := rowIx_onto (ix2 t c)
  have et : t = blkRow q r := congrFun e 0
  rw [V2_v8, e]
  obtain ⟨k, h1, h2⟩ := codes_row (sqZ (F := Ideal) (argZ m d)) (broadcastInDim S1x8192 ![1] bcast_S8192_S1x8192_1 (sqE (F := Ideal) (argE m d)))
    (scaled (F := Ideal) (argZ m d)) (argE m d) q r c'
  obtain ⟨l, h3, h4⟩ := Ref.argF_row (@Ref.distF Ideal _ (argZ m d) (argE m d)) t
  have e1 : (fun k => distK (rowBlk (scaled (F := Ideal) (argZ m d)) q) (argE m d) (rowBlk (sqZ (F := Ideal) (argZ m d)) q)
      (broadcastInDim S1x8192 ![1] bcast_S8192_S1x8192_1 (sqE (F := Ideal) (argE m d))) (ix2 r k))
      = fun k => @Ref.distF Ideal _ (argZ m d) (argE m d) (ix2 t k) := funext fun k => by rw [et]; exact dist_eq _ _ h.1 h.2 q r k
  rw [e1] at h1
  rw [h2, h1.unique h3]
  exact h4.symm

/-! ## The codes laid out anew -/

/-- The result array of codes. -/
theorem v9_eq (h : Real m d) : (V3 m d (Proc.devRef .tc main_v9) : S16384.Idx → BitVec 32) = codeOf m d := by
  have e : V3 m d (Proc.devRef .tc main_v9) = shapeCast S16384 (V2 m d (Proc.devRef .tc main_v8) : IVec S16384x1 32) shapeCasts_S16384x1_S16384 := by
    unfold V3 packOps
    after_results
    rfl
  rw [e]
  funext i
  obtain ⟨t, rfl⟩ : ∃ t, i = ix1 t := ⟨i 0, eq_ix1 i⟩
  rw [← v8_row m d h t 0]
  pointwise
  congr 1

/-- The codes as 128 rows of 128. -/
theorem fI_at (h : Real m d) (a b : Fin 128) : fI m d (ix2 a b) = codeOf m d (ix1 ⟨128 * a.val + b.val, by have := a.isLt; have := b.isLt; omega⟩) := by
  unfold fI V3
  rw [after_v10, ← v8_row m d h _ 0]
  pointwise
  refine congrArg _ (funext fun x => ?_)
  match x with
  | ⟨0, _⟩ => exact Fin.ext (show a.val * 128 + b.val = 128 * a.val + b.val by omega)
  | ⟨1, _⟩ => rfl

/-! ## The rows taken -/

/-- A vector of indices wrapped where negative, as a column. -/
def wrapped (v : IVec S16384 32) : IVec S16384x1 32 :=
  broadcastInDim S16384x1 ![0] bcast_S16384_S16384x1_0 (select (cmpi .slt v (broadcastInDim S16384 ![] Cert.ReferenceIdeal.Gen.facts.bcast_S_S16384 (constantI S_ 32 0#32)))
    (addi v (broadcastInDim S16384 ![] Cert.ReferenceIdeal.Gen.facts.bcast_S_S16384 (constantI S_ 32 8192#32))) v)

/-- Which of them lie in the table. -/
def inside (w : IVec S16384x1 32) : IVec S16384x1 1 :=
  andi (cmpi .sge w (broadcastInDim S16384x1 ![] Cert.ReferenceIdeal.Gen.facts.bcast_S_S16384x1 (constantI S_ 32 0#32)))
    (cmpi .sle w (broadcastInDim S16384x1 ![0, 1] Cert.ReferenceIdeal.Gen.facts.bcast_S1x1_S16384x1_0_1
      (broadcastInDim S1x1 ![1] Cert.ReferenceIdeal.Gen.facts.bcast_S1_S1x1_1 (constantI S1 32 8191#32))))

theorem wrapped_at (v : IVec S16384 32) (t : Fin 16384) (c : Fin 1) (h : (v (ix1 t)).toNat < 8192) : wrapped v (ix2 t c) = v (ix1 t) := by
  have e : wrapped v (ix2 t c) = Scalar.select (IntOp.cmpi .slt (v (ix1 t)) 0#32) (IntOp.addi (v (ix1 t)) 8192#32) (v (ix1 t)) := by
    have e' : ∀ f : IVec S16384 32, broadcastInDim S16384x1 ![0] bcast_S16384_S16384x1_0 f (ix2 t c) = f (ix1 t) := fun f => by
      show f _ = f _
      congr 1
      funext a
      match a with
      | ⟨0, _⟩ => exact Fin.ext rfl
    unfold wrapped
    rw [e']
    rfl
  rw [e]
  exact Idealize.ShloMosaic.Routing.wrap_of_lt _ _ (by omega)

theorem inside_at (w : IVec S16384x1 32) (i : S16384x1.Idx) (h : (w i).toNat < 8192) : inside w i = 1#1 := by
  have e : inside w i = IntOp.andi (IntOp.cmpi .sge (w i) 0#32) (IntOp.cmpi .sle (w i) 8191#32) := rfl
  have hi : (w i).toInt = (w i).toNat := BitVec.toInt_eq_toNat_of_lt (by omega)
  rw [e, IntOp.andi_eq_one, IntOp.cmpi_sge, IntOp.cmpi_sle, hi]
  refine ⟨?_, ?_⟩
  · rw [show (0#32 : BitVec 32).toInt = 0 by decide]; omega
  · rw [show (8191#32 : BitVec 32).toInt = 8191 by decide]; omega

theorem takeF_eq : @Ref.takeF Ideal _ = fun e v =>
    select (broadcastInDim S16384x64 ![0] Cert.ReferenceIdeal.Gen.facts.bcast_S16384_S16384x64_0
        (Host.reduce IntOp.andi (inside (wrapped v)) (constantI S_ 1 1#1) Cert.ReferenceIdeal.Gen.facts.reducesTo_S16384x1_S16384_d1 h_S_))
      (Host.gather Cert.ReferenceIdeal.gather_S8192x64_S16384x1_S16384x64_1_0_n_n_0_1_164 e (wrapped v))
      (broadcastInDim S16384x64 ![] Cert.ReferenceIdeal.Gen.facts.bcast_S_S16384x64 (constant (F := Ideal) S_ .f32 0x7FC00000#32)) := rfl

/-- A row taken in range is the table's row. -/
theorem takeF_at (e : FVec Ideal S8192x64 .f32) (v : IVec S16384 32) (h : ∀ t, (v (ix1 t)).toNat < 8192) (t : Fin 16384) (c : Fin 64) :
    @Ref.takeF Ideal _ e v (ix2 t c) = e (ix2 ⟨(v (ix1 t)).toNat, h t⟩ c) := by
  refine (congrFun (congrFun (congrFun takeF_eq e) v) (ix2 t c)).trans ?_
  have hall : ∀ i, inside (wrapped v) i = 1#1 := fun i => by
    obtain ⟨s, c', rfl⟩ : ∃ s c', i = ix2 s c' := ⟨i 0, i 1, eq_ix2 i⟩
    exact inside_at _ _ (by rw [wrapped_at v s c' (h s)]; exact h s)
  have hm : ∀ j, Host.reduce IntOp.andi (inside (wrapped v)) (constantI S_ 1 1#1) Cert.ReferenceIdeal.Gen.facts.reducesTo_S16384x1_S16384_d1 h_S_ j = 1#1 :=
    fun j => Host.reduce_andi_one _ _ _ _ _ rfl hall
  have hb : broadcastInDim S16384x64 ![0] Cert.ReferenceIdeal.Gen.facts.bcast_S16384_S16384x64_0
      (Host.reduce IntOp.andi (inside (wrapped v)) (constantI S_ 1 1#1) Cert.ReferenceIdeal.Gen.facts.reducesTo_S16384x1_S16384_d1 h_S_) (ix2 t c) = 1#1 := hm _
  rw [select_apply, hb, select_one]
  exact Idealize.ShloMosaic.Routing.gather_row Cert.ReferenceIdeal.gather_S8192x64_S16384x1_S16384x64_1_0_n_n_0_1_164 rfl rfl rfl rfl rfl e (wrapped v) t c ⟨(v (ix1 t)).toNat, h t⟩
    (by rw [wrapped_at v t 0 (h t), BitVec.ofNat_toNat, BitVec.setWidth_eq]) (by decide)

theorem cut_at {α : Type} (D : S16384x128.Idx → α) (t : Fin 16384) (c : Fin 64) :
    extractStridedSlice S16384x64 ![0, 0] D slices_S16384x128_S16384x64_0_0 (ix2 t c) = D (ix2 t ⟨c.val, by omega⟩) := by
  refine congrArg D (funext fun a => ?_)
  match a with
  | ⟨0, _⟩ => exact Fin.ext (Nat.zero_add t.val)
  | ⟨1, _⟩ => exact Fin.ext (Nat.zero_add c.val)

theorem gathered_at (fT : S8192x128.Idx → Ideal .f32) (f : S128x128.Idx → BitVec 32) (t : Fin 16384) (c : Fin 128) :
    gathered (F := Ideal) fT f (ix2 t c) = fT (ix2 ⟨(f (tokAt t.val t.isLt)).toNat % 8192, Nat.mod_lt _ (by decide)⟩ c) := by
  refine congrArg fT (funext fun a => ?_)
  match a with
  | ⟨0, _⟩ => rfl
  | ⟨1, _⟩ => rfl

theorem padded_at {α : Type} (e : S8192x64.Idx → α) (v : S_.Idx → α) (x : Fin 8192) (c : Fin 64) :
    pad S8192x128 ![0, 0] ![0, 64] ![0, 0] e v pads_S8192x64_S8192x128_000_0640 h_S_ (ix2 x ⟨c.val, by omega⟩) = e (ix2 x c) := by
  refine pad_apply_of_inside _ _ _ _ _ _ _ _ (ix2 x c) fun a => ?_
  match a with
  | ⟨0, _⟩ => exact ((Nat.zero_add _).trans (Nat.mul_one _)).symm
  | ⟨1, _⟩ => exact ((Nat.zero_add _).trans (Nat.mul_one _)).symm

theorem row_of_eq {α : Type} (e : S8192x64.Idx → α) (a b : BitVec 32) (h : a = b) (hb : b.toNat < 8192) (p : a.toNat % 8192 < 8192) (c : Fin 64) :
    e (ix2 ⟨a.toNat % 8192, p⟩ c) = e (ix2 ⟨b.toNat, hb⟩ c) := by
  subst h
  refine congrArg (fun x : Fin 8192 => e (ix2 x c)) (Fin.ext ?_)
  exact Nat.mod_eq_of_lt hb

/-- The gathered rows cut to the table's width are the reference's taken rows. -/
theorem rows_eq (h : Real m d) : (V5 m d (Proc.devRef .tc main_v13) : FVec Ideal S16384x64 .f32) = @Ref.takeF Ideal _ (argE m d) (codeOf m d) := by
  have e1 : V5 m d (Proc.devRef .tc main_v13)
      = extractStridedSlice S16384x64 ![0, 0] (V4 m d (Proc.devRef .tc main_v12_0) : FVec Ideal S16384x128 .f32) slices_S16384x128_S16384x64_0_0 := by
    unfold V5 cutOps
    after_results
  have e2 : V4 m d (Proc.devRef .tc main_v12_0) = gathered (F := Ideal) (V3 m d (Proc.devRef .tc main_v11)) (fI m d) := by
    unfold V4
    rw [callAt_v12_0]
  have e3 : V3 m d (Proc.devRef .tc main_v11)
      = pad S8192x128 ![0, 0] ![0, 64] ![0, 0] (argE m d) (sitofp (F := Ideal) .f32 (constantI S_ 32 0#32)) pads_S8192x64_S8192x128_000_0640 h_S_ := by
    have e : V3 m d (Proc.devRef .tc main_v11) = pad S8192x128 ![0, 0] ![0, 64] ![0, 0] (V2 m d (Proc.devRef .tc main_arg1) : FVec Ideal S8192x64 .f32)
        (sitofp (F := Ideal) .f32 (constantI S_ 32 0#32)) pads_S8192x64_S8192x128_000_0640 h_S_ := by
      unfold V3 packOps
      after_results
      rfl
    rw [e, V2_arg m d (by decide) (by decide)]
  rw [e1, e2, e3]
  funext i
  obtain ⟨t, c, rfl⟩ : ∃ t c, i = ix2 t c := ⟨i 0, i 1, eq_ix2 i⟩
  rw [takeF_at _ _ (codeOf_lt m d) t c]
  have ht : fI m d (tokAt t.val t.isLt) = codeOf m d (ix1 t) := by
    rw [show tokAt t.val t.isLt = ix2 (⟨t.val / 128, by have := t.isLt; omega⟩ : Fin 128) (⟨t.val % 128, by omega⟩ : Fin 128) from funext fun a => match a with
      | ⟨0, _⟩ => rfl
      | ⟨1, _⟩ => rfl, fI_at m d h]
    exact congrArg (fun s => codeOf m d (ix1 s)) (Fin.ext (by show 128 * (t.val / 128) + t.val % 128 = t.val; omega))
  rw [cut_at, gathered_at, padded_at]
  exact row_of_eq _ _ _ ht _ _ _

end Cert.Proof
-- ==== Proof.Counts.lean ====
/-
  The counts: the kernel's 32 histograms of 512 codes each add up to the reference's scatter of ones over all 16384.
-/
module

public import proofs.«01_k».proof.Proof.Same
public import Idealize.ShloMosaic.Lib.ValueIdxRank1
public import Idealize.ShloMosaic.Lib.IndicatorCount

@[expose] public section

set_option maxRecDepth 65536

noncomputable section

namespace Cert.Proof

open Cert.KernelIdeal Cert.KernelIdeal.Gen
open Idealize.ShloMosaic hiding ix1 ix2 eq_ix1 eq_ix2
open Idealize.ShloMosaic.ValueIdx Idealize.ShloMosaic.StableHlo Idealize.ShloMosaic.TcCoe Idealize.SL.Sem

/-- How many of the codes `v` are `x`. -/
def total (v : S16384.Idx → BitVec 32) (x : Nat) : Nat := ∑ t : Fin 16384, if (v (ix1 t)).toNat = x then 1 else 0

/-! ## The reference's scatter -/

theorem wrapped0_eq : @Ref.countF Ideal = fun v =>
    Host.scatter Cert.ReferenceIdeal.scatter_S8192_S16384x1_S16384_n_0_0_1 IntOp.addi
      (broadcastInDim S8192 ![] Cert.ReferenceIdeal.Gen.facts.bcast_S_S8192 (constantI S_ 32 0#32))
      (wrapped (maxsi (broadcastInDim S16384 ![] Cert.ReferenceIdeal.Gen.facts.bcast_S_S16384 (constantI S_ 32 0#32)) v))
      (broadcastInDim S16384 ![] Cert.ReferenceIdeal.Gen.facts.bcast_S_S16384 (constantI S_ 32 1#32)) := rfl

theorem maxsi_zero (a : BitVec 32) (h : a.toNat < 8192) : IntOp.maxsi 0#32 a = a := by
  have hi : a.toInt = a.toNat := BitVec.toInt_eq_toNat_of_lt (by omega)
  have h0 : (0#32 : BitVec 32).toInt = 0 := by decide
  apply BitVec.eq_of_toInt_eq
  simp only [IntOp.maxsi, BitVec.slt, decide_eq_true_eq]
  split <;> first | rfl | omega

theorem foldl_ones {ι : Type} (P : ι → Prop) [DecidablePred P] (l : List ι) (z : Nat) :
    l.foldl (fun a n => if P n then IntOp.addi a 1#32 else a) (BitVec.ofNat 32 z) = BitVec.ofNat 32 (z + (l.map fun n => if P n then 1 else 0).sum) := by
  induction l generalizing z with
  | nil => simp
  | cons n l ih =>
    rw [List.foldl_cons, List.map_cons, List.sum_cons, ← Nat.add_assoc, ← ih]
    congr 1
    split
    · exact (BitVec.ofNat_add z 1).symm
    · rfl

theorem lands (w : IVec S16384x1 32) (t : Fin 16384) (x : Fin 8192) (h : (w (ix2 t 0)).toNat < 8192) :
    Cert.ReferenceIdeal.scatter_S8192_S16384x1_S16384_n_0_0_1.resultIdx? (ix1 t) w = some (ix1 x) ↔ (w (ix2 t 0)).toNat = x.val := by
  have hi : (w (ix2 t 0)).toInt = (w (ix2 t 0)).toNat := BitVec.toInt_eq_toNat_of_lt (by omega)
  have hs : Cert.ReferenceIdeal.scatter_S8192_S16384x1_S16384_n_0_0_1.start (ix1 t) w 0 = (w (ix2 t 0)).toInt := by
    have hsi : Cert.ReferenceIdeal.scatter_S8192_S16384x1_S16384_n_0_0_1.start (ix1 t) w 0
        = (w (Cert.ReferenceIdeal.scatter_S8192_S16384x1_S16384_n_0_0_1.siIdx (ix1 t) ⟨0, Nat.zero_lt_one⟩)).toInt := rfl
    rw [hsi]
    refine congrArg (fun i => (w i).toInt) (funext fun a => ?_)
    match a with
    | ⟨0, _⟩ => rfl
    | ⟨1, _⟩ => rfl
  have hw : Cert.ReferenceIdeal.scatter_S8192_S16384x1_S16384_n_0_0_1.window (ix1 t) 0 = 0 := rfl
  refine (Idealize.ShloMosaic.Routing.resultIdx?_ix1 _ _ _ _).trans ?_
  rw [hs, hw, hi]
  omega

theorem sum_positions (f : Fin 16384 → Nat) :
    ((List.finRange S16384.numel).map fun n => f (S16384.rowMajor.symm n 0)).sum = ∑ t : Fin 16384, f t := by
  rw [← List.ofFn_eq_map, List.sum_ofFn, ← Equiv.sum_comp (idxEquiv1 (n := 16384)) f]
  exact Equiv.sum_comp S16384.rowMajor.symm (fun i => f (i 0))

/-- Each entry of the reference's counts. -/
theorem countF_at (v : IVec S16384 32) (h : ∀ t, (v (ix1 t)).toNat < 8192) (x : Fin 8192) : @Ref.countF Ideal v (ix1 x) = BitVec.ofNat 32 (total v x.val) := by
  refine (congrFun (congrFun wrapped0_eq v) (ix1 x)).trans ?_
  have hm : maxsi (broadcastInDim S16384 ![] Cert.ReferenceIdeal.Gen.facts.bcast_S_S16384 (constantI S_ 32 0#32)) v = v := funext fun i => by
    obtain ⟨t, rfl⟩ : ∃ t, i = ix1 t := ⟨i 0, eq_ix1 i⟩
    exact maxsi_zero _ (h t)
  rw [hm]
  refine (Idealize.ShloMosaic.Routing.scatter_at _ _ _ _ _ _).trans ?_
  refine Eq.trans ?_ ((foldl_ones (fun n => (v (ix1 (S16384.rowMajor.symm n 0))).toNat = x.val) (List.finRange S16384.numel) 0).trans ?_)
  · refine List.foldl_ext _ _ _ fun a n _ => ?_
    obtain ⟨t, e⟩ : ∃ t, S16384.rowMajor.symm n = ix1 t := ⟨_, eq_ix1 _⟩
    rw [e]
    have hl := lands (wrapped v) t x (by rw [wrapped_at v t 0 (h t)]; exact h t)
    rw [wrapped_at v t 0 (h t)] at hl
    by_cases hx : (v (ix1 t)).toNat = x.val
    · rw [if_pos (hl.2 hx)]
      exact (if_pos hx).symm
    · rw [if_neg fun hh => hx (hl.1 hh)]
      exact (if_neg hx).symm
  · rw [Nat.zero_add]
    exact congrArg (BitVec.ofNat 32) (sum_positions fun t => if (v (ix1 t)).toNat = x.val then 1 else 0)

/-! ## The kernel's histograms -/

theorem fold_words {ι : Type} (S : Finset ι) (f : ι → Nat) : S.fold IntOp.addi 0#32 (fun i => BitVec.ofNat 32 (f i)) = BitVec.ofNat 32 (∑ i ∈ S, f i) := by
  induction S using Finset.cons_induction with
  | empty => rfl
  | cons a S ha ih => rw [Finset.fold_cons, Finset.sum_cons, ih]; exact (BitVec.ofNat_add _ _).symm

theorem drop_col (i : S32x8192.Idx) (x : Fin 8192) : reduces_S32x8192_S8192.drop i = ix1 x ↔ i 1 = x := by
  rw [funext_iff]
  constructor
  · intro h
    exact Fin.ext ((reduces_S32x8192_S8192.drop_apply_val_of_eq i 0 1).symm.trans (congrArg Fin.val (h 0)))
  · intro h b
    match b with
    | ⟨0, _⟩ => exact Fin.ext ((reduces_S32x8192_S8192.drop_apply_val_of_eq i 0 1).trans (congrArg Fin.val h))

/-- A sum over one column of a matrix. -/
theorem column_sum {n0 n1 : Nat} (g : Fin n0 → Fin n1 → Nat) (x : Fin n1) (P : (⟨2, ![n0, n1]⟩ : Shape).Idx → Prop) [DecidablePred P]
    (hP : ∀ i, P i ↔ i 1 = x) : (∑ i ∈ Finset.univ.filter P, g (i 0) (i 1)) = ∑ w, g w x := by
  rw [Finset.sum_filter]
  refine (Idealize.ShloMosaic.ValueIdx.sum_idx2 (n0 := n0) (n1 := n1) _).trans (Finset.sum_congr rfl fun w _ => ?_)
  refine (Finset.sum_eq_single x (fun b _ hb => if_neg fun h => hb ((hP _).1 h)) fun hx => absurd (Finset.mem_univ x) hx).trans ?_
  exact if_pos ((hP _).2 rfl)

/-- Adding a column of 32 counts. -/
theorem column (g : Fin 32 → Fin 8192 → Nat) (H : IVec S32x8192 32) (hH : ∀ w x, H (ix2 w x) = BitVec.ofNat 32 (g w x)) (x : Fin 8192) :
    multiReductionI .add [0] S8192 H 0#32 reduces_S32x8192_S8192 rfl (ix1 x) = BitVec.ofNat 32 (∑ w : Fin 32, g w x) := by
  refine (multiReductionI_eq_fold _ _ _ _ _ _).trans ?_
  have hf : H = fun i => BitVec.ofNat 32 (g (i 0) (i 1)) := funext fun i => (congrArg H (eq_ix2 i)).trans (hH (i 0) (i 1))
  rw [hf]
  exact (fold_words _ _).trans (congrArg (BitVec.ofNat 32) (column_sum g x _ fun i => drop_col i x))

theorem sum_tiles (f : Nat → Nat) : ∑ w : Fin 32, ∑ i ∈ Finset.range 512, f (512 * w.val + i) = ∑ t : Fin 16384, f t.val := by
  have h : ∑ t : Fin (32 * 512), f t.val = ∑ w : Fin 32, ∑ i : Fin 512, f (512 * w.val + i.val) := by
    rw [← Equiv.sum_comp finProdFinEquiv, Fintype.sum_prod_type]
    exact Finset.sum_congr rfl fun w _ => Finset.sum_congr rfl fun i _ => congrArg f (Nat.add_comm _ _)
  refine Eq.trans ?_ h.symm
  exact Finset.sum_congr rfl fun w _ => Finset.sum_range _

variable (m : (ℓ : Loc nD τ sig) → Buf (Elt Ideal) ℓ) (d : Dev nD)

/-- The code of the token numbered `n`, zero past the last. -/
def codeN (n : Nat) : Nat := if h : n < 16384 then (codeOf m d (ix1 ⟨n, h⟩)).toNat else 0

theorem flat_code (h : Real m d) (w : Fin 32) (i : Nat) (hi : i < 512) : (Hist.flat (rowsOf (fI m d) w) i).toNat = codeN m d (512 * w.val + i) := by
  have hw := w.isLt
  have hlt : 512 * w.val + i < 16384 := by omega
  have e : Hist.flat (rowsOf (fI m d) w) i = fI m d (ix2 (⟨4 * w.val + i / 128, by omega⟩ : Fin 128) (⟨i % 128, by omega⟩ : Fin 128)) := by
    unfold Hist.flat rowsOf
    refine congrArg (fI m d) (funext fun a => ?_)
    match a with
    | ⟨0, _⟩ => exact Fin.ext (show 4 * w.val + i / 128 % 4 = 4 * w.val + i / 128 by omega)
    | ⟨1, _⟩ => rfl
  rw [e, fI_at m d h]
  unfold codeN
  rw [dif_pos hlt]
  exact congrArg (fun s => (codeOf m d (ix1 s)).toNat) (Fin.ext (show 128 * (4 * w.val + i / 128) + i % 128 = 512 * w.val + i by omega))

theorem histed_at (h : Real m d) (w : Fin 32) (x : Fin 8192) :
    histed (fI m d) (ix2 w x) = BitVec.ofNat 32 (∑ i ∈ Finset.range 512, if codeN m d (512 * w.val + i) = x.val then 1 else 0) := by
  unfold histed Hist.count
  refine congrArg (BitVec.ofNat 32) ?_
  rw [Finset.card_filter]
  refine Finset.sum_congr rfl fun i hi => ?_
  have e := flat_code m d h w i (Finset.mem_range.1 hi)
  rw [← e]

/-- The kernel's counts added up are the reference's. -/
theorem counts_eq (h : Real m d) : multiReductionI .add [0] S8192 (histed (fI m d)) 0#32 reduces_S32x8192_S8192 rfl = @Ref.countF Ideal (codeOf m d) := by
  funext i
  obtain ⟨x, rfl⟩ : ∃ x, i = ix1 x := ⟨i 0, eq_ix1 i⟩
  refine (column _ _ (histed_at m d h) x).trans ?_
  refine Eq.trans ?_ (countF_at _ (codeOf_lt m d) x).symm
  refine congrArg (BitVec.ofNat 32) ((sum_tiles fun n => if codeN m d n = x.val then 1 else 0).trans ?_)
  unfold total
  refine Finset.sum_congr rfl fun t _ => ?_
  unfold codeN
  rw [dif_pos t.isLt]

end Cert.Proof
-- ==== Proof.Stats.lean ====
/-
  The losses, the perplexity and the number of active codes: the kernel's are the reference's.
-/
module

public import proofs.«01_k».proof.Proof.Counts
public import Idealize.ShloMosaic.Lib.IdealHost
public import Idealize.ShloMosaic.PureOps.Ideal.Laws
public import Idealize.ShloMosaic.PureOps.Reduce

@[expose] public section

set_option maxRecDepth 65536

noncomputable section

namespace Cert.Proof

open Cert.KernelIdeal Cert.KernelIdeal.Gen
open Idealize.ShloMosaic hiding ix1 ix2 eq_ix1 eq_ix2
open Idealize.ShloMosaic.ValueIdx Idealize.ShloMosaic.StableHlo Idealize.ShloMosaic.TcCoe Idealize.SL.Sem

/-! ## Sums over a whole array -/

/-- A reshape has the same sum. -/
theorem sum_cast {s t : Shape} (x : s.Idx → EReal) (h : s.ShapeCasts t) : ∑ i, shapeCast t x h i = ∑ i, x i :=
  Equiv.sum_comp (Shape.reshapeEquiv h) x

/-- The kernel's sum of a matrix. -/
theorem kernel_sum2 (x : FVec Ideal S16384x64 .f32) :
    extractAt ![0, 0, 0] (shapeCast S1x1x1 (multiReduction .add [1, 2] S1 (shapeCast S1x16384x64 x shapeCasts_S16384x64_S1x16384x64) 0x00000000#32
      reduces_S1x16384x64_S1 (.inl rfl) rfl) shapeCasts_S1_S1x1x1) inpos_S1x1x1_p0_0_0 = ∑ i, x i :=
  (Ideal.multiReduction_add_total _ 0x00000000#32 reduces_S1x16384x64_S1 (by decide) (.inl rfl) rfl _).trans (sum_cast x _)

/-- The kernel's sum of a vector laid as a row. -/
theorem kernel_sum1 (x : FVec Ideal S8192 .f32) : k2_pay1 (F := Ideal) (shapeCast S1x8192 x shapeCasts_S8192_S1x8192) = ∑ i, x i :=
  (Ideal.multiReduction_add_total _ 0x00000000#32 reduces_S1x8192_S1 (by decide) (.inl rfl) rfl _).trans (sum_cast x _)

/-- The reference's sum of a matrix. -/
theorem host_sum2 (x : FVec Ideal S16384x64 .f32) (j : S_.Idx) :
    Host.reduceAdd x (constant S_ .f32 0x00000000#32) Cert.ReferenceIdeal.Gen.facts.reducesTo_S16384x64_S_d0_1 Cert.ReferenceIdeal.Gen.facts.h_S_ j = ∑ i, x i := by
  refine (Ideal.hostReduceAdd_total _ (fun b => b.elim0) x _ j).trans ?_
  refine (congrArg (· + _) Ideal.ofBits_zero_f32).trans ?_
  exact zero_add _

/-- The reference's sum of a vector. -/
theorem host_sum1 (x : FVec Ideal S8192 .f32) (j : S_.Idx) :
    Host.reduceAdd x (constant S_ .f32 0x00000000#32) Cert.ReferenceIdeal.Gen.facts.reducesTo_S8192_S_d0 Cert.ReferenceIdeal.Gen.facts.h_S_ j = ∑ i, x i := by
  refine (Ideal.hostReduceAdd_total _ (fun b => b.elim0) x _ j).trans ?_
  refine (congrArg (· + _) Ideal.ofBits_zero_f32).trans ?_
  exact zero_add _

/-! ## The losses -/

theorem pay3_self (q : FVec Ideal S16384x64 .f32) : k2_pay3 (F := Ideal) q = q := shapeCast_self _ _

theorem codebookF_eq : @Eq (FVec Ideal S16384x64 .f32 → FVec Ideal S16384x64 .f32 → FVec Ideal S_ .f32) (@Ref.codebookF Ideal _) <| fun z q =>
    Host.divf (Host.reduceAdd (mulf (subf q z) (subf q z)) (constant S_ .f32 0x00000000#32) Cert.ReferenceIdeal.Gen.facts.reducesTo_S16384x64_S_d0_1 Cert.ReferenceIdeal.Gen.facts.h_S_)
      (constant S_ .f32 0x49800000#32) := rfl

theorem commitF_eq : @Eq (FVec Ideal S16384x64 .f32 → FVec Ideal S16384x64 .f32 → FVec Ideal S_ .f32) (@Ref.commitF Ideal _) <| fun z q =>
    Host.divf (Host.reduceAdd (mulf (subf z q) (subf z q)) (constant S_ .f32 0x00000000#32) Cert.ReferenceIdeal.Gen.facts.reducesTo_S16384x64_S_d0_1 Cert.ReferenceIdeal.Gen.facts.h_S_)
      (constant S_ .f32 0x49800000#32) := rfl

theorem codebook_eq (z q : FVec Ideal S16384x64 .f32) (j : S_.Idx) : k2_pay5 (F := Ideal) z q = @Ref.codebookF Ideal _ z q j := by
  refine Eq.trans ?_ (congrFun (congrFun (congrFun codebookF_eq z) q) j).symm
  refine Eq.trans ?_ (congrArg (fun s => Ideal.div s (Ideal.ofBits .f32 0x49800000#32)) (host_sum2 _ j).symm)
  unfold k2_pay5
  rw [pay3_self]
  exact congrArg (fun s => Ideal.div s (Ideal.ofBits .f32 0x49800000#32)) (kernel_sum2 _)

theorem commit_eq (z q : FVec Ideal S16384x64 .f32) (j : S_.Idx) : k2_pay6 (F := Ideal) z q = @Ref.commitF Ideal _ z q j := by
  refine Eq.trans ?_ (congrFun (congrFun (congrFun commitF_eq z) q) j).symm
  refine Eq.trans ?_ (congrArg (fun s => Ideal.div s (Ideal.ofBits .f32 0x49800000#32)) (host_sum2 _ j).symm)
  unfold k2_pay6
  rw [pay3_self]
  exact congrArg (fun s => Ideal.div s (Ideal.ofBits .f32 0x49800000#32)) (kernel_sum2 _)

theorem vqF_eq : @Eq (FVec Ideal S_ .f32 → FVec Ideal S_ .f32 → FVec Ideal S_ .f32) (@Ref.vqF Ideal _) <| fun a b => addf a (mulf (constant S_ .f32 0x3E800000#32) b) := rfl

theorem vq_eq (z q : FVec Ideal S16384x64 .f32) (j : S_.Idx) :
    k2_pay2 (F := Ideal) (k2_pay5 z q) (k2_pay6 z q) = @Ref.vqF Ideal _ (@Ref.codebookF Ideal _ z q) (@Ref.commitF Ideal _ z q) j := by
  refine Eq.trans ?_ (congrFun (congrFun (congrFun vqF_eq _) _) j).symm
  rw [codebook_eq z q j, commit_eq z q j]
  rfl

theorem throughF_eq : @Eq (FVec Ideal S16384x64 .f32 → FVec Ideal S16384x64 .f32 → FVec Ideal S16384x64 .f32) (@Ref.throughF Ideal _) <| fun z q => addf z (subf q z) := rfl

theorem through_eq (z q : FVec Ideal S16384x64 .f32) : k2_pay4 (F := Ideal) z q = @Ref.throughF Ideal _ z q := by
  refine Eq.trans ?_ (congrFun (congrFun throughF_eq z) q).symm
  unfold k2_pay4
  rw [pay3_self]

/-! ## The perplexity and the active codes -/

theorem freqF_eq : @Eq (IVec S8192 32 → FVec Ideal S8192 .f32) (@Ref.freqF Ideal _) <| fun c => Host.divf (sitofp .f32 c)
    (broadcastInDim S8192 ![] Cert.ReferenceIdeal.Gen.facts.bcast_S_S8192 (constant S_ .f32 0x46800000#32)) := rfl

/-- The kernel's frequencies are the reference's of the counts added up. -/
theorem freq_eq (H : IVec S32x8192 32) : k2_pay7 (F := Ideal) H = @Ref.freqF Ideal _ (multiReductionI .add [0] S8192 H 0#32 reduces_S32x8192_S8192 rfl) := by
  refine Eq.trans ?_ (congrFun freqF_eq _).symm
  unfold k2_pay7
  rw [shapeCast_self]
  rfl

theorem perpF_eq : @Eq (FVec Ideal S8192 .f32 → FVec Ideal S_ .f32) (@Ref.perpF Ideal _) <| fun p => Host.exp (Host.negf (Host.reduceAdd (mulf p (Host.log (addf p
    (broadcastInDim S8192 ![] Cert.ReferenceIdeal.Gen.facts.bcast_S_S8192 (constant S_ .f32 0x2EDBE6FF#32))))) (constant S_ .f32 0x00000000#32)
      Cert.ReferenceIdeal.Gen.facts.reducesTo_S8192_S_d0 Cert.ReferenceIdeal.Gen.facts.h_S_)) := rfl

theorem pay8_eq (H : IVec S32x8192 32) : k2_pay8 (F := Ideal) H = Ideal.exp (Ideal.ofBits .f32 0x00000000#32 - k2_pay1 (F := Ideal) (shapeCast S1x8192
    (mulf (k2_pay7 (F := Ideal) H) (log (addf (k2_pay7 (F := Ideal) H) (broadcast S8192 (Scalar.ofBits .f32 0x2EDBE6FF#32))))) shapeCasts_S8192_S1x8192)) := rfl

theorem perp_eq (H : IVec S32x8192 32) (j : S_.Idx) : k2_pay8 (F := Ideal) H = @Ref.perpF Ideal _ (k2_pay7 (F := Ideal) H) j := by
  refine Eq.trans ?_ (congrFun (congrFun perpF_eq _) j).symm
  refine (pay8_eq H).trans ?_
  refine Eq.trans ?_ (congrArg (fun s => Ideal.exp (-s)) (host_sum1 _ j).symm)
  refine congrArg Ideal.exp ?_
  rw [kernel_sum1, Ideal.ofBits_zero_f32, sub_eq_add_neg, zero_add]
  rfl

theorem activeF_eq : @Eq (FVec Ideal S8192 .f32 → FVec Ideal S_ .f32) (@Ref.activeF Ideal _) <| fun p => sitofp .f32 (Host.reduce IntOp.addi (extui 32 (cmpf .ogt p
    (broadcastInDim S8192 ![] Cert.ReferenceIdeal.Gen.facts.bcast_S_S8192 (constant S_ .f32 0x00000000#32))) natLt_1_32) (constantI S_ 32 0#32)
      Cert.ReferenceIdeal.Gen.facts.reducesTo_S8192_S_d0 Cert.ReferenceIdeal.Gen.facts.h_S_) := rfl

theorem pay9_eq (H : IVec S32x8192 32) : k2_pay9 (F := Ideal) H = shapeCast S1x8192 (sitofp .f32 (extui 32 (cmpf .ogt (k2_pay7 (F := Ideal) H)
    (broadcast S8192 (Scalar.ofBits .f32 0x00000000#32))) natLt_1_32)) shapeCasts_S8192_S1x8192 := rfl

/-- A bit as an extended real. -/
theorem bit_real (b : BitVec 1) : (((b.setWidth 32).toInt : ℝ) : EReal) = ((if b = 1#1 then (1 : Nat) else 0 : Nat) : EReal) := by
  have h : b = 0#1 ∨ b = 1#1 := by
    have := b.isLt
    rcases Nat.lt_or_ge b.toNat 1 with h | h
    · left; apply BitVec.eq_of_toNat_eq; simp; omega
    · right; apply BitVec.eq_of_toNat_eq; simp; omega
  rcases h with rfl | rfl <;> simp

/-- Bits added up as floats are the number of them. -/
theorem bits_sum (b : IVec S8192 1) (j : S_.Idx) : (∑ i, (sitofp .f32 (extui 32 b natLt_1_32) : FVec Ideal S8192 .f32) i)
    = (sitofp .f32 (Host.reduce IntOp.addi (extui 32 b natLt_1_32) (constantI S_ 32 0#32)
      Cert.ReferenceIdeal.Gen.facts.reducesTo_S8192_S_d0 Cert.ReferenceIdeal.Gen.facts.h_S_) : FVec Ideal S_ .f32) j := by
  have hl : (∑ i, (sitofp .f32 (extui 32 b natLt_1_32) : FVec Ideal S8192 .f32) i) = (((Finset.univ.filter fun i => b i = 1#1).card : Nat) : EReal) := by
    refine (Finset.sum_congr rfl fun i _ => bit_real (b i)).trans ?_
    rw [Finset.card_filter]
    exact (Nat.cast_sum _ _).symm
  have hc : (Finset.univ.filter fun i => b i = 1#1).card ≤ 8192 := by
    refine (Finset.card_le_univ _).trans (le_of_eq ?_)
    exact (Fintype.card_congr (idxEquiv1 (n := 8192))).trans (Fintype.card_fin _)
  have hr : Host.reduce IntOp.addi (extui 32 b natLt_1_32) (constantI S_ 32 0#32) Cert.ReferenceIdeal.Gen.facts.reducesTo_S8192_S_d0
      Cert.ReferenceIdeal.Gen.facts.h_S_ j = BitVec.ofNat 32 (Finset.univ.filter fun i => b i = 1#1).card := by
    refine (Host.reduce_eq_fold _ _ _ _ _ _).trans ?_
    rw [Finset.filter_true_of_mem fun i _ => funext fun a => a.elim0]
    exact IndicatorCount.fold_addi_setWidth_eq_card b Finset.univ
  refine hl.trans ?_
  refine Eq.trans ?_ (congrArg (fun w : BitVec 32 => (((w.toInt : ℝ)) : EReal)) hr.symm)
  generalize (Finset.univ.filter fun i => b i = 1#1).card = n at hc
  have e : (BitVec.ofNat 32 n).toInt = (n : Int) := by
    rw [BitVec.toInt_eq_toNat_of_lt (by rw [BitVec.toNat_ofNat]; omega), BitVec.toNat_ofNat]
    omega
  show _ = (((BitVec.ofNat 32 n).toInt : ℝ) : EReal)
  rw [e]
  simp

theorem active_eq (H : IVec S32x8192 32) (j : S_.Idx) : k2_pay1 (F := Ideal) (k2_pay9 (F := Ideal) H) = @Ref.activeF Ideal _ (k2_pay7 (F := Ideal) H) j := by
  refine Eq.trans ?_ (congrFun (congrFun activeF_eq _) j).symm
  rw [pay9_eq, kernel_sum1]
  exact bits_sum _ j

end Cert.Proof
-- ==== Proof.Results.lean ====
/-
  What each program leaves in its seven result arrays.
-/
module

public import proofs.«01_k».proof.Proof.Stats

@[expose] public section

set_option maxRecDepth 65536

noncomputable section

namespace Cert.Proof

open Idealize.ShloMosaic hiding ix1 ix2 eq_ix1 eq_ix2
open Idealize.ShloMosaic.ValueIdx Idealize.ShloMosaic.StableHlo Idealize.ShloMosaic.TcCoe Idealize.SL.Sem

/-! ## The reference -/

namespace Ref

open Cert.ReferenceIdeal Cert.ReferenceIdeal.Gen

variable {F : FTy → Type} [FloatOps F] (V : Valuation τ sig (Elt F))

/-- The memory once the rows are taken. -/
def atTake : Valuation τ sig (Elt F) := after takeOps (after argOps (after distOps V))

theorem atTake_keep {r : Ref sig .tc} (h1 : r ∉ distOpsRefs) (h2 : r ∉ argOpsRefs) (h3 : r ∉ takeOpsRefs) :
    atTake V (Proc.devRef .tc r) = V (Proc.devRef .tc r) := by
  unfold atTake
  rw [takeOps_keep _ h3, argOps_keep _ h2, distOps_keep _ h1]

theorem atTake_v14 : atTake V (Proc.devRef .tc main_v14) = argF (distF (V (Proc.devRef .tc main_arg0)) (V (Proc.devRef .tc main_arg1))) := by
  unfold atTake
  rw [takeOps_keep _ (by decide), after_argF, after_distF]

theorem atTake_v15 : atTake V (Proc.devRef .tc main_v15) = takeF (V (Proc.devRef .tc main_arg1)) (argF (distF (V (Proc.devRef .tc main_arg0)) (V (Proc.devRef .tc main_arg1)))) := by
  unfold atTake
  rw [after_takeF, argOps_keep _ (by decide), distOps_keep _ (by decide), after_argF, after_distF]

theorem ops_eq : after ops V = after activeOps (after perpOps (after countOps (after lossOps (atTake V)))) := by
  unfold ops atTake
  rw [after_append, after_append, after_append, after_append, after_append, after_append]

/-- A buffer the counts, the perplexity and the active codes leave alone. -/
theorem ops_loss {r : Ref sig .tc} (h5 : r ∉ countOpsRefs) (h6 : r ∉ perpOpsRefs) (h7 : r ∉ activeOpsRefs) :
    after ops V (Proc.devRef .tc r) = after lossOps (atTake V) (Proc.devRef .tc r) := by
  rw [ops_eq, activeOps_keep _ h7, perpOps_keep _ h6, countOps_keep _ h5]

theorem ops_v14 : after ops V (Proc.devRef .tc main_v14) = argF (distF (V (Proc.devRef .tc main_arg0)) (V (Proc.devRef .tc main_arg1))) := by
  rw [ops_loss V (by decide) (by decide) (by decide), lossOps_keep _ (by decide), atTake_v14]

theorem ops_v27 : after ops V (Proc.devRef .tc main_v27)
    = throughF (V (Proc.devRef .tc main_arg0)) (takeF (V (Proc.devRef .tc main_arg1)) (argF (distF (V (Proc.devRef .tc main_arg0)) (V (Proc.devRef .tc main_arg1))))) := by
  rw [ops_loss V (by decide) (by decide) (by decide), after_throughF, atTake_v15, atTake_keep V (by decide) (by decide) (by decide)]

theorem ops_v19 : after ops V (Proc.devRef .tc main_v19)
    = codebookF (V (Proc.devRef .tc main_arg0)) (takeF (V (Proc.devRef .tc main_arg1)) (argF (distF (V (Proc.devRef .tc main_arg0)) (V (Proc.devRef .tc main_arg1))))) := by
  rw [ops_loss V (by decide) (by decide) (by decide), after_codebookF, atTake_v15, atTake_keep V (by decide) (by decide) (by decide)]

theorem ops_v23 : after ops V (Proc.devRef .tc main_v23)
    = commitF (V (Proc.devRef .tc main_arg0)) (takeF (V (Proc.devRef .tc main_arg1)) (argF (distF (V (Proc.devRef .tc main_arg0)) (V (Proc.devRef .tc main_arg1))))) := by
  rw [ops_loss V (by decide) (by decide) (by decide), after_commitF, atTake_v15, atTake_keep V (by decide) (by decide) (by decide)]

theorem ops_v25 : after ops V (Proc.devRef .tc main_v25)
    = vqF (codebookF (V (Proc.devRef .tc main_arg0)) (takeF (V (Proc.devRef .tc main_arg1)) (argF (distF (V (Proc.devRef .tc main_arg0)) (V (Proc.devRef .tc main_arg1))))))
      (commitF (V (Proc.devRef .tc main_arg0)) (takeF (V (Proc.devRef .tc main_arg1)) (argF (distF (V (Proc.devRef .tc main_arg0)) (V (Proc.devRef .tc main_arg1)))))) := by
  rw [ops_loss V (by decide) (by decide) (by decide), after_vqF, atTake_v15, atTake_keep V (by decide) (by decide) (by decide)]

theorem counted : after countOps (after lossOps (atTake V)) (Proc.devRef .tc main_v37)
    = countF (F := F) (argF (distF (V (Proc.devRef .tc main_arg0)) (V (Proc.devRef .tc main_arg1)))) := by
  rw [after_countF, lossOps_keep _ (by decide), atTake_v14]

theorem ops_v47 : after ops V (Proc.devRef .tc main_v47)
    = perpF (freqF (countF (F := F) (argF (distF (V (Proc.devRef .tc main_arg0)) (V (Proc.devRef .tc main_arg1)))))) := by
  rw [ops_eq, activeOps_keep _ (by decide), after_perpF, counted]

theorem ops_v52 : after ops V (Proc.devRef .tc main_v52)
    = activeF (freqF (countF (F := F) (argF (distF (V (Proc.devRef .tc main_arg0)) (V (Proc.devRef .tc main_arg1)))))) := by
  rw [ops_eq, after_activeF, after_freqF, counted]

end Ref

/-! ## The kernel -/

open Cert.KernelIdeal Cert.KernelIdeal.Gen

/-- One statistic taken off its row. -/
theorem stat_at {α : Type} (X : S1x8.Idx → α) (k : Fin 8) (h : S1x8.Slices ![0, k.val] S1x1) (h' : S1x1.ShapeCasts S_) (j : S_.Idx) :
    shapeCast S_ (extractStridedSlice S1x1 ![0, k.val] X h) h' j = X (statIx k) := by
  have e : ∀ i : S1x1.Idx, extractStridedSlice S1x1 ![0, k.val] X h i = X (statIx k) := fun i => by
    refine congrArg X (funext fun a => ?_)
    match a with
    | ⟨0, _⟩ => exact Subsingleton.elim (α := Fin 1) _ _
    | ⟨1, _⟩ =>
      have h0 : (i (1 : Fin 2)).val = 0 := by have h1 : (i (1 : Fin 2)).val < 1 := (i (1 : Fin 2)).isLt; omega
      exact Fin.ext (show k.val + (i (1 : Fin 2)).val = k.val by rw [h0]; rfl)
  exact e _

section
variable {F : FTy → Type} [FloatOps F] (V : Valuation τ sig (Elt F)) (j : S_.Idx)

theorem after_v16 : (after pickOps V (Proc.devRef .tc main_v16) : S_.Idx → F .f32) j = (V (Proc.devRef .tc main_v14_1) : S1x8.Idx → F .f32) (statIx 0) := by
  have e : after pickOps V (Proc.devRef .tc main_v16) = shapeCast S_ (extractStridedSlice S1x1 ![0, 0] (V (Proc.devRef .tc main_v14_1) : S1x8.Idx → F .f32) slices_S1x8_S1x1_0_0) shapeCasts_S1x1_S_ := by
    unfold pickOps
    after_results
    rfl
  exact (congrFun e j).trans (stat_at _ 0 _ _ j)

theorem after_v18 : (after pickOps V (Proc.devRef .tc main_v18) : S_.Idx → F .f32) j = (V (Proc.devRef .tc main_v14_1) : S1x8.Idx → F .f32) (statIx 1) := by
  have e : after pickOps V (Proc.devRef .tc main_v18) = shapeCast S_ (extractStridedSlice S1x1 ![0, 1] (V (Proc.devRef .tc main_v14_1) : S1x8.Idx → F .f32) slices_S1x8_S1x1_0_1) shapeCasts_S1x1_S_ := by
    unfold pickOps
    after_results
    rfl
  exact (congrFun e j).trans (stat_at _ 1 _ _ j)

theorem after_v20 : (after pickOps V (Proc.devRef .tc main_v20) : S_.Idx → F .f32) j = (V (Proc.devRef .tc main_v14_1) : S1x8.Idx → F .f32) (statIx 2) := by
  have e : after pickOps V (Proc.devRef .tc main_v20) = shapeCast S_ (extractStridedSlice S1x1 ![0, 2] (V (Proc.devRef .tc main_v14_1) : S1x8.Idx → F .f32) slices_S1x8_S1x1_0_2) shapeCasts_S1x1_S_ := by
    unfold pickOps
    after_results
    rfl
  exact (congrFun e j).trans (stat_at _ 2 _ _ j)

theorem after_v22 : (after pickOps V (Proc.devRef .tc main_v22) : S_.Idx → F .f32) j = (V (Proc.devRef .tc main_v14_1) : S1x8.Idx → F .f32) (statIx 3) := by
  have e : after pickOps V (Proc.devRef .tc main_v22) = shapeCast S_ (extractStridedSlice S1x1 ![0, 3] (V (Proc.devRef .tc main_v14_1) : S1x8.Idx → F .f32) slices_S1x8_S1x1_0_3) shapeCasts_S1x1_S_ := by
    unfold pickOps
    after_results
    rfl
  exact (congrFun e j).trans (stat_at _ 3 _ _ j)

theorem after_v24 : (after pickOps V (Proc.devRef .tc main_v24) : S_.Idx → F .f32) j = (V (Proc.devRef .tc main_v14_1) : S1x8.Idx → F .f32) (statIx 4) := by
  have e : after pickOps V (Proc.devRef .tc main_v24) = shapeCast S_ (extractStridedSlice S1x1 ![0, 4] (V (Proc.devRef .tc main_v14_1) : S1x8.Idx → F .f32) slices_S1x8_S1x1_0_4) shapeCasts_S1x1_S_ := by
    unfold pickOps
    after_results
    rfl
  exact (congrFun e j).trans (stat_at _ 4 _ _ j)

end

variable (m : (ℓ : Loc nD τ sig) → Buf (Elt Ideal) ℓ) (d : Dev nD)

/-- The rows of the table at the reference's codes. -/
def rowsAt : FVec Ideal S16384x64 .f32 := @Ref.takeF Ideal _ (argE m d) (codeOf m d)

/-- The reference's frequencies. -/
def freqAt : FVec Ideal S8192 .f32 := @Ref.freqF Ideal _ (@Ref.countF Ideal (codeOf m d))

theorem V5_arg0 : V5 m d (Proc.devRef .tc main_arg0) = argZ m d :=
  (V5_of_V2 m d (by decide) (by decide) (by decide) (by decide)).trans (V2_arg m d (by decide) (by decide))

theorem V5_tables : (V5 m d (Proc.devRef .tc main_v12_1) : S32x8192.Idx → BitVec 32) = histed (fI m d) := by
  unfold V5 V4
  rw [cut_keep _ (by decide), callAt_v12_1]

theorem freq_tables (h : Real m d) : k2_pay7 (F := Ideal) (histed (fI m d)) = freqAt m d := by
  rw [freq_eq, counts_eq m d h]
  rfl

variable (X : S1x8.Idx → Ideal .f32)

theorem V7_v14_1 : statsAt (V5 m d) X (Proc.devRef .tc main_v14_1) = X := statsAt_v14_1 _ _

theorem V7_v14_0 (h : Real m d) : (V7 m d X (Proc.devRef .tc main_v14_0) : FVec Ideal S16384x64 .f32) = @Ref.throughF Ideal _ (argZ m d) (rowsAt m d) := by
  unfold V7
  rw [pick_keep _ (by decide), statsAt_v14_0, V5_arg0, rows_eq m d h]
  exact through_eq _ _

theorem V7_v9 (h : Real m d) : (V7 m d X (Proc.devRef .tc main_v9) : S16384.Idx → BitVec 32) = codeOf m d := by
  unfold V7 V5 V4
  rw [pick_keep _ (by decide), statsAt_of_ne _ _ (by decide) (by decide), cut_keep _ (by decide), callAt_of_ne _ (by decide) (by decide)]
  exact v9_eq m d h

/-- The row of statistics, of the reference's arrays. -/
theorem stats_row (h : Real m d)
    (hX : IsStats (V5 m d (Proc.devRef .tc main_arg0)) (V5 m d (Proc.devRef .tc main_v13)) (V5 m d (Proc.devRef .tc main_v12_1)) X) :
    IsStats (F := Ideal) (argZ m d) (rowsAt m d) (histed (fI m d)) X := by
  rw [V5_arg0, rows_eq m d h, V5_tables] at hX
  exact hX

variable (h : Real m d) (hX : IsStats (F := Ideal) (argZ m d) (rowsAt m d) (histed (fI m d)) X)
include h hX

theorem V7_v16 : (V7 m d X (Proc.devRef .tc main_v16) : S_.Idx → Ideal .f32) = @Ref.codebookF Ideal _ (argZ m d) (rowsAt m d) := by
  funext j
  refine (after_v16 _ j).trans ((congrFun (V7_v14_1 m d X) _).trans (hX.1.trans ?_))
  exact codebook_eq _ _ j

theorem V7_v18 : (V7 m d X (Proc.devRef .tc main_v18) : S_.Idx → Ideal .f32) = @Ref.commitF Ideal _ (argZ m d) (rowsAt m d) := by
  funext j
  refine (after_v18 _ j).trans ((congrFun (V7_v14_1 m d X) _).trans (hX.2.1.trans ?_))
  exact commit_eq _ _ j

theorem V7_v20 : (V7 m d X (Proc.devRef .tc main_v20) : S_.Idx → Ideal .f32)
    = @Ref.vqF Ideal _ (@Ref.codebookF Ideal _ (argZ m d) (rowsAt m d)) (@Ref.commitF Ideal _ (argZ m d) (rowsAt m d)) := by
  funext j
  refine (after_v20 _ j).trans ((congrFun (V7_v14_1 m d X) _).trans (hX.2.2.1.trans ?_))
  exact vq_eq _ _ j

theorem V7_v22 : (V7 m d X (Proc.devRef .tc main_v22) : S_.Idx → Ideal .f32) = @Ref.perpF Ideal _ (freqAt m d) := by
  funext j
  refine (after_v22 _ j).trans ((congrFun (V7_v14_1 m d X) _).trans (hX.2.2.2.1.trans ?_))
  rw [← freq_tables m d h]
  exact perp_eq _ j

theorem V7_v24 : (V7 m d X (Proc.devRef .tc main_v24) : S_.Idx → Ideal .f32) = @Ref.activeF Ideal _ (freqAt m d) := by
  funext j
  refine (after_v24 _ j).trans ((congrFun (V7_v14_1 m d X) _).trans (hX.2.2.2.2.trans ?_))
  rw [← freq_tables m d h]
  exact active_eq _ j

end Cert.Proof
-- ==== Proof.Values.lean ====
/-
  The value claim: on finite arguments the two programs end with equal results.
-/
module

public import proofs.«01_k».proof.Defs
public import proofs.«01_k».proof.Proof.Gen.Pre_finite
public import proofs.«01_k».proof.Proof.Frames
public import proofs.«01_k».proof.Proof.Results
public import Idealize.ShloMosaic.Lib.ReduceAll

@[expose] public section

set_option maxRecDepth 65536

noncomputable section

namespace Cert.Proof

open Idealize.ShloMosaic hiding ix1 ix2 eq_ix1 eq_ix2
open Idealize.ShloMosaic.ValueIdx Idealize.ShloMosaic.StableHlo Idealize.ShloMosaic.TcCoe Idealize.SL.Sem
open Idealize.ShloMosaic.Pipeline (ucRefs devRef_mem_ucRefs)

/-! ## The precondition -/

/-- A number of finite magnitude is real. -/
theorem real_of_abs (x : EReal) (h : Ideal.cmp .olt (max x (-x)) (Ideal.ofBits .f32 0x7F800000#32) = 1#1) : ∃ u : ℝ, x = (u : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x with
  | bot => simp at hlt
  | coe u => exact ⟨u, rfl⟩
  | top => simp at hlt

/-- The precondition on the tokens. -/
theorem fn_fst (z : FVec Ideal Cert.Pre_finite.S16384x64 .f32) (e : FVec Ideal Cert.Pre_finite.S8192x64 .f32) :
    (@Cert.Pre_finite.fn Cert.Pre_finite.Gen.facts Ideal _ z e).1 = Host.reduce IntOp.andi (cmpf .olt (Host.absf z)
      (broadcastInDim Cert.Pre_finite.S16384x64 ![] Cert.Pre_finite.Gen.facts.bcast_S_S16384x64 (constant Cert.Pre_finite.S_ .f32 0x7F800000#32)))
      (constantI Cert.Pre_finite.S_ 1 1#1) Cert.Pre_finite.Gen.facts.reducesTo_S16384x64_S_d0_1 Cert.Pre_finite.Gen.facts.h_S_ := by
  unfold Cert.Pre_finite.fn
  dsimp only

/-- The precondition on the table. -/
theorem fn_snd (z : FVec Ideal Cert.Pre_finite.S16384x64 .f32) (e : FVec Ideal Cert.Pre_finite.S8192x64 .f32) :
    (@Cert.Pre_finite.fn Cert.Pre_finite.Gen.facts Ideal _ z e).2 = Host.reduce IntOp.andi (cmpf .olt (Host.absf e)
      (broadcastInDim Cert.Pre_finite.S8192x64 ![] Cert.Pre_finite.Gen.facts.bcast_S_S8192x64 (constant Cert.Pre_finite.S_ .f32 0x7F800000#32)))
      (constantI Cert.Pre_finite.S_ 1 1#1) Cert.Pre_finite.Gen.facts.reducesTo_S8192x64_S_d0_1 Cert.Pre_finite.Gen.facts.h_S_ := by
  unfold Cert.Pre_finite.fn
  dsimp only

theorem real_of_finite (m : (ℓ : Loc Cert.KernelIdeal.nD Cert.KernelIdeal.τ Cert.KernelIdeal.sig) → Buf (Elt Ideal) ℓ)
    (h : Pre_KernelIdeal_finite (hPre_finite := Cert.Pre_finite.Gen.facts) m) (d : Dev Cert.KernelIdeal.nD) : Real m d := by
  haveI : Subsingleton Cert.Pre_finite.S_.Idx := ⟨fun _ _ => funext fun a => a.elim0⟩
  have hz := (fn_fst (argZ m d) (argE m d)).symm.trans (h d).1
  have he := (fn_snd (argZ m d) (argE m d)).symm.trans (h d).2
  refine ⟨fun i => ?_, fun i => ?_⟩
  · have e := Host.reduce_andi_all _ _ _ _ (fun a => a.elim0) (congrFun hz fun a => a.elim0) i
    exact real_of_abs _ e
  · have e := Host.reduce_andi_all _ _ _ _ (fun a => a.elim0) (congrFun he fun a => a.elim0) i
    exact real_of_abs _ e

/-! ## The results -/

theorem algebraic : algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  have hR := real_of_finite m hpre
  refine ⟨fun c => @Ref.throughF Ideal _ (argZ m c) (rowsAt m c),
    fun c => @Ref.vqF Ideal _ (@Ref.codebookF Ideal _ (argZ m c) (rowsAt m c)) (@Ref.commitF Ideal _ (argZ m c) (rowsAt m c)),
    fun c => @Ref.codebookF Ideal _ (argZ m c) (rowsAt m c), fun c => @Ref.commitF Ideal _ (argZ m c) (rowsAt m c), fun c => codeOf m c,
    fun c => @Ref.perpF Ideal _ (freqAt m c), fun c => @Ref.activeF Ideal _ (freqAt m c), ?_, ?_⟩
  · refine (θ_run _ _ _).mono (fun r h c => ?_) (run_main m g (fI_lt m))
    obtain ⟨X, hX, hm⟩ := h.1 c
    have hS := stats_row m c X (hR c) hX
    exact ⟨(hm _ (devRef_mem_ucRefs (by decide))).trans (V7_v14_0 m c X (hR c)), (hm _ (devRef_mem_ucRefs (by decide))).trans (V7_v20 m c X (hR c) hS),
      (hm _ (devRef_mem_ucRefs (by decide))).trans (V7_v16 m c X (hR c) hS), (hm _ (devRef_mem_ucRefs (by decide))).trans (V7_v18 m c X (hR c) hS),
      (hm _ (devRef_mem_ucRefs (by decide))).trans (V7_v9 m c X (hR c)), (hm _ (devRef_mem_ucRefs (by decide))).trans (V7_v22 m c X (hR c) hS),
      (hm _ (devRef_mem_ucRefs (by decide))).trans (V7_v24 m c X (hR c) hS), (hm _ (devRef_mem_ucRefs (by decide))).trans (V7_arg0 m c X),
      (hm _ (devRef_mem_ucRefs (by decide))).trans (V7_arg1 m c X)⟩
  · refine (θ_run _ _ _).mono (fun r h c => ?_) (Ref.run_ops m' g')
    have e0 : launchContents m' c (Proc.devRef .tc Cert.ReferenceIdeal.main_arg0) = argZ m c := (hargs c).1
    have e1 : launchContents m' c (Proc.devRef .tc Cert.ReferenceIdeal.main_arg1) = argE m c := (hargs c).2
    refine ⟨(h.1 c _).trans ((Ref.ops_v27 _).trans ?_), (h.1 c _).trans ((Ref.ops_v25 _).trans ?_), (h.1 c _).trans ((Ref.ops_v19 _).trans ?_),
      (h.1 c _).trans ((Ref.ops_v23 _).trans ?_), (h.1 c _).trans ((Ref.ops_v14 _).trans ?_), (h.1 c _).trans ((Ref.ops_v47 _).trans ?_),
      (h.1 c _).trans ((Ref.ops_v52 _).trans ?_), (h.1 c _).trans ?_, (h.1 c _).trans ?_⟩
    · rw [e0, e1]; rfl
    · rw [e0, e1]; rfl
    · rw [e0, e1]; rfl
    · rw [e0, e1]; rfl
    · rw [e0, e1]; rfl
    · rw [e0, e1]; rfl
    · rw [e0, e1]; rfl
    · exact reference_keep _ (by decide) (by decide) (by decide) (by decide) (by decide) (by decide) (by decide)
    · exact reference_keep _ (by decide) (by decide) (by decide) (by decide) (by decide) (by decide) (by decide)

end Cert.Proof
-- ==== Proof.lean ====
/-
  The claims.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite
public import proofs.«01_k».proof.Proof.Frames
public import proofs.«01_k».proof.Proof.Values

@[expose] public section

noncomputable section

namespace Cert.Proof

theorem claim : Cert.Claim :=
  ⟨Cert.KernelIdeal.Gen.facts, Cert.ReferenceIdeal.Gen.facts, Cert.Pre_finite.Gen.facts, fun m g _ => kernel_frame m g, fun m g _ => kernel_frame m g,
    fun m g _ => reference_frame m g, fun m g _ => reference_frame m g, algebraic⟩

end Cert.Proof
